-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_tame : Cert.Pre_tame.Facts) (hPre_finite : Cert.Pre_finite.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ preserves_Kernel_KernelIdeal
    ∧ algebraic_KernelIdeal_ReferenceIdeal_pre_tame (hKernelIdeal := hKernelIdeal) (hReferenceIdeal := hReferenceIdeal) (hPre_tame := hPre_tame)
    ∧ preserves_Kernel2_Kernel2Ideal
    ∧ algebraic_Kernel2Ideal_Reference2Ideal_pre_finite (hKernel2Ideal := hKernel2Ideal) (hReference2Ideal := hReference2Ideal) (hPre_finite := hPre_finite)
-- ==== Pre_finite.lean ====
abbrev S16x1024 : Shape := ⟨2, ![16, 1024]⟩
abbrev S2x1024x3072 : Shape := ⟨3, ![2, 1024, 3072]⟩
abbrev S2x3072 : Shape := ⟨2, ![2, 3072]⟩
abbrev S_ : Shape := ⟨0, ![]⟩

class Facts : Prop where
  bcast_S_S16x1024 : S_.BroadcastsInDim S16x1024 (![] : Fin 0 → Fin S16x1024.rank)
  reducesTo_S16x1024_S_d0_1 : S16x1024.ReducesTo [0, 1] S_
  h_S_ : 0 < S_.numel
  bcast_S_S2x1024x3072 : S_.BroadcastsInDim S2x1024x3072 (![] : Fin 0 → Fin S2x1024x3072.rank)
  reducesTo_S2x1024x3072_S_d0_1_2 : S2x1024x3072.ReducesTo [0, 1, 2] S_

variable [Facts]

def fn {F : FTy → Type} [FloatOps F] (main_arg0 : FVec F S16x1024 .f32) (main_arg1 : FVec F S2x1024x3072 .f32) (main_arg2 : FVec F S2x3072 .f32) : IVec S_ 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_c : IVec S_ 1 := constantI S_ 1 1#1
  let main_v3 : IVec S_ 1 := (fun x v => Host.reduce IntOp.andi x v reducesTo_S16x1024_S_d0_1 h_S_) main_v2 main_c
  let main_v4 : FVec F S2x1024x3072 .f32 := Host.absf main_arg1
  let main_cst_0 : FVec F S_ .f32 := constant S_ .f32 0x7F800000#32
  let main_v5 : FVec F S2x1024x3072 .f32 := broadcastInDim S2x1024x3072 ![] bcast_S_S2x1024x3072 main_cst_0
  let main_v6 : IVec S2x1024x3072 1 := cmpf .olt main_v4 main_v5
  let main_c_1 : IVec S_ 1 := constantI S_ 1 1#1
  let main_v7 : IVec S_ 1 := (fun x v => Host.reduce IntOp.andi x v reducesTo_S2x1024x3072_S_d0_1_2 h_S_) main_v6 main_c_1
  let main_v8 : IVec S_ 1 := andi main_v3 main_v7
  main_v8
-- ==== Pre_tame.lean ====
abbrev S16x2048x1024 : Shape := ⟨3, ![16, 2048, 1024]⟩
abbrev S16x3072 : Shape := ⟨2, ![16, 3072]⟩
abbrev S1024 : Shape := ⟨1, ![1024]⟩
abbrev S1024x6144 : Shape := ⟨2, ![1024, 6144]⟩
abbrev S4x256x256 : Shape := ⟨3, ![4, 256, 256]⟩
abbrev S128 : Shape := ⟨1, ![128]⟩
abbrev S2048x1024 : Shape := ⟨2, ![2048, 1024]⟩
abbrev S16x2048 : Shape := ⟨2, ![16, 2048]⟩
abbrev S_ : Shape := ⟨0, ![]⟩
abbrev S1024x1024 : Shape := ⟨2, ![1024, 1024]⟩

class Facts : Prop where
  slices_S16x3072_S16x2048_0_0 : S16x3072.Slices ![0, 0] S16x2048
  bcast_S_S16x2048 : S_.BroadcastsInDim S16x2048 (![] : Fin 0 → Fin S16x2048.rank)
  reducesTo_S16x2048_S_d0_1 : S16x2048.ReducesTo [0, 1] S_
  h_S_ : 0 < S_.numel
  bcast_S_S1024 : S_.BroadcastsInDim S1024 (![] : Fin 0 → Fin S1024.rank)
  reducesTo_S1024_S_d0 : S1024.ReducesTo [0] S_
  slices_S1024x6144_S1024x1024_0_0 : S1024x6144.Slices ![0, 0] S1024x1024
  bcast_S_S1024x1024 : S_.BroadcastsInDim S1024x1024 (![] : Fin 0 → Fin S1024x1024.rank)
  reducesTo_S1024x1024_S_d0_1 : S1024x1024.ReducesTo [0, 1] S_
  slices_S1024x6144_S1024x1024_0_3072 : S1024x6144.Slices ![0, 3072] S1024x1024

variable [Facts]

def fn_part1 {F : FTy → Type} [FloatOps F] (main_arg6 : FVec F S1024 .f32) (main_v15 : IVec S_ 1) (main_v17 : FVec F S1024x1024 .f32) : IVec S_ 1 :=
  let main_cst_4 : FVec F S_ .f32 := constant S_ .f32 0x7F800000#32
  let main_v18 : FVec F S1024x1024 .f32 := broadcastInDim S1024x1024 ![] bcast_S_S1024x1024 main_cst_4
  let main_v19 : IVec S1024x1024 1 := cmpf .olt main_v17 main_v18
  let main_c_5 : IVec S_ 1 := constantI S_ 1 1#1
  let main_v20 : IVec S_ 1 := (fun x v => Host.reduce IntOp.andi x v reducesTo_S1024x1024_S_d0_1 h_S_) main_v19 main_c_5
  let main_v21 : IVec S_ 1 := andi main_v15 main_v20
  let main_v22 : FVec F S1024 .f32 := Host.absf main_arg6
  let main_cst_6 : FVec F S_ .f32 := constant S_ .f32 0x7F800000#32
  let main_v23 : FVec F S1024 .f32 := broadcastInDim S1024 ![] bcast_S_S1024 main_cst_6
  let main_v24 : IVec S1024 1 := cmpf .olt main_v22 main_v23
  let main_c_7 : IVec S_ 1 := constantI S_ 1 1#1
  let main_v25 : IVec S_ 1 := (fun x v => Host.reduce IntOp.andi x v reducesTo_S1024_S_d0 h_S_) main_v24 main_c_7
  let main_v26 : IVec S_ 1 := andi main_v21 main_v25
  let main_cst_8 : FVec F S_ .f32 := constant S_ .f32 0x00000000#32
  let main_v27 : FVec F S1024 .f32 := broadcastInDim S1024 ![] bcast_S_S1024 main_cst_8
  let main_v28 : IVec S1024 1 := cmpf .oge main_arg6 main_v27
  let main_c_9 : IVec S_ 1 := constantI S_ 1 1#1
  let main_v29 : IVec S_ 1 := (fun x v => Host.reduce IntOp.andi x v reducesTo_S1024_S_d0 h_S_) main_v28 main_c_9
  let main_v30 : IVec S_ 1 := andi main_v26 main_v29
  main_v30

def fn {F : FTy → Type} [FloatOps F] (main_arg0 : FVec F S16x2048x1024 .f32) (main_arg1 : FVec F S16x3072 .f32) (main_arg2 : FVec F S1024 .f32) (main_arg3 : FVec F S1024x6144 .f32) (main_arg4 : FVec F S4x256x256 .f32) (main_arg5 : FVec F S1024 .f32) (main_arg6 : FVec F S1024 .f32) (main_arg7 : FVec F S128 .f32) (main_arg8 : FVec F S2048x1024 .f32) (main_arg9 : FVec F S1024 .f32) : IVec S_ 1 :=
  let main_v0 : FVec F S16x2048 .f32 := (extractStridedSlice S16x2048 ![0, 0] · slices_S16x3072_S16x2048_0_0) main_arg1
  let main_v1 : FVec F S16x2048 .f32 := Host.absf main_v0
  let main_cst : FVec F S_ .f32 := constant S_ .f32 0x7F800000#32
  let main_v2 : FVec F S16x2048 .f32 := broadcastInDim S16x2048 ![] bcast_S_S16x2048 main_cst
  let main_v3 : IVec S16x2048 1 := cmpf .olt main_v1 main_v2
  let main_c : IVec S_ 1 := constantI S_ 1 1#1
  let main_v4 : IVec S_ 1 := (fun x v => Host.reduce IntOp.andi x v reducesTo_S16x2048_S_d0_1 h_S_) main_v3 main_c
  let main_v5 : FVec F S1024 .f32 := Host.absf main_arg2
  let main_cst_0 : FVec F S_ .f32 := constant S_ .f32 0x7F800000#32
  let main_v6 : FVec F S1024 .f32 := broadcastInDim S1024 ![] bcast_S_S1024 main_cst_0
  let main_v7 : IVec S1024 1 := cmpf .olt main_v5 main_v6
  let main_c_1 : IVec S_ 1 := constantI S_ 1 1#1
  let main_v8 : IVec S_ 1 := (fun x v => Host.reduce IntOp.andi x v reducesTo_S1024_S_d0 h_S_) main_v7 main_c_1
  let main_v9 : IVec S_ 1 := andi main_v4 main_v8
  let main_v10 : FVec F S1024x1024 .f32 := (extractStridedSlice S1024x1024 ![0, 0] · slices_S1024x6144_S1024x1024_0_0) main_arg3
  let main_v11 : FVec F S1024x1024 .f32 := Host.absf main_v10
  let main_cst_2 : FVec F S_ .f32 := constant S_ .f32 0x7F800000#32
  let main_v12 : FVec F S1024x1024 .f32 := broadcastInDim S1024x1024 ![] bcast_S_S1024x1024 main_cst_2
  let main_v13 : IVec S1024x1024 1 := cmpf .olt main_v11 main_v12
  let main_c_3 : IVec S_ 1 := constantI S_ 1 1#1
  let main_v14 : IVec S_ 1 := (fun x v => Host.reduce IntOp.andi x v reducesTo_S1024x1024_S_d0_1 h_S_) main_v13 main_c_3
  let main_v15 : IVec S_ 1 := andi main_v9 main_v14
  let main_v16 : FVec F S1024x1024 .f32 := (extractStridedSlice S1024x1024 ![0, 3072] · slices_S1024x6144_S1024x1024_0_3072) main_arg3
  let main_v17 : FVec F S1024x1024 .f32 := Host.absf main_v16
  fn_part1 (F := F) main_arg6 main_v15 main_v17
-- ==== Kernel.lean ====
abbrev S16x2048x1024 : Shape := ⟨3, ![16, 2048, 1024]⟩
abbrev S16x3072 : Shape := ⟨2, ![16, 3072]⟩
abbrev S1024 : Shape := ⟨1, ![1024]⟩
abbrev S1024x6144 : Shape := ⟨2, ![1024, 6144]⟩
abbrev S4x256x256 : Shape := ⟨3, ![4, 256, 256]⟩
abbrev S128 : Shape := ⟨1, ![128]⟩
abbrev S2048x1024 : Shape := ⟨2, ![2048, 1024]⟩
abbrev S512x192 : Shape := ⟨2, ![512, 192]⟩
abbrev S64x64 : Shape := ⟨2, ![64, 64]⟩
abbrev S16x1x3072 : Shape := ⟨3, ![16, 1, 3072]⟩
abbrev S1x1024 : Shape := ⟨2, ![1, 1024]⟩
abbrev S1x128 : Shape := ⟨2, ![1, 128]⟩
abbrev S1x256x1024 : Shape := ⟨3, ![1, 256, 1024]⟩
abbrev S1x1x3072 : Shape := ⟨3, ![1, 1, 3072]⟩
abbrev S8x128x128 : Shape := ⟨3, ![8, 128, 128]⟩
abbrev S16x1024 : Shape := ⟨2, ![16, 1024]⟩
abbrev S272x1024 : Shape := ⟨2, ![272, 1024]⟩
abbrev S256x1024 : Shape := ⟨2, ![256, 1024]⟩
abbrev S256x2048 : Shape := ⟨2, ![256, 2048]⟩
abbrev S1x3072 : Shape := ⟨2, ![1, 3072]⟩
abbrev S256 : Shape := ⟨1, ![256]⟩
abbrev S256x1 : Shape := ⟨2, ![256, 1]⟩
abbrev S1024x1024 : Shape := ⟨2, ![1024, 1024]⟩
abbrev S256x256 : Shape := ⟨2, ![256, 256]⟩
abbrev S1x256x256 : Shape := ⟨3, ![1, 256, 256]⟩
abbrev S1x256 : Shape := ⟨2, ![1, 256]⟩
abbrev S64x1024 : Shape := ⟨2, ![64, 1024]⟩
abbrev S192x1024 : Shape := ⟨2, ![192, 1024]⟩
abbrev S512x1024 : Shape := ⟨2, ![512, 1024]⟩
abbrev S64x128 : Shape := ⟨2, ![64, 128]⟩
abbrev S1x128x128 : Shape := ⟨3, ![1, 128, 128]⟩
abbrev S128x128 : Shape := ⟨2, ![128, 128]⟩
abbrev S128x64 : Shape := ⟨2, ![128, 64]⟩
abbrev S64 : Shape := ⟨1, ![64]⟩
abbrev S64x1 : Shape := ⟨2, ![64, 1]⟩

abbrev nBuf : Space → Nat
  | .hbm => 22
  | .vmem => 25
  | .smem => 0
  | _ => 0

abbrev bufTy : (tb : Table) → Fin (tcTables nBuf tb) → BufTy
  | .hbm, ⟨0, _⟩ => ⟨S16x2048x1024, .f32⟩
  | .hbm, ⟨1, _⟩ => ⟨S16x3072, .f32⟩
  | .hbm, ⟨2, _⟩ => ⟨S1024, .f32⟩
  | .hbm, ⟨3, _⟩ => ⟨S1024x6144, .f32⟩
  | .hbm, ⟨4, _⟩ => ⟨S4x256x256, .f32⟩
  | .hbm, ⟨5, _⟩ => ⟨S1024, .f32⟩
  | .hbm, ⟨6, _⟩ => ⟨S1024, .f32⟩
  | .hbm, ⟨7, _⟩ => ⟨S128, .f32⟩
  | .hbm, ⟨8, _⟩ => ⟨S2048x1024, .f32⟩
  | .hbm, ⟨9, _⟩ => ⟨S1024, .f32⟩
  | .hbm, ⟨10, _⟩ => ⟨S512x192, .bf16⟩
  | .hbm, ⟨11, _⟩ => ⟨S64x64, .i32⟩
  | .hbm, ⟨12, _⟩ => ⟨S16x1x3072, .f32⟩
  | .hbm, ⟨13, _⟩ => ⟨S1x1024, .f32⟩
  | .hbm, ⟨14, _⟩ => ⟨S1024x6144, .bf16⟩
  | .hbm, ⟨15, _⟩ => ⟨S4x256x256, .bf16⟩
  | .hbm, ⟨16, _⟩ => ⟨S1x1024, .f32⟩
  | .hbm, ⟨17, _⟩ => ⟨S1x1024, .f32⟩
  | .hbm, ⟨18, _⟩ => ⟨S1x128, .f32⟩
  | .hbm, ⟨19, _⟩ => ⟨S2048x1024, .bf16⟩
  | .hbm, ⟨20, _⟩ => ⟨S1x1024, .f32⟩
  | .hbm, ⟨21, _⟩ => ⟨S16x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1024x6144, .bf16⟩
  | .local _ .vmem, ⟨6, _⟩ => ⟨S4x256x256, .bf16⟩
  | .local _ .vmem, ⟨7, _⟩ => ⟨S1x1024, .f32⟩
  | .local _ .vmem, ⟨8, _⟩ => ⟨S1x1024, .f32⟩
  | .local _ .vmem, ⟨9, _⟩ => ⟨S1x128, .f32⟩
  | .local _ .vmem, ⟨10, _⟩ => ⟨S2048x1024, .bf16⟩
  | .local _ .vmem, ⟨11, _⟩ => ⟨S1x1024, .f32⟩
  | .local _ .vmem, ⟨12, _⟩ => ⟨S512x192, .bf16⟩
  | .local _ .vmem, ⟨13, _⟩ => ⟨S64x64, .i32⟩
  | .local _ .vmem, ⟨14, _⟩ => ⟨S1x256x1024, .f32⟩
  | .local _ .vmem, ⟨15, _⟩ => ⟨S1x256x1024, .f32⟩
  | .local _ .vmem, ⟨16, _⟩ => ⟨S8x128x128, .f32⟩
  | .local _ .vmem, ⟨17, _⟩ => ⟨S16x1024, .f32⟩
  | .local _ .vmem, ⟨18, _⟩ => ⟨S272x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x2048, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32_133 : BitVec 32 := 0#32
  let c4_i32_134 : BitVec 32 := 4#32
  let v276 : BitVec 32 := Scalar.addi c0_i32_133 c4_i32_134
  let c1_i32_135 : BitVec 32 := 1#32
  ⟨c0_i32_133, v276, c1_i32_135⟩
def k0_mult1 (k0_t1 : Fin k0_t1_loop.trips) : BitVec 32 :=
  let c0_i32_133 : BitVec 32 := 0#32
  let c1_i32_135 : BitVec 32 := 1#32
  let arg24 : BitVec 32 := Scf.iv c0_i32_133 c1_i32_135 k0_t1
  let c64_i32 : BitVec 32 := 64#32
  let v301 : BitVec 32 := Scalar.muli arg24 c64_i32
  v301
def k0_off1 (k0_t1 : Fin k0_t1_loop.trips) : Fin 2 → Nat :=
  let c0_i32_133 : BitVec 32 := 0#32
  let c1_i32_135 : BitVec 32 := 1#32
  let arg24 : BitVec 32 := Scf.iv c0_i32_133 c1_i32_135 k0_t1
  let c64_i32 : BitVec 32 := 64#32
  let v301 : BitVec 32 := Scalar.muli arg24 c64_i32
  let v302 : BitVec 32 := v301
  let v303 : Index := Scalar.indexCast v302
  let c0_150 : Index := 0#32
  ![v303.toNat, 0]
def k0_off2 (k0_t1 : Fin k0_t1_loop.trips) : Fin 2 → Nat :=
  let c0_i32_133 : BitVec 32 := 0#32
  let c1_i32_135 : BitVec 32 := 1#32
  let arg24 : BitVec 32 := Scf.iv c0_i32_133 c1_i32_135 k0_t1
  let c64_i32 : BitVec 32 := 64#32
  let v301 : BitVec 32 := Scalar.muli arg24 c64_i32
  let v302 : BitVec 32 := v301
  let v316 : Index := Scalar.indexCast v302
  let c0_154 : Index := 0#32
  ![v316.toNat, 0]
def k0_off3 (k0_t1 : Fin k0_t1_loop.trips) : Fin 2 → Nat :=
  let c0_i32_133 : BitVec 32 := 0#32
  let c1_i32_135 : BitVec 32 := 1#32
  let arg24 : BitVec 32 := Scf.iv c0_i32_133 c1_i32_135 k0_t1
  let c64_i32 : BitVec 32 := 64#32
  let v301 : BitVec 32 := Scalar.muli arg24 c64_i32
  let v302 : BitVec 32 := v301
  let v432 : Index := Scalar.indexCast v302
  let c1024_185 : Index := 1024#32
  ![v432.toNat, 1024]
def k0_off4 (k0_t1 : Fin k0_t1_loop.trips) : Fin 2 → Nat :=
  let c0_i32_133 : BitVec 32 := 0#32
  let c1_i32_135 : BitVec 32 := 1#32
  let arg24 : BitVec 32 := Scf.iv c0_i32_133 c1_i32_135 k0_t1
  let c64_i32 : BitVec 32 := 64#32
  let v301 : BitVec 32 := Scalar.muli arg24 c64_i32
  let v302 : BitVec 32 := v301
  let v436 : Index := Scalar.indexCast v302
  let c128 : Index := 128#32
  ![v436.toNat, 128]
def k0_off5 (k0_t1 : Fin k0_t1_loop.trips) : Fin 2 → Nat :=
  let c0_i32_133 : BitVec 32 := 0#32
  let c1_i32_135 : BitVec 32 := 1#32
  let arg24 : BitVec 32 := Scf.iv c0_i32_133 c1_i32_135 k0_t1
  let c64_i32 : BitVec 32 := 64#32
  let v301 : BitVec 32 := Scalar.muli arg24 c64_i32
  let v302 : BitVec 32 := v301
  let v552 : Index := Scalar.indexCast v302
  let c1152 : Index := 1152#32
  ![v552.toNat, 1152]
def k0_off6 (k0_t1 : Fin k0_t1_loop.trips) : Fin 2 → Nat :=
  let c0_i32_133 : BitVec 32 := 0#32
  let c1_i32_135 : BitVec 32 := 1#32
  let arg24 : BitVec 32 := Scf.iv c0_i32_133 c1_i32_135 k0_t1
  let c64_i32 : BitVec 32 := 64#32
  let v301 : BitVec 32 := Scalar.muli arg24 c64_i32
  let v302 : BitVec 32 := v301
  let v556 : Index := Scalar.indexCast v302
  let c256_219 : Index := 256#32
  ![v556.toNat, 256]
def k0_off7 (k0_t1 : Fin k0_t1_loop.trips) : Fin 2 → Nat :=
  let c0_i32_133 : BitVec 32 := 0#32
  let c1_i32_135 : BitVec 32 := 1#32
  let arg24 : BitVec 32 := Scf.iv c0_i32_133 c1_i32_135 k0_t1
  let c64_i32 : BitVec 32 := 64#32
  let v301 : BitVec 32 := Scalar.muli arg24 c64_i32
  let v302 : BitVec 32 := v301
  let v672 : Index := Scalar.indexCast v302
  let c1280 : Index := 1280#32
  ![v672.toNat, 1280]
def k0_off8 (k0_t1 : Fin k0_t1_loop.trips) : Fin 2 → Nat :=
  let c0_i32_133 : BitVec 32 := 0#32
  let c1_i32_135 : BitVec 32 := 1#32
  let arg24 : BitVec 32 := Scf.iv c0_i32_133 c1_i32_135 k0_t1
  let c64_i32 : BitVec 32 := 64#32
  let v301 : BitVec 32 := Scalar.muli arg24 c64_i32
  let v302 : BitVec 32 := v301
  let v676 : Index := Scalar.indexCast v302
  let c384 : Index := 384#32
  ![v676.toNat, 384]
def k0_off9 (k0_t1 : Fin k0_t1_loop.trips) : Fin 2 → Nat :=
  let c0_i32_133 : BitVec 32 := 0#32
  let c1_i32_135 : BitVec 32 := 1#32
  let arg24 : BitVec 32 := Scf.iv c0_i32_133 c1_i32_135 k0_t1
  let c64_i32 : BitVec 32 := 64#32
  let v301 : BitVec 32 := Scalar.muli arg24 c64_i32
  let v302 : BitVec 32 := v301
  let v792 : Index := Scalar.indexCast v302
  let c1408 : Index := 1408#32
  ![v792.toNat, 1408]
def k0_off10 (k0_t1 : Fin k0_t1_loop.trips) : Fin 2 → Nat :=
  let c0_i32_133 : BitVec 32 := 0#32
  let c1_i32_135 : BitVec 32 := 1#32
  let arg24 : BitVec 32 := Scf.iv c0_i32_133 c1_i32_135 k0_t1
  let c64_i32 : BitVec 32 := 64#32
  let v301 : BitVec 32 := Scalar.muli arg24 c64_i32
  let v302 : BitVec 32 := v301
  let v796 : Index := Scalar.indexCast v302
  let c512_286 : Index := 512#32
  ![v796.toNat, 512]
def k0_off11 (k0_t1 : Fin k0_t1_loop.trips) : Fin 2 → Nat :=
  let c0_i32_133 : BitVec 32 := 0#32
  let c1_i32_135 : BitVec 32 := 1#32
  let arg24 : BitVec 32 := Scf.iv c0_i32_133 c1_i32_135 k0_t1
  let c64_i32 : BitVec 32 := 64#32
  let v301 : BitVec 32 := Scalar.muli arg24 c64_i32
  let v302 : BitVec 32 := v301
  let v912 : Index := Scalar.indexCast v302
  let c1536 : Index := 1536#32
  ![v912.toNat, 1536]
def k0_off12 (k0_t1 : Fin k0_t1_loop.trips) : Fin 2 → Nat :=
  let c0_i32_133 : BitVec 32 := 0#32
  let c1_i32_135 : BitVec 32 := 1#32
  let arg24 : BitVec 32 := Scf.iv c0_i32_133 c1_i32_135 k0_t1
  let c64_i32 : BitVec 32 := 64#32
  let v301 : BitVec 32 := Scalar.muli arg24 c64_i32
  let v302 : BitVec 32 := v301
  let v916 : Index := Scalar.indexCast v302
  let c640 : Index := 640#32
  ![v916.toNat, 640]
def k0_off13 (k0_t1 : Fin k0_t1_loop.trips) : Fin 2 → Nat :=
  let c0_i32_133 : BitVec 32 := 0#32
  let c1_i32_135 : BitVec 32 := 1#32
  let arg24 : BitVec 32 := Scf.iv c0_i32_133 c1_i32_135 k0_t1
  let c64_i32 : BitVec 32 := 64#32
  let v301 : BitVec 32 := Scalar.muli arg24 c64_i32
  let v302 : BitVec 32 := v301
  let v1032 : Index := Scalar.indexCast v302
  let c1664 : Index := 1664#32
  ![v1032.toNat, 1664]
def k0_off14 (k0_t1 : Fin k0_t1_loop.trips) : Fin 2 → Nat :=
  let c0_i32_133 : BitVec 32 := 0#32
  let c1_i32_135 : BitVec 32 := 1#32
  let arg24 : BitVec 32 := Scf.iv c0_i32_133 c1_i32_135 k0_t1
  let c64_i32 : BitVec 32 := 64#32
  let v301 : BitVec 32 := Scalar.muli arg24 c64_i32
  let v302 : BitVec 32 := v301
  let v1036 : Index := Scalar.indexCast v302
  let c768_353 : Index := 768#32
  ![v1036.toNat, 768]
def k0_off15 (k0_t1 : Fin k0_t1_loop.trips) : Fin 2 → Nat :=
  let c0_i32_133 : BitVec 32 := 0#32
  let c1_i32_135 : BitVec 32 := 1#32
  let arg24 : BitVec 32 := Scf.iv c0_i32_133 c1_i32_135 k0_t1
  let c64_i32 : BitVec 32 := 64#32
  let v301 : BitVec 32 := Scalar.muli arg24 c64_i32
  let v302 : BitVec 32 := v301
  let v1152 : Index := Scalar.indexCast v302
  let c1792 : Index := 1792#32
  ![v1152.toNat, 1792]
def k0_off16 (k0_t1 : Fin k0_t1_loop.trips) : Fin 2 → Nat :=
  let c0_i32_133 : BitVec 32 := 0#32
  let c1_i32_135 : BitVec 32 := 1#32
  let arg24 : BitVec 32 := Scf.iv c0_i32_133 c1_i32_135 k0_t1
  let c64_i32 : BitVec 32 := 64#32
  let v301 : BitVec 32 := Scalar.muli arg24 c64_i32
  let v302 : BitVec 32 := v301
  let v1156 : Index := Scalar.indexCast v302
  let c896 : Index := 896#32
  ![v1156.toNat, 896]
def k0_off17 (k0_t1 : Fin k0_t1_loop.trips) : Fin 2 → Nat :=
  let c0_i32_133 : BitVec 32 := 0#32
  let c1_i32_135 : BitVec 32 := 1#32
  let arg24 : BitVec 32 := Scf.iv c0_i32_133 c1_i32_135 k0_t1
  let c64_i32 : BitVec 32 := 64#32
  let v301 : BitVec 32 := Scalar.muli arg24 c64_i32
  let v302 : BitVec 32 := v301
  let v1272 : Index := Scalar.indexCast v302
  let c1920 : Index := 1920#32
  ![v1272.toNat, 1920]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x192 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x64 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S16x2048x1024 : Shape := ⟨3, ![16, 2048, 1024]⟩
abbrev S16x3072 : Shape := ⟨2, ![16, 3072]⟩
abbrev S1024 : Shape := ⟨1, ![1024]⟩
abbrev S1024x6144 : Shape := ⟨2, ![1024, 6144]⟩
abbrev S4x256x256 : Shape := ⟨3, ![4, 256, 256]⟩
abbrev S128 : Shape := ⟨1, ![128]⟩
abbrev S2048x1024 : Shape := ⟨2, ![2048, 1024]⟩
abbrev S16x1x3072 : Shape := ⟨3, ![16, 1, 3072]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x6144 : Shape := ⟨3, ![16, 2048, 6144]⟩
abbrev S16x2048x8x128 : Shape := ⟨4, ![16, 2048, 8, 128]⟩
abbrev S2048 : Shape := ⟨1, ![2048]⟩
abbrev S1x2048x1 : Shape := ⟨3, ![1, 2048, 1]⟩
abbrev S16x2048x256 : Shape := ⟨3, ![16, 2048, 256]⟩
abbrev S16x2050x256 : Shape := ⟨3, ![16, 2050, 256]⟩
abbrev S16x2052x256 : Shape := ⟨3, ![16, 2052, 256]⟩
abbrev S16x2056x256 : Shape := ⟨3, ![16, 2056, 256]⟩
abbrev S16x2064x256 : Shape := ⟨3, ![16, 2064, 256]⟩
abbrev S16x2048x1x256 : Shape := ⟨4, ![16, 2048, 1, 256]⟩
abbrev S16x2048x4x256 : Shape := ⟨4, ![16, 2048, 4, 256]⟩
abbrev S4x256x16x2048 : Shape := ⟨4, ![4, 256, 16, 2048]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x64x1 : Shape := ⟨3, ![64, 64, 1]⟩
abbrev S16x32x64x8x128 : Shape := ⟨5, ![16, 32, 64, 8, 128]⟩
abbrev S32x16x8x64x128 : Shape := ⟨5, ![32, 16, 8, 64, 128]⟩
abbrev S32 : Shape := ⟨1, ![32]⟩
abbrev S32x1x1x1x1 : Shape := ⟨5, ![32, 1, 1, 1, 1]⟩
abbrev S16x8x128x128 : Shape := ⟨4, ![16, 8, 128, 128]⟩
abbrev S1x16x8x64x128 : Shape := ⟨5, ![1, 16, 8, 64, 128]⟩
abbrev S16x8x64x128 : Shape := ⟨4, ![16, 8, 64, 128]⟩
abbrev S16x8x64x1x128 : Shape := ⟨5, ![16, 8, 64, 1, 128]⟩
abbrev S16x8x1x64x128 : Shape := ⟨5, ![16, 8, 1, 64, 128]⟩
abbrev S16x8x64x64x128 : Shape := ⟨5, ![16, 8, 64, 64, 128]⟩
abbrev S16x8x64x64 : Shape := ⟨4, ![16, 8, 64, 64]⟩
abbrev S16x8x1x128 : Shape := ⟨4, ![16, 8, 1, 128]⟩
abbrev S16x8x128 : Shape := ⟨3, ![16, 8, 128]⟩
abbrev S16x8x128x1 : Shape := ⟨4, ![16, 8, 128, 1]⟩
abbrev S16x8x64 : Shape := ⟨3, ![16, 8, 64]⟩
abbrev S16x8x64x1 : Shape := ⟨4, ![16, 8, 64, 1]⟩
abbrev S1x1x1x128 : Shape := ⟨4, ![1, 1, 1, 128]⟩
abbrev S16x2048x2048 : Shape := ⟨3, ![16, 2048, 2048]⟩
abbrev S16x1024 : Shape := ⟨2, ![16, 1024]⟩

abbrev nBuf : Space → Nat
  | .hbm => 394
  | .vmem => 0
  | .smem => 0
  | _ => 0

abbrev hbmTy0_0 (i : Nat) : BufTy := match i % 128 with
  | 0 => ⟨S16x2048x1024, .f32⟩
  | 1 => ⟨S16x3072, .f32⟩
  | 2 => ⟨S1024, .f32⟩
  | 3 => ⟨S1024x6144, .f32⟩
  | 4 => ⟨S4x256x256, .f32⟩
  | 5 => ⟨S1024, .f32⟩
  | 6 => ⟨S1024, .f32⟩
  | 7 => ⟨S128, .f32⟩
  | 8 => ⟨S2048x1024, .f32⟩
  | 9 => ⟨S1024, .f32⟩
  | 10 => ⟨S16x1x3072, .f32⟩
  | 11 => ⟨S16x1x1024, .f32⟩
  | 12 => ⟨S16x1x1024, .f32⟩
  | 13 => ⟨S16x2048x1024, .f32⟩
  | 14 => ⟨S_, .f32⟩
  | 15 => ⟨S16x2048, .f32⟩
  | 16 => ⟨S16x2048x1, .f32⟩
  | 17 => ⟨S_, .f32⟩
  | 18 => ⟨S16x2048x1, .f32⟩
  | 19 => ⟨S16x2048x1, .f32⟩
  | 20 => ⟨S_, .f32⟩
  | 21 => ⟨S16x2048x1, .f32⟩
  | 22 => ⟨S16x2048x1, .f32⟩
  | 23 => ⟨S16x2048x1, .f32⟩
  | 24 => ⟨S16x2048x1024, .f32⟩
  | 25 => ⟨S16x2048x1024, .f32⟩
  | 26 => ⟨S1x1x1024, .f32⟩
  | 27 => ⟨S16x2048x1024, .f32⟩
  | 28 => ⟨S16x2048x1024, .f32⟩
  | 29 => ⟨S_, .f32⟩
  | 30 => ⟨S16x1x1024, .f32⟩
  | 31 => ⟨S16x1x1024, .f32⟩
  | 32 => ⟨S16x2048x1024, .f32⟩
  | 33 => ⟨S16x2048x1024, .f32⟩
  | 34 => ⟨S16x2048x1024, .f32⟩
  | 35 => ⟨S16x2048x1024, .f32⟩
  | 36 => ⟨S16x2048x6144, .f32⟩
  | 37 => ⟨S_, .f32⟩
  | 38 => ⟨S1024, .f32⟩
  | 39 => ⟨S1024, .f32⟩
  | 40 => ⟨S16x2048x1024, .f32⟩
  | 41 => ⟨S16x2048x1024, .f32⟩
  | 42 => ⟨S16x2048x1024, .f32⟩
  | 43 => ⟨S_, .f32⟩
  | 44 => ⟨S16x2048x1024, .f32⟩
  | 45 => ⟨S16x2048x1024, .f32⟩
  | 46 => ⟨S_, .f32⟩
  | 47 => ⟨S16x2048x1024, .f32⟩
  | 48 => ⟨S16x2048x1024, .f32⟩
  | 49 => ⟨S1x1x1024, .f32⟩
  | 50 => ⟨S16x2048x1024, .f32⟩
  | 51 => ⟨S16x2048x1024, .f32⟩
  | 52 => ⟨S1x1x1024, .f32⟩
  | 53 => ⟨S16x2048x1024, .f32⟩
  | 54 => ⟨S16x2048x1024, .f32⟩
  | 55 => ⟨S16x2048x1024, .f32⟩
  | 56 => ⟨S16x2048x8x128, .f32⟩
  | 57 => ⟨S16x2048x1024, .f32⟩
  | 58 => ⟨S16x2048x8x128, .f32⟩
  | 59 => ⟨S_, .f32⟩
  | 60 => ⟨S16x2048x1024, .f32⟩
  | 61 => ⟨S16x2048x1024, .f32⟩
  | 62 => ⟨S16x2048x8x128, .f32⟩
  | 63 => ⟨S16x2048x1024, .f32⟩
  | 64 => ⟨S16x2048x8x128, .f32⟩
  | 65 => ⟨S16x2048x1024, .f32⟩
  | 66 => ⟨S16x2048x8x128, .f32⟩
  | 67 => ⟨S16x2048x1024, .f32⟩
  | 68 => ⟨S_, .f32⟩
  | 69 => ⟨S_, .f32⟩
  | 70 => ⟨S16x2048x1024, .f32⟩
  | 71 => ⟨S2048, .f32⟩
  | 72 => ⟨S_, .f32⟩
  | 73 => ⟨S2048, .f32⟩
  | 74 => ⟨S2048, .f32⟩
  | 75 => ⟨S1x2048x1, .f32⟩
  | 76 => ⟨S16x2048x256, .f32⟩
  | 77 => ⟨S_, .i32⟩
  | 78 => ⟨S_, .f32⟩
  | 79 => ⟨S16x2050x256, .f32⟩
  | 80 => ⟨S16x2048x256, .f32⟩
  | 81 => ⟨S16x2048x256, .f32⟩
  | 82 => ⟨S_, .f32⟩
  | 83 => ⟨S1x2048x1, .f32⟩
  | 84 => ⟨S1x2048x1, .f32⟩
  | 85 => ⟨S16x2048x256, .f32⟩
  | 86 => ⟨S16x2048x256, .f32⟩
  | 87 => ⟨S16x2048x256, .f32⟩
  | 88 => ⟨S16x2048x256, .f32⟩
  | 89 => ⟨S16x2048x256, .f32⟩
  | 90 => ⟨S_, .i32⟩
  | 91 => ⟨S_, .f32⟩
  | 92 => ⟨S16x2052x256, .f32⟩
  | 93 => ⟨S16x2048x256, .f32⟩
  | 94 => ⟨S16x2048x256, .f32⟩
  | 95 => ⟨S_, .f32⟩
  | 96 => ⟨S1x2048x1, .f32⟩
  | 97 => ⟨S1x2048x1, .f32⟩
  | 98 => ⟨S16x2048x256, .f32⟩
  | 99 => ⟨S16x2048x256, .f32⟩
  | 100 => ⟨S16x2048x256, .f32⟩
  | 101 => ⟨S16x2048x256, .f32⟩
  | 102 => ⟨S16x2048x256, .f32⟩
  | 103 => ⟨S_, .i32⟩
  | 104 => ⟨S_, .f32⟩
  | 105 => ⟨S16x2056x256, .f32⟩
  | 106 => ⟨S16x2048x256, .f32⟩
  | 107 => ⟨S16x2048x256, .f32⟩
  | 108 => ⟨S_, .f32⟩
  | 109 => ⟨S1x2048x1, .f32⟩
  | 110 => ⟨S1x2048x1, .f32⟩
  | 111 => ⟨S16x2048x256, .f32⟩
  | 112 => ⟨S16x2048x256, .f32⟩
  | 113 => ⟨S16x2048x256, .f32⟩
  | 114 => ⟨S16x2048x256, .f32⟩
  | 115 => ⟨S16x2048x256, .f32⟩
  | 116 => ⟨S_, .i32⟩
  | 117 => ⟨S_, .f32⟩
  | 118 => ⟨S16x2064x256, .f32⟩
  | 119 => ⟨S16x2048x256, .f32⟩
  | 120 => ⟨S16x2048x256, .f32⟩
  | 121 => ⟨S_, .f32⟩
  | 122 => ⟨S1x2048x1, .f32⟩
  | 123 => ⟨S1x2048x1, .f32⟩
  | 124 => ⟨S16x2048x256, .f32⟩
  | 125 => ⟨S16x2048x256, .f32⟩
  | 126 => ⟨S16x2048x256, .f32⟩
  | 127 => ⟨S16x2048x256, .f32⟩
  | _ => ⟨S16x2048x1024, .f32⟩

abbrev hbmTy0_1 (i : Nat) : BufTy := match i % 128 with
  | 0 => ⟨S16x2048x1x256, .f32⟩
  | 1 => ⟨S16x2048x1x256, .f32⟩
  | 2 => ⟨S16x2048x1x256, .f32⟩
  | 3 => ⟨S16x2048x1x256, .f32⟩
  | 4 => ⟨S16x2048x4x256, .f32⟩
  | 5 => ⟨S4x256x16x2048, .f32⟩
  | 6 => ⟨S16x2048x4x256, .f32⟩
  | 7 => ⟨S16x2048x1024, .f32⟩
  | 8 => ⟨S1x1x1024, .f32⟩
  | 9 => ⟨S16x2048x1024, .f32⟩
  | 10 => ⟨S16x2048x1024, .f32⟩
  | 11 => ⟨S16x2048x8x128, .f32⟩
  | 12 => ⟨S16x2048x1024, .f32⟩
  | 13 => ⟨S16x2048x8x128, .f32⟩
  | 14 => ⟨S64, .i32⟩
  | 15 => ⟨S64x1, .i32⟩
  | 16 => ⟨S64, .i32⟩
  | 17 => ⟨S1x64, .i32⟩
  | 18 => ⟨S64x64, .i32⟩
  | 19 => ⟨S64x64, .i32⟩
  | 20 => ⟨S64x64, .i1⟩
  | 21 => ⟨S64x64x1, .i1⟩
  | 22 => ⟨S16x32x64x8x128, .f32⟩
  | 23 => ⟨S32x16x8x64x128, .f32⟩
  | 24 => ⟨S16x32x64x8x128, .f32⟩
  | 25 => ⟨S32x16x8x64x128, .f32⟩
  | 26 => ⟨S16x32x64x8x128, .f32⟩
  | 27 => ⟨S32x16x8x64x128, .f32⟩
  | 28 => ⟨S16x32x64x8x128, .f32⟩
  | 29 => ⟨S32x16x8x64x128, .f32⟩
  | 30 => ⟨S16x32x64x8x128, .f32⟩
  | 31 => ⟨S32x16x8x64x128, .f32⟩
  | 32 => ⟨S16x32x64x8x128, .f32⟩
  | 33 => ⟨S32x16x8x64x128, .f32⟩
  | 34 => ⟨S16x32x64x8x128, .f32⟩
  | 35 => ⟨S32x16x8x64x128, .f32⟩
  | 36 => ⟨S32, .i32⟩
  | 37 => ⟨S32x1x1x1x1, .i32⟩
  | 38 => ⟨S_, .f32⟩
  | 39 => ⟨S16x8x128x128, .f32⟩
  | 40 => ⟨S_, .f32⟩
  | 41 => ⟨S32x16x8x64x128, .f32⟩
  | 42 => ⟨S_, .i32⟩
  | 43 => ⟨S_, .i32⟩
  | 44 => ⟨S32x16x8x64x128, .f32⟩
  | 45 => ⟨S32x16x8x64x128, .f32⟩
  | 46 => ⟨S32x16x8x64x128, .f32⟩
  | 47 => ⟨S32x16x8x64x128, .f32⟩
  | 48 => ⟨S32x16x8x64x128, .f32⟩
  | 49 => ⟨S32x16x8x64x128, .f32⟩
  | 50 => ⟨S32x16x8x64x128, .f32⟩
  | 51 => ⟨S64x64x1, .i1⟩
  | 52 => ⟨S128, .f32⟩
  | 53 => ⟨S32x1x1x1x1, .i32⟩
  | 54 => ⟨S_, .i32⟩
  | 55 => ⟨S_, .i32⟩
  | 56 => ⟨S16x8x128x128, .f32⟩
  | 57 => ⟨S32x16x8x64x128, .f32⟩
  | 58 => ⟨S32x16x8x64x128, .f32⟩
  | 59 => ⟨S_, .i32⟩
  | 60 => ⟨S_, .i1⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S1x16x8x64x128, .f32⟩
  | 74 => ⟨S16x8x64x128, .f32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S1x16x8x64x128, .f32⟩
  | 86 => ⟨S16x8x64x128, .f32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S1x16x8x64x128, .f32⟩
  | 98 => ⟨S16x8x64x128, .f32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S1x16x8x64x128, .f32⟩
  | 110 => ⟨S16x8x64x128, .f32⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S1x16x8x64x128, .f32⟩
  | 122 => ⟨S16x8x64x128, .f32⟩
  | 123 => ⟨S_, .i32⟩
  | 124 => ⟨S_, .i1⟩
  | 125 => ⟨S_, .i32⟩
  | 126 => ⟨S_, .i32⟩
  | 127 => ⟨S_, .i32⟩
  | _ => ⟨S16x2048x1024, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S1x16x8x64x128, .f32⟩
  | 6 => ⟨S16x8x64x128, .f32⟩
  | 7 => ⟨S_, .i32⟩
  | 8 => ⟨S_, .i1⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S1x16x8x64x128, .f32⟩
  | 18 => ⟨S16x8x64x128, .f32⟩
  | 19 => ⟨S_, .f32⟩
  | 20 => ⟨S_, .f32⟩
  | 21 => ⟨S16x8x64x128, .f32⟩
  | 22 => ⟨S16x8x64x128, .f32⟩
  | 23 => ⟨S16x8x64x128, .f32⟩
  | 24 => ⟨S16x8x64x128, .f32⟩
  | 25 => ⟨S16x8x64x1x128, .f32⟩
  | 26 => ⟨S16x8x1x64x128, .f32⟩
  | 27 => ⟨S16x8x64x64x128, .f32⟩
  | 28 => ⟨S16x8x64x64x128, .f32⟩
  | 29 => ⟨S16x8x64x64x128, .f32⟩
  | 30 => ⟨S_, .f32⟩
  | 31 => ⟨S_, .f32⟩
  | 32 => ⟨S16x8x64x64x128, .i1⟩
  | 33 => ⟨S16x8x64x64x128, .f32⟩
  | 34 => ⟨S16x8x64x64x128, .f32⟩
  | 35 => ⟨S16x8x64x64x128, .f32⟩
  | 36 => ⟨S16x8x64x1x128, .f32⟩
  | 37 => ⟨S16x8x1x64x128, .f32⟩
  | 38 => ⟨S16x8x64x64x128, .f32⟩
  | 39 => ⟨S16x8x64x64x128, .f32⟩
  | 40 => ⟨S16x8x64x64x128, .f32⟩
  | 41 => ⟨S16x8x64x64x128, .f32⟩
  | 42 => ⟨S_, .f32⟩
  | 43 => ⟨S16x8x64x64, .f32⟩
  | 44 => ⟨S16x8x64x128, .f32⟩
  | 45 => ⟨S16x8x1x128, .f32⟩
  | 46 => ⟨S16x8x128, .f32⟩
  | 47 => ⟨S16x8x1x128, .f32⟩
  | 48 => ⟨S16x8x64x128, .f32⟩
  | 49 => ⟨S16x8x64x128, .f32⟩
  | 50 => ⟨S16x8x64x128, .f32⟩
  | 51 => ⟨S16x8x64x128, .f32⟩
  | 52 => ⟨S16x8x128, .f32⟩
  | 53 => ⟨S16x8x128x1, .f32⟩
  | 54 => ⟨S16x8x128x128, .f32⟩
  | 55 => ⟨S16x8x128x128, .f32⟩
  | 56 => ⟨S16x8x128x128, .f32⟩
  | 57 => ⟨S16x8x128x128, .f32⟩
  | 58 => ⟨S16x8x64x128, .f32⟩
  | 59 => ⟨S16x8x64x128, .f32⟩
  | 60 => ⟨S_, .f32⟩
  | 61 => ⟨S16x8x64, .f32⟩
  | 62 => ⟨S16x8x64x1, .f32⟩
  | 63 => ⟨S_, .f32⟩
  | 64 => ⟨S16x8x64x1, .f32⟩
  | 65 => ⟨S16x8x64x1, .f32⟩
  | 66 => ⟨S_, .f32⟩
  | 67 => ⟨S16x8x64x1, .f32⟩
  | 68 => ⟨S16x8x64x1, .f32⟩
  | 69 => ⟨S16x8x64x1, .f32⟩
  | 70 => ⟨S16x8x64x128, .f32⟩
  | 71 => ⟨S16x8x64x128, .f32⟩
  | 72 => ⟨S1x1x1x128, .f32⟩
  | 73 => ⟨S16x8x64x128, .f32⟩
  | 74 => ⟨S16x8x64x128, .f32⟩
  | 75 => ⟨S16x8x64x128, .f32⟩
  | 76 => ⟨S16x8x64x128, .f32⟩
  | 77 => ⟨S_, .f32⟩
  | 78 => ⟨S16x8x64x128, .f32⟩
  | 79 => ⟨S16x8x64x128, .f32⟩
  | 80 => ⟨S_, .f32⟩
  | 81 => ⟨S16x8x64x128, .f32⟩
  | 82 => ⟨S16x8x64x128, .f32⟩
  | 83 => ⟨S16x8x64x128, .f32⟩
  | 84 => ⟨S16x8x64x128, .f32⟩
  | 85 => ⟨S16x8x64x128, .f32⟩
  | 86 => ⟨S16x8x64x128, .f32⟩
  | 87 => ⟨S_, .f32⟩
  | 88 => ⟨S16x8x64x128, .f32⟩
  | 89 => ⟨S16x8x64x128, .f32⟩
  | 90 => ⟨S_, .f32⟩
  | 91 => ⟨S16x8x64x128, .f32⟩
  | 92 => ⟨S16x8x64x128, .f32⟩
  | 93 => ⟨S16x8x64x128, .f32⟩
  | 94 => ⟨S16x8x64x128, .f32⟩
  | 95 => ⟨S_, .i32⟩
  | 96 => ⟨S32x1x1x1x1, .i32⟩
  | 97 => ⟨S32x1x1x1x1, .i1⟩
  | 98 => ⟨S1x16x8x64x128, .f32⟩
  | 99 => ⟨S32x16x8x64x128, .i1⟩
  | 100 => ⟨S32x16x8x64x128, .f32⟩
  | 101 => ⟨S32x16x8x64x128, .f32⟩
  | 102 => ⟨S_, .i32⟩
  | 103 => ⟨S32x1x1x1x1, .i32⟩
  | 104 => ⟨S32x1x1x1x1, .i1⟩
  | 105 => ⟨S1x16x8x64x128, .f32⟩
  | 106 => ⟨S32x16x8x64x128, .i1⟩
  | 107 => ⟨S32x16x8x64x128, .f32⟩
  | 108 => ⟨S32x16x8x64x128, .f32⟩
  | 109 => ⟨S_, .i32⟩
  | 110 => ⟨S_, .i32⟩
  | 111 => ⟨S16x32x64x8x128, .f32⟩
  | 112 => ⟨S16x2048x1024, .f32⟩
  | 113 => ⟨S16x32x64x8x128, .f32⟩
  | 114 => ⟨S16x2048x1024, .f32⟩
  | 115 => ⟨S16x2048x2048, .f32⟩
  | 116 => ⟨S16x2048x1024, .f32⟩
  | 117 => ⟨S16x1024, .f32⟩
  | 118 => ⟨S16x1x1024, .f32⟩
  | 119 => ⟨S16x2048x1024, .f32⟩
  | 120 => ⟨S_, .f32⟩
  | 121 => ⟨S16x2048, .f32⟩
  | 122 => ⟨S16x2048x1, .f32⟩
  | 123 => ⟨S_, .f32⟩
  | 124 => ⟨S16x2048x1, .f32⟩
  | 125 => ⟨S16x2048x1, .f32⟩
  | 126 => ⟨S_, .f32⟩
  | 127 => ⟨S16x2048x1, .f32⟩
  | _ => ⟨S16x2048x1024, .f32⟩

abbrev hbmTy0_3 (i : Nat) : BufTy := match i % 128 with
  | 0 => ⟨S16x2048x1, .f32⟩
  | 1 => ⟨S16x2048x1, .f32⟩
  | 2 => ⟨S16x2048x1024, .f32⟩
  | 3 => ⟨S16x2048x1024, .f32⟩
  | 4 => ⟨S1x1x1024, .f32⟩
  | 5 => ⟨S16x2048x1024, .f32⟩
  | 6 => ⟨S16x2048x1024, .f32⟩
  | 7 => ⟨S16x2048x1024, .f32⟩
  | 8 => ⟨S16x2048x1024, .f32⟩
  | 9 => ⟨S16x2048x1024, .f32⟩
  | _ => ⟨S16x2048x1024, .f32⟩

abbrev hbmTy (i : Nat) : BufTy := match i / 128 with
  | 0 => hbmTy0_0 i
  | 1 => hbmTy0_1 i
  | 2 => hbmTy0_2 i
  | 3 => hbmTy0_3 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call0_call0_cst : Ref sig .tc := ⟨.hbm, 68, rfl⟩
abbrev main_call0_call0_v0 : Ref sig .tc := ⟨.hbm, 69, rfl⟩
abbrev main_v50 : Ref sig .tc := ⟨.hbm, 70, rfl⟩
abbrev main_v51 : Ref sig .tc := ⟨.hbm, 71, rfl⟩
abbrev main_cst_7 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c : Ref sig .tc := ⟨.hbm, 77, rfl⟩
abbrev main_call1_v0 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_8 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_9 : Ref sig .tc := ⟨.hbm, 90, rfl⟩
abbrev main_call2_v0 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_10 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_11 : Ref sig .tc := ⟨.hbm, 103, rfl⟩
abbrev main_call3_v0 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_12 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_c_13 : Ref sig .tc := ⟨.hbm, 116, rfl⟩
abbrev main_call4_v0 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_14 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_cst_15 : Ref sig .tc := ⟨.hbm, 166, rfl⟩
abbrev main_v133 : Ref sig .tc := ⟨.hbm, 167, rfl⟩
abbrev main_cst_16 : Ref sig .tc := ⟨.hbm, 168, rfl⟩
abbrev main_v134 : Ref sig .tc := ⟨.hbm, 169, rfl⟩
abbrev main_c_17 : Ref sig .tc := ⟨.hbm, 170, rfl⟩
abbrev main_c_18 : Ref sig .tc := ⟨.hbm, 171, rfl⟩
abbrev main_v135_0 : Ref sig .tc := ⟨.hbm, 172, rfl⟩
abbrev main_v135_1 : Ref sig .tc := ⟨.hbm, 173, rfl⟩
abbrev main_v135_2 : Ref sig .tc := ⟨.hbm, 174, rfl⟩
abbrev main_v135_3 : Ref sig .tc := ⟨.hbm, 175, rfl⟩
abbrev main_v135_4 : Ref sig .tc := ⟨.hbm, 176, rfl⟩
abbrev main_v135_5 : Ref sig .tc := ⟨.hbm, 177, rfl⟩
abbrev main_v135_6 : Ref sig .tc := ⟨.hbm, 178, rfl⟩
abbrev main_v135_7 : Ref sig .tc := ⟨.hbm, 179, rfl⟩
abbrev main_v135_8 : Ref sig .tc := ⟨.hbm, 180, rfl⟩
abbrev main_v135_9 : Ref sig .tc := ⟨.hbm, 181, rfl⟩
abbrev main_v135_10 : Ref sig .tc := ⟨.hbm, 182, rfl⟩
abbrev main_v135_11 : Ref sig .tc := ⟨.hbm, 183, rfl⟩
abbrev main_v135_12 : Ref sig .tc := ⟨.hbm, 184, rfl⟩
abbrev main_v135_13 : Ref sig .tc := ⟨.hbm, 185, rfl⟩
abbrev main_v135_14 : Ref sig .tc := ⟨.hbm, 186, rfl⟩
abbrev main_while0c_c_36 : Ref sig .tc := ⟨.hbm, 187, rfl⟩
abbrev main_while0c_v160 : Ref sig .tc := ⟨.hbm, 188, rfl⟩
abbrev main_while0b_c_36 : Ref sig .tc := ⟨.hbm, 189, rfl⟩
abbrev main_while0b_v160 : Ref sig .tc := ⟨.hbm, 190, rfl⟩
abbrev main_while0b_call5_c : Ref sig .tc := ⟨.hbm, 191, rfl⟩
abbrev main_while0b_call5_v0 : Ref sig .tc := ⟨.hbm, 192, rfl⟩
abbrev main_while0b_call5_v1 : Ref sig .tc := ⟨.hbm, 193, rfl⟩
abbrev main_while0b_call5_c_0 : Ref sig .tc := ⟨.hbm, 194, rfl⟩
abbrev main_while0b_call5_v2 : Ref sig .tc := ⟨.hbm, 195, rfl⟩
abbrev main_while0b_call5_v3 : Ref sig .tc := ⟨.hbm, 196, rfl⟩
abbrev main_while0b_call5_c_1 : Ref sig .tc := ⟨.hbm, 197, rfl⟩
abbrev main_while0b_call5_c_2 : Ref sig .tc := ⟨.hbm, 198, rfl⟩
abbrev main_while0b_call5_c_3 : Ref sig .tc := ⟨.hbm, 199, rfl⟩
abbrev main_while0b_call5_c_4 : Ref sig .tc := ⟨.hbm, 200, rfl⟩
abbrev main_while0b_call5_v4 : Ref sig .tc := ⟨.hbm, 201, rfl⟩
abbrev main_while0b_v161 : Ref sig .tc := ⟨.hbm, 202, rfl⟩
abbrev main_while0b_call6_c : Ref sig .tc := ⟨.hbm, 203, rfl⟩
abbrev main_while0b_call6_v0 : Ref sig .tc := ⟨.hbm, 204, rfl⟩
abbrev main_while0b_call6_v1 : Ref sig .tc := ⟨.hbm, 205, rfl⟩
abbrev main_while0b_call6_c_0 : Ref sig .tc := ⟨.hbm, 206, rfl⟩
abbrev main_while0b_call6_v2 : Ref sig .tc := ⟨.hbm, 207, rfl⟩
abbrev main_while0b_call6_v3 : Ref sig .tc := ⟨.hbm, 208, rfl⟩
abbrev main_while0b_call6_c_1 : Ref sig .tc := ⟨.hbm, 209, rfl⟩
abbrev main_while0b_call6_c_2 : Ref sig .tc := ⟨.hbm, 210, rfl⟩
abbrev main_while0b_call6_c_3 : Ref sig .tc := ⟨.hbm, 211, rfl⟩
abbrev main_while0b_call6_c_4 : Ref sig .tc := ⟨.hbm, 212, rfl⟩
abbrev main_while0b_call6_v4 : Ref sig .tc := ⟨.hbm, 213, rfl⟩
abbrev main_while0b_v162 : Ref sig .tc := ⟨.hbm, 214, rfl⟩
abbrev main_while0b_call7_c : Ref sig .tc := ⟨.hbm, 215, rfl⟩
abbrev main_while0b_call7_v0 : Ref sig .tc := ⟨.hbm, 216, rfl⟩
abbrev main_while0b_call7_v1 : Ref sig .tc := ⟨.hbm, 217, rfl⟩
abbrev main_while0b_call7_c_0 : Ref sig .tc := ⟨.hbm, 218, rfl⟩
abbrev main_while0b_call7_v2 : Ref sig .tc := ⟨.hbm, 219, rfl⟩
abbrev main_while0b_call7_v3 : Ref sig .tc := ⟨.hbm, 220, rfl⟩
abbrev main_while0b_call7_c_1 : Ref sig .tc := ⟨.hbm, 221, rfl⟩
abbrev main_while0b_call7_c_2 : Ref sig .tc := ⟨.hbm, 222, rfl⟩
abbrev main_while0b_call7_c_3 : Ref sig .tc := ⟨.hbm, 223, rfl⟩
abbrev main_while0b_call7_c_4 : Ref sig .tc := ⟨.hbm, 224, rfl⟩
abbrev main_while0b_call7_v4 : Ref sig .tc := ⟨.hbm, 225, rfl⟩
abbrev main_while0b_v163 : Ref sig .tc := ⟨.hbm, 226, rfl⟩
abbrev main_while0b_call8_c : Ref sig .tc := ⟨.hbm, 227, rfl⟩
abbrev main_while0b_call8_v0 : Ref sig .tc := ⟨.hbm, 228, rfl⟩
abbrev main_while0b_call8_v1 : Ref sig .tc := ⟨.hbm, 229, rfl⟩
abbrev main_while0b_call8_c_0 : Ref sig .tc := ⟨.hbm, 230, rfl⟩
abbrev main_while0b_call8_v2 : Ref sig .tc := ⟨.hbm, 231, rfl⟩
abbrev main_while0b_call8_v3 : Ref sig .tc := ⟨.hbm, 232, rfl⟩
abbrev main_while0b_call8_c_1 : Ref sig .tc := ⟨.hbm, 233, rfl⟩
abbrev main_while0b_call8_c_2 : Ref sig .tc := ⟨.hbm, 234, rfl⟩
abbrev main_while0b_call8_c_3 : Ref sig .tc := ⟨.hbm, 235, rfl⟩
abbrev main_while0b_call8_c_4 : Ref sig .tc := ⟨.hbm, 236, rfl⟩
abbrev main_while0b_call8_v4 : Ref sig .tc := ⟨.hbm, 237, rfl⟩
abbrev main_while0b_v164 : Ref sig .tc := ⟨.hbm, 238, rfl⟩
abbrev main_while0b_call9_c : Ref sig .tc := ⟨.hbm, 239, rfl⟩
abbrev main_while0b_call9_v0 : Ref sig .tc := ⟨.hbm, 240, rfl⟩
abbrev main_while0b_call9_v1 : Ref sig .tc := ⟨.hbm, 241, rfl⟩
abbrev main_while0b_call9_c_0 : Ref sig .tc := ⟨.hbm, 242, rfl⟩
abbrev main_while0b_call9_v2 : Ref sig .tc := ⟨.hbm, 243, rfl⟩
abbrev main_while0b_call9_v3 : Ref sig .tc := ⟨.hbm, 244, rfl⟩
abbrev main_while0b_call9_c_1 : Ref sig .tc := ⟨.hbm, 245, rfl⟩
abbrev main_while0b_call9_c_2 : Ref sig .tc := ⟨.hbm, 246, rfl⟩
abbrev main_while0b_call9_c_3 : Ref sig .tc := ⟨.hbm, 247, rfl⟩
abbrev main_while0b_call9_c_4 : Ref sig .tc := ⟨.hbm, 248, rfl⟩
abbrev main_while0b_call9_v4 : Ref sig .tc := ⟨.hbm, 249, rfl⟩
abbrev main_while0b_v165 : Ref sig .tc := ⟨.hbm, 250, rfl⟩
abbrev main_while0b_call10_c : Ref sig .tc := ⟨.hbm, 251, rfl⟩
abbrev main_while0b_call10_v0 : Ref sig .tc := ⟨.hbm, 252, rfl⟩
abbrev main_while0b_call10_v1 : Ref sig .tc := ⟨.hbm, 253, rfl⟩
abbrev main_while0b_call10_c_0 : Ref sig .tc := ⟨.hbm, 254, rfl⟩
abbrev main_while0b_call10_v2 : Ref sig .tc := ⟨.hbm, 255, rfl⟩
abbrev main_while0b_call10_v3 : Ref sig .tc := ⟨.hbm, 256, rfl⟩
abbrev main_while0b_call10_c_1 : Ref sig .tc := ⟨.hbm, 257, rfl⟩
abbrev main_while0b_call10_c_2 : Ref sig .tc := ⟨.hbm, 258, rfl⟩
abbrev main_while0b_call10_c_3 : Ref sig .tc := ⟨.hbm, 259, rfl⟩
abbrev main_while0b_call10_c_4 : Ref sig .tc := ⟨.hbm, 260, rfl⟩
abbrev main_while0b_call10_v4 : Ref sig .tc := ⟨.hbm, 261, rfl⟩
abbrev main_while0b_v166 : Ref sig .tc := ⟨.hbm, 262, rfl⟩
abbrev main_while0b_call11_c : Ref sig .tc := ⟨.hbm, 263, rfl⟩
abbrev main_while0b_call11_v0 : Ref sig .tc := ⟨.hbm, 264, rfl⟩
abbrev main_while0b_call11_v1 : Ref sig .tc := ⟨.hbm, 265, rfl⟩
abbrev main_while0b_call11_c_0 : Ref sig .tc := ⟨.hbm, 266, rfl⟩
abbrev main_while0b_call11_v2 : Ref sig .tc := ⟨.hbm, 267, rfl⟩
abbrev main_while0b_call11_v3 : Ref sig .tc := ⟨.hbm, 268, rfl⟩
abbrev main_while0b_call11_c_1 : Ref sig .tc := ⟨.hbm, 269, rfl⟩
abbrev main_while0b_call11_c_2 : Ref sig .tc := ⟨.hbm, 270, rfl⟩
abbrev main_while0b_call11_c_3 : Ref sig .tc := ⟨.hbm, 271, rfl⟩
abbrev main_while0b_call11_c_4 : Ref sig .tc := ⟨.hbm, 272, rfl⟩
abbrev main_while0b_call11_v4 : Ref sig .tc := ⟨.hbm, 273, rfl⟩
abbrev main_while0b_v167 : Ref sig .tc := ⟨.hbm, 274, rfl⟩
abbrev main_while0b_call12_call0_cst : Ref sig .tc := ⟨.hbm, 275, rfl⟩
abbrev main_while0b_call12_call0_v0 : Ref sig .tc := ⟨.hbm, 276, rfl⟩
abbrev main_while0b_v168 : Ref sig .tc := ⟨.hbm, 277, rfl⟩
abbrev main_while0b_v169 : Ref sig .tc := ⟨.hbm, 278, rfl⟩
abbrev main_while0b_v170 : Ref sig .tc := ⟨.hbm, 279, rfl⟩
abbrev main_while0b_v171 : Ref sig .tc := ⟨.hbm, 280, rfl⟩
abbrev main_while0b_v172 : Ref sig .tc := ⟨.hbm, 281, rfl⟩
abbrev main_while0b_v173 : Ref sig .tc := ⟨.hbm, 282, rfl⟩
abbrev main_while0b_v174 : Ref sig .tc := ⟨.hbm, 283, rfl⟩
abbrev main_while0b_v175 : Ref sig .tc := ⟨.hbm, 284, rfl⟩
abbrev main_while0b_v176 : Ref sig .tc := ⟨.hbm, 285, rfl⟩
abbrev main_while0b_cst_37 : Ref sig .tc := ⟨.hbm, 286, rfl⟩
abbrev main_while0b_call13_v0 : Ref sig .tc := ⟨.hbm, 287, rfl⟩
abbrev main_while0b_call13_v1 : Ref sig .tc := ⟨.hbm, 288, rfl⟩
abbrev main_while0b_call13_v2 : Ref sig .tc := ⟨.hbm, 289, rfl⟩
abbrev main_while0b_v177 : Ref sig .tc := ⟨.hbm, 290, rfl⟩
abbrev main_while0b_v178 : Ref sig .tc := ⟨.hbm, 291, rfl⟩
abbrev main_while0b_v179 : Ref sig .tc := ⟨.hbm, 292, rfl⟩
abbrev main_while0b_v180 : Ref sig .tc := ⟨.hbm, 293, rfl⟩
abbrev main_while0b_v181 : Ref sig .tc := ⟨.hbm, 294, rfl⟩
abbrev main_while0b_v182 : Ref sig .tc := ⟨.hbm, 295, rfl⟩
abbrev main_while0b_v183 : Ref sig .tc := ⟨.hbm, 296, rfl⟩
abbrev main_while0b_v184 : Ref sig .tc := ⟨.hbm, 297, rfl⟩
abbrev main_while0b_cst_38 : Ref sig .tc := ⟨.hbm, 298, rfl⟩
abbrev main_while0b_v185 : Ref sig .tc := ⟨.hbm, 299, rfl⟩
abbrev main_while0b_v186 : Ref sig .tc := ⟨.hbm, 300, rfl⟩
abbrev main_while0b_v187 : Ref sig .tc := ⟨.hbm, 301, rfl⟩
abbrev main_while0b_v188 : Ref sig .tc := ⟨.hbm, 302, rfl⟩
abbrev main_while0b_v189 : Ref sig .tc := ⟨.hbm, 303, rfl⟩
abbrev main_while0b_v190 : Ref sig .tc := ⟨.hbm, 304, rfl⟩
abbrev main_while0b_v191 : Ref sig .tc := ⟨.hbm, 305, rfl⟩
abbrev main_while0b_v192 : Ref sig .tc := ⟨.hbm, 306, rfl⟩
abbrev main_while0b_v193 : Ref sig .tc := ⟨.hbm, 307, rfl⟩
abbrev main_while0b_v194 : Ref sig .tc := ⟨.hbm, 308, rfl⟩
abbrev main_while0b_v195 : Ref sig .tc := ⟨.hbm, 309, rfl⟩
abbrev main_while0b_v196 : Ref sig .tc := ⟨.hbm, 310, rfl⟩
abbrev main_while0b_v197 : Ref sig .tc := ⟨.hbm, 311, rfl⟩
abbrev main_while0b_v198 : Ref sig .tc := ⟨.hbm, 312, rfl⟩
abbrev main_while0b_v199 : Ref sig .tc := ⟨.hbm, 313, rfl⟩
abbrev main_while0b_v200 : Ref sig .tc := ⟨.hbm, 314, rfl⟩
abbrev main_while0b_v201 : Ref sig .tc := ⟨.hbm, 315, rfl⟩
abbrev main_while0b_cst_39 : Ref sig .tc := ⟨.hbm, 316, rfl⟩
abbrev main_while0b_v202 : Ref sig .tc := ⟨.hbm, 317, rfl⟩
abbrev main_while0b_v203 : Ref sig .tc := ⟨.hbm, 318, rfl⟩
abbrev main_while0b_cst_40 : Ref sig .tc := ⟨.hbm, 319, rfl⟩
abbrev main_while0b_v204 : Ref sig .tc := ⟨.hbm, 320, rfl⟩
abbrev main_while0b_v205 : Ref sig .tc := ⟨.hbm, 321, rfl⟩
abbrev main_while0b_cst_41 : Ref sig .tc := ⟨.hbm, 322, rfl⟩
abbrev main_while0b_v206 : Ref sig .tc := ⟨.hbm, 323, rfl⟩
abbrev main_while0b_v207 : Ref sig .tc := ⟨.hbm, 324, rfl⟩
abbrev main_while0b_v208 : Ref sig .tc := ⟨.hbm, 325, rfl⟩
abbrev main_while0b_v209 : Ref sig .tc := ⟨.hbm, 326, rfl⟩
abbrev main_while0b_v210 : Ref sig .tc := ⟨.hbm, 327, rfl⟩
abbrev main_while0b_v211 : Ref sig .tc := ⟨.hbm, 328, rfl⟩
abbrev main_while0b_v212 : Ref sig .tc := ⟨.hbm, 329, rfl⟩
abbrev main_while0b_v213 : Ref sig .tc := ⟨.hbm, 330, rfl⟩
abbrev main_while0b_call14_v0 : Ref sig .tc := ⟨.hbm, 331, rfl⟩
abbrev main_while0b_call14_v1 : Ref sig .tc := ⟨.hbm, 332, rfl⟩
abbrev main_while0b_call14_cst : Ref sig .tc := ⟨.hbm, 333, rfl⟩
abbrev main_while0b_call14_v2 : Ref sig .tc := ⟨.hbm, 334, rfl⟩
abbrev main_while0b_call14_v3 : Ref sig .tc := ⟨.hbm, 335, rfl⟩
abbrev main_while0b_call14_cst_0 : Ref sig .tc := ⟨.hbm, 336, rfl⟩
abbrev main_while0b_call14_v4 : Ref sig .tc := ⟨.hbm, 337, rfl⟩
abbrev main_while0b_call14_v5 : Ref sig .tc := ⟨.hbm, 338, rfl⟩
abbrev main_while0b_v214 : Ref sig .tc := ⟨.hbm, 339, rfl⟩
abbrev main_while0b_v215 : Ref sig .tc := ⟨.hbm, 340, rfl⟩
abbrev main_while0b_call15_v0 : Ref sig .tc := ⟨.hbm, 341, rfl⟩
abbrev main_while0b_call15_v1 : Ref sig .tc := ⟨.hbm, 342, rfl⟩
abbrev main_while0b_call15_cst : Ref sig .tc := ⟨.hbm, 343, rfl⟩
abbrev main_while0b_call15_v2 : Ref sig .tc := ⟨.hbm, 344, rfl⟩
abbrev main_while0b_call15_v3 : Ref sig .tc := ⟨.hbm, 345, rfl⟩
abbrev main_while0b_call15_cst_0 : Ref sig .tc := ⟨.hbm, 346, rfl⟩
abbrev main_while0b_call15_v4 : Ref sig .tc := ⟨.hbm, 347, rfl⟩
abbrev main_while0b_call15_v5 : Ref sig .tc := ⟨.hbm, 348, rfl⟩
abbrev main_while0b_v216 : Ref sig .tc := ⟨.hbm, 349, rfl⟩
abbrev main_while0b_v217 : Ref sig .tc := ⟨.hbm, 350, rfl⟩
abbrev main_while0b_v218 : Ref sig .tc := ⟨.hbm, 351, rfl⟩
abbrev main_while0b_v219 : Ref sig .tc := ⟨.hbm, 352, rfl⟩
abbrev main_while0b_v220 : Ref sig .tc := ⟨.hbm, 353, rfl⟩
abbrev main_while0b_v221 : Ref sig .tc := ⟨.hbm, 354, rfl⟩
abbrev main_while0b_call16_v0 : Ref sig .tc := ⟨.hbm, 355, rfl⟩
abbrev main_while0b_call16_v1 : Ref sig .tc := ⟨.hbm, 356, rfl⟩
abbrev main_while0b_v222 : Ref sig .tc := ⟨.hbm, 357, rfl⟩
abbrev main_while0b_v223 : Ref sig .tc := ⟨.hbm, 358, rfl⟩
abbrev main_while0b_v224 : Ref sig .tc := ⟨.hbm, 359, rfl⟩
abbrev main_while0b_v225 : Ref sig .tc := ⟨.hbm, 360, rfl⟩
abbrev main_while0b_v226 : Ref sig .tc := ⟨.hbm, 361, rfl⟩
abbrev main_while0b_call17_v0 : Ref sig .tc := ⟨.hbm, 362, rfl⟩
abbrev main_while0b_call17_v1 : Ref sig .tc := ⟨.hbm, 363, rfl⟩
abbrev main_while0b_v227 : Ref sig .tc := ⟨.hbm, 364, rfl⟩
abbrev main_while0b_c_42 : Ref sig .tc := ⟨.hbm, 365, rfl⟩
abbrev main_while0b_v228 : Ref sig .tc := ⟨.hbm, 366, rfl⟩
abbrev main_v136 : Ref sig .tc := ⟨.hbm, 367, rfl⟩
abbrev main_v137 : Ref sig .tc := ⟨.hbm, 368, rfl⟩
abbrev main_v138 : Ref sig .tc := ⟨.hbm, 369, rfl⟩
abbrev main_v139 : Ref sig .tc := ⟨.hbm, 370, rfl⟩
abbrev main_v140 : Ref sig .tc := ⟨.hbm, 371, rfl⟩
abbrev main_v141 : Ref sig .tc := ⟨.hbm, 372, rfl⟩
abbrev main_v142 : Ref sig .tc := ⟨.hbm, 373, rfl⟩
abbrev main_v143 : Ref sig .tc := ⟨.hbm, 374, rfl⟩
abbrev main_v144 : Ref sig .tc := ⟨.hbm, 375, rfl⟩
abbrev main_cst_19 : Ref sig .tc := ⟨.hbm, 376, rfl⟩
abbrev main_v145 : Ref sig .tc := ⟨.hbm, 377, rfl⟩
abbrev main_v146 : Ref sig .tc := ⟨.hbm, 378, rfl⟩
abbrev main_cst_20 : Ref sig .tc := ⟨.hbm, 379, rfl⟩
abbrev main_v147 : Ref sig .tc := ⟨.hbm, 380, rfl⟩
abbrev main_v148 : Ref sig .tc := ⟨.hbm, 381, rfl⟩
abbrev main_cst_21 : Ref sig .tc := ⟨.hbm, 382, rfl⟩
abbrev main_v149 : Ref sig .tc := ⟨.hbm, 383, rfl⟩
abbrev main_v150 : Ref sig .tc := ⟨.hbm, 384, rfl⟩
abbrev main_v151 : Ref sig .tc := ⟨.hbm, 385, rfl⟩
abbrev main_v152 : Ref sig .tc := ⟨.hbm, 386, rfl⟩
abbrev main_v153 : Ref sig .tc := ⟨.hbm, 387, rfl⟩
abbrev main_v154 : Ref sig .tc := ⟨.hbm, 388, rfl⟩
abbrev main_v155 : Ref sig .tc := ⟨.hbm, 389, rfl⟩
abbrev main_v156 : Ref sig .tc := ⟨.hbm, 390, rfl⟩
abbrev main_v157 : Ref sig .tc := ⟨.hbm, 391, rfl⟩
abbrev main_v158 : Ref sig .tc := ⟨.hbm, 392, rfl⟩
abbrev main_v159 : Ref sig .tc := ⟨.hbm, 393, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S16x1024 : Shape := ⟨2, ![16, 1024]⟩
abbrev S2x1024x3072 : Shape := ⟨3, ![2, 1024, 3072]⟩
abbrev S2x3072 : Shape := ⟨2, ![2, 3072]⟩
abbrev S2x1x3072 : Shape := ⟨3, ![2, 1, 3072]⟩
abbrev S2x16x3072 : Shape := ⟨3, ![2, 16, 3072]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x3072, .f32⟩
  | .hbm, ⟨2, _⟩ => ⟨S2x3072, .f32⟩
  | .hbm, ⟨3, _⟩ => ⟨S2x1x3072, .f32⟩
  | .hbm, ⟨4, _⟩ => ⟨S2x16x3072, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16x1024 : Shape := ⟨2, ![16, 1024]⟩
abbrev S2x1024x3072 : Shape := ⟨3, ![2, 1024, 3072]⟩
abbrev S2x3072 : Shape := ⟨2, ![2, 3072]⟩
abbrev S_ : Shape := ⟨0, ![]⟩
abbrev S1x1024x3072 : Shape := ⟨3, ![1, 1024, 3072]⟩
abbrev S1024x3072 : Shape := ⟨2, ![1024, 3072]⟩
abbrev S16x3072 : Shape := ⟨2, ![16, 3072]⟩
abbrev S1x3072 : Shape := ⟨2, ![1, 3072]⟩
abbrev S3072 : Shape := ⟨1, ![3072]⟩
abbrev S1x16x3072 : Shape := ⟨3, ![1, 16, 3072]⟩
abbrev S2x16x3072 : Shape := ⟨3, ![2, 16, 3072]⟩

abbrev nBuf : Space → Nat
  | .hbm => 31
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x3072, .f32⟩
  | .hbm, ⟨2, _⟩ => ⟨S2x3072, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x3072, .f32⟩
  | .hbm, ⟨13, _⟩ => ⟨S1024x3072, .f32⟩
  | .hbm, ⟨14, _⟩ => ⟨S16x3072, .f32⟩
  | .hbm, ⟨15, _⟩ => ⟨S1x3072, .f32⟩
  | .hbm, ⟨16, _⟩ => ⟨S3072, .f32⟩
  | .hbm, ⟨17, _⟩ => ⟨S1x3072, .f32⟩
  | .hbm, ⟨18, _⟩ => ⟨S16x3072, .f32⟩
  | .hbm, ⟨19, _⟩ => ⟨S16x3072, .f32⟩
  | .hbm, ⟨20, _⟩ => ⟨S1x1024x3072, .f32⟩
  | .hbm, ⟨21, _⟩ => ⟨S1024x3072, .f32⟩
  | .hbm, ⟨22, _⟩ => ⟨S16x3072, .f32⟩
  | .hbm, ⟨23, _⟩ => ⟨S1x3072, .f32⟩
  | .hbm, ⟨24, _⟩ => ⟨S3072, .f32⟩
  | .hbm, ⟨25, _⟩ => ⟨S1x3072, .f32⟩
  | .hbm, ⟨26, _⟩ => ⟨S16x3072, .f32⟩
  | .hbm, ⟨27, _⟩ => ⟨S16x3072, .f32⟩
  | .hbm, ⟨28, _⟩ => ⟨S1x16x3072, .f32⟩
  | .hbm, ⟨29, _⟩ => ⟨S1x16x3072, .f32⟩
  | .hbm, ⟨30, _⟩ => ⟨S2x16x3072, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Proof.KernelIdealFrame.lean ====
module
public import proofs.«01_k».proof.Proof.Gen.KernelIdeal.Frame
public import proofs.«01_k».proof.Proof.Gen.KernelIdeal.Loops
@[expose] public section

/-! The frame of `KernelIdeal`: the layer kernel's body, run at any grid point, leaves its twelve inputs as they were and its
output block and scratch buffers at some contents; so the whole grid ends with every argument array unchanged. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F]

local notation "𝕄" => MT nD τ sig Unit (Elt F) ℕ (UR sig nD τ) ℕ

/-- The branch the body takes at the first chunk of a sequence: the second grid coordinate is zero. -/
abbrev atStart (i : grid0.Coords) : Prop :=
  (Scalar.cmpi .ne (Scalar.extui (Scalar.cmpi .eq (BitVec.ofNat 32 (i 1).val) 0#32)) 0#32) = 1#1

set_option maxHeartbeats 40000000 in
/-- The body at the first chunk of a sequence: the inputs are returned as they were, the output block and the scratch buffers at some contents. -/
theorem run_start (c : Dev nD) (i : grid0.Coords) (arg2 : Memref sig .tc .vmem S1x256x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S2048x1024 .bf16) (harg10 : arg10.IsWhole) (arg11 : Memref sig .tc .vmem S1x1024 .f32) (harg11 : arg11.IsWhole) (arg12 : Memref sig .tc .vmem S512x192 .bf16) (harg12 : arg12.IsWhole) (arg13 : Memref sig .tc .vmem S64x64 .i32) (harg13 : arg13.IsWhole) (arg14 : Memref sig .tc .vmem S1x256x1024 .f32) (harg14 : arg14.IsWhole) (arg15 : Memref sig .tc .vmem S8x128x128 .f32) (harg15 : arg15.IsWhole) (arg16 : Memref sig .tc .vmem S16x1024 .f32) (harg16 : arg16.IsWhole) (arg17 : Memref sig .tc .vmem S272x1024 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .f32) (harg22 : arg22.IsWhole) (arg23 : Memref sig .tc .vmem S256x2048 .bf16) (harg23 : arg23.IsWhole)
    (hc : atStart i) (x2 : Vec F S1x256x1024 .f32) (x3 : Vec F S1x1x3072 .f32) (x4 : Vec F S1x1024 .f32) (x5 : Vec F S1024x6144 .bf16) (x6 : Vec F S4x256x256 .bf16) (x7 : Vec F S1x1024 .f32) (x8 : Vec F S1x1024 .f32) (x9 : Vec F S1x128 .f32) (x10 : Vec F S2048x1024 .bf16) (x11 : Vec F S1x1024 .f32) (x12 : Vec F S512x192 .bf16) (x13 : Vec F S64x64 .i32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := F)) Variants.none c none) E (cc0_hybrid_layer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_hybrid_layer_eq_skeleton]; unfold cc0_hybrid_layer_skel
  simp only [k0_part22_eq_skeleton, k0_part23_eq_skeleton, k0_part24_eq_skeleton, k0_part25_eq_skeleton, k0_part26_eq_skeleton, k0_part27_eq_skeleton, k0_part28_eq_skeleton, k0_part29_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl

  · iexists _, _; isplitr; swap; · iexact H23
    ipureintro; rfl

set_option maxHeartbeats 40000000 in
/-- The body at a later chunk of a sequence: the inputs are returned as they were, the output block and the scratch buffers at some contents. -/
theorem run_rest (c : Dev nD) (i : grid0.Coords) (arg2 : Memref sig .tc .vmem S1x256x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S2048x1024 .bf16) (harg10 : arg10.IsWhole) (arg11 : Memref sig .tc .vmem S1x1024 .f32) (harg11 : arg11.IsWhole) (arg12 : Memref sig .tc .vmem S512x192 .bf16) (harg12 : arg12.IsWhole) (arg13 : Memref sig .tc .vmem S64x64 .i32) (harg13 : arg13.IsWhole) (arg14 : Memref sig .tc .vmem S1x256x1024 .f32) (harg14 : arg14.IsWhole) (arg15 : Memref sig .tc .vmem S8x128x128 .f32) (harg15 : arg15.IsWhole) (arg16 : Memref sig .tc .vmem S16x1024 .f32) (harg16 : arg16.IsWhole) (arg17 : Memref sig .tc .vmem S272x1024 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .f32) (harg22 : arg22.IsWhole) (arg23 : Memref sig .tc .vmem S256x2048 .bf16) (harg23 : arg23.IsWhole)
    (hc : ¬ atStart i) (x2 : Vec F S1x256x1024 .f32) (x3 : Vec F S1x1x3072 .f32) (x4 : Vec F S1x1024 .f32) (x5 : Vec F S1024x6144 .bf16) (x6 : Vec F S4x256x256 .bf16) (x7 : Vec F S1x1024 .f32) (x8 : Vec F S1x1024 .f32) (x9 : Vec F S1x128 .f32) (x10 : Vec F S2048x1024 .bf16) (x11 : Vec F S1x1024 .f32) (x12 : Vec F S512x192 .bf16) (x13 : Vec F S64x64 .i32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := F)) Variants.none c none) E (cc0_hybrid_layer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_hybrid_layer_eq_skeleton]; unfold cc0_hybrid_layer_skel
  simp only [k0_part22_eq_skeleton, k0_part23_eq_skeleton, k0_part24_eq_skeleton, k0_part25_eq_skeleton, k0_part26_eq_skeleton, k0_part27_eq_skeleton, k0_part28_eq_skeleton, k0_part29_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl

  · iexists _, _; isplitr; swap; · iexact H23
    ipureintro; rfl

variable (m : (ℓ : Loc nD τ sig) → Buf (Elt F) ℓ) (ρ : Dev nD → PrngReg)

/-- What the launch hands the kernel besides its windows: the nine scratch buffers at some contents, and the generator
    register. -/
theorem scratch_eq (c : Dev nD) :
    (Pipeline.ΦA spec0 c : sProp 𝕄)
      = iprop(iprop((∃ d, owns (c : Thread nD τ) (Memref.whole cc0_scratch0 : Memref sig .tc .vmem S8x128x128 .f32) fullShare d) ∗ (∃ d, owns (c : Thread nD τ) (Memref.whole cc0_scratch1 : Memref sig .tc .vmem S16x1024 .f32) fullShare d) ∗ (∃ d, owns (c : Thread nD τ) (Memref.whole cc0_scratch2 : Memref sig .tc .vmem S272x1024 .f32) fullShare d) ∗ (∃ d, owns (c : Thread nD τ) (Memref.whole cc0_scratch3 : Memref sig .tc .vmem S256x1024 .f32) fullShare d) ∗ (∃ d, owns (c : Thread nD τ) (Memref.whole cc0_scratch4 : Memref sig .tc .vmem S256x1024 .f32) fullShare d) ∗ (∃ d, owns (c : Thread nD τ) (Memref.whole cc0_scratch5 : Memref sig .tc .vmem S256x1024 .f32) fullShare d) ∗ (∃ d, owns (c : Thread nD τ) (Memref.whole cc0_scratch6 : Memref sig .tc .vmem S256x1024 .f32) fullShare d) ∗ (∃ d, owns (c : Thread nD τ) (Memref.whole cc0_scratch7 : Memref sig .tc .vmem S256x1024 .f32) fullShare d) ∗ (∃ d, owns (c : Thread nD τ) (Memref.whole cc0_scratch8 : Memref sig .tc .vmem S256x2048 .bf16) fullShare d)) ∗ (∃ r, prngReg c r)) := by
  unfold Pipeline.ΦA; rw [scopedRest0_eq]; simp only [owns_whole]; try rfl

/-- The one output window, of which this frame names nothing. -/
def forgotten : Fin 13 → Bool := fun w => w.val == 12

/-- The proof data: arrays as the region finds them, each input's block left in place, the output forgotten, the
    scratch buffers at some contents throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
  Φ _ := Pipeline.ΦA spec0 c
  q _ := fullShare
  owed _ := 0

/-- The arrays a launch starts from. -/
theorem A_eq (c : Dev nD) (w : Fin cfg0.W) : (dats m 0 c).A w = V m c (Pipeline.arrRef spec0 w) := by
  dsimp only [dats]

/-- What window 0 holds behind a point. -/
theorem after_0 (c : Dev nD) (t : Fin cfg0.N) : (dats m 0 c).after 0 t = iblk m c 0 t := by dsimp only [dats]
/-- What window 0 holds before a point. -/
theorem before_0 (c : Dev nD) (t : Fin cfg0.N) (d) : (dats m 0 c).before 0 t d = iblk m c 0 t :=
  before0_0_of m (dats m 0 c) (A_eq m c 0) (after_0 m c) t d
/-- What window 1 holds behind a point. -/
theorem after_1 (c : Dev nD) (t : Fin cfg0.N) : (dats m 0 c).after 1 t = iblk m c 1 t := by dsimp only [dats]
/-- What window 1 holds before a point. -/
theorem before_1 (c : Dev nD) (t : Fin cfg0.N) (d) : (dats m 0 c).before 1 t d = iblk m c 1 t :=
  before0_1_of m (dats m 0 c) (A_eq m c 1) (after_1 m c) t d
/-- What window 2 holds behind a point. -/
theorem after_2 (c : Dev nD) (t : Fin cfg0.N) : (dats m 0 c).after 2 t = iblk m c 2 t := by dsimp only [dats]
/-- What window 2 holds before a point. -/
theorem before_2 (c : Dev nD) (t : Fin cfg0.N) (d) : (dats m 0 c).before 2 t d = iblk m c 2 t :=
  before0_2_of m (dats m 0 c) (A_eq m c 2) (after_2 m c) t d
/-- What window 3 holds behind a point. -/
theorem after_3 (c : Dev nD) (t : Fin cfg0.N) : (dats m 0 c).after 3 t = iblk m c 3 t := by dsimp only [dats]
/-- What window 3 holds before a point. -/
theorem before_3 (c : Dev nD) (t : Fin cfg0.N) (d) : (dats m 0 c).before 3 t d = iblk m c 3 t :=
  before0_3_of m (dats m 0 c) (A_eq m c 3) (after_3 m c) t d
/-- What window 4 holds behind a point. -/
theorem after_4 (c : Dev nD) (t : Fin cfg0.N) : (dats m 0 c).after 4 t = iblk m c 4 t := by dsimp only [dats]
/-- What window 4 holds before a point. -/
theorem before_4 (c : Dev nD) (t : Fin cfg0.N) (d) : (dats m 0 c).before 4 t d = iblk m c 4 t :=
  before0_4_of m (dats m 0 c) (A_eq m c 4) (after_4 m c) t d
/-- What window 5 holds behind a point. -/
theorem after_5 (c : Dev nD) (t : Fin cfg0.N) : (dats m 0 c).after 5 t = iblk m c 5 t := by dsimp only [dats]
/-- What window 5 holds before a point. -/
theorem before_5 (c : Dev nD) (t : Fin cfg0.N) (d) : (dats m 0 c).before 5 t d = iblk m c 5 t :=
  before0_5_of m (dats m 0 c) (A_eq m c 5) (after_5 m c) t d
/-- What window 6 holds behind a point. -/
theorem after_6 (c : Dev nD) (t : Fin cfg0.N) : (dats m 0 c).after 6 t = iblk m c 6 t := by dsimp only [dats]
/-- What window 6 holds before a point. -/
theorem before_6 (c : Dev nD) (t : Fin cfg0.N) (d) : (dats m 0 c).before 6 t d = iblk m c 6 t :=
  before0_6_of m (dats m 0 c) (A_eq m c 6) (after_6 m c) t d
/-- What window 7 holds behind a point. -/
theorem after_7 (c : Dev nD) (t : Fin cfg0.N) : (dats m 0 c).after 7 t = iblk m c 7 t := by dsimp only [dats]
/-- What window 7 holds before a point. -/
theorem before_7 (c : Dev nD) (t : Fin cfg0.N) (d) : (dats m 0 c).before 7 t d = iblk m c 7 t :=
  before0_7_of m (dats m 0 c) (A_eq m c 7) (after_7 m c) t d
/-- What window 8 holds behind a point. -/
theorem after_8 (c : Dev nD) (t : Fin cfg0.N) : (dats m 0 c).after 8 t = iblk m c 8 t := by dsimp only [dats]
/-- What window 8 holds before a point. -/
theorem before_8 (c : Dev nD) (t : Fin cfg0.N) (d) : (dats m 0 c).before 8 t d = iblk m c 8 t :=
  before0_8_of m (dats m 0 c) (A_eq m c 8) (after_8 m c) t d
/-- What window 9 holds behind a point. -/
theorem after_9 (c : Dev nD) (t : Fin cfg0.N) : (dats m 0 c).after 9 t = iblk m c 9 t := by dsimp only [dats]
/-- What window 9 holds before a point. -/
theorem before_9 (c : Dev nD) (t : Fin cfg0.N) (d) : (dats m 0 c).before 9 t d = iblk m c 9 t :=
  before0_9_of m (dats m 0 c) (A_eq m c 9) (after_9 m c) t d
/-- What window 10 holds behind a point. -/
theorem after_10 (c : Dev nD) (t : Fin cfg0.N) : (dats m 0 c).after 10 t = iblk m c 10 t := by dsimp only [dats]
/-- What window 10 holds before a point. -/
theorem before_10 (c : Dev nD) (t : Fin cfg0.N) (d) : (dats m 0 c).before 10 t d = iblk m c 10 t :=
  before0_10_of m (dats m 0 c) (A_eq m c 10) (after_10 m c) t d
/-- What window 11 holds behind a point. -/
theorem after_11 (c : Dev nD) (t : Fin cfg0.N) : (dats m 0 c).after 11 t = iblk m c 11 t := by dsimp only [dats]
/-- What window 11 holds before a point. -/
theorem before_11 (c : Dev nD) (t : Fin cfg0.N) (d) : (dats m 0 c).before 11 t d = iblk m c 11 t :=
  before0_11_of m (dats m 0 c) (A_eq m c 11) (after_11 m c) t d

set_option maxHeartbeats 16000000 in
/-- The body at any grid point, from the windows and the scratch buffers back to them. -/
theorem sound_body (c : Dev nD) (t : Fin cfg0.N) :
    iprop((dats m 0 c).Φ t.castSucc ∗ (dats m 0 c).owesAt () t.castSucc ∗ (∃ d, owns (c : Thread nD τ) ((win0_0.stage (cfg0.slots t 0)) : Memref sig .tc .vmem S1x256x1024 .f32) fullShare ((dats m 0 c).before 0 t d)) ∗ (∃ d, owns (c : Thread nD τ) ((win0_1.stage (cfg0.slots t 1)) : Memref sig .tc .vmem S1x1x3072 .f32) fullShare ((dats m 0 c).before 1 t d)) ∗ (∃ d, owns (c : Thread nD τ) ((win0_2.stage (cfg0.slots t 2)) : Memref sig .tc .vmem S1x1024 .f32) fullShare ((dats m 0 c).before 2 t d)) ∗ (∃ d, owns (c : Thread nD τ) ((win0_3.stage (cfg0.slots t 3)) : Memref sig .tc .vmem S1024x6144 .bf16) fullShare ((dats m 0 c).before 3 t d)) ∗ (∃ d, owns (c : Thread nD τ) ((win0_4.stage (cfg0.slots t 4)) : Memref sig .tc .vmem S4x256x256 .bf16) fullShare ((dats m 0 c).before 4 t d)) ∗ (∃ d, owns (c : Thread nD τ) ((win0_5.stage (cfg0.slots t 5)) : Memref sig .tc .vmem S1x1024 .f32) fullShare ((dats m 0 c).before 5 t d)) ∗ (∃ d, owns (c : Thread nD τ) ((win0_6.stage (cfg0.slots t 6)) : Memref sig .tc .vmem S1x1024 .f32) fullShare ((dats m 0 c).before 6 t d)) ∗ (∃ d, owns (c : Thread nD τ) ((win0_7.stage (cfg0.slots t 7)) : Memref sig .tc .vmem S1x128 .f32) fullShare ((dats m 0 c).before 7 t d)) ∗ (∃ d, owns (c : Thread nD τ) ((win0_8.stage (cfg0.slots t 8)) : Memref sig .tc .vmem S2048x1024 .bf16) fullShare ((dats m 0 c).before 8 t d)) ∗ (∃ d, owns (c : Thread nD τ) ((win0_9.stage (cfg0.slots t 9)) : Memref sig .tc .vmem S1x1024 .f32) fullShare ((dats m 0 c).before 9 t d)) ∗ (∃ d, owns (c : Thread nD τ) ((win0_10.stage (cfg0.slots t 10)) : Memref sig .tc .vmem S512x192 .bf16) fullShare ((dats m 0 c).before 10 t d)) ∗ (∃ d, owns (c : Thread nD τ) ((win0_11.stage (cfg0.slots t 11)) : Memref sig .tc .vmem S64x64 .i32) fullShare ((dats m 0 c).before 11 t d)) ∗ (∃ d, owns (c : Thread nD τ) ((win0_12.stage (cfg0.slots t 12)) : Memref sig .tc .vmem S1x256x1024 .f32) fullShare d))
      ⊢ wp frame (wpE (defs₀ (F := F)) Variants.none c none) Set.univ (bodyAt0 t)
        (fun _ => iprop((dats m 0 c).Φ t.succ ∗ (dats m 0 c).owesAt () t.succ ∗ owns (c : Thread nD τ) ((win0_0.stage (cfg0.slots t 0)) : Memref sig .tc .vmem S1x256x1024 .f32) fullShare ((dats m 0 c).after 0 t) ∗ owns (c : Thread nD τ) ((win0_1.stage (cfg0.slots t 1)) : Memref sig .tc .vmem S1x1x3072 .f32) fullShare ((dats m 0 c).after 1 t) ∗ owns (c : Thread nD τ) ((win0_2.stage (cfg0.slots t 2)) : Memref sig .tc .vmem S1x1024 .f32) fullShare ((dats m 0 c).after 2 t) ∗ owns (c : Thread nD τ) ((win0_3.stage (cfg0.slots t 3)) : Memref sig .tc .vmem S1024x6144 .bf16) fullShare ((dats m 0 c).after 3 t) ∗ owns (c : Thread nD τ) ((win0_4.stage (cfg0.slots t 4)) : Memref sig .tc .vmem S4x256x256 .bf16) fullShare ((dats m 0 c).after 4 t) ∗ owns (c : Thread nD τ) ((win0_5.stage (cfg0.slots t 5)) : Memref sig .tc .vmem S1x1024 .f32) fullShare ((dats m 0 c).after 5 t) ∗ owns (c : Thread nD τ) ((win0_6.stage (cfg0.slots t 6)) : Memref sig .tc .vmem S1x1024 .f32) fullShare ((dats m 0 c).after 6 t) ∗ owns (c : Thread nD τ) ((win0_7.stage (cfg0.slots t 7)) : Memref sig .tc .vmem S1x128 .f32) fullShare ((dats m 0 c).after 7 t) ∗ owns (c : Thread nD τ) ((win0_8.stage (cfg0.slots t 8)) : Memref sig .tc .vmem S2048x1024 .bf16) fullShare ((dats m 0 c).after 8 t) ∗ owns (c : Thread nD τ) ((win0_9.stage (cfg0.slots t 9)) : Memref sig .tc .vmem S1x1024 .f32) fullShare ((dats m 0 c).after 9 t) ∗ owns (c : Thread nD τ) ((win0_10.stage (cfg0.slots t 10)) : Memref sig .tc .vmem S512x192 .bf16) fullShare ((dats m 0 c).after 10 t) ∗ owns (c : Thread nD τ) ((win0_11.stage (cfg0.slots t 11)) : Memref sig .tc .vmem S64x64 .i32) fullShare ((dats m 0 c).after 11 t) ∗ (∃ d, owns (c : Thread nD τ) ((win0_12.stage (cfg0.slots t 12)) : Memref sig .tc .vmem S1x256x1024 .f32) fullShare d))) := by
  unfold bodyAt0
  simp only [before_0, before_1, before_2, before_3, before_4, before_5, before_6, before_7, before_8, before_9, before_10, before_11]
  rw [show (dats m 0 c).owesAt () t.succ = (dats m 0 c).owesAt () t.castSucc from rfl,
    after_0, after_1, after_2, after_3, after_4, after_5, after_6, after_7, after_8, after_9, after_10, after_11]
  rw [show (dats m 0 c).Φ t.succ = Pipeline.ΦA spec0 c from rfl, show (dats m 0 c).Φ t.castSucc = Pipeline.ΦA spec0 c from rfl,
    scratch_eq]
  by_cases h0 : atStart (grid0.coords t)
  · skip
    iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12⟩
    iapply (run_start c (grid0.coords t) _ _ _ _ _ _ _ _ _ _ _ _ _ _ _ _ _ _ _ _ _ _ _ _ _ _ _ _ _ _ _ _ _ _ _ _ _ _ _ _ _ _ _ _ h0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, H4, H5, H6, H7, H8, H9, H10, H11, H12, HS0, HS1, HS2, HS3, HS4, HS5, HS6, HS7, HS8⟩
    isplitl [HS0 HS1 HS2 HS3 HS4 HS5 HS6 HS7 HS8 Hg]
    · isplitl [HS0 HS1 HS2 HS3 HS4 HS5 HS6 HS7 HS8]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iexact HS8
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · skip
    iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12⟩
    iapply (run_rest c (grid0.coords t) _ _ _ _ _ _ _ _ _ _ _ _ _ _ _ _ _ _ _ _ _ _ _ _ _ _ _ _ _ _ _ _ _ _ _ _ _ _ _ _ _ _ _ _ h0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, H4, H5, H6, H7, H8, H9, H10, H11, H12, HS0, HS1, HS2, HS3, HS4, HS5, HS6, HS7, HS8⟩
    isplitl [HS0 HS1 HS2 HS3 HS4 HS5 HS6 HS7 HS8 Hg]
    · isplitl [HS0 HS1 HS2 HS3 HS4 HS5 HS6 HS7 HS8]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iexact HS8
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The library's body obligation at every grid point. -/
theorem obligation (c : Dev nD) : BodyObligation (dats (F := F) m 0 c) (defs₀ (F := F)) Variants.none () Set.univ forgotten := fun t => by
  rw [bigSep_W0, bigSep_W0, show defs₀ (F := F) .tc cfg0.body (cfg0.bodyArgs t (cfg0.slots t)) = bodyAt0 t from by
    unfold defs₀; rw [Defs.onTc_tc]]
  exact triple_restated (sound_body m c t) rfl .rfl fun _ => .rfl

set_option backward.isDefEq.respectTransparency.types false in
/-- The launch: from any memory with zero counters the program terminates with its pipeline's input arrays unchanged and
    every counter at zero. -/
theorem run_main : θ_run defs (onTc (τ := τ) (main (F := F))) (s₀ m ρ) (fun r => (Pipeline.RDat.FramePost (cfgs 0) (fun c => (dats m 0 c).toRForget forgotten) (V m)) r ∧ r.2.sem = fun _ => 0) :=
  Pipeline.θ_run_frame_track_forget (Q' := _) cfgs (dats m) (0 : Fin 1) launch0 defs₀ Variants.none forgotten m ρ main
    (hbody := fun c => (obligation m c).loose) (hshare := fun c => (dats m 0 c).share_full fun _ => rfl)
    (howed := fun _ _ => rfl) (V := V m) (hmain := hmain m Variants.none) (hA := A_eq m)
    (hin := fun _ => Idealize.SL.BI.Entails.refl _) (hout := fun _ => Idealize.SL.BI.Entails.refl _)

/-- The argument arrays end as launched, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨(Pipeline.RDat.FramePost.arr_in h.1 c 0 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c)⟩, h.2⟩) (run_main m ρ)

end Cert.KernelIdeal.Hand

end
-- ==== Proof.AdalnValue.lean ====
module
public import proofs.«01_k».proof.Defs
public import proofs.«01_k».proof.Proof.Gen.Pre_finite
public import proofs.«01_k».proof.Proof.Gen.Kernel2Ideal.Frame
public import proofs.«01_k».proof.Proof.Gen.Reference2Ideal.Run
public import Idealize.ShloMosaic.Lib.Pipeline.ValueKit
public import Idealize.ShloMosaic.Lib.Pointwise
public import Idealize.ShloMosaic.Lib.ReduceAll
/- What the modulation call computes. `real_of_finite` reads the precondition (the condition vectors and the weights are real
   numbers), `pay` the block that one grid point writes, `ref_at` the reference at an index, `final` the result array. -/
@[expose] public section
set_option maxRecDepth 16384
noncomputable section
open Idealize.ShloMosaic Idealize.ShloMosaic.TcCoe Idealize.SL.Sem
open Idealize.ShloMosaic.Pipeline (Dat)
namespace Cert.Kernel2Ideal.Value
open Cert.Kernel2Ideal Cert.Kernel2Ideal.Gen

/-- Where the magnitude of an extended real is below plus infinity, it is a real number. -/
theorem real_of_lt (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  induction x using EReal.rec with
  | bot => simp [Ideal.cmp] at h
  | top => simp [Ideal.cmp] at h
  | coe r => exact ⟨r, rfl⟩

/-- The precondition: every entry of the first two arguments is a real number. -/
theorem real_of_finite (a : FVec Ideal S16x1024 .f32) (w : FVec Ideal S2x1024x3072 .f32) (b : FVec Ideal S2x3072 .f32)
    (h : Cert.Pre_finite.fn (F := Ideal) a w b = fun _ => 1#1) :
    (∀ i, ∃ r : ℝ, (a i : EReal) = (r : EReal)) ∧ (∀ i, ∃ r : ℝ, (w i : EReal) = (r : EReal)) := by
  have h0 := congrFun h ix0
  unfold Cert.Pre_finite.fn at h0
  dsimp only at h0
  change IntOp.andi _ _ = 1#1 at h0
  have h1 : ∀ x y : BitVec 1, IntOp.andi x y = 1#1 → x = 1#1 ∧ y = 1#1 := by decide
  obtain ⟨ha, hw⟩ := h1 _ _ h0
  haveI : Subsingleton Cert.Pre_finite.S_.Idx := ⟨fun x y => funext fun k => k.elim0⟩
  exact ⟨fun i => real_of_lt _ (Host.reduce_andi_all _ _ _ _ _ ha i), fun i => real_of_lt _ (Host.reduce_andi_all _ _ _ _ _ hw i)⟩

/-- The smooth gate of a real number, `x / (1 + exp (-x))`, is a real number. -/
theorem silu_real (r : ℝ) : ∃ q : ℝ, (r : EReal) * Ideal.div 1 (1 + Ideal.exp (-(r : EReal))) = (q : EReal) := by
  refine ⟨r * (1 / (1 + Real.exp (-r))), ?_⟩
  have h : (1 + Real.exp (-r) : ℝ) ≠ 0 := by positivity
  rw [← EReal.coe_neg]
  rw [Ideal.exp_coe, ← EReal.coe_one, ← EReal.coe_add, Ideal.div_coe h, EReal.coe_one, one_mul, ← EReal.coe_mul]

/-- What one block of the kernel holds, where the condition vectors and the weights are real numbers: the product of the
    gated conditions with the weights, and the bias. -/
theorem pay (x0 : Vec Ideal S16x1024 .f32) (x1 : Vec Ideal S1x1024x1024 .f32) (x2 : Vec Ideal S1x1x1024 .f32)
    (h0 : ∀ i, ∃ r : ℝ, (x0 i : EReal) = (r : EReal)) (h1 : ∀ i, ∃ r : ℝ, (x1 i : EReal) = (r : EReal)) (z : Fin 1) (r : Fin 16) (n : Fin 1024) :
    k0_pay1 x0 x1 x2 (ix3 z r n) = ((∑ k : Fin 1024, x0 (ix2 r k) * Ideal.div 1 (1 + Ideal.exp (-x0 (ix2 r k))) * x1 (ix3 0 k n)) + x2 (ix3 0 0 n) : EReal) := by
  obtain rfl : z = 0 := Subsingleton.elim _ _
  have e1 : ∀ i, (x1 i - x1 i : EReal) = 0 := fun i => by
    obtain ⟨q, hq⟩ := h1 i
    rw [hq, ← EReal.coe_sub, sub_self, EReal.coe_zero]
  have e0 : ∀ i, (x0 i * Ideal.div 1 (1 + Ideal.exp (-x0 i)) - x0 i * Ideal.div 1 (1 + Ideal.exp (-x0 i)) : EReal) = 0 := fun i => by
    obtain ⟨q, hq⟩ := h0 i
    obtain ⟨p, hp⟩ := silu_real q
    rw [hq, hp, ← EReal.coe_sub, sub_self, EReal.coe_zero]
  pointwise [k0_pay1]
  simp only [zero_sub, e0, e1, mul_zero, zero_mul, Finset.sum_const_zero, add_zero]

/-- The reference's result as one expression of its arguments. -/
abbrev REF (A : FVec Ideal S16x1024 .f32) (W : FVec Ideal S2x1024x3072 .f32) (B : FVec Ideal S2x3072 .f32) : FVec Ideal S2x16x3072 .f32 :=
  open Cert.Reference2Ideal Cert.Reference2Ideal.Gen in
  concatenate S2x16x3072 0 [⟨S1x16x3072, (broadcastInDim S1x16x3072 ![1, 2] bcast_S16x3072_S1x16x3072_1_2 (addf (Host.dotGeneral dot_S16x1024_S1024x3072_S16x3072_1_0_0_1_n_n none (mulf A (Host.divf (broadcastInDim S16x1024 ![] bcast_S_S16x1024 (constant S_ .f32 0x3F800000#32)) (addf (broadcastInDim S16x1024 ![] bcast_S_S16x1024 (constant S_ .f32 0x3F800000#32)) (Host.exp (Host.negf A))))) (shapeCast _ (extractStridedSlice S1x1024x3072 ![0, 0, 0] W slices_S2x1024x3072_S1x1024x3072_0_0_0) shapeCasts_S1x1024x3072_S1024x3072)) (broadcastInDim S16x3072 ![0, 1] bcast_S1x3072_S16x3072_0_1 (broadcastInDim S1x3072 ![1] bcast_S3072_S1x3072_1 (shapeCast _ (extractStridedSlice S1x3072 ![0, 0] B slices_S2x3072_S1x3072_0_0) shapeCasts_S1x3072_S3072)))))⟩, ⟨S1x16x3072, (broadcastInDim S1x16x3072 ![1, 2] bcast_S16x3072_S1x16x3072_1_2 (addf (Host.dotGeneral dot_S16x1024_S1024x3072_S16x3072_1_0_0_1_n_n none (mulf A (Host.divf (broadcastInDim S16x1024 ![] bcast_S_S16x1024 (constant S_ .f32 0x3F800000#32)) (addf (broadcastInDim S16x1024 ![] bcast_S_S16x1024 (constant S_ .f32 0x3F800000#32)) (Host.exp (Host.negf A))))) (shapeCast _ (extractStridedSlice S1x1024x3072 ![1, 0, 0] W slices_S2x1024x3072_S1x1024x3072_1_0_0) shapeCasts_S1x1024x3072_S1024x3072)) (broadcastInDim S16x3072 ![0, 1] bcast_S1x3072_S16x3072_0_1 (broadcastInDim S1x3072 ![1] bcast_S3072_S1x3072_1 (shapeCast _ (extractStridedSlice S1x3072 ![1, 0] B slices_S2x3072_S1x3072_1_0) shapeCasts_S1x3072_S3072)))))⟩] concatenates_S1x16x3072_S1x16x3072_S2x16x3072_d0

/-- The reference at an index. -/
theorem ref_apply (A : FVec Ideal S16x1024 .f32) (W : FVec Ideal S2x1024x3072 .f32) (B : FVec Ideal S2x3072 .f32) (l : Fin 2) (r : Fin 16) (n : Fin 3072) :
    REF A W B (ix3 l r n) = ((∑ k : Fin 1024, A (ix2 r k) * Ideal.div 1 (1 + Ideal.exp (-A (ix2 r k))) * W (ix3 l k n)) + B (ix2 l n) : EReal) := by
  pointwise [REF]
  fin_cases l <;> rfl

/-- The reference at an index given as one variable. -/
theorem ref_at (A : FVec Ideal S16x1024 .f32) (W : FVec Ideal S2x1024x3072 .f32) (B : FVec Ideal S2x3072 .f32) (y : S2x16x3072.Idx) :
    REF A W B y = ((∑ k : Fin 1024, A (ix2 (y 1) k) * Ideal.div 1 (1 + Ideal.exp (-A (ix2 (y 1) k))) * W (ix3 (y 0) k (y 2))) + B (ix2 (y 0) (y 2)) : EReal) := by
  idx_vars y
  exact ref_apply A W B _ _ _

/-- The block of each window at a point of the grid. -/
theorem idx : ∀ t : Fin cfg0.N, win0_0.index t = ![0, 0] ∧ win0_1.index t = ![(grid0.coords t 0).val, 0, (grid0.coords t 1).val] ∧ win0_2.index t = ![(grid0.coords t 0).val, 0, (grid0.coords t 1).val] ∧ win0_3.index t = ![(grid0.coords t 0).val, 0, (grid0.coords t 1).val] :=
  (by decide +kernel : ∀ t : Fin grid0.N, _)
variable (m : (ℓ : Loc nD τ sig) → Buf (Elt Ideal) ℓ)

/-- The result array of the kernel after its run is the reference's expression of its arguments. -/
theorem final (c : Dev nD) (h : Cert.Pre_finite.fn (F := Ideal) (m ((c.tc : Thread nD τ).loc main_arg0)) (m ((c.tc : Thread nD τ).loc main_arg1)) (m ((c.tc : Thread nD τ).loc main_arg2)) = fun _ => 1#1) :
    (dats m 0 c).arrAt 3 (cfgs 0).N = REF (m ((c.tc : Thread nD τ).loc main_arg0)) (m ((c.tc : Thread nD τ).loc main_arg1)) (m ((c.tc : Thread nD τ).loc main_arg2)) := by
  obtain ⟨ha, hw⟩ := real_of_finite _ _ _ h
  refine (dats m 0 c).arrAt_eq_of_covers 3 _ (by decide +kernel) fun t _ y => ?_
  blk_simp
  rw [after0_3]; frame_out
  idx_vars y
  rw [pay _ _ _ (fun i => by exact ha _) (fun i => by exact hw _), ref_at]
  blk_point [iblk, V, idx t]
end Cert.Kernel2Ideal.Value
end
-- ==== Proof.Cumsum.lean ====
/- The running sum of a tensor along one axis, read at an index over the extended reals. -/
module

public import proofs.«01_k».proof.Proof.Gen.ReferenceIdeal
public import Idealize.ShloMosaic.Lib.Pipeline.ValueKit
public import Idealize.ShloMosaic.Lib.Pointwise

@[expose] public section

set_option maxRecDepth 16384

noncomputable section

namespace Cert.Layer

open Idealize.ShloMosaic Idealize.ShloMosaic.TcCoe

/-- A fold of additions over a shape's positions is the sum over its indices. -/
theorem win_fold (W : Shape) (g : W.Idx → EReal) :
    (List.finRange W.numel).foldl (fun r n => r + g (W.rowMajor.symm n)) 0 = ∑ i : W.Idx, g i := by
  rw [← Equiv.sum_comp W.rowMajor.symm g]
  have : ∀ (l : List (Fin W.numel)) (a : EReal), l.foldl (fun r n => r + g (W.rowMajor.symm n)) a = a + (l.map fun n => g (W.rowMajor.symm n)).sum := by
    intro l
    induction l with
    | nil => intro a; simp
    | cons x l ih => intro a; rw [List.foldl_cons, ih, List.map_cons, List.sum_cons, add_assoc]
  rw [this, zero_add, Fin.sum_univ_def]

/-- The entries a window reaches are the prefix. -/
theorem win_prefix (N s : ℕ) (hs : s < N) (F : ℕ → EReal) :
    ∑ w ∈ Finset.range N, (if N - 1 ≤ s + w then F (s + w - (N - 1)) else 0) = ∑ i ∈ Finset.range N, (if i ≤ s then F i else 0) := by
  rw [← Finset.sum_filter, ← Finset.sum_filter]
  refine Finset.sum_nbij' (fun w => s + w - (N - 1)) (fun i => i + (N - 1) - s) ?_ ?_ ?_ ?_ ?_ <;>
    simp only [Finset.mem_filter, Finset.mem_range] <;> intro a ha
  · omega
  · omega
  · omega
  · omega
  · trivial

/-- The same over `Fin N`. -/
theorem win_prefix_fin (N : ℕ) (s : Fin N) (f : Fin N → EReal) :
    (∑ w : Fin N, if h : N - 1 ≤ s.val + w.val then f ⟨s.val + w.val - (N - 1), by omega⟩ else 0) = ∑ i : Fin N, (if i ≤ s then f i else 0) := by
  have e := win_prefix N s.val s.isLt (fun i => if h : i < N then f ⟨i, h⟩ else 0)
  rw [Finset.sum_range, Finset.sum_range] at e
  refine Eq.trans (Finset.sum_congr rfl fun w _ => ?_) (e.trans (Finset.sum_congr rfl fun i _ => ?_))
  · split
    · rw [dif_pos]
    · rfl
  · rw [dif_pos i.isLt]; rfl

open Cert.ReferenceIdeal in
/-- The running sum over the rows of a sequence. -/
theorem cumsum_seq (x : FVec Ideal S16x2048x1024 .f32) (init : FVec Ideal S_ .f32) (hi : ∀ i, init i = (0 : EReal)) (h) (hu) (b : Fin 16) (s : Fin 2048) (c : Fin 1024) :
    (Host.reduceWindowAdd (t := S16x2048x1024) ![1, 2048, 1] ![1, 1, 1] ![0, 2047, 0] ![0, 0, 0] x init h hu (ix3 b s c) : EReal)
      = ∑ i : Fin 2048, if i ≤ s then (x (ix3 b i c) : EReal) else 0 := by
  let W : Shape := ⟨3, ![1, 2048, 1]⟩
  let e : W.Idx ≃ Fin 2048 := ⟨fun i => i 1, fun w => ix3 (0 : Fin 1) w (0 : Fin 1), fun i => by
    funext a
    match a with
    | 0 => exact Subsingleton.elim (α := Fin 1) _ _
    | 1 => rfl
    | 2 => exact Subsingleton.elim (α := Fin 1) _ _, fun w => rfl⟩
  have k := win_fold W (fun i => if hin : 2047 ≤ s.val + (e i).val then x (ix3 b ⟨s.val + (e i).val - (2048 - 1), by have := (e i).isLt; omega⟩ c) else (0 : EReal))
  rw [Equiv.sum_comp e (fun w => if hin : 2047 ≤ s.val + w.val then x (ix3 b ⟨s.val + w.val - (2048 - 1), by omega⟩ c) else (0 : EReal))] at k
  refine Eq.trans ?_ (k.trans (win_prefix_fin 2048 s fun i => x (ix3 b i c)))
  unfold Host.reduceWindowAdd; rw [Ideal.hostReduceWindowAdd_def]; unfold Ideal.hostReduceWindowAdd Host.reduceWindow; dsimp only
  rw [hi]
  refine congrArg (fun f => List.foldl f (0 : EReal) (List.finRange W.numel)) ?_
  funext r n
  refine congrArg (fun z : EReal => r + z) ?_
  have h0 : (W.rowMajor.symm n 0).val = 0 := by have := (W.rowMajor.symm n 0).isLt; change _ < 1 at this; omega
  have h2 : (W.rowMajor.symm n 2).val = 0 := by have := (W.rowMajor.symm n 2).isLt; change _ < 1 at this; omega
  have h1 : (W.rowMajor.symm n 1).val < 2048 := (W.rowMajor.symm n 1).isLt
  have hc := c.isLt
  have hb := b.isLt
  by_cases hh : 2047 ≤ s.val + (W.rowMajor.symm n 1).val
  · rw [dif_pos (c := 2047 ≤ s.val + (e (W.rowMajor.symm n)).val) hh, dif_pos]
    · refine congrArg x ?_
      funext a
      match a with
      | 0 => exact Fin.ext (by change b.val * 1 + (W.rowMajor.symm n 0).val - 0 = b.val; omega)
      | 1 => exact Fin.ext (by change s.val * 1 + (W.rowMajor.symm n 1).val - 2047 = s.val + (W.rowMajor.symm n 1).val - 2047; omega)
      | 2 => exact Fin.ext (by change c.val * 1 + (W.rowMajor.symm n 2).val - 0 = c.val; omega)
    · intro a
      match a with
      | 0 => change 0 ≤ b.val * 1 + (W.rowMajor.symm n 0).val ∧ b.val * 1 + (W.rowMajor.symm n 0).val - 0 < 16; omega
      | 1 => change 2047 ≤ s.val * 1 + (W.rowMajor.symm n 1).val ∧ s.val * 1 + (W.rowMajor.symm n 1).val - 2047 < 2048; omega
      | 2 => change 0 ≤ c.val * 1 + (W.rowMajor.symm n 2).val ∧ c.val * 1 + (W.rowMajor.symm n 2).val - 0 < 1024; omega
  · rw [dif_neg (c := 2047 ≤ s.val + (e (W.rowMajor.symm n)).val) hh, dif_neg]
    intro hin
    have := hin 1
    change 2047 ≤ s.val * 1 + (W.rowMajor.symm n 1).val ∧ _ at this
    omega

open Cert.ReferenceIdeal in
/-- The running sum over the rows of a chunk. -/
theorem cumsum_chunk (x : FVec Ideal S16x8x64x128 .f32) (init : FVec Ideal S_ .f32) (hi : ∀ i, init i = (0 : EReal)) (h) (hu) (b : Fin 16) (g : Fin 8) (s : Fin 64) (c : Fin 128) :
    (Host.reduceWindowAdd (t := S16x8x64x128) ![1, 1, 64, 1] ![1, 1, 1, 1] ![0, 0, 63, 0] ![0, 0, 0, 0] x init h hu (ix4 b g s c) : EReal)
      = ∑ i : Fin 64, if i ≤ s then (x (ix4 b g i c) : EReal) else 0 := by
  let W : Shape := ⟨4, ![1, 1, 64, 1]⟩
  let e : W.Idx ≃ Fin 64 := ⟨fun i => i 2, fun w => ix4 (0 : Fin 1) (0 : Fin 1) w (0 : Fin 1), fun i => by
    funext a
    match a with
    | 0 => exact Subsingleton.elim (α := Fin 1) _ _
    | 1 => exact Subsingleton.elim (α := Fin 1) _ _
    | 2 => rfl
    | 3 => exact Subsingleton.elim (α := Fin 1) _ _, fun w => rfl⟩
  have k := win_fold W (fun i => if hin : 63 ≤ s.val + (e i).val then x (ix4 b g ⟨s.val + (e i).val - (64 - 1), by have := (e i).isLt; omega⟩ c) else (0 : EReal))
  rw [Equiv.sum_comp e (fun w => if hin : 63 ≤ s.val + w.val then x (ix4 b g ⟨s.val + w.val - (64 - 1), by omega⟩ c) else (0 : EReal))] at k
  refine Eq.trans ?_ (k.trans (win_prefix_fin 64 s fun i => x (ix4 b g i c)))
  unfold Host.reduceWindowAdd; rw [Ideal.hostReduceWindowAdd_def]; unfold Ideal.hostReduceWindowAdd Host.reduceWindow; dsimp only
  rw [hi]
  refine congrArg (fun f => List.foldl f (0 : EReal) (List.finRange W.numel)) ?_
  funext r n
  refine congrArg (fun z : EReal => r + z) ?_
  have h0 : (W.rowMajor.symm n 0).val = 0 := by have := (W.rowMajor.symm n 0).isLt; change _ < 1 at this; omega
  have h1 : (W.rowMajor.symm n 1).val = 0 := by have := (W.rowMajor.symm n 1).isLt; change _ < 1 at this; omega
  have h3 : (W.rowMajor.symm n 3).val = 0 := by have := (W.rowMajor.symm n 3).isLt; change _ < 1 at this; omega
  have h2 : (W.rowMajor.symm n 2).val < 64 := (W.rowMajor.symm n 2).isLt
  have hc := c.isLt
  have hb := b.isLt
  have hg := g.isLt
  by_cases hh : 63 ≤ s.val + (W.rowMajor.symm n 2).val
  · rw [dif_pos (c := 63 ≤ s.val + (e (W.rowMajor.symm n)).val) hh, dif_pos]
    · refine congrArg x ?_
      funext a
      match a with
      | 0 => exact Fin.ext (by change b.val * 1 + (W.rowMajor.symm n 0).val - 0 = b.val; omega)
      | 1 => exact Fin.ext (by change g.val * 1 + (W.rowMajor.symm n 1).val - 0 = g.val; omega)
      | 2 => exact Fin.ext (by change s.val * 1 + (W.rowMajor.symm n 2).val - 63 = s.val + (W.rowMajor.symm n 2).val - 63; omega)
      | 3 => exact Fin.ext (by change c.val * 1 + (W.rowMajor.symm n 3).val - 0 = c.val; omega)
    · intro a
      match a with
      | 0 => change 0 ≤ b.val * 1 + (W.rowMajor.symm n 0).val ∧ b.val * 1 + (W.rowMajor.symm n 0).val - 0 < 16; omega
      | 1 => change 0 ≤ g.val * 1 + (W.rowMajor.symm n 1).val ∧ g.val * 1 + (W.rowMajor.symm n 1).val - 0 < 8; omega
      | 2 => change 63 ≤ s.val * 1 + (W.rowMajor.symm n 2).val ∧ s.val * 1 + (W.rowMajor.symm n 2).val - 63 < 64; omega
      | 3 => change 0 ≤ c.val * 1 + (W.rowMajor.symm n 3).val ∧ c.val * 1 + (W.rowMajor.symm n 3).val - 0 < 128; omega
  · rw [dif_neg (c := 63 ≤ s.val + (e (W.rowMajor.symm n)).val) hh, dif_neg]
    intro hin
    have := hin 2
    change 63 ≤ s.val * 1 + (W.rowMajor.symm n 2).val ∧ _ at this
    omega

end Cert.Layer

end
-- ==== Proof.Model.lean ====
/- The layer as plain arithmetic over the extended reals: what both programs are shown to compute. -/
module

public import Idealize.ShloMosaic.Lib.Pipeline.ValueKit
public import Idealize.ShloMosaic.Lib.Pointwise

@[expose] public section

noncomputable section

namespace Cert.Layer

open Idealize.ShloMosaic

/-- The layer's ten arguments, each a function of its indices. -/
structure Args where
  x : Fin 16 → Fin 2048 → Fin 1024 → EReal
  md : Fin 16 → Fin 3072 → EReal
  np : Fin 1024 → EReal
  wi : Fin 1024 → Fin 6144 → EReal
  pw : Fin 4 → Fin 256 → Fin 256 → EReal
  ps : Fin 1024 → EReal
  lo : Fin 1024 → EReal
  hn : Fin 128 → EReal
  wo : Fin 2048 → Fin 1024 → EReal
  nq : Fin 1024 → EReal

/-- Row `r` of chunk `n` of a sequence. -/
def row (n : Fin 32) (r : Fin 64) : Fin 2048 := ⟨n.val * 64 + r.val, by omega⟩
/-- Column `d` of head `g`. -/
def col (g : Fin 8) (d : Fin 128) : Fin 1024 := ⟨g.val * 128 + d.val, by omega⟩
/-- Column `e` of pool group `q`. -/
def pcol (q : Fin 4) (e : Fin 256) : Fin 1024 := ⟨256 * q.val + e.val, by omega⟩
/-- Column `c` of the projection's part `i`. -/
def part (i : Fin 6) (c : Fin 1024) : Fin 6144 := ⟨1024 * i.val + c.val, by omega⟩

/-- The width the norms divide by, and their epsilon. -/
def cD : EReal := Ideal.ofBits .f32 1149239296#32
/-- The epsilon of the norms. -/
def cE : EReal := Ideal.ofBits .f32 897988541#32

/-- `x` times its logistic. -/
def silu (z : EReal) : EReal := z * Ideal.div 1 (1 + Ideal.exp (-z))

/-- A row normed, scaled and gated. -/
def normGate (o : Fin 128 → EReal) (w g : EReal) (d : Fin 128) : EReal :=
  o d * Ideal.rsqrt (Ideal.div (∑ x : Fin 128, o x * o x) (Ideal.ofBits .f32 1124073472#32) + cE) * w * silu g

variable (A : Args)

/-- The normed and modulated input. -/
def hM (b : Fin 16) (s : Fin 2048) (c : Fin 1024) : EReal :=
  A.x b s c * Ideal.rsqrt (Ideal.div (∑ x : Fin 1024, A.x b s x * A.x b s x) cD + cE) * A.np c
    * (1 + A.md b ⟨1024 + c.val, by omega⟩) + A.md b ⟨c.val, by omega⟩
/-- The projection. -/
def zM (b : Fin 16) (s : Fin 2048) (n : Fin 6144) : EReal := ∑ x : Fin 1024, hM A b s x * A.wi x n
/-- The forget gate. -/
def fM (b : Fin 16) (s : Fin 2048) (c : Fin 1024) : EReal :=
  A.lo c + (1 - A.lo c) * Ideal.div 1 (1 + Ideal.exp (-zM A b s (part 3 c)))
/-- Its logarithm. -/
def lfM (b : Fin 16) (s : Fin 2048) (c : Fin 1024) : EReal := Ideal.log (fM A b s c)
/-- The sum of the logarithms of a chunk's rows up to `r`. -/
def bM (b : Fin 16) (n : Fin 32) (r : Fin 64) (c : Fin 1024) : EReal := ∑ i : Fin 64, if i ≤ r then lfM A b (row n i) c else 0

/-- The state before chunk `n`. -/
def stM (b : Fin 16) : ℕ → Fin 8 → Fin 128 → Fin 128 → EReal
  | 0, _, _, _ => 0
  | n + 1, g, a, d => if h : n < 32 then
      Ideal.exp (bM A b ⟨n, h⟩ 63 (col g a)) * stM b n g a d
        + ∑ x : Fin 64, (1 - fM A b (row ⟨n, h⟩ x) (col g a)) * Ideal.exp (bM A b ⟨n, h⟩ 63 (col g a) - bM A b ⟨n, h⟩ x (col g a))
            * zM A b (row ⟨n, h⟩ x) (part 4 (col g d))
    else stM b n g a d

/-- The attention inside chunk `n`. -/
def atM (b : Fin 16) (n : Fin 32) (g : Fin 8) (r j : Fin 64) : EReal :=
  if j ≤ r then ∑ x : Fin 128, zM A b (row n r) (part 2 (col g x)) * (1 - fM A b (row n j) (col g x))
      * Ideal.exp (bM A b n r (col g x) - bM A b n j (col g x)) else 0
/-- The head's output before its norm. -/
def oM (b : Fin 16) (n : Fin 32) (g : Fin 8) (r : Fin 64) (d : Fin 128) : EReal :=
  (∑ x : Fin 128, zM A b (row n r) (part 2 (col g x)) * Ideal.exp (bM A b n r (col g x)) * stM A b n.val g x d)
    + ∑ j : Fin 64, atM A b n g r j * zM A b (row n j) (part 4 (col g d))
/-- The head's output. -/
def ohM (b : Fin 16) (n : Fin 32) (g : Fin 8) (r : Fin 64) (d : Fin 128) : EReal :=
  normGate (oM A b n g r) (A.hn d) (zM A b (row n r) (part 5 (col g d))) d

/-- The pool's window of group `q`. -/
def pwin (q : Fin 4) : ℕ := 2 ^ (q.val + 1)
/-- A pool column at row `t`. -/
def uN (b : Fin 16) (c : Fin 1024) (t : ℕ) : EReal := if h : t < 2048 then zM A b ⟨t, h⟩ (part 0 c) else 0
/-- The trailing mean of a pool column, less the entry itself. -/
def avM (b : Fin 16) (s : Fin 2048) (q : Fin 4) (e : Fin 256) : EReal :=
  Ideal.div (∑ d ∈ Finset.range (pwin q), if d ≤ s.val then uN A b (pcol q e) (s.val - d) else 0)
    (((min (s.val + 1) (pwin q) : ℕ) : ℝ) : EReal) - zM A b s (part 0 (pcol q e))
/-- The pool's output. -/
def plM (b : Fin 16) (s : Fin 2048) (c : Fin 1024) : EReal :=
  (∑ x : Fin 256, A.pw ⟨c.val / 256, by omega⟩ x ⟨c.val % 256, by omega⟩ * avM A b s ⟨c.val / 256, by omega⟩ x) * A.ps c
    * silu (zM A b s (part 1 c))

/-- The head's output at a row and column. -/
def omM (b : Fin 16) (s : Fin 2048) (c : Fin 1024) : EReal :=
  ohM A b ⟨s.val / 64, by omega⟩ ⟨c.val / 128, by omega⟩ ⟨s.val % 64, by omega⟩ ⟨c.val % 128, by omega⟩
/-- The output projection. -/
def yM (b : Fin 16) (s : Fin 2048) (c : Fin 1024) : EReal :=
  (∑ m : Fin 1024, plM A b s m * A.wo ⟨m.val, by omega⟩ c) + ∑ m : Fin 1024, omM A b s m * A.wo ⟨1024 + m.val, by omega⟩ c
/-- The layer's result. -/
def outM (b : Fin 16) (s : Fin 2048) (c : Fin 1024) : EReal :=
  A.x b s c + A.md b ⟨2048 + c.val, by omega⟩
    * (yM A b s c * Ideal.rsqrt (Ideal.div (∑ x : Fin 1024, yM A b s x * yM A b s x) cD + cE) * A.nq c)

end Cert.Layer

end
-- ==== Proof.RefRead.lean ====
/- The reference's result read at an index: it is the layer's model. -/
module

public import proofs.«01_k».proof.Proof.Gen.ReferenceIdeal.Step
public import proofs.«01_k».proof.Proof.Cumsum
public import proofs.«01_k».proof.Proof.Model

@[expose] public section

set_option maxRecDepth 16384

noncomputable section

namespace Cert.Layer

open Idealize.ShloMosaic Idealize.ShloMosaic.TcCoe Cert.ReferenceIdeal Cert.ReferenceIdeal.Gen Cert.ReferenceIdeal.Step

/-- The arguments of a launch, each as a function of its indices. -/
def argsOf (a0 : FVec Ideal S16x2048x1024 .f32) (a1 : FVec Ideal S16x3072 .f32) (a2 : FVec Ideal S1024 .f32) (a3 : FVec Ideal S1024x6144 .f32)
    (a4 : FVec Ideal S4x256x256 .f32) (a5 a6 : FVec Ideal S1024 .f32) (a7 : FVec Ideal S128 .f32) (a8 : FVec Ideal S2048x1024 .f32) (a9 : FVec Ideal S1024 .f32) : Args where
  x b s c := a0 (ix3 b s c)
  md b c := a1 (ix2 b c)
  np c := a2 (ix1 c)
  wi c n := a3 (ix2 c n)
  pw q x e := a4 (ix3 q x e)
  ps c := a5 (ix1 c)
  lo c := a6 (ix1 c)
  hn d := a7 (ix1 d)
  wo m c := a8 (ix2 m c)
  nq c := a9 (ix1 c)

variable (a0 : FVec Ideal S16x2048x1024 .f32) (a1 : FVec Ideal S16x3072 .f32) (a2 : FVec Ideal S1024 .f32) (a3 : FVec Ideal S1024x6144 .f32) (a4 : FVec Ideal S4x256x256 .f32) (a5 a6 : FVec Ideal S1024 .f32)
  (a7 : FVec Ideal S128 .f32) (a8 : FVec Ideal S2048x1024 .f32) (a9 : FVec Ideal S1024 .f32)

/-- Equal coordinates make equal indices, three of them. -/
theorem ix3_ext {A B C : ℕ} {a a' : Fin A} {b b' : Fin B} {c c' : Fin C} (ha : a.val = a'.val) (hb : b.val = b'.val) (hc : c.val = c'.val) :
    ix3 a b c = ix3 a' b' c' := by
  obtain rfl := Fin.ext ha; obtain rfl := Fin.ext hb; obtain rfl := Fin.ext hc; rfl
/-- Equal coordinates make equal indices, five of them. -/
theorem ix5_ext {A B C D E : ℕ} {a a' : Fin A} {b b' : Fin B} {c c' : Fin C} {d d' : Fin D} {e e' : Fin E} (ha : a.val = a'.val) (hb : b.val = b'.val) (hc : c.val = c'.val)
    (hd : d.val = d'.val) (he : e.val = e'.val) : ix5 a b c d e = ix5 a' b' c' d' e' := by
  obtain rfl := Fin.ext ha; obtain rfl := Fin.ext hb; obtain rfl := Fin.ext hc; obtain rfl := Fin.ext hd; obtain rfl := Fin.ext he; rfl

local notation "AA" => argsOf a0 a1 a2 a3 a4 a5 a6 a7 a8 a9

/-- The normed and modulated input. -/
theorem r_h (b : Fin 16) (s : Fin 2048) (c : Fin 1024) : A_main_v21 (F := Ideal) a0 a1 a2 a3 a4 a5 a6 (ix3 b s c) = hM AA b s c := by
  pointwise [A_main_v0, A_main_v1, A_main_v2, A_main_v3, A_main_v4, A_main_v5, A_main_v7, A_main_v9, A_main_v10, A_main_v11, A_main_v12, A_main_v13, A_main_v14, A_main_v15, A_main_v17, A_main_v18, A_main_v19, A_main_v20, A_main_v21, K_main_cst, K_main_cst_0, K_main_v6, K_main_cst_1, K_main_v8, K_main_cst_2, K_main_v16]
  rfl

/-- The projection. -/
theorem r_z (b : Fin 16) (s : Fin 2048) (n : Fin 6144) : A_main_v22 (F := Ideal) a0 a1 a2 a3 a4 a5 a6 (ix3 b s n) = zM AA b s n := by
  pointwise [A_main_v22]
  exact Finset.sum_congr rfl fun x _ => by rw [r_h a0 a1 a2 a3 a4 a5 a6 a7 a8 a9]; rfl

/-- The projection, at a column given by its number. -/
theorem r_z' (b : Fin 16) (s : Fin 2048) (n n' : Fin 6144) (e : n.val = n'.val) : A_main_v22 (F := Ideal) a0 a1 a2 a3 a4 a5 a6 (ix3 b s n) = zM AA b s n' := by
  obtain rfl := Fin.ext e; exact r_z ..

/-- The forget gate. -/
theorem r_f (b : Fin 16) (s : Fin 2048) (c : Fin 1024) : A_main_v37 (F := Ideal) a0 a1 a2 a3 a4 a5 a6 (ix3 b s c) = fM AA b s c := by
  pointwise [A_main_v37,A_main_v36,A_main_v35,A_main_v34,A_main_v33,A_main_v32,A_main_v31,A_main_v29,A_main_v27,A_main_v26,A_main_v25,A_main_v24, K_main_cst_3, K_main_v23, K_main_cst_4,K_main_v28, K_main_cst_5, K_main_v30]
  exact congrArg (fun z : EReal => a6 (ix1 c) + (1 - a6 (ix1 c)) * Ideal.div 1 (1 + Ideal.exp (-z))) (r_z' a0 a1 a2 a3 a4 a5 a6 a7 a8 a9 b s _ (part 3 c) rfl)

/-- The queries in chunks and heads. -/
theorem r_q (n : Fin 32) (b : Fin 16) (g : Fin 8) (r : Fin 64) (d : Fin 128) : A_main_v118 (F := Ideal) a0 a1 a2 a3 a4 a5 a6 (ix5 n b g r d) = zM AA b (row n r) (part 2 (col g d)) := by
  pointwise [A_main_v118, A_main_v117, A_main_v39, A_main_v38]
  exact r_z' (e := rfl) ..
/-- The gate's logarithms in chunks and heads. -/
theorem r_lf (n : Fin 32) (b : Fin 16) (g : Fin 8) (r : Fin 64) (d : Fin 128) : A_main_v120 (F := Ideal) a0 a1 a2 a3 a4 a5 a6 (ix5 n b g r d) = lfM AA b (row n r) (col g d) := by
  pointwise [A_main_v120, A_main_v119, A_main_v41,A_main_v40]
  exact congrArg Ideal.log (r_f ..)
/-- The keys in chunks and heads. -/
theorem r_k (n : Fin 32) (b : Fin 16) (g : Fin 8) (r : Fin 64) (d : Fin 128) : A_main_v122 (F := Ideal) a0 a1 a2 a3 a4 a5 a6 (ix5 n b g r d) = 1 - fM AA b (row n r) (col g d) := by
  pointwise [A_main_v122, A_main_v121, A_main_v44,A_main_v43, K_main_v42, K_main_cst_6]
  exact congrArg (fun z : EReal => 1 - z) (r_f ..)
/-- The values in chunks and heads. -/
theorem r_v (n : Fin 32) (b : Fin 16) (g : Fin 8) (r : Fin 64) (d : Fin 128) : A_main_v124 (F := Ideal) a0 a1 a2 a3 a4 a5 a6 (ix5 n b g r d) = zM AA b (row n r) (part 4 (col g d)) := by
  pointwise [A_main_v124, A_main_v123, A_main_v46,A_main_v45]
  exact r_z' (e := rfl) ..
/-- The output gate in chunks and heads. -/
theorem r_g (n : Fin 32) (b : Fin 16) (g : Fin 8) (r : Fin 64) (d : Fin 128) : A_main_v126 (F := Ideal) a0 a1 a2 a3 a4 a5 a6 (ix5 n b g r d) = zM AA b (row n r) (part 5 (col g d)) := by
  pointwise [A_main_v126, A_main_v125, A_main_v48,A_main_v47]
  exact r_z' (e := rfl) ..
/-- The pool gate in chunks and heads. -/
theorem r_gp (n : Fin 32) (b : Fin 16) (g : Fin 8) (r : Fin 64) (d : Fin 128) : A_main_v130 (F := Ideal) a0 a1 a2 a3 a4 a5 a6 (ix5 n b g r d) = zM AA b (row n r) (part 1 (col g d)) := by
  pointwise [A_main_v130, A_main_v129, A_main_v108,A_main_v107]
  exact r_z' (e := rfl) ..

-- POOL

/-- A pool column's running sum. -/
theorem r_cum (b : Fin 16) (s : Fin 2048) (c : Fin 1024) : A_main_v50 (F := Ideal) a0 a1 a2 a3 a4 a5 a6 (ix3 b s c)
    = ∑ i : Fin 2048, if i ≤ s then zM AA b i (part 0 c) else 0 := by
  unfold A_main_v50
  refine (cumsum_seq _ _ ?_ _ _ b s c).trans (Finset.sum_congr rfl fun i _ => ?_)
  · intro i
    pointwise [K_main_call0_call0_v0, K_main_call0_call0_cst]
  · refine if_congr Iff.rfl ?_ rfl
    pointwise [A_main_v49]
    exact r_z' (e := (by omega : c.val = 1024 * 0 + c.val)) ..

/-- A finite sum of real numbers, read as an extended real. -/
theorem coe_sum' {ι : Type} (S : Finset ι) (f : ι → ℝ) : ((∑ i ∈ S, f i : ℝ) : EReal) = ∑ i ∈ S, (f i : EReal) := by
  classical
  induction S using Finset.induction_on with
  | empty => rfl
  | insert a S h ih => rw [Finset.sum_insert h, Finset.sum_insert h, EReal.coe_add, ih]

/-- The running sum up to `s` is the sum up to `s - w` and the last `w` terms. -/
theorem win_nat (f : ℕ → ℝ) (s : ℕ) : ∀ w : ℕ, ∑ i ∈ Finset.range (s + 1), f i
    = ∑ i ∈ Finset.range (s + 1 - w), f i + ∑ d ∈ Finset.range w, if d ≤ s then f (s - d) else 0
  | 0 => by simp
  | w + 1 => by
    rw [win_nat f s w, Finset.sum_range_succ _ w]
    by_cases h : w ≤ s
    · rw [if_pos h, show s + 1 - w = (s - w) + 1 by omega, Finset.sum_range_succ, show s + 1 - (w + 1) = s - w by omega]
      ring
    · rw [if_neg h, show s + 1 - w = s + 1 - (w + 1) by omega, add_zero]

/-- A masked sum over the rows is a sum over a range. -/
theorem pre_nat (f : ℕ → ℝ) (s : ℕ) (hs : s < 2048) : (∑ i : Fin 2048, if i.val ≤ s then f i.val else 0) = ∑ i ∈ Finset.range (s + 1), f i := by
  rw [Fin.sum_univ_eq_sum_range (fun i => if i ≤ s then f i else 0) 2048, ← Finset.sum_filter]
  refine Finset.sum_congr ?_ fun _ _ => rfl
  ext i; simp only [Finset.mem_filter, Finset.mem_range]; omega

/-- The difference of two running sums is the sum over the window between. -/
theorem win_real (w : ℕ) (s : Fin 2048) (G : Fin 2048 → EReal) (hG : ∀ i, ∃ r : ℝ, G i = r) :
    (∑ i : Fin 2048, if i ≤ s then G i else 0) - (if h : w ≤ s.val ∧ s.val - w < 2048 then ∑ i : Fin 2048, if i ≤ (⟨s.val - w, h.2⟩ : Fin 2048) then G i else 0 else 0)
      = ∑ d ∈ Finset.range w, if d ≤ s.val then (if h : s.val - d < 2048 then G ⟨s.val - d, h⟩ else 0) else 0 := by
  choose g hg using hG
  let f : ℕ → ℝ := fun t => if h : t < 2048 then g ⟨t, h⟩ else 0
  have hf : ∀ i : Fin 2048, G i = ((f i.val : ℝ) : EReal) := fun i => by rw [hg]; simp only [f, i.isLt, dif_pos]
  have hp : ∀ t : Fin 2048, (∑ i : Fin 2048, if i ≤ t then G i else 0) = ((∑ i ∈ Finset.range (t.val + 1), f i : ℝ) : EReal) := by
    intro t
    rw [← pre_nat f t.val t.isLt, coe_sum']
    refine Finset.sum_congr rfl fun i _ => ?_
    by_cases h : i ≤ t
    · rw [if_pos h, if_pos (show i.val ≤ t.val from h), hf]
    · rw [if_neg h, if_neg (show ¬ i.val ≤ t.val from h)]; rfl
  have hr : (∑ d ∈ Finset.range w, if d ≤ s.val then (if h : s.val - d < 2048 then G ⟨s.val - d, h⟩ else 0) else 0)
      = ((∑ d ∈ Finset.range w, if d ≤ s.val then f (s.val - d) else 0 : ℝ) : EReal) := by
    rw [coe_sum']
    refine Finset.sum_congr rfl fun d _ => ?_
    by_cases h : d ≤ s.val
    · rw [if_pos h, if_pos h, dif_pos (show s.val - d < 2048 by omega), hf]
    · rw [if_neg h, if_neg h]; rfl
  rw [hr, hp s]
  by_cases h : w ≤ s.val
  · rw [dif_pos ⟨h, by omega⟩, hp, ← EReal.coe_sub]
    congr 1
    rw [win_nat f s.val w, show s.val + 1 - w = s.val - w + 1 by omega]
    ring
  · rw [dif_neg (fun h' => h h'.1), sub_zero]
    congr 1
    rw [win_nat f s.val w, show s.val + 1 - w = 0 by omega, Finset.sum_range_zero, zero_add]

/-- A small natural number as a float is that number. -/
theorem sitofp_nat (n : ℕ) (hn : n < 2 ^ 31) : (FloatOps.sitofp (F := Ideal) .f32 (BitVec.ofNat 32 n) : EReal) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  norm_cast

/-- The number of rows in a window, as the reference computes it. -/
theorem win_den (s w : ℕ) (hs : s < 2048) : min (1 + (FloatOps.sitofp (F := Ideal) .f32 (BitVec.ofNat 32 s) : EReal)) ((w : ℝ) : EReal)
    = (((min (s + 1) w : ℕ) : ℝ) : EReal) := by
  rw [sitofp_nat s (by omega), show (1 : EReal) = ((1 : ℝ) : EReal) from rfl, ← EReal.coe_add, ← (EReal.coe_strictMono.monotone.map_min)]
  refine congrArg _ ?_
  push_cast
  rw [add_comm]

/-- The constant two. -/
theorem ofBits_2 : Ideal.ofBits .f32 0x40000000#32 = ((2 : ℕ) : ℝ) := by
  simp [Ideal.ofBits, Ideal.ieee, BitVec.toNat]
  rw [← EReal.coe_mul]; congr 1; norm_num
/-- The constant four. -/
theorem ofBits_4 : Ideal.ofBits .f32 0x40800000#32 = ((4 : ℕ) : ℝ) := by
  simp [Ideal.ofBits, Ideal.ieee, BitVec.toNat]
  rw [← EReal.coe_mul]; congr 1; norm_num
/-- The constant eight. -/
theorem ofBits_8 : Ideal.ofBits .f32 0x41000000#32 = ((8 : ℕ) : ℝ) := by
  simp [Ideal.ofBits, Ideal.ieee, BitVec.toNat]
  rw [← EReal.coe_mul]; congr 1; norm_num
/-- The constant sixteen. -/
theorem ofBits_16 : Ideal.ofBits .f32 0x41800000#32 = ((16 : ℕ) : ℝ) := by
  simp [Ideal.ofBits, Ideal.ieee, BitVec.toNat]
  rw [← EReal.coe_mul]; congr 1; norm_num

variable (hz : ∀ b s c, ∃ r : ℝ, zM (argsOf a0 a1 a2 a3 a4 a5 a6 a7 a8 a9) b s (part 0 c) = r)

include hz in
/-- The trailing mean of the first group, less the entry. -/
theorem r_pool0 (b : Fin 16) (s : Fin 2048) (e : Fin 256) : A_main_v64 (F := Ideal) a0 a1 a2 a3 a4 a5 a6 (ix3 b s e) = avM AA b s 0 e := by
  have hw := win_real 2 s (fun i => zM AA b i (part 0 (pcol 0 e))) (fun i => hz b i _)
  have hc : ∀ (s : Fin 2048) (c : Fin 1024), c.val = 256 * 0 + e.val → A_main_v50 (F := Ideal) a0 a1 a2 a3 a4 a5 a6 (ix3 b s c) = ∑ i : Fin 2048, if i ≤ s then zM AA b i (part 0 (pcol 0 e)) else 0 := by
    intro s c h
    obtain rfl : c = pcol 0 e := Fin.ext h
    exact r_cum ..
  pointwise [A_main_v55, A_main_v56, A_main_v57, A_main_v58, A_main_v62, A_main_v63, A_main_v64, K_main_v51, K_main_v52, K_main_v53, K_main_v54, K_main_v59, K_main_v60, K_main_v61, K_main_cst_7, K_main_cst_8, K_main_call1_v0, K_main_c, A_main_v49]
  refine congrArg₂ (fun x y : EReal => x - y) (congrArg₂ Ideal.div ?_ ?_) (r_z' (e := (by omega : e.val = 1024 * 0 + (256 * 0 + e.val))) ..)
  · refine Eq.trans ?_ hw
    refine congrArg₂ (fun x y : EReal => x - y) (hc _ _ (by omega : e.val = 256 * 0 + e.val)) ?_
    split
    · exact hc _ _ (by omega : e.val = 256 * 0 + e.val)
    · exact (sitofp_nat 0 (by omega)).trans (by simp)
  · rw [show Ideal.ofBits .f32 1073741824#32 = _ from ofBits_2]
    exact win_den s.val 2 s.isLt

include hz in
/-- The trailing mean of the second group, less the entry. -/
theorem r_pool1 (b : Fin 16) (s : Fin 2048) (e : Fin 256) : A_main_v74 (F := Ideal) a0 a1 a2 a3 a4 a5 a6 (ix3 b s e) = avM AA b s 1 e := by
  have hw := win_real 4 s (fun i => zM AA b i (part 0 (pcol 1 e))) (fun i => hz b i _)
  have hc : ∀ (s : Fin 2048) (c : Fin 1024), c.val = 256 * 1 + e.val → A_main_v50 (F := Ideal) a0 a1 a2 a3 a4 a5 a6 (ix3 b s c) = ∑ i : Fin 2048, if i ≤ s then zM AA b i (part 0 (pcol 1 e)) else 0 := by
    intro s c h
    obtain rfl : c = pcol 1 e := Fin.ext h
    exact r_cum ..
  pointwise [A_main_v65, A_main_v66, A_main_v67, A_main_v68, A_main_v72, A_main_v73, A_main_v74, K_main_v51, K_main_v52, K_main_v53, K_main_v54, K_main_v69, K_main_v70, K_main_v71, K_main_cst_7, K_main_cst_10, K_main_call2_v0, K_main_c_9, A_main_v49]
  refine congrArg₂ (fun x y : EReal => x - y) (congrArg₂ Ideal.div ?_ ?_) (r_z' (e := (by omega : 256 + e.val = 1024 * 0 + (256 * 1 + e.val))) ..)
  · refine Eq.trans ?_ hw
    refine congrArg₂ (fun x y : EReal => x - y) (hc _ _ (by omega : 256 + e.val = 256 * 1 + e.val)) ?_
    split
    · exact hc _ _ (by omega : 256 + e.val = 256 * 1 + e.val)
    · exact (sitofp_nat 0 (by omega)).trans (by simp)
  · rw [show Ideal.ofBits .f32 1082130432#32 = _ from ofBits_4]
    exact win_den s.val 4 s.isLt

include hz in
/-- The trailing mean of the third group, less the entry. -/
theorem r_pool2 (b : Fin 16) (s : Fin 2048) (e : Fin 256) : A_main_v84 (F := Ideal) a0 a1 a2 a3 a4 a5 a6 (ix3 b s e) = avM AA b s 2 e := by
  have hw := win_real 8 s (fun i => zM AA b i (part 0 (pcol 2 e))) (fun i => hz b i _)
  have hc : ∀ (s : Fin 2048) (c : Fin 1024), c.val = 256 * 2 + e.val → A_main_v50 (F := Ideal) a0 a1 a2 a3 a4 a5 a6 (ix3 b s c) = ∑ i : Fin 2048, if i ≤ s then zM AA b i (part 0 (pcol 2 e)) else 0 := by
    intro s c h
    obtain rfl : c = pcol 2 e := Fin.ext h
    exact r_cum ..
  pointwise [A_main_v75, A_main_v76, A_main_v77, A_main_v78, A_main_v82, A_main_v83, A_main_v84, K_main_v51, K_main_v52, K_main_v53, K_main_v54, K_main_v79, K_main_v80, K_main_v81, K_main_cst_7, K_main_cst_12, K_main_call3_v0, K_main_c_11, A_main_v49]
  refine congrArg₂ (fun x y : EReal => x - y) (congrArg₂ Ideal.div ?_ ?_) (r_z' (e := (by omega : 512 + e.val = 1024 * 0 + (256 * 2 + e.val))) ..)
  · refine Eq.trans ?_ hw
    refine congrArg₂ (fun x y : EReal => x - y) (hc _ _ (by omega : 512 + e.val = 256 * 2 + e.val)) ?_
    split
    · exact hc _ _ (by omega : 512 + e.val = 256 * 2 + e.val)
    · exact (sitofp_nat 0 (by omega)).trans (by simp)
  · rw [show Ideal.ofBits .f32 1090519040#32 = _ from ofBits_8]
    exact win_den s.val 8 s.isLt

include hz in
/-- The trailing mean of the fourth group, less the entry. -/
theorem r_pool3 (b : Fin 16) (s : Fin 2048) (e : Fin 256) : A_main_v94 (F := Ideal) a0 a1 a2 a3 a4 a5 a6 (ix3 b s e) = avM AA b s 3 e := by
  have hw := win_real 16 s (fun i => zM AA b i (part 0 (pcol 3 e))) (fun i => hz b i _)
  have hc : ∀ (s : Fin 2048) (c : Fin 1024), c.val = 256 * 3 + e.val → A_main_v50 (F := Ideal) a0 a1 a2 a3 a4 a5 a6 (ix3 b s c) = ∑ i : Fin 2048, if i ≤ s then zM AA b i (part 0 (pcol 3 e)) else 0 := by
    intro s c h
    obtain rfl : c = pcol 3 e := Fin.ext h
    exact r_cum ..
  pointwise [A_main_v85, A_main_v86, A_main_v87, A_main_v88, A_main_v92, A_main_v93, A_main_v94, K_main_v51, K_main_v52, K_main_v53, K_main_v54, K_main_v89, K_main_v90, K_main_v91, K_main_cst_7, K_main_cst_14, K_main_call4_v0, K_main_c_13, A_main_v49]
  refine congrArg₂ (fun x y : EReal => x - y) (congrArg₂ Ideal.div ?_ ?_) (r_z' (e := (by omega : 768 + e.val = 1024 * 0 + (256 * 3 + e.val))) ..)
  · refine Eq.trans ?_ hw
    refine congrArg₂ (fun x y : EReal => x - y) (hc _ _ (by omega : 768 + e.val = 256 * 3 + e.val)) ?_
    split
    · exact hc _ _ (by omega : 768 + e.val = 256 * 3 + e.val)
    · exact (sitofp_nat 0 (by omega)).trans (by simp)
  · rw [show Ideal.ofBits .f32 1098907648#32 = _ from ofBits_16]
    exact win_den s.val 16 s.isLt

end Cert.Layer

end
-- ==== Proof.Heads.lean ====
/- One head of one chunk of 64 rows, as the loop body of the layer kernel computes it: `headO` is the piece of the mixed
   output, `headS` the new state. `trip_state` and `trip_mix` say that the eight heads of a trip are these two functions
   of the head's columns. -/
module

public import proofs.«01_k».proof.Proof.Gen.KernelIdeal.Loops
public import Idealize.ShloMosaic.Lib.Pointwise

@[expose] public section

set_option maxRecDepth 16384

noncomputable section

namespace Cert.KernelIdeal.Val

open Idealize.ShloMosaic Idealize.ShloMosaic.TcCoe Cert.KernelIdeal Cert.KernelIdeal.Gen

variable {F : FTy → Type} [FloatOps F]

/-- One level of the attention inside a chunk: where the level map holds `w`, the product of the scaled queries and keys. -/
def levelT (lvl : Vec F S64x64 .i32) (w : BitVec 32) (q k e : FVec F S64x128 .f32) (prev : FVec F S64x64 .f32) : FVec F S64x64 .f32 :=
  select (cmpi .eq lvl (broadcast S64x64 w))
    (matmul dot_S64x128_S64x128_S64x64_1_1_0_0_n_n none (truncf .bf16 (mulf q e) bitsLt_bf16_f32) (truncf .bf16 (mulf k e) bitsLt_bf16_f32)
      (constant S64x64 .f32 0x00000000#32)) prev

/-- The attention inside a chunk: the diagonal, then the six levels. -/
def attnT (lvl : Vec F S64x64 .i32) (q k e1 e2 e3 e4 e5 e6 : FVec F S64x128 .f32) : FVec F S64x64 .bf16 :=
  truncf .bf16 (levelT lvl 6#32 q k e6 (levelT lvl 5#32 q k e5 (levelT lvl 4#32 q k e4 (levelT lvl 3#32 q k e3 (levelT lvl 2#32 q k e2 (levelT lvl 1#32 q k e1
    (select (cmpi .eq lvl (broadcast S64x64 0#32))
      (matmul dot_S64x128_S64x128_S64x64_1_1_0_0_n_n none (truncf .bf16 q bitsLt_bf16_f32) (truncf .bf16 k bitsLt_bf16_f32)
        (constant S64x64 .f32 0x00000000#32))
      (broadcast S64x64 (Scalar.ofBits .f32 0x00000000#32))))))))) bitsLt_bf16_f32

/-- What the state contributes to a chunk's output. -/
def interT (q e0 : FVec F S64x128 .f32) (S : FVec F S128x128 .f32) : FVec F S64x128 .f32 :=
  matmul dot_S64x128_S128x128_S64x128_1_0_0_1_n_n none (truncf .bf16 (mulf q e0) bitsLt_bf16_f32) (truncf .bf16 S bitsLt_bf16_f32)
    (constant S64x128 .f32 0x00000000#32)

/-- The output of one head in one chunk, normed and gated. -/
def headO (hnw : Vec F S1x128 .f32) (lvl : Vec F S64x64 .i32) (q k v g e0 e1 e2 e3 e4 e5 e6 : FVec F S64x128 .f32) (S : Vec F S1x128x128 .f32) :
    FVec F S64x128 .bf16 :=
  k0_pay11 (k0_pay132 hnw) (truncf .bf16 v bitsLt_bf16_f32) (interT q e0 (shapeCast S128x128 S shapeCasts_S1x128x128_S128x128))
    (attnT lvl q k e1 e2 e3 e4 e5 e6) (constant S64x128 .f32 0x00000000#32) g

/-- The state of one head after one chunk. -/
def headS (k v e0 ed : FVec F S64x128 .f32) (S : Vec F S1x128x128 .f32) : FVec F S1x128x128 .f32 :=
  shapeCast S1x128x128 (addf
    (mulf (shapeCast S128x128 S shapeCasts_S1x128x128_S128x128) (transpose S128x128 [1, 0] (broadcastTo S128x128 (shapeCast S1x128
      (extractStridedSlice S1x128 ![63, 0] e0 slices_S64x128_o63_0_S1x128) shapeCasts_S1x128_S1x128) broadcasts_S1x128_S128x128) transposes_S128x128_p1_0_S128x128))
    (matmul dot_S128x64_S64x128_S128x128_1_0_0_1_n_n none (truncf .bf16 (transpose S128x64 [1, 0] (mulf k ed) transposes_S64x128_p1_0_S128x64) bitsLt_bf16_f32)
      (truncf .bf16 v bitsLt_bf16_f32) (constant S128x128 .f32 0x00000000#32))) shapeCasts_S128x128_S1x128x128

-- TRIP
/-- The exponentials of one chunk: eight blocks of 64 rows, over all columns. -/
def chunkE (W : Vec F S512x192 .bf16) (L : Vec F S256x1024 .f32) (k : Fin k0_t1_loop.trips) : FVec F S512x1024 .f32 :=
  k0_pay2 (View.ld L (Rect.unit (k0_off1 k) S64x1024.size (k0_off1_inb k))) (View.ld W (Rect.unit ![0, 0] S512x192.size inb_S512x192_S512x192_0_0))

/-- The pieces of the state that one trip writes, last head first. -/
def statePieces (E : FVec F S512x1024 .f32) (K V : Vec F S256x1024 .f32) (S : Vec F S8x128x128 .f32) (k : Fin k0_t1_loop.trips) : List (View.Piece (Elt F) S8x128x128 .f32) :=
  [⟨Rect.unit ![7, 0, 0] S1x128x128.size inb_S8x128x128_S1x128x128_7_0_0, headS (View.ld K (Rect.unit (k0_off16 k) S64x128.size (k0_off16_inb k))) (View.ld V (Rect.unit (k0_off16 k) S64x128.size (k0_off16_inb k))) (extractStridedSlice S64x128 ![0, 896] E slices_S512x1024_o0_896_S64x128) (extractStridedSlice S64x128 ![64, 896] E slices_S512x1024_o64_896_S64x128) (View.ld S (Rect.unit ![7, 0, 0] S1x128x128.size inb_S8x128x128_S1x128x128_7_0_0))⟩,
   ⟨Rect.unit ![6, 0, 0] S1x128x128.size inb_S8x128x128_S1x128x128_6_0_0, headS (View.ld K (Rect.unit (k0_off14 k) S64x128.size (k0_off14_inb k))) (View.ld V (Rect.unit (k0_off14 k) S64x128.size (k0_off14_inb k))) (extractStridedSlice S64x128 ![0, 768] E slices_S512x1024_o0_768_S64x128) (extractStridedSlice S64x128 ![64, 768] E slices_S512x1024_o64_768_S64x128) (View.ld S (Rect.unit ![6, 0, 0] S1x128x128.size inb_S8x128x128_S1x128x128_6_0_0))⟩,
   ⟨Rect.unit ![5, 0, 0] S1x128x128.size inb_S8x128x128_S1x128x128_5_0_0, headS (View.ld K (Rect.unit (k0_off12 k) S64x128.size (k0_off12_inb k))) (View.ld V (Rect.unit (k0_off12 k) S64x128.size (k0_off12_inb k))) (extractStridedSlice S64x128 ![0, 640] E slices_S512x1024_o0_640_S64x128) (extractStridedSlice S64x128 ![64, 640] E slices_S512x1024_o64_640_S64x128) (View.ld S (Rect.unit ![5, 0, 0] S1x128x128.size inb_S8x128x128_S1x128x128_5_0_0))⟩,
   ⟨Rect.unit ![4, 0, 0] S1x128x128.size inb_S8x128x128_S1x128x128_4_0_0, headS (View.ld K (Rect.unit (k0_off10 k) S64x128.size (k0_off10_inb k))) (View.ld V (Rect.unit (k0_off10 k) S64x128.size (k0_off10_inb k))) (extractStridedSlice S64x128 ![0, 512] E slices_S512x1024_o0_512_S64x128) (extractStridedSlice S64x128 ![64, 512] E slices_S512x1024_o64_512_S64x128) (View.ld S (Rect.unit ![4, 0, 0] S1x128x128.size inb_S8x128x128_S1x128x128_4_0_0))⟩,
   ⟨Rect.unit ![3, 0, 0] S1x128x128.size inb_S8x128x128_S1x128x128_3_0_0, headS (View.ld K (Rect.unit (k0_off8 k) S64x128.size (k0_off8_inb k))) (View.ld V (Rect.unit (k0_off8 k) S64x128.size (k0_off8_inb k))) (extractStridedSlice S64x128 ![0, 384] E slices_S512x1024_o0_384_S64x128) (extractStridedSlice S64x128 ![64, 384] E slices_S512x1024_o64_384_S64x128) (View.ld S (Rect.unit ![3, 0, 0] S1x128x128.size inb_S8x128x128_S1x128x128_3_0_0))⟩,
   ⟨Rect.unit ![2, 0, 0] S1x128x128.size inb_S8x128x128_S1x128x128_2_0_0, headS (View.ld K (Rect.unit (k0_off6 k) S64x128.size (k0_off6_inb k))) (View.ld V (Rect.unit (k0_off6 k) S64x128.size (k0_off6_inb k))) (extractStridedSlice S64x128 ![0, 256] E slices_S512x1024_o0_256_S64x128) (extractStridedSlice S64x128 ![64, 256] E slices_S512x1024_o64_256_S64x128) (View.ld S (Rect.unit ![2, 0, 0] S1x128x128.size inb_S8x128x128_S1x128x128_2_0_0))⟩,
   ⟨Rect.unit ![1, 0, 0] S1x128x128.size inb_S8x128x128_S1x128x128_1_0_0, headS (View.ld K (Rect.unit (k0_off4 k) S64x128.size (k0_off4_inb k))) (View.ld V (Rect.unit (k0_off4 k) S64x128.size (k0_off4_inb k))) (extractStridedSlice S64x128 ![0, 128] E slices_S512x1024_o0_128_S64x128) (extractStridedSlice S64x128 ![64, 128] E slices_S512x1024_o64_128_S64x128) (View.ld S (Rect.unit ![1, 0, 0] S1x128x128.size inb_S8x128x128_S1x128x128_1_0_0))⟩,
   ⟨Rect.unit ![0, 0, 0] S1x128x128.size inb_S8x128x128_S1x128x128_0_0_0, headS (View.ld K (Rect.unit (k0_off2 k) S64x128.size (k0_off2_inb k))) (View.ld V (Rect.unit (k0_off2 k) S64x128.size (k0_off2_inb k))) (extractStridedSlice S64x128 ![0, 0] E slices_S512x1024_o0_0_S64x128) (extractStridedSlice S64x128 ![64, 0] E slices_S512x1024_o64_0_S64x128) (View.ld S (Rect.unit ![0, 0, 0] S1x128x128.size inb_S8x128x128_S1x128x128_0_0_0))⟩]

/-- The pieces of the mixed output that one trip writes, last head first. -/
def mixPieces (E : FVec F S512x1024 .f32) (hnw : Vec F S1x128 .f32) (lvl : Vec F S64x64 .i32) (Q K V G : Vec F S256x1024 .f32) (S : Vec F S8x128x128 .f32) (k : Fin k0_t1_loop.trips) : List (View.Piece (Elt F) S256x2048 .bf16) :=
  [⟨Rect.unit (k0_off17 k) S64x128.size (k0_off17_inb k), headO hnw lvl (View.ld Q (Rect.unit (k0_off16 k) S64x128.size (k0_off16_inb k))) (View.ld K (Rect.unit (k0_off16 k) S64x128.size (k0_off16_inb k))) (View.ld V (Rect.unit (k0_off16 k) S64x128.size (k0_off16_inb k))) (View.ld G (Rect.unit (k0_off16 k) S64x128.size (k0_off16_inb k))) (extractStridedSlice S64x128 ![0, 896] E slices_S512x1024_o0_896_S64x128) (extractStridedSlice S64x128 ![128, 896] E slices_S512x1024_o128_896_S64x128) (extractStridedSlice S64x128 ![192, 896] E slices_S512x1024_o192_896_S64x128) (extractStridedSlice S64x128 ![256, 896] E slices_S512x1024_o256_896_S64x128) (extractStridedSlice S64x128 ![320, 896] E slices_S512x1024_o320_896_S64x128) (extractStridedSlice S64x128 ![384, 896] E slices_S512x1024_o384_896_S64x128) (extractStridedSlice S64x128 ![448, 896] E slices_S512x1024_o448_896_S64x128) (View.ld S (Rect.unit ![7, 0, 0] S1x128x128.size inb_S8x128x128_S1x128x128_7_0_0))⟩,
   ⟨Rect.unit (k0_off15 k) S64x128.size (k0_off15_inb k), headO hnw lvl (View.ld Q (Rect.unit (k0_off14 k) S64x128.size (k0_off14_inb k))) (View.ld K (Rect.unit (k0_off14 k) S64x128.size (k0_off14_inb k))) (View.ld V (Rect.unit (k0_off14 k) S64x128.size (k0_off14_inb k))) (View.ld G (Rect.unit (k0_off14 k) S64x128.size (k0_off14_inb k))) (extractStridedSlice S64x128 ![0, 768] E slices_S512x1024_o0_768_S64x128) (extractStridedSlice S64x128 ![128, 768] E slices_S512x1024_o128_768_S64x128) (extractStridedSlice S64x128 ![192, 768] E slices_S512x1024_o192_768_S64x128) (extractStridedSlice S64x128 ![256, 768] E slices_S512x1024_o256_768_S64x128) (extractStridedSlice S64x128 ![320, 768] E slices_S512x1024_o320_768_S64x128) (extractStridedSlice S64x128 ![384, 768] E slices_S512x1024_o384_768_S64x128) (extractStridedSlice S64x128 ![448, 768] E slices_S512x1024_o448_768_S64x128) (View.ld S (Rect.unit ![6, 0, 0] S1x128x128.size inb_S8x128x128_S1x128x128_6_0_0))⟩,
   ⟨Rect.unit (k0_off13 k) S64x128.size (k0_off13_inb k), headO hnw lvl (View.ld Q (Rect.unit (k0_off12 k) S64x128.size (k0_off12_inb k))) (View.ld K (Rect.unit (k0_off12 k) S64x128.size (k0_off12_inb k))) (View.ld V (Rect.unit (k0_off12 k) S64x128.size (k0_off12_inb k))) (View.ld G (Rect.unit (k0_off12 k) S64x128.size (k0_off12_inb k))) (extractStridedSlice S64x128 ![0, 640] E slices_S512x1024_o0_640_S64x128) (extractStridedSlice S64x128 ![128, 640] E slices_S512x1024_o128_640_S64x128) (extractStridedSlice S64x128 ![192, 640] E slices_S512x1024_o192_640_S64x128) (extractStridedSlice S64x128 ![256, 640] E slices_S512x1024_o256_640_S64x128) (extractStridedSlice S64x128 ![320, 640] E slices_S512x1024_o320_640_S64x128) (extractStridedSlice S64x128 ![384, 640] E slices_S512x1024_o384_640_S64x128) (extractStridedSlice S64x128 ![448, 640] E slices_S512x1024_o448_640_S64x128) (View.ld S (Rect.unit ![5, 0, 0] S1x128x128.size inb_S8x128x128_S1x128x128_5_0_0))⟩,
   ⟨Rect.unit (k0_off11 k) S64x128.size (k0_off11_inb k), headO hnw lvl (View.ld Q (Rect.unit (k0_off10 k) S64x128.size (k0_off10_inb k))) (View.ld K (Rect.unit (k0_off10 k) S64x128.size (k0_off10_inb k))) (View.ld V (Rect.unit (k0_off10 k) S64x128.size (k0_off10_inb k))) (View.ld G (Rect.unit (k0_off10 k) S64x128.size (k0_off10_inb k))) (extractStridedSlice S64x128 ![0, 512] E slices_S512x1024_o0_512_S64x128) (extractStridedSlice S64x128 ![128, 512] E slices_S512x1024_o128_512_S64x128) (extractStridedSlice S64x128 ![192, 512] E slices_S512x1024_o192_512_S64x128) (extractStridedSlice S64x128 ![256, 512] E slices_S512x1024_o256_512_S64x128) (extractStridedSlice S64x128 ![320, 512] E slices_S512x1024_o320_512_S64x128) (extractStridedSlice S64x128 ![384, 512] E slices_S512x1024_o384_512_S64x128) (extractStridedSlice S64x128 ![448, 512] E slices_S512x1024_o448_512_S64x128) (View.ld S (Rect.unit ![4, 0, 0] S1x128x128.size inb_S8x128x128_S1x128x128_4_0_0))⟩,
   ⟨Rect.unit (k0_off9 k) S64x128.size (k0_off9_inb k), headO hnw lvl (View.ld Q (Rect.unit (k0_off8 k) S64x128.size (k0_off8_inb k))) (View.ld K (Rect.unit (k0_off8 k) S64x128.size (k0_off8_inb k))) (View.ld V (Rect.unit (k0_off8 k) S64x128.size (k0_off8_inb k))) (View.ld G (Rect.unit (k0_off8 k) S64x128.size (k0_off8_inb k))) (extractStridedSlice S64x128 ![0, 384] E slices_S512x1024_o0_384_S64x128) (extractStridedSlice S64x128 ![128, 384] E slices_S512x1024_o128_384_S64x128) (extractStridedSlice S64x128 ![192, 384] E slices_S512x1024_o192_384_S64x128) (extractStridedSlice S64x128 ![256, 384] E slices_S512x1024_o256_384_S64x128) (extractStridedSlice S64x128 ![320, 384] E slices_S512x1024_o320_384_S64x128) (extractStridedSlice S64x128 ![384, 384] E slices_S512x1024_o384_384_S64x128) (extractStridedSlice S64x128 ![448, 384] E slices_S512x1024_o448_384_S64x128) (View.ld S (Rect.unit ![3, 0, 0] S1x128x128.size inb_S8x128x128_S1x128x128_3_0_0))⟩,
   ⟨Rect.unit (k0_off7 k) S64x128.size (k0_off7_inb k), headO hnw lvl (View.ld Q (Rect.unit (k0_off6 k) S64x128.size (k0_off6_inb k))) (View.ld K (Rect.unit (k0_off6 k) S64x128.size (k0_off6_inb k))) (View.ld V (Rect.unit (k0_off6 k) S64x128.size (k0_off6_inb k))) (View.ld G (Rect.unit (k0_off6 k) S64x128.size (k0_off6_inb k))) (extractStridedSlice S64x128 ![0, 256] E slices_S512x1024_o0_256_S64x128) (extractStridedSlice S64x128 ![128, 256] E slices_S512x1024_o128_256_S64x128) (extractStridedSlice S64x128 ![192, 256] E slices_S512x1024_o192_256_S64x128) (extractStridedSlice S64x128 ![256, 256] E slices_S512x1024_o256_256_S64x128) (extractStridedSlice S64x128 ![320, 256] E slices_S512x1024_o320_256_S64x128) (extractStridedSlice S64x128 ![384, 256] E slices_S512x1024_o384_256_S64x128) (extractStridedSlice S64x128 ![448, 256] E slices_S512x1024_o448_256_S64x128) (View.ld S (Rect.unit ![2, 0, 0] S1x128x128.size inb_S8x128x128_S1x128x128_2_0_0))⟩,
   ⟨Rect.unit (k0_off5 k) S64x128.size (k0_off5_inb k), headO hnw lvl (View.ld Q (Rect.unit (k0_off4 k) S64x128.size (k0_off4_inb k))) (View.ld K (Rect.unit (k0_off4 k) S64x128.size (k0_off4_inb k))) (View.ld V (Rect.unit (k0_off4 k) S64x128.size (k0_off4_inb k))) (View.ld G (Rect.unit (k0_off4 k) S64x128.size (k0_off4_inb k))) (extractStridedSlice S64x128 ![0, 128] E slices_S512x1024_o0_128_S64x128) (extractStridedSlice S64x128 ![128, 128] E slices_S512x1024_o128_128_S64x128) (extractStridedSlice S64x128 ![192, 128] E slices_S512x1024_o192_128_S64x128) (extractStridedSlice S64x128 ![256, 128] E slices_S512x1024_o256_128_S64x128) (extractStridedSlice S64x128 ![320, 128] E slices_S512x1024_o320_128_S64x128) (extractStridedSlice S64x128 ![384, 128] E slices_S512x1024_o384_128_S64x128) (extractStridedSlice S64x128 ![448, 128] E slices_S512x1024_o448_128_S64x128) (View.ld S (Rect.unit ![1, 0, 0] S1x128x128.size inb_S8x128x128_S1x128x128_1_0_0))⟩,
   ⟨Rect.unit (k0_off3 k) S64x128.size (k0_off3_inb k), headO hnw lvl (View.ld Q (Rect.unit (k0_off2 k) S64x128.size (k0_off2_inb k))) (View.ld K (Rect.unit (k0_off2 k) S64x128.size (k0_off2_inb k))) (View.ld V (Rect.unit (k0_off2 k) S64x128.size (k0_off2_inb k))) (View.ld G (Rect.unit (k0_off2 k) S64x128.size (k0_off2_inb k))) (extractStridedSlice S64x128 ![0, 0] E slices_S512x1024_o0_0_S64x128) (extractStridedSlice S64x128 ![128, 0] E slices_S512x1024_o128_0_S64x128) (extractStridedSlice S64x128 ![192, 0] E slices_S512x1024_o192_0_S64x128) (extractStridedSlice S64x128 ![256, 0] E slices_S512x1024_o256_0_S64x128) (extractStridedSlice S64x128 ![320, 0] E slices_S512x1024_o320_0_S64x128) (extractStridedSlice S64x128 ![384, 0] E slices_S512x1024_o384_0_S64x128) (extractStridedSlice S64x128 ![448, 0] E slices_S512x1024_o448_0_S64x128) (View.ld S (Rect.unit ![0, 0, 0] S1x128x128.size inb_S8x128x128_S1x128x128_0_0_0))⟩]

set_option maxHeartbeats 4000000 in
/-- The pieces of one trip are those of the eight heads. -/
theorem trip_eq (𝒱 : Variants) (c : Dev nD) (bd : Option 𝒱.V) (i : grid0.Coords) (arg2 : Memref sig .tc .vmem S1x256x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S2048x1024 .bf16) (harg10 : arg10.IsWhole) (arg11 : Memref sig .tc .vmem S1x1024 .f32) (harg11 : arg11.IsWhole) (arg12 : Memref sig .tc .vmem S512x192 .bf16) (harg12 : arg12.IsWhole) (arg13 : Memref sig .tc .vmem S64x64 .i32) (harg13 : arg13.IsWhole) (arg14 : Memref sig .tc .vmem S1x256x1024 .f32) (harg14 : arg14.IsWhole) (arg15 : Memref sig .tc .vmem S8x128x128 .f32) (harg15 : arg15.IsWhole) (arg16 : Memref sig .tc .vmem S16x1024 .f32) (harg16 : arg16.IsWhole) (arg17 : Memref sig .tc .vmem S272x1024 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .f32) (harg22 : arg22.IsWhole) (arg23 : Memref sig .tc .vmem S256x2048 .bf16) (harg23 : arg23.IsWhole) (v30 : FVec F S256x1024 .bf16) (v257 : FVec F S256x1024 .f32) (v273 : Vec F S64x64 .i32) (v274 : Vec F S1x128 .f32) (X_arg12 : BufTy.Contents (Elt F) arg12.view.ty) (X_arg18 : BufTy.Contents (Elt F) arg18.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (k : Fin k0_t1_loop.trips) (f15 : BufTy.Contents (Elt F) arg15.view.ty) (f23 : BufTy.Contents (Elt F) arg23.view.ty) :
    tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v30 v257 v273 v274 X_arg12 X_arg18 X_arg19 X_arg20 X_arg21 X_arg22 k f15 f23
      = (statePieces (chunkE (arg12.view.read (Elt F) X_arg12) (arg19.view.read (Elt F) X_arg19) k) (arg20.view.read (Elt F) X_arg20) (arg21.view.read (Elt F) X_arg21) (arg15.view.read (Elt F) f15) k,
         mixPieces (chunkE (arg12.view.read (Elt F) X_arg12) (arg19.view.read (Elt F) X_arg19) k) v274 v273 (arg18.view.read (Elt F) X_arg18) (arg20.view.read (Elt F) X_arg20) (arg21.view.read (Elt F) X_arg21) (arg22.view.read (Elt F) X_arg22) (arg15.view.read (Elt F) f15) k) := by
  unfold tripL_k0_t1 trip_k0_t1
  rfl

end Cert.KernelIdeal.Val

end
-- ==== Proof.HeadRead.lean ====
/- The pieces of one trip, read at an index over the extended reals. -/
module

public import proofs.«01_k».proof.Proof.Heads
public import Idealize.ShloMosaic.Lib.Pipeline.ValueKit
public import Idealize.ShloMosaic.Lib.WritesUnit

@[expose] public section

set_option maxRecDepth 16384

noncomputable section

namespace Cert.KernelIdeal.Val

open Idealize.ShloMosaic Idealize.ShloMosaic.TcCoe Cert.KernelIdeal Cert.KernelIdeal.Gen

/-- The loop runs over four chunks. -/
theorem trips_eq : k0_t1_loop.trips = 4 := by decide

/-- Row `r` of chunk `k` of a block of 256 rows. -/
def rw64 (k : Fin k0_t1_loop.trips) (r : Fin 64) : Fin 256 := ⟨64 * k.val + r.val, by have := k.isLt; have := trips_eq; omega⟩

/-- Column `d` of head `hd`. -/
def hc (hd : Fin 8) (d : Fin 128) : Fin 1024 := ⟨128 * hd.val + d.val, by omega⟩

/-- Row `t` of set `s` of the chunk's exponentials. -/
def es (s : Fin 8) (t : Fin 64) : Fin 512 := ⟨64 * s.val + t.val, by omega⟩

/-- The state of a head after a chunk, at an index. -/
def sNew (E : FVec Ideal S512x1024 .f32) (K V : Vec Ideal S256x1024 .f32) (S : Vec Ideal S8x128x128 .f32) (k : Fin k0_t1_loop.trips)
    (hd : Fin 8) (a b : Fin 128) : EReal :=
  S (ix3 hd a b) * E (ix2 (es 0 63) (hc hd a))
    + ∑ x : Fin 64, K (ix2 (rw64 k x) (hc hd a)) * E (ix2 (es 1 x) (hc hd a)) * V (ix2 (rw64 k x) (hc hd b))

/-- One level of the attention at an index. -/
def lev (E : FVec Ideal S512x1024 .f32) (Q K : Vec Ideal S256x1024 .f32) (k : Fin k0_t1_loop.trips) (hd : Fin 8) (s : Fin 8) (r j : Fin 64) : EReal :=
  ∑ x : Fin 128, Q (ix2 (rw64 k r) (hc hd x)) * E (ix2 (es s r) (hc hd x)) * (K (ix2 (rw64 k j) (hc hd x)) * E (ix2 (es s j) (hc hd x)))

/-- The attention inside a chunk at an index. -/
def attnI (E : FVec Ideal S512x1024 .f32) (lvl : Vec Ideal S64x64 .i32) (Q K : Vec Ideal S256x1024 .f32) (k : Fin k0_t1_loop.trips) (hd : Fin 8) (r j : Fin 64) : EReal :=
  Scalar.select (IntOp.cmpi CmpIPredicate.eq (lvl (ix2 r j)) 6#32) (lev E Q K k hd 7 r j)
  (Scalar.select (IntOp.cmpi CmpIPredicate.eq (lvl (ix2 r j)) 5#32) (lev E Q K k hd 6 r j)
  (Scalar.select (IntOp.cmpi CmpIPredicate.eq (lvl (ix2 r j)) 4#32) (lev E Q K k hd 5 r j)
  (Scalar.select (IntOp.cmpi CmpIPredicate.eq (lvl (ix2 r j)) 3#32) (lev E Q K k hd 4 r j)
  (Scalar.select (IntOp.cmpi CmpIPredicate.eq (lvl (ix2 r j)) 2#32) (lev E Q K k hd 3 r j)
  (Scalar.select (IntOp.cmpi CmpIPredicate.eq (lvl (ix2 r j)) 1#32) (lev E Q K k hd 2 r j)
  (Scalar.select (IntOp.cmpi CmpIPredicate.eq (lvl (ix2 r j)) 0#32)
    (∑ x : Fin 128, Q (ix2 (rw64 k r) (hc hd x)) * K (ix2 (rw64 k j) (hc hd x))) (0 : EReal)))))))

/-- The output of a head before its norm, at an index. -/
def oRaw (E : FVec Ideal S512x1024 .f32) (lvl : Vec Ideal S64x64 .i32) (Q K V : Vec Ideal S256x1024 .f32) (S : Vec Ideal S8x128x128 .f32)
    (k : Fin k0_t1_loop.trips) (hd : Fin 8) (r : Fin 64) (d : Fin 128) : EReal :=
  (∑ x : Fin 128, Q (ix2 (rw64 k r) (hc hd x)) * E (ix2 (es 0 r) (hc hd x)) * S (ix3 hd x d))
    + ∑ j : Fin 64, attnI E lvl Q K k hd r j * V (ix2 (rw64 k j) (hc hd d))

/-- A row normed, scaled and gated: the head's output from the output before the norm. -/
def normGate (o : Fin 128 → EReal) (w g : EReal) (d : Fin 128) : EReal :=
  o d * Ideal.rsqrt (Ideal.div (∑ x : Fin 128, o x * o x) (Ideal.ofBits FTy.f32 1124073472#32) + Ideal.ofBits FTy.f32 897988541#32) * w
    * (g * Ideal.div 1 (1 + Ideal.exp (0 - g)))

/-- The piece of the mixed output of a head, at an index. -/
def oNew (E : FVec Ideal S512x1024 .f32) (hnw : Vec Ideal S1x128 .f32) (lvl : Vec Ideal S64x64 .i32) (Q K V G : Vec Ideal S256x1024 .f32) (S : Vec Ideal S8x128x128 .f32)
    (k : Fin k0_t1_loop.trips) (hd : Fin 8) (r : Fin 64) (d : Fin 128) : EReal :=
  normGate (oRaw E lvl Q K V S k hd r) (hnw (ix2 0 d)) (G (ix2 (rw64 k r) (hc hd d))) d

variable {sig' : RefSig} {κ : Kind} {sp : Space}

/-- Behind the heads up to number 0: a state of one of them reads its own update. -/
theorem read_state_0 (v : View sig' κ sp S8x128x128 .f32) (f : v.ty.Contents (Elt Ideal)) (E : FVec Ideal S512x1024 .f32) (K V : Vec Ideal S256x1024 .f32)
    (S : Vec Ideal S8x128x128 .f32) (k : Fin k0_t1_loop.trips) (L) (a b : Fin 128) :
    v.read (Elt Ideal) (v.writes (Elt Ideal) f (statePieces E K V S k ++ L)) (ix3 0 a b) = sNew E K V S k 0 a b := by
  simp only [statePieces, List.cons_append, List.nil_append]
  refine (View.read_writes_cons_unit_of_not_mem v f _ _ _ _ rfl 0 (by left; change 0 < 7; decide)).trans ?_
  refine (View.read_writes_cons_unit_of_not_mem v f _ _ _ _ rfl 0 (by left; change 0 < 6; decide)).trans ?_
  refine (View.read_writes_cons_unit_of_not_mem v f _ _ _ _ rfl 0 (by left; change 0 < 5; decide)).trans ?_
  refine (View.read_writes_cons_unit_of_not_mem v f _ _ _ _ rfl 0 (by left; change 0 < 4; decide)).trans ?_
  refine (View.read_writes_cons_unit_of_not_mem v f _ _ _ _ rfl 0 (by left; change 0 < 3; decide)).trans ?_
  refine (View.read_writes_cons_unit_of_not_mem v f _ _ _ _ rfl 0 (by left; change 0 < 2; decide)).trans ?_
  refine (View.read_writes_cons_unit_of_not_mem v f _ _ _ _ rfl 0 (by left; change 0 < 1; decide)).trans ?_
  refine (View.read_writes_cons_unit_of_mem v f _ _ _ _ (ix3 0 a b) rfl (by intro q; match q with | 0 => rfl | 1 => exact (Nat.zero_add _).symm | 2 => exact (Nat.zero_add _).symm)).trans ?_
  pointwise [headS, sNew, rw64, hc, es, k0_off2_eq k]

/-- Behind the heads up to number 1: a state of one of them reads its own update. -/
theorem read_state_1 (v : View sig' κ sp S8x128x128 .f32) (f : v.ty.Contents (Elt Ideal)) (E : FVec Ideal S512x1024 .f32) (K V : Vec Ideal S256x1024 .f32)
    (S : Vec Ideal S8x128x128 .f32) (k : Fin k0_t1_loop.trips) (L) (a b : Fin 128) :
    v.read (Elt Ideal) (v.writes (Elt Ideal) f (statePieces E K V S k ++ L)) (ix3 1 a b) = sNew E K V S k 1 a b := by
  simp only [statePieces, List.cons_append, List.nil_append]
  refine (View.read_writes_cons_unit_of_not_mem v f _ _ _ _ rfl 0 (by left; change 1 < 7; decide)).trans ?_
  refine (View.read_writes_cons_unit_of_not_mem v f _ _ _ _ rfl 0 (by left; change 1 < 6; decide)).trans ?_
  refine (View.read_writes_cons_unit_of_not_mem v f _ _ _ _ rfl 0 (by left; change 1 < 5; decide)).trans ?_
  refine (View.read_writes_cons_unit_of_not_mem v f _ _ _ _ rfl 0 (by left; change 1 < 4; decide)).trans ?_
  refine (View.read_writes_cons_unit_of_not_mem v f _ _ _ _ rfl 0 (by left; change 1 < 3; decide)).trans ?_
  refine (View.read_writes_cons_unit_of_not_mem v f _ _ _ _ rfl 0 (by left; change 1 < 2; decide)).trans ?_
  refine (View.read_writes_cons_unit_of_mem v f _ _ _ _ (ix3 0 a b) rfl (by intro q; match q with | 0 => rfl | 1 => exact (Nat.zero_add _).symm | 2 => exact (Nat.zero_add _).symm)).trans ?_
  pointwise [headS, sNew, rw64, hc, es, k0_off4_eq k]

/-- Behind the heads up to number 2: a state of one of them reads its own update. -/
theorem read_state_2 (v : View sig' κ sp S8x128x128 .f32) (f : v.ty.Contents (Elt Ideal)) (E : FVec Ideal S512x1024 .f32) (K V : Vec Ideal S256x1024 .f32)
    (S : Vec Ideal S8x128x128 .f32) (k : Fin k0_t1_loop.trips) (L) (a b : Fin 128) :
    v.read (Elt Ideal) (v.writes (Elt Ideal) f (statePieces E K V S k ++ L)) (ix3 2 a b) = sNew E K V S k 2 a b := by
  simp only [statePieces, List.cons_append, List.nil_append]
  refine (View.read_writes_cons_unit_of_not_mem v f _ _ _ _ rfl 0 (by left; change 2 < 7; decide)).trans ?_
  refine (View.read_writes_cons_unit_of_not_mem v f _ _ _ _ rfl 0 (by left; change 2 < 6; decide)).trans ?_
  refine (View.read_writes_cons_unit_of_not_mem v f _ _ _ _ rfl 0 (by left; change 2 < 5; decide)).trans ?_
  refine (View.read_writes_cons_unit_of_not_mem v f _ _ _ _ rfl 0 (by left; change 2 < 4; decide)).trans ?_
  refine (View.read_writes_cons_unit_of_not_mem v f _ _ _ _ rfl 0 (by left; change 2 < 3; decide)).trans ?_
  refine (View.read_writes_cons_unit_of_mem v f _ _ _ _ (ix3 0 a b) rfl (by intro q; match q with | 0 => rfl | 1 => exact (Nat.zero_add _).symm | 2 => exact (Nat.zero_add _).symm)).trans ?_
  pointwise [headS, sNew, rw64, hc, es, k0_off6_eq k]

/-- Behind the heads up to number 3: a state of one of them reads its own update. -/
theorem read_state_3 (v : View sig' κ sp S8x128x128 .f32) (f : v.ty.Contents (Elt Ideal)) (E : FVec Ideal S512x1024 .f32) (K V : Vec Ideal S256x1024 .f32)
    (S : Vec Ideal S8x128x128 .f32) (k : Fin k0_t1_loop.trips) (L) (a b : Fin 128) :
    v.read (Elt Ideal) (v.writes (Elt Ideal) f (statePieces E K V S k ++ L)) (ix3 3 a b) = sNew E K V S k 3 a b := by
  simp only [statePieces, List.cons_append, List.nil_append]
  refine (View.read_writes_cons_unit_of_not_mem v f _ _ _ _ rfl 0 (by left; change 3 < 7; decide)).trans ?_
  refine (View.read_writes_cons_unit_of_not_mem v f _ _ _ _ rfl 0 (by left; change 3 < 6; decide)).trans ?_
  refine (View.read_writes_cons_unit_of_not_mem v f _ _ _ _ rfl 0 (by left; change 3 < 5; decide)).trans ?_
  refine (View.read_writes_cons_unit_of_not_mem v f _ _ _ _ rfl 0 (by left; change 3 < 4; decide)).trans ?_
  refine (View.read_writes_cons_unit_of_mem v f _ _ _ _ (ix3 0 a b) rfl (by intro q; match q with | 0 => rfl | 1 => exact (Nat.zero_add _).symm | 2 => exact (Nat.zero_add _).symm)).trans ?_
  pointwise [headS, sNew, rw64, hc, es, k0_off8_eq k]

/-- Behind the heads up to number 4: a state of one of them reads its own update. -/
theorem read_state_4 (v : View sig' κ sp S8x128x128 .f32) (f : v.ty.Contents (Elt Ideal)) (E : FVec Ideal S512x1024 .f32) (K V : Vec Ideal S256x1024 .f32)
    (S : Vec Ideal S8x128x128 .f32) (k : Fin k0_t1_loop.trips) (L) (a b : Fin 128) :
    v.read (Elt Ideal) (v.writes (Elt Ideal) f (statePieces E K V S k ++ L)) (ix3 4 a b) = sNew E K V S k 4 a b := by
  simp only [statePieces, List.cons_append, List.nil_append]
  refine (View.read_writes_cons_unit_of_not_mem v f _ _ _ _ rfl 0 (by left; change 4 < 7; decide)).trans ?_
  refine (View.read_writes_cons_unit_of_not_mem v f _ _ _ _ rfl 0 (by left; change 4 < 6; decide)).trans ?_
  refine (View.read_writes_cons_unit_of_not_mem v f _ _ _ _ rfl 0 (by left; change 4 < 5; decide)).trans ?_
  refine (View.read_writes_cons_unit_of_mem v f _ _ _ _ (ix3 0 a b) rfl (by intro q; match q with | 0 => rfl | 1 => exact (Nat.zero_add _).symm | 2 => exact (Nat.zero_add _).symm)).trans ?_
  pointwise [headS, sNew, rw64, hc, es, k0_off10_eq k]

/-- Behind the heads up to number 5: a state of one of them reads its own update. -/
theorem read_state_5 (v : View sig' κ sp S8x128x128 .f32) (f : v.ty.Contents (Elt Ideal)) (E : FVec Ideal S512x1024 .f32) (K V : Vec Ideal S256x1024 .f32)
    (S : Vec Ideal S8x128x128 .f32) (k : Fin k0_t1_loop.trips) (L) (a b : Fin 128) :
    v.read (Elt Ideal) (v.writes (Elt Ideal) f (statePieces E K V S k ++ L)) (ix3 5 a b) = sNew E K V S k 5 a b := by
  simp only [statePieces, List.cons_append, List.nil_append]
  refine (View.read_writes_cons_unit_of_not_mem v f _ _ _ _ rfl 0 (by left; change 5 < 7; decide)).trans ?_
  refine (View.read_writes_cons_unit_of_not_mem v f _ _ _ _ rfl 0 (by left; change 5 < 6; decide)).trans ?_
  refine (View.read_writes_cons_unit_of_mem v f _ _ _ _ (ix3 0 a b) rfl (by intro q; match q with | 0 => rfl | 1 => exact (Nat.zero_add _).symm | 2 => exact (Nat.zero_add _).symm)).trans ?_
  pointwise [headS, sNew, rw64, hc, es, k0_off12_eq k]

/-- Behind the heads up to number 6: a state of one of them reads its own update. -/
theorem read_state_6 (v : View sig' κ sp S8x128x128 .f32) (f : v.ty.Contents (Elt Ideal)) (E : FVec Ideal S512x1024 .f32) (K V : Vec Ideal S256x1024 .f32)
    (S : Vec Ideal S8x128x128 .f32) (k : Fin k0_t1_loop.trips) (L) (a b : Fin 128) :
    v.read (Elt Ideal) (v.writes (Elt Ideal) f (statePieces E K V S k ++ L)) (ix3 6 a b) = sNew E K V S k 6 a b := by
  simp only [statePieces, List.cons_append, List.nil_append]
  refine (View.read_writes_cons_unit_of_not_mem v f _ _ _ _ rfl 0 (by left; change 6 < 7; decide)).trans ?_
  refine (View.read_writes_cons_unit_of_mem v f _ _ _ _ (ix3 0 a b) rfl (by intro q; match q with | 0 => rfl | 1 => exact (Nat.zero_add _).symm | 2 => exact (Nat.zero_add _).symm)).trans ?_
  pointwise [headS, sNew, rw64, hc, es, k0_off14_eq k]

/-- Behind the heads up to number 7: a state of one of them reads its own update. -/
theorem read_state_7 (v : View sig' κ sp S8x128x128 .f32) (f : v.ty.Contents (Elt Ideal)) (E : FVec Ideal S512x1024 .f32) (K V : Vec Ideal S256x1024 .f32)
    (S : Vec Ideal S8x128x128 .f32) (k : Fin k0_t1_loop.trips) (L) (a b : Fin 128) :
    v.read (Elt Ideal) (v.writes (Elt Ideal) f (statePieces E K V S k ++ L)) (ix3 7 a b) = sNew E K V S k 7 a b := by
  simp only [statePieces, List.cons_append, List.nil_append]
  refine (View.read_writes_cons_unit_of_mem v f _ _ _ _ (ix3 0 a b) rfl (by intro q; match q with | 0 => rfl | 1 => exact (Nat.zero_add _).symm | 2 => exact (Nat.zero_add _).symm)).trans ?_
  pointwise [headS, sNew, rw64, hc, es, k0_off16_eq k]

/-- Behind the heads up to number 0: a column of one of them reads its own output. -/
theorem read_mix_0 (v : View sig' κ sp S256x2048 .bf16) (f : v.ty.Contents (Elt Ideal)) (E : FVec Ideal S512x1024 .f32) (hnw : Vec Ideal S1x128 .f32) (lvl : Vec Ideal S64x64 .i32)
    (Q K V G : Vec Ideal S256x1024 .f32) (S : Vec Ideal S8x128x128 .f32) (k : Fin k0_t1_loop.trips) (L) (r : Fin 64) (d : Fin 128) :
    v.read (Elt Ideal) (v.writes (Elt Ideal) f (mixPieces E hnw lvl Q K V G S k ++ L)) (ix2 (rw64 k r) ⟨1024 + d.val, by omega⟩) = oNew E hnw lvl Q K V G S k 0 r d := by
  simp only [mixPieces, List.cons_append, List.nil_append]
  refine (View.read_writes_cons_unit_of_not_mem v f _ _ _ _ (k0_off17_eq k) 1 (by left; change 1024 + d.val < 1920; omega)).trans ?_
  refine (View.read_writes_cons_unit_of_not_mem v f _ _ _ _ (k0_off15_eq k) 1 (by left; change 1024 + d.val < 1792; omega)).trans ?_
  refine (View.read_writes_cons_unit_of_not_mem v f _ _ _ _ (k0_off13_eq k) 1 (by left; change 1024 + d.val < 1664; omega)).trans ?_
  refine (View.read_writes_cons_unit_of_not_mem v f _ _ _ _ (k0_off11_eq k) 1 (by left; change 1024 + d.val < 1536; omega)).trans ?_
  refine (View.read_writes_cons_unit_of_not_mem v f _ _ _ _ (k0_off9_eq k) 1 (by left; change 1024 + d.val < 1408; omega)).trans ?_
  refine (View.read_writes_cons_unit_of_not_mem v f _ _ _ _ (k0_off7_eq k) 1 (by left; change 1024 + d.val < 1280; omega)).trans ?_
  refine (View.read_writes_cons_unit_of_not_mem v f _ _ _ _ (k0_off5_eq k) 1 (by left; change 1024 + d.val < 1152; omega)).trans ?_
  refine (View.read_writes_cons_unit_of_mem v f _ _ _ _ (ix2 r d) (k0_off3_eq k) (by intro q; match q with | 0 => rfl | 1 => rfl)).trans ?_
  pointwise [headO, k0_pay11, k0_pay132, interT, attnT, levelT, oNew, normGate, oRaw, attnI, lev, rw64, hc, es, k0_off2_eq k]

/-- Behind the heads up to number 1: a column of one of them reads its own output. -/
theorem read_mix_1 (v : View sig' κ sp S256x2048 .bf16) (f : v.ty.Contents (Elt Ideal)) (E : FVec Ideal S512x1024 .f32) (hnw : Vec Ideal S1x128 .f32) (lvl : Vec Ideal S64x64 .i32)
    (Q K V G : Vec Ideal S256x1024 .f32) (S : Vec Ideal S8x128x128 .f32) (k : Fin k0_t1_loop.trips) (L) (r : Fin 64) (d : Fin 128) :
    v.read (Elt Ideal) (v.writes (Elt Ideal) f (mixPieces E hnw lvl Q K V G S k ++ L)) (ix2 (rw64 k r) ⟨1152 + d.val, by omega⟩) = oNew E hnw lvl Q K V G S k 1 r d := by
  simp only [mixPieces, List.cons_append, List.nil_append]
  refine (View.read_writes_cons_unit_of_not_mem v f _ _ _ _ (k0_off17_eq k) 1 (by left; change 1152 + d.val < 1920; omega)).trans ?_
  refine (View.read_writes_cons_unit_of_not_mem v f _ _ _ _ (k0_off15_eq k) 1 (by left; change 1152 + d.val < 1792; omega)).trans ?_
  refine (View.read_writes_cons_unit_of_not_mem v f _ _ _ _ (k0_off13_eq k) 1 (by left; change 1152 + d.val < 1664; omega)).trans ?_
  refine (View.read_writes_cons_unit_of_not_mem v f _ _ _ _ (k0_off11_eq k) 1 (by left; change 1152 + d.val < 1536; omega)).trans ?_
  refine (View.read_writes_cons_unit_of_not_mem v f _ _ _ _ (k0_off9_eq k) 1 (by left; change 1152 + d.val < 1408; omega)).trans ?_
  refine (View.read_writes_cons_unit_of_not_mem v f _ _ _ _ (k0_off7_eq k) 1 (by left; change 1152 + d.val < 1280; omega)).trans ?_
  refine (View.read_writes_cons_unit_of_mem v f _ _ _ _ (ix2 r d) (k0_off5_eq k) (by intro q; match q with | 0 => rfl | 1 => rfl)).trans ?_
  pointwise [headO, k0_pay11, k0_pay132, interT, attnT, levelT, oNew, normGate, oRaw, attnI, lev, rw64, hc, es, k0_off4_eq k]

/-- Behind the heads up to number 2: a column of one of them reads its own output. -/
theorem read_mix_2 (v : View sig' κ sp S256x2048 .bf16) (f : v.ty.Contents (Elt Ideal)) (E : FVec Ideal S512x1024 .f32) (hnw : Vec Ideal S1x128 .f32) (lvl : Vec Ideal S64x64 .i32)
    (Q K V G : Vec Ideal S256x1024 .f32) (S : Vec Ideal S8x128x128 .f32) (k : Fin k0_t1_loop.trips) (L) (r : Fin 64) (d : Fin 128) :
    v.read (Elt Ideal) (v.writes (Elt Ideal) f (mixPieces E hnw lvl Q K V G S k ++ L)) (ix2 (rw64 k r) ⟨1280 + d.val, by omega⟩) = oNew E hnw lvl Q K V G S k 2 r d := by
  simp only [mixPieces, List.cons_append, List.nil_append]
  refine (View.read_writes_cons_unit_of_not_mem v f _ _ _ _ (k0_off17_eq k) 1 (by left; change 1280 + d.val < 1920; omega)).trans ?_
  refine (View.read_writes_cons_unit_of_not_mem v f _ _ _ _ (k0_off15_eq k) 1 (by left; change 1280 + d.val < 1792; omega)).trans ?_
  refine (View.read_writes_cons_unit_of_not_mem v f _ _ _ _ (k0_off13_eq k) 1 (by left; change 1280 + d.val < 1664; omega)).trans ?_
  refine (View.read_writes_cons_unit_of_not_mem v f _ _ _ _ (k0_off11_eq k) 1 (by left; change 1280 + d.val < 1536; omega)).trans ?_
  refine (View.read_writes_cons_unit_of_not_mem v f _ _ _ _ (k0_off9_eq k) 1 (by left; change 1280 + d.val < 1408; omega)).trans ?_
  refine (View.read_writes_cons_unit_of_mem v f _ _ _ _ (ix2 r d) (k0_off7_eq k) (by intro q; match q with | 0 => rfl | 1 => rfl)).trans ?_
  pointwise [headO, k0_pay11, k0_pay132, interT, attnT, levelT, oNew, normGate, oRaw, attnI, lev, rw64, hc, es, k0_off6_eq k]

/-- Behind the heads up to number 3: a column of one of them reads its own output. -/
theorem read_mix_3 (v : View sig' κ sp S256x2048 .bf16) (f : v.ty.Contents (Elt Ideal)) (E : FVec Ideal S512x1024 .f32) (hnw : Vec Ideal S1x128 .f32) (lvl : Vec Ideal S64x64 .i32)
    (Q K V G : Vec Ideal S256x1024 .f32) (S : Vec Ideal S8x128x128 .f32) (k : Fin k0_t1_loop.trips) (L) (r : Fin 64) (d : Fin 128) :
    v.read (Elt Ideal) (v.writes (Elt Ideal) f (mixPieces E hnw lvl Q K V G S k ++ L)) (ix2 (rw64 k r) ⟨1408 + d.val, by omega⟩) = oNew E hnw lvl Q K V G S k 3 r d := by
  simp only [mixPieces, List.cons_append, List.nil_append]
  refine (View.read_writes_cons_unit_of_not_mem v f _ _ _ _ (k0_off17_eq k) 1 (by left; change 1408 + d.val < 1920; omega)).trans ?_
  refine (View.read_writes_cons_unit_of_not_mem v f _ _ _ _ (k0_off15_eq k) 1 (by left; change 1408 + d.val < 1792; omega)).trans ?_
  refine (View.read_writes_cons_unit_of_not_mem v f _ _ _ _ (k0_off13_eq k) 1 (by left; change 1408 + d.val < 1664; omega)).trans ?_
  refine (View.read_writes_cons_unit_of_not_mem v f _ _ _ _ (k0_off11_eq k) 1 (by left; change 1408 + d.val < 1536; omega)).trans ?_
  refine (View.read_writes_cons_unit_of_mem v f _ _ _ _ (ix2 r d) (k0_off9_eq k) (by intro q; match q with | 0 => rfl | 1 => rfl)).trans ?_
  pointwise [headO, k0_pay11, k0_pay132, interT, attnT, levelT, oNew, normGate, oRaw, attnI, lev, rw64, hc, es, k0_off8_eq k]

/-- Behind the heads up to number 4: a column of one of them reads its own output. -/
theorem read_mix_4 (v : View sig' κ sp S256x2048 .bf16) (f : v.ty.Contents (Elt Ideal)) (E : FVec Ideal S512x1024 .f32) (hnw : Vec Ideal S1x128 .f32) (lvl : Vec Ideal S64x64 .i32)
    (Q K V G : Vec Ideal S256x1024 .f32) (S : Vec Ideal S8x128x128 .f32) (k : Fin k0_t1_loop.trips) (L) (r : Fin 64) (d : Fin 128) :
    v.read (Elt Ideal) (v.writes (Elt Ideal) f (mixPieces E hnw lvl Q K V G S k ++ L)) (ix2 (rw64 k r) ⟨1536 + d.val, by omega⟩) = oNew E hnw lvl Q K V G S k 4 r d := by
  simp only [mixPieces, List.cons_append, List.nil_append]
  refine (View.read_writes_cons_unit_of_not_mem v f _ _ _ _ (k0_off17_eq k) 1 (by left; change 1536 + d.val < 1920; omega)).trans ?_
  refine (View.read_writes_cons_unit_of_not_mem v f _ _ _ _ (k0_off15_eq k) 1 (by left; change 1536 + d.val < 1792; omega)).trans ?_
  refine (View.read_writes_cons_unit_of_not_mem v f _ _ _ _ (k0_off13_eq k) 1 (by left; change 1536 + d.val < 1664; omega)).trans ?_
  refine (View.read_writes_cons_unit_of_mem v f _ _ _ _ (ix2 r d) (k0_off11_eq k) (by intro q; match q with | 0 => rfl | 1 => rfl)).trans ?_
  pointwise [headO, k0_pay11, k0_pay132, interT, attnT, levelT, oNew, normGate, oRaw, attnI, lev, rw64, hc, es, k0_off10_eq k]

/-- Behind the heads up to number 5: a column of one of them reads its own output. -/
theorem read_mix_5 (v : View sig' κ sp S256x2048 .bf16) (f : v.ty.Contents (Elt Ideal)) (E : FVec Ideal S512x1024 .f32) (hnw : Vec Ideal S1x128 .f32) (lvl : Vec Ideal S64x64 .i32)
    (Q K V G : Vec Ideal S256x1024 .f32) (S : Vec Ideal S8x128x128 .f32) (k : Fin k0_t1_loop.trips) (L) (r : Fin 64) (d : Fin 128) :
    v.read (Elt Ideal) (v.writes (Elt Ideal) f (mixPieces E hnw lvl Q K V G S k ++ L)) (ix2 (rw64 k r) ⟨1664 + d.val, by omega⟩) = oNew E hnw lvl Q K V G S k 5 r d := by
  simp only [mixPieces, List.cons_append, List.nil_append]
  refine (View.read_writes_cons_unit_of_not_mem v f _ _ _ _ (k0_off17_eq k) 1 (by left; change 1664 + d.val < 1920; omega)).trans ?_
  refine (View.read_writes_cons_unit_of_not_mem v f _ _ _ _ (k0_off15_eq k) 1 (by left; change 1664 + d.val < 1792; omega)).trans ?_
  refine (View.read_writes_cons_unit_of_mem v f _ _ _ _ (ix2 r d) (k0_off13_eq k) (by intro q; match q with | 0 => rfl | 1 => rfl)).trans ?_
  pointwise [headO, k0_pay11, k0_pay132, interT, attnT, levelT, oNew, normGate, oRaw, attnI, lev, rw64, hc, es, k0_off12_eq k]

/-- Behind the heads up to number 6: a column of one of them reads its own output. -/
theorem read_mix_6 (v : View sig' κ sp S256x2048 .bf16) (f : v.ty.Contents (Elt Ideal)) (E : FVec Ideal S512x1024 .f32) (hnw : Vec Ideal S1x128 .f32) (lvl : Vec Ideal S64x64 .i32)
    (Q K V G : Vec Ideal S256x1024 .f32) (S : Vec Ideal S8x128x128 .f32) (k : Fin k0_t1_loop.trips) (L) (r : Fin 64) (d : Fin 128) :
    v.read (Elt Ideal) (v.writes (Elt Ideal) f (mixPieces E hnw lvl Q K V G S k ++ L)) (ix2 (rw64 k r) ⟨1792 + d.val, by omega⟩) = oNew E hnw lvl Q K V G S k 6 r d := by
  simp only [mixPieces, List.cons_append, List.nil_append]
  refine (View.read_writes_cons_unit_of_not_mem v f _ _ _ _ (k0_off17_eq k) 1 (by left; change 1792 + d.val < 1920; omega)).trans ?_
  refine (View.read_writes_cons_unit_of_mem v f _ _ _ _ (ix2 r d) (k0_off15_eq k) (by intro q; match q with | 0 => rfl | 1 => rfl)).trans ?_
  pointwise [headO, k0_pay11, k0_pay132, interT, attnT, levelT, oNew, normGate, oRaw, attnI, lev, rw64, hc, es, k0_off14_eq k]

/-- Behind the heads up to number 7: a column of one of them reads its own output. -/
theorem read_mix_7 (v : View sig' κ sp S256x2048 .bf16) (f : v.ty.Contents (Elt Ideal)) (E : FVec Ideal S512x1024 .f32) (hnw : Vec Ideal S1x128 .f32) (lvl : Vec Ideal S64x64 .i32)
    (Q K V G : Vec Ideal S256x1024 .f32) (S : Vec Ideal S8x128x128 .f32) (k : Fin k0_t1_loop.trips) (L) (r : Fin 64) (d : Fin 128) :
    v.read (Elt Ideal) (v.writes (Elt Ideal) f (mixPieces E hnw lvl Q K V G S k ++ L)) (ix2 (rw64 k r) ⟨1920 + d.val, by omega⟩) = oNew E hnw lvl Q K V G S k 7 r d := by
  simp only [mixPieces, List.cons_append, List.nil_append]
  refine (View.read_writes_cons_unit_of_mem v f _ _ _ _ (ix2 r d) (k0_off17_eq k) (by intro q; match q with | 0 => rfl | 1 => rfl)).trans ?_
  pointwise [headO, k0_pay11, k0_pay132, interT, attnT, levelT, oNew, normGate, oRaw, attnI, lev, rw64, hc, es, k0_off16_eq k]

/-- The state after a trip, read at an index. -/
theorem read_state (v : View sig' κ sp S8x128x128 .f32) (f : v.ty.Contents (Elt Ideal)) (E : FVec Ideal S512x1024 .f32) (K V : Vec Ideal S256x1024 .f32)
    (S : Vec Ideal S8x128x128 .f32) (k : Fin k0_t1_loop.trips) (L) (hd : Fin 8) (a b : Fin 128) :
    v.read (Elt Ideal) (v.writes (Elt Ideal) f (statePieces E K V S k ++ L)) (ix3 hd a b) = sNew E K V S k hd a b := by
  match hd with
  | 0 => exact read_state_0 v f E K V S k L a b
  | 1 => exact read_state_1 v f E K V S k L a b
  | 2 => exact read_state_2 v f E K V S k L a b
  | 3 => exact read_state_3 v f E K V S k L a b
  | 4 => exact read_state_4 v f E K V S k L a b
  | 5 => exact read_state_5 v f E K V S k L a b
  | 6 => exact read_state_6 v f E K V S k L a b
  | 7 => exact read_state_7 v f E K V S k L a b

/-- The mixed output's column `d` of head `hd`. -/
def mc (hd : Fin 8) (d : Fin 128) : Fin 2048 := ⟨1024 + (128 * hd.val + d.val), by omega⟩

/-- The mixed output's rows of the trip's chunk, read at an index. -/
theorem read_mix (v : View sig' κ sp S256x2048 .bf16) (f : v.ty.Contents (Elt Ideal)) (E : FVec Ideal S512x1024 .f32) (hnw : Vec Ideal S1x128 .f32) (lvl : Vec Ideal S64x64 .i32)
    (Q K V G : Vec Ideal S256x1024 .f32) (S : Vec Ideal S8x128x128 .f32) (k : Fin k0_t1_loop.trips) (L) (r : Fin 64) (hd : Fin 8) (d : Fin 128) :
    v.read (Elt Ideal) (v.writes (Elt Ideal) f (mixPieces E hnw lvl Q K V G S k ++ L)) (ix2 (rw64 k r) (mc hd d)) = oNew E hnw lvl Q K V G S k hd r d := by
  match hd with
  | 0 => rw [show mc 0 d = ⟨1024 + d.val, by omega⟩ from Fin.ext (by simp only [mc]; change 1024 + (0 + d.val) = _; omega)]; exact read_mix_0 v f E hnw lvl Q K V G S k L r d
  | 1 => rw [show mc 1 d = ⟨1152 + d.val, by omega⟩ from Fin.ext (by simp only [mc]; change 1024 + (128 + d.val) = _; omega)]; exact read_mix_1 v f E hnw lvl Q K V G S k L r d
  | 2 => rw [show mc 2 d = ⟨1280 + d.val, by omega⟩ from Fin.ext (by simp only [mc]; change 1024 + (256 + d.val) = _; omega)]; exact read_mix_2 v f E hnw lvl Q K V G S k L r d
  | 3 => rw [show mc 3 d = ⟨1408 + d.val, by omega⟩ from Fin.ext (by simp only [mc]; change 1024 + (384 + d.val) = _; omega)]; exact read_mix_3 v f E hnw lvl Q K V G S k L r d
  | 4 => rw [show mc 4 d = ⟨1536 + d.val, by omega⟩ from Fin.ext (by simp only [mc]; change 1024 + (512 + d.val) = _; omega)]; exact read_mix_4 v f E hnw lvl Q K V G S k L r d
  | 5 => rw [show mc 5 d = ⟨1664 + d.val, by omega⟩ from Fin.ext (by simp only [mc]; change 1024 + (640 + d.val) = _; omega)]; exact read_mix_5 v f E hnw lvl Q K V G S k L r d
  | 6 => rw [show mc 6 d = ⟨1792 + d.val, by omega⟩ from Fin.ext (by simp only [mc]; change 1024 + (768 + d.val) = _; omega)]; exact read_mix_6 v f E hnw lvl Q K V G S k L r d
  | 7 => rw [show mc 7 d = ⟨1920 + d.val, by omega⟩ from Fin.ext (by simp only [mc]; change 1024 + (896 + d.val) = _; omega)]; exact read_mix_7 v f E hnw lvl Q K V G S k L r d

/-- Rows of the mixed output outside the trip's chunk are left. -/
theorem read_mix_row (v : View sig' κ sp S256x2048 .bf16) (f : v.ty.Contents (Elt Ideal)) (E : FVec Ideal S512x1024 .f32) (hnw : Vec Ideal S1x128 .f32) (lvl : Vec Ideal S64x64 .i32)
    (Q K V G : Vec Ideal S256x1024 .f32) (S : Vec Ideal S8x128x128 .f32) (k : Fin k0_t1_loop.trips) (L) (ρ : Fin 256) (c : Fin 2048) (h : ρ.val < 64 * k.val ∨ 64 * k.val + 64 ≤ ρ.val) :
    v.read (Elt Ideal) (v.writes (Elt Ideal) f (mixPieces E hnw lvl Q K V G S k ++ L)) (ix2 ρ c) = v.read (Elt Ideal) (v.writes (Elt Ideal) f L) (ix2 ρ c) := by
  simp only [mixPieces, List.cons_append, List.nil_append]
  refine (View.read_writes_cons_unit_of_not_mem v f _ _ _ _ (k0_off17_eq k) 0 h).trans ?_
  refine (View.read_writes_cons_unit_of_not_mem v f _ _ _ _ (k0_off15_eq k) 0 h).trans ?_
  refine (View.read_writes_cons_unit_of_not_mem v f _ _ _ _ (k0_off13_eq k) 0 h).trans ?_
  refine (View.read_writes_cons_unit_of_not_mem v f _ _ _ _ (k0_off11_eq k) 0 h).trans ?_
  refine (View.read_writes_cons_unit_of_not_mem v f _ _ _ _ (k0_off9_eq k) 0 h).trans ?_
  refine (View.read_writes_cons_unit_of_not_mem v f _ _ _ _ (k0_off7_eq k) 0 h).trans ?_
  refine (View.read_writes_cons_unit_of_not_mem v f _ _ _ _ (k0_off5_eq k) 0 h).trans ?_
  refine (View.read_writes_cons_unit_of_not_mem v f _ _ _ _ (k0_off3_eq k) 0 h).trans ?_
  rfl

/-- The pool's columns of the mixed output are left. -/
theorem read_mix_col (v : View sig' κ sp S256x2048 .bf16) (f : v.ty.Contents (Elt Ideal)) (E : FVec Ideal S512x1024 .f32) (hnw : Vec Ideal S1x128 .f32) (lvl : Vec Ideal S64x64 .i32)
    (Q K V G : Vec Ideal S256x1024 .f32) (S : Vec Ideal S8x128x128 .f32) (k : Fin k0_t1_loop.trips) (L) (ρ : Fin 256) (c : Fin 2048) (h : c.val < 1024) :
    v.read (Elt Ideal) (v.writes (Elt Ideal) f (mixPieces E hnw lvl Q K V G S k ++ L)) (ix2 ρ c) = v.read (Elt Ideal) (v.writes (Elt Ideal) f L) (ix2 ρ c) := by
  simp only [mixPieces, List.cons_append, List.nil_append]
  refine (View.read_writes_cons_unit_of_not_mem v f _ _ _ _ (k0_off17_eq k) 1 (by left; change c.val < 1920; omega)).trans ?_
  refine (View.read_writes_cons_unit_of_not_mem v f _ _ _ _ (k0_off15_eq k) 1 (by left; change c.val < 1792; omega)).trans ?_
  refine (View.read_writes_cons_unit_of_not_mem v f _ _ _ _ (k0_off13_eq k) 1 (by left; change c.val < 1664; omega)).trans ?_
  refine (View.read_writes_cons_unit_of_not_mem v f _ _ _ _ (k0_off11_eq k) 1 (by left; change c.val < 1536; omega)).trans ?_
  refine (View.read_writes_cons_unit_of_not_mem v f _ _ _ _ (k0_off9_eq k) 1 (by left; change c.val < 1408; omega)).trans ?_
  refine (View.read_writes_cons_unit_of_not_mem v f _ _ _ _ (k0_off7_eq k) 1 (by left; change c.val < 1280; omega)).trans ?_
  refine (View.read_writes_cons_unit_of_not_mem v f _ _ _ _ (k0_off5_eq k) 1 (by left; change c.val < 1152; omega)).trans ?_
  refine (View.read_writes_cons_unit_of_not_mem v f _ _ _ _ (k0_off3_eq k) 1 (by left; change c.val < 1024; omega)).trans ?_
  rfl

/-- The state before chunk `n`, from the state `S0` before the first. -/
def stS (W : Vec Ideal S512x192 .bf16) (L K V : Vec Ideal S256x1024 .f32) (S0 : Vec Ideal S8x128x128 .f32) : ℕ → Vec Ideal S8x128x128 .f32
  | 0 => S0
  | n + 1 => if h : n < k0_t1_loop.trips then fun i => sNew (chunkE W L ⟨n, h⟩) K V (stS W L K V S0 n) ⟨n, h⟩ (show Fin 8 from i 0) (show Fin 128 from i 1) (show Fin 128 from i 2) else stS W L K V S0 n

set_option maxHeartbeats 4000000 in
/-- The state after `n` trips. -/
theorem loop_state (𝒱 : Variants) (c : Dev nD) (bd : Option 𝒱.V) (i : grid0.Coords) (arg2 : Memref sig .tc .vmem S1x256x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S2048x1024 .bf16) (harg10 : arg10.IsWhole) (arg11 : Memref sig .tc .vmem S1x1024 .f32) (harg11 : arg11.IsWhole) (arg12 : Memref sig .tc .vmem S512x192 .bf16) (harg12 : arg12.IsWhole) (arg13 : Memref sig .tc .vmem S64x64 .i32) (harg13 : arg13.IsWhole) (arg14 : Memref sig .tc .vmem S1x256x1024 .f32) (harg14 : arg14.IsWhole) (arg15 : Memref sig .tc .vmem S8x128x128 .f32) (harg15 : arg15.IsWhole) (arg16 : Memref sig .tc .vmem S16x1024 .f32) (harg16 : arg16.IsWhole) (arg17 : Memref sig .tc .vmem S272x1024 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .f32) (harg22 : arg22.IsWhole) (arg23 : Memref sig .tc .vmem S256x2048 .bf16) (harg23 : arg23.IsWhole) (v30 : FVec Ideal S256x1024 .bf16) (v257 : FVec Ideal S256x1024 .f32) (v273 : Vec Ideal S64x64 .i32) (v274 : Vec Ideal S1x128 .f32) (X_arg12 : BufTy.Contents (Elt Ideal) arg12.view.ty) (X_arg18 : BufTy.Contents (Elt Ideal) arg18.view.ty) (X_arg19 : BufTy.Contents (Elt Ideal) arg19.view.ty) (X_arg20 : BufTy.Contents (Elt Ideal) arg20.view.ty) (X_arg21 : BufTy.Contents (Elt Ideal) arg21.view.ty) (X_arg22 : BufTy.Contents (Elt Ideal) arg22.view.ty) (G15 : BufTy.Contents (Elt Ideal) arg15.view.ty) (G23 : BufTy.Contents (Elt Ideal) arg23.view.ty) :
    ∀ n, n ≤ k0_t1_loop.trips → arg15.view.read (Elt Ideal) (arg15.view.writes (Elt Ideal) G15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v30 v257 v273 v274 X_arg12 X_arg18 X_arg19 X_arg20 X_arg21 X_arg22 G15 G23 n).1) = (stS (arg12.view.read (Elt Ideal) X_arg12) (arg19.view.read (Elt Ideal) X_arg19) (arg20.view.read (Elt Ideal) X_arg20) (arg21.view.read (Elt Ideal) X_arg21) (arg15.view.read (Elt Ideal) G15) n)
  | 0, _ => rfl
  | n + 1, hn => by
    have ih := loop_state 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v30 v257 v273 v274 X_arg12 X_arg18 X_arg19 X_arg20 X_arg21 X_arg22 G15 G23 n (Nat.le_of_succ_le hn)
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v30 v257 v273 v274 X_arg12 X_arg18 X_arg19 X_arg20 X_arg21 X_arg22 G15 G23 ⟨n, hn⟩]
    rw [trip_eq]
    dsimp only
    rw [ih]
    funext i
    obtain ⟨a, b, c, rfl⟩ : ∃ a b c, i = ix3 a b c := ⟨i 0, i 1, i 2, by funext q; match q with | 0 => rfl | 1 => rfl | 2 => rfl⟩
    rw [read_state]
    rw [stS, dif_pos (show n < k0_t1_loop.trips from hn)]
    rfl

set_option maxHeartbeats 4000000 in
/-- The mixed output's head columns after `n` trips, at a row of a chunk done. -/
theorem loop_mix (𝒱 : Variants) (c : Dev nD) (bd : Option 𝒱.V) (i : grid0.Coords) (arg2 : Memref sig .tc .vmem S1x256x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S2048x1024 .bf16) (harg10 : arg10.IsWhole) (arg11 : Memref sig .tc .vmem S1x1024 .f32) (harg11 : arg11.IsWhole) (arg12 : Memref sig .tc .vmem S512x192 .bf16) (harg12 : arg12.IsWhole) (arg13 : Memref sig .tc .vmem S64x64 .i32) (harg13 : arg13.IsWhole) (arg14 : Memref sig .tc .vmem S1x256x1024 .f32) (harg14 : arg14.IsWhole) (arg15 : Memref sig .tc .vmem S8x128x128 .f32) (harg15 : arg15.IsWhole) (arg16 : Memref sig .tc .vmem S16x1024 .f32) (harg16 : arg16.IsWhole) (arg17 : Memref sig .tc .vmem S272x1024 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .f32) (harg22 : arg22.IsWhole) (arg23 : Memref sig .tc .vmem S256x2048 .bf16) (harg23 : arg23.IsWhole) (v30 : FVec Ideal S256x1024 .bf16) (v257 : FVec Ideal S256x1024 .f32) (v273 : Vec Ideal S64x64 .i32) (v274 : Vec Ideal S1x128 .f32) (X_arg12 : BufTy.Contents (Elt Ideal) arg12.view.ty) (X_arg18 : BufTy.Contents (Elt Ideal) arg18.view.ty) (X_arg19 : BufTy.Contents (Elt Ideal) arg19.view.ty) (X_arg20 : BufTy.Contents (Elt Ideal) arg20.view.ty) (X_arg21 : BufTy.Contents (Elt Ideal) arg21.view.ty) (X_arg22 : BufTy.Contents (Elt Ideal) arg22.view.ty) (G15 : BufTy.Contents (Elt Ideal) arg15.view.ty) (G23 : BufTy.Contents (Elt Ideal) arg23.view.ty) (r : Fin 64) (hd : Fin 8) (d : Fin 128) (k : Fin k0_t1_loop.trips) :
    ∀ n, n ≤ k0_t1_loop.trips → k.val < n → arg23.view.read (Elt Ideal) (arg23.view.writes (Elt Ideal) G23 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v30 v257 v273 v274 X_arg12 X_arg18 X_arg19 X_arg20 X_arg21 X_arg22 G15 G23 n).2) (ix2 (rw64 k r) (mc hd d))
      = oNew (chunkE (arg12.view.read (Elt Ideal) X_arg12) (arg19.view.read (Elt Ideal) X_arg19) k) v274 v273 (arg18.view.read (Elt Ideal) X_arg18) (arg20.view.read (Elt Ideal) X_arg20) (arg21.view.read (Elt Ideal) X_arg21) (arg22.view.read (Elt Ideal) X_arg22) (stS (arg12.view.read (Elt Ideal) X_arg12) (arg19.view.read (Elt Ideal) X_arg19) (arg20.view.read (Elt Ideal) X_arg20) (arg21.view.read (Elt Ideal) X_arg21) (arg15.view.read (Elt Ideal) G15) k.val) k hd r d
  | 0, _, h => absurd h (Nat.not_lt_zero _)
  | n + 1, hn, hk => by
    have ih := loop_mix 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v30 v257 v273 v274 X_arg12 X_arg18 X_arg19 X_arg20 X_arg21 X_arg22 G15 G23 r hd d k n (Nat.le_of_succ_le hn)
    have hs := loop_state 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v30 v257 v273 v274 X_arg12 X_arg18 X_arg19 X_arg20 X_arg21 X_arg22 G15 G23 n (Nat.le_of_succ_le hn)
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v30 v257 v273 v274 X_arg12 X_arg18 X_arg19 X_arg20 X_arg21 X_arg22 G15 G23 ⟨n, hn⟩]
    rw [trip_eq]
    dsimp only
    rw [hs]
    by_cases e : k.val = n
    · obtain rfl : k = ⟨n, hn⟩ := Fin.ext e
      rw [read_mix]
    · rw [read_mix_row (h := by left; change 64 * k.val + r.val < 64 * n; omega)]
      exact ih (by omega)

set_option maxHeartbeats 4000000 in
/-- The mixed output's pool columns after `n` trips. -/
theorem loop_pool (𝒱 : Variants) (c : Dev nD) (bd : Option 𝒱.V) (i : grid0.Coords) (arg2 : Memref sig .tc .vmem S1x256x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S2048x1024 .bf16) (harg10 : arg10.IsWhole) (arg11 : Memref sig .tc .vmem S1x1024 .f32) (harg11 : arg11.IsWhole) (arg12 : Memref sig .tc .vmem S512x192 .bf16) (harg12 : arg12.IsWhole) (arg13 : Memref sig .tc .vmem S64x64 .i32) (harg13 : arg13.IsWhole) (arg14 : Memref sig .tc .vmem S1x256x1024 .f32) (harg14 : arg14.IsWhole) (arg15 : Memref sig .tc .vmem S8x128x128 .f32) (harg15 : arg15.IsWhole) (arg16 : Memref sig .tc .vmem S16x1024 .f32) (harg16 : arg16.IsWhole) (arg17 : Memref sig .tc .vmem S272x1024 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .f32) (harg22 : arg22.IsWhole) (arg23 : Memref sig .tc .vmem S256x2048 .bf16) (harg23 : arg23.IsWhole) (v30 : FVec Ideal S256x1024 .bf16) (v257 : FVec Ideal S256x1024 .f32) (v273 : Vec Ideal S64x64 .i32) (v274 : Vec Ideal S1x128 .f32) (X_arg12 : BufTy.Contents (Elt Ideal) arg12.view.ty) (X_arg18 : BufTy.Contents (Elt Ideal) arg18.view.ty) (X_arg19 : BufTy.Contents (Elt Ideal) arg19.view.ty) (X_arg20 : BufTy.Contents (Elt Ideal) arg20.view.ty) (X_arg21 : BufTy.Contents (Elt Ideal) arg21.view.ty) (X_arg22 : BufTy.Contents (Elt Ideal) arg22.view.ty) (G15 : BufTy.Contents (Elt Ideal) arg15.view.ty) (G23 : BufTy.Contents (Elt Ideal) arg23.view.ty) (ρ : Fin 256) (c' : Fin 2048) (hc' : c'.val < 1024) :
    ∀ n, n ≤ k0_t1_loop.trips → arg23.view.read (Elt Ideal) (arg23.view.writes (Elt Ideal) G23 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v30 v257 v273 v274 X_arg12 X_arg18 X_arg19 X_arg20 X_arg21 X_arg22 G15 G23 n).2) (ix2 ρ c') = arg23.view.read (Elt Ideal) G23 (ix2 ρ c')
  | 0, _ => rfl
  | n + 1, hn => by
    have ih := loop_pool 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v30 v257 v273 v274 X_arg12 X_arg18 X_arg19 X_arg20 X_arg21 X_arg22 G15 G23 ρ c' hc' n (Nat.le_of_succ_le hn)
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v30 v257 v273 v274 X_arg12 X_arg18 X_arg19 X_arg20 X_arg21 X_arg22 G15 G23 ⟨n, hn⟩]
    rw [trip_eq]
    dsimp only
    rw [read_mix_col (h := hc')]
    exact ih

end Cert.KernelIdeal.Val

end
-- ==== Proof.ChunkAlg.lean ====
/- The algebra of a chunk: the kernel's exponentials of sums of gate logarithms are the model's. -/
module

public import proofs.«01_k».proof.Proof.HeadRead
public import proofs.«01_k».proof.Proof.Model

@[expose] public section

set_option maxRecDepth 16384

noncomputable section

namespace Cert.KernelIdeal.Val

open Idealize.ShloMosaic Idealize.ShloMosaic.TcCoe Cert.KernelIdeal Cert.KernelIdeal.Gen

/-- The first row summed by row `t` of the table's block `q`. -/
def wlo (q t : ℕ) : ℕ :=
  if q = 0 then 0 else if q = 1 then t + 1 else
    if 2 ^ (q - 2) ≤ t % (2 * 2 ^ (q - 2)) then t / (2 * 2 ^ (q - 2)) * (2 * 2 ^ (q - 2)) + 2 ^ (q - 2) else t + 1
/-- The row after the last one summed by row `t` of the table's block `q`. -/
def whi (q t : ℕ) : ℕ :=
  if q = 0 then t + 1 else if q = 1 then 64 else
    if 2 ^ (q - 2) ≤ t % (2 * 2 ^ (q - 2)) then t + 1 else t / (2 * 2 ^ (q - 2)) * (2 * 2 ^ (q - 2)) + 2 ^ (q - 2)
/-- The level at which rows `r` and `j` are separated: minus one above the diagonal, zero on it. -/
def lvlF (r j : ℕ) : BitVec 32 :=
  if r < j then 0xFFFFFFFF#32 else if r = j then 0#32 else if r / 2 = j / 2 then 1#32 else if r / 4 = j / 4 then 2#32 else if r / 8 = j / 8 then 3#32
  else if r / 16 = j / 16 then 4#32 else if r / 32 = j / 32 then 5#32 else 6#32

/-- A window of rows lies in the chunk. -/
theorem whi_bound : ∀ (q : Fin 8) (t : Fin 64), wlo q.val t.val ≤ whi q.val t.val ∧ whi q.val t.val ≤ 64 := by decide +kernel

/-- Of a pair of rows: the key is later than the query, or is the query's own row, or exactly one level joins the two windows. -/
theorem lvl_cases : ∀ r j : Fin 64, (r < j ∧ lvlF r.val j.val = 0xFFFFFFFF#32) ∨ (r = j ∧ lvlF r.val j.val = 0#32)
    ∨ ∃ q : Fin 8, 2 ≤ q.val ∧ j < r ∧ lvlF r.val j.val = BitVec.ofNat 32 (q.val - 1) ∧ wlo q.val r.val = whi q.val j.val ∧ whi q.val r.val = r.val + 1 ∧ wlo q.val j.val = j.val + 1 := by
  decide +kernel

/-- A sequence of 64 reals continued by zero. -/
def lN (l : Fin 64 → ℝ) (t : ℕ) : ℝ := if h : t < 64 then l ⟨t, h⟩ else 0
/-- The sum of the first `t`. -/
def pB (l : Fin 64 → ℝ) (t : ℕ) : ℝ := ∑ i ∈ Finset.range t, lN l i

/-- A sum of rows over a window is a difference of two prefix sums. -/
theorem int_sum (l : Fin 64 → ℝ) (a e : ℕ) (hae : a ≤ e) (he : e ≤ 64) : (∑ j : Fin 64, if a ≤ j.val ∧ j.val < e then l j else 0) = pB l e - pB l a := by
  have h1 : ∀ j : Fin 64, (if a ≤ j.val ∧ j.val < e then l j else 0) = (fun t : ℕ => if a ≤ t ∧ t < e then lN l t else 0) j.val := fun j => by
    simp only [lN, j.isLt, dif_pos]
  rw [Finset.sum_congr rfl fun j _ => h1 j, Fin.sum_univ_eq_sum_range (fun t : ℕ => if a ≤ t ∧ t < e then lN l t else 0) 64, ← Finset.sum_filter,
    pB, pB, ← Finset.sum_Ico_eq_sub _ hae]
  refine Finset.sum_congr ?_ fun _ _ => rfl
  ext i; simp only [Finset.mem_filter, Finset.mem_range, Finset.mem_Ico]; omega

/-- A finite sum of real numbers, read as an extended real. -/
theorem coe_sum {ι : Type} (S : Finset ι) (f : ι → ℝ) : ((∑ i ∈ S, f i : ℝ) : EReal) = ∑ i ∈ S, (f i : EReal) := by
  classical
  induction S using Finset.induction_on with
  | empty => rfl
  | insert a S h ih => rw [Finset.sum_insert h, Finset.sum_insert h, EReal.coe_add, ih]

section
variable (W : Vec Ideal S512x192 .bf16) (L : Vec Ideal S256x1024 .f32) (k : Fin k0_t1_loop.trips) (c : Fin 1024) (l : Fin 64 → ℝ)
  (hW : ∀ (q : Fin 8) (t : Fin 64) (x : Fin 192), W (ix2 (es q t) x) = if wlo q.val t.val ≤ x.val % 64 ∧ x.val % 64 < whi q.val t.val then (1 : EReal) else 0)
  (hL : ∀ j : Fin 64, L (ix2 (rw64 k j) c) = ((l j : ℝ) : EReal))
include hW hL

/-- An entry of the chunk's exponentials: the exponential of a sum of consecutive gate logarithms. -/
theorem chunk_read (q : Fin 8) (t : Fin 64) : chunkE W L k (ix2 (es q t) c) = Ideal.exp ((pB l (whi q.val t.val) - pB l (wlo q.val t.val) : ℝ) : EReal) := by
  pointwise [chunkE, k0_pay2, k0_off1_eq k]
  refine congrArg Ideal.exp ?_
  have hL' : ∀ (n : ℕ) (h : 64 * k.val + n < 256) (hn : n < 64), L (ix2 ⟨64 * k.val + n, h⟩ c) = ((l ⟨n, hn⟩ : ℝ) : EReal) := fun n h hn => hL ⟨n, hn⟩
  rw [← int_sum l _ _ (whi_bound q t).1 (whi_bound q t).2, coe_sum]
  refine (Fin.sum_univ_add (a := 64) (b := 128) _).trans ?_
  refine Eq.trans (congrArg₂ (fun x y : EReal => x + y) (Finset.sum_congr rfl fun j _ => ?_) (Finset.sum_eq_zero fun j _ => ?_)) (add_zero _)
  · refine (congrArg₂ (fun x y : EReal => x * y) (hW q t _) ((dif_pos (show (Fin.castAdd 128 j).val < 64 from j.isLt)).trans (hL' (Fin.castAdd 128 j).val _ j.isLt))).trans ?_
    show (if wlo q.val t.val ≤ j.val % 64 ∧ j.val % 64 < whi q.val t.val then (1 : EReal) else 0) * ((l j : ℝ) : EReal) = _
    rw [Nat.mod_eq_of_lt j.isLt]
    split
    · rw [one_mul]
    · rw [zero_mul]; rfl
  · have hj : (Fin.natAdd 64 j).val = 64 + j.val := rfl
    have hs : ∀ x : ℝ, (x : EReal) - (x : EReal) = 0 := fun x => by rw [← EReal.coe_sub, sub_self]; rfl
    refine Eq.trans (congrArg (fun z : EReal => _ * z) (Eq.trans (dif_neg (by rw [hj]; omega)) ?_)) (mul_zero _)
    by_cases h : (Fin.natAdd 64 j).val - 64 < 64
    · refine (dif_pos h).trans ?_
      exact (congrArg₂ (fun x y : EReal => x - y) (hL' _ _ h) (hL' _ _ h)).trans (hs _)
    · have h' : (Fin.natAdd 64 j).val - 64 - 64 < 64 := by rw [hj]; omega
      refine (dif_neg h).trans ?_
      refine (congrArg₂ (fun x y : EReal => x - y) ((congrArg₂ (fun x y : EReal => x - y) (hL' _ _ h') (hL' _ _ h')).trans (hs _))
        ((congrArg₂ (fun x y : EReal => x - y) (hL' _ _ h') (hL' _ _ h')).trans (hs _))).trans ?_
      exact sub_zero _
end

/-- The sum of a chunk's first gate logarithms, as an extended real. -/
theorem bM_real (A : Layer.Args) (b : Fin 16) (n : Fin 32) (c : Fin 1024) (l : Fin 64 → ℝ) (hl : ∀ j, Layer.lfM A b (Layer.row n j) c = ((l j : ℝ) : EReal)) (r : Fin 64) :
    Layer.bM A b n r c = ((pB l (r.val + 1) : ℝ) : EReal) := by
  have h0 : pB l 0 = 0 := Finset.sum_range_zero _
  rw [← sub_zero (pB l (r.val + 1)), ← h0, ← int_sum l 0 (r.val + 1) (Nat.zero_le _) (by omega), coe_sum, Layer.bM]
  refine Finset.sum_congr rfl fun j _ => ?_
  rw [hl]
  by_cases h : j ≤ r
  · rw [if_pos h, if_pos ⟨Nat.zero_le _, Nat.lt_succ_of_le h⟩]
  · rw [if_neg h, if_neg (fun h' => h (Nat.le_of_lt_succ h'.2))]; rfl

section
variable (A : Layer.Args) (b : Fin 16) (n : Fin 32) (W : Vec Ideal S512x192 .bf16) (L : Vec Ideal S256x1024 .f32) (k : Fin k0_t1_loop.trips) (c : Fin 1024)
  (hW : ∀ (q : Fin 8) (t : Fin 64) (x : Fin 192), W (ix2 (es q t) x) = if wlo q.val t.val ≤ x.val % 64 ∧ x.val % 64 < whi q.val t.val then (1 : EReal) else 0)
  (hlf : ∀ j, ∃ r : ℝ, Layer.lfM A b (Layer.row n j) c = r)
  (hL : ∀ j : Fin 64, L (ix2 (rw64 k j) c) = Layer.lfM A b (Layer.row n j) c)
include hW hL hlf

/-- The first set of exponents: from the chunk's start up to the row. -/
theorem e_0 (t : Fin 64) : chunkE W L k (ix2 (es 0 t) c) = Ideal.exp (Layer.bM A b n t c) := by
  choose l hl using hlf
  rw [chunk_read W L k c l hW (fun j => (hL j).trans (hl j)), bM_real A b n c l hl]
  have h0 : pB l 0 = 0 := Finset.sum_range_zero _
  show Ideal.exp ((pB l (t.val + 1) - pB l 0 : ℝ) : EReal) = _
  rw [h0, sub_zero]

/-- The second set: from behind the row to the chunk's end. -/
theorem e_1 (t : Fin 64) : chunkE W L k (ix2 (es 1 t) c) = Ideal.exp (Layer.bM A b n 63 c - Layer.bM A b n t c) := by
  choose l hl using hlf
  rw [chunk_read W L k c l hW (fun j => (hL j).trans (hl j)), bM_real A b n c l hl, bM_real A b n c l hl, ← EReal.coe_sub]
  rfl

/-- The two exponentials of a level, where the windows meet, multiply to the decay from key to query. -/
theorem e_pair (q : Fin 8) (r j : Fin 64) (h1 : wlo q.val r.val = whi q.val j.val) (h2 : whi q.val r.val = r.val + 1) (h3 : wlo q.val j.val = j.val + 1) :
    chunkE W L k (ix2 (es q r) c) * chunkE W L k (ix2 (es q j) c) = Ideal.exp (Layer.bM A b n r c - Layer.bM A b n j c) := by
  choose l hl using hlf
  rw [chunk_read W L k c l hW (fun j => (hL j).trans (hl j)), chunk_read W L k c l hW (fun j => (hL j).trans (hl j)), bM_real A b n c l hl, bM_real A b n c l hl, ← EReal.coe_sub,
    Ideal.exp_coe, Ideal.exp_coe, Ideal.exp_coe, ← EReal.coe_mul, ← Real.exp_add, h1, h2, h3]
  refine congrArg (fun z : ℝ => ((Real.exp z : ℝ) : EReal)) ?_
  ring

/-- A row's decay to itself is one. -/
theorem e_diag (r : Fin 64) : Ideal.exp (Layer.bM A b n r c - Layer.bM A b n r c) = 1 := by
  choose l hl using hlf
  rw [bM_real A b n c l hl, ← EReal.coe_sub, sub_self, Ideal.exp_coe, Real.exp_zero]
  rfl
end

end Cert.KernelIdeal.Val

end
-- ==== Proof.Tame.lean ====
/- What the layer's precondition gives: the entries it speaks of are real numbers, so the pool columns of the projection are real numbers,
   and the forget gate's logarithm too. -/
module

public import proofs.«01_k».proof.Pre_tame
public import proofs.«01_k».proof.Proof.RefRead
public import proofs.«01_k».proof.Proof.AdalnValue
public import proofs.«01_k».proof.Proof.ChunkAlg
public import Idealize.ShloMosaic.Lib.ReduceAll

@[expose] public section

set_option maxRecDepth 16384

noncomputable section

namespace Cert.Pre_tame.Hand

open Idealize.ShloMosaic

/-- The side conditions the precondition states. -/
instance facts : Cert.Pre_tame.Facts where
  slices_S16x3072_S16x2048_0_0 := by decide
  bcast_S_S16x2048 := by decide
  reducesTo_S16x2048_S_d0_1 := by decide
  h_S_ := by decide
  bcast_S_S1024 := by decide
  reducesTo_S1024_S_d0 := by decide
  slices_S1024x6144_S1024x1024_0_0 := by decide
  bcast_S_S1024x1024 := by decide
  reducesTo_S1024x1024_S_d0_1 := by decide
  slices_S1024x6144_S1024x1024_0_3072 := by decide

/-- Where an extended real compares at or above zero, it is at least zero. -/
theorem nonneg_of_ge (x : Ideal .f32) (h : FloatOps.cmpf .oge x (FloatOps.ofBits (F := Ideal) .f32 0x00000000#32) = 1#1) : (0 : EReal) ≤ x := by
  have h0 : Ideal.ofBits .f32 0x00000000#32 = 0 := by simp [Ideal.ofBits, Ideal.ieee]
  change Ideal.cmp .oge (x : EReal) (Ideal.ofBits .f32 0x00000000#32) = 1#1 at h
  rw [h0] at h
  by_contra hx
  simp [Ideal.cmp, hx] at h

/-- The precondition read: the modulation's shift and scale, the norm's weight, the input projection's pool and forget columns and the
    lower bound are real numbers, and the lower bound is not negative. -/
theorem read (a0 : FVec Ideal S16x2048x1024 .f32) (a1 : FVec Ideal S16x3072 .f32) (a2 : FVec Ideal S1024 .f32) (a3 : FVec Ideal S1024x6144 .f32)
    (a4 : FVec Ideal S4x256x256 .f32) (a5 a6 : FVec Ideal S1024 .f32) (a7 : FVec Ideal S128 .f32) (a8 : FVec Ideal S2048x1024 .f32) (a9 : FVec Ideal S1024 .f32)
    (h : Cert.Pre_tame.fn (F := Ideal) a0 a1 a2 a3 a4 a5 a6 a7 a8 a9 = fun _ => 1#1) :
    (∀ (b : Fin 16) (c : Fin 2048), ∃ r : ℝ, (a1 (ix2 b ⟨c.val, by omega⟩) : EReal) = r) ∧ (∀ i, ∃ r : ℝ, (a2 i : EReal) = r)
      ∧ (∀ (x c : Fin 1024), ∃ r : ℝ, (a3 (ix2 x ⟨c.val, by omega⟩) : EReal) = r)
      ∧ (∀ (x c : Fin 1024), ∃ r : ℝ, (a3 (ix2 x ⟨3072 + c.val, by omega⟩) : EReal) = r)
      ∧ (∀ i, ∃ r : ℝ, (a6 i : EReal) = r) ∧ ∀ i, (0 : EReal) ≤ a6 i := by
  have h0 := congrFun h ix0
  unfold Cert.Pre_tame.fn Cert.Pre_tame.fn_part1 at h0
  dsimp only at h0
  have h1 : ∀ x y : BitVec 1, IntOp.andi x y = 1#1 → x = 1#1 ∧ y = 1#1 := by decide
  have h2 : ∀ x y : IVec S_ 1, andi x y ix0 = 1#1 → x ix0 = 1#1 ∧ y ix0 = 1#1 := fun x y => h1 _ _
  obtain ⟨h0, p5⟩ := h2 _ _ h0
  obtain ⟨h0, p4⟩ := h2 _ _ h0
  obtain ⟨h0, p3⟩ := h2 _ _ h0
  obtain ⟨h0, p2⟩ := h2 _ _ h0
  obtain ⟨p0, p1⟩ := h2 _ _ h0
  haveI : Subsingleton S_.Idx := ⟨fun x y => funext fun k => k.elim0⟩
  refine ⟨fun b c => ?_, fun i => Cert.Kernel2Ideal.Value.real_of_lt _ (Host.reduce_andi_all _ _ _ _ _ p1 i), fun x c => ?_, fun x c => ?_,
    fun i => Cert.Kernel2Ideal.Value.real_of_lt _ (Host.reduce_andi_all _ _ _ _ _ p4 i), fun i => nonneg_of_ge _ (Host.reduce_andi_all _ _ _ _ _ p5 i)⟩
  · obtain ⟨r, hr⟩ := Cert.Kernel2Ideal.Value.real_of_lt _ (Host.reduce_andi_all _ _ _ _ _ p0 (ix2 b c))
    refine ⟨r, Eq.trans ?_ hr⟩
    pointwise []
  · obtain ⟨r, hr⟩ := Cert.Kernel2Ideal.Value.real_of_lt _ (Host.reduce_andi_all _ _ _ _ _ p2 (ix2 x c))
    refine ⟨r, Eq.trans ?_ hr⟩
    pointwise []
  · obtain ⟨r, hr⟩ := Cert.Kernel2Ideal.Value.real_of_lt _ (Host.reduce_andi_all _ _ _ _ _ p3 (ix2 x c))
    refine ⟨r, Eq.trans ?_ hr⟩
    pointwise []

end Cert.Pre_tame.Hand

namespace Cert.Layer

open Idealize.ShloMosaic

/-- A finite sum of real numbers is a real number. -/
theorem real_sum {n : ℕ} (f : Fin n → EReal) (h : ∀ i, ∃ r : ℝ, f i = r) : ∃ r : ℝ, ∑ i, f i = r := by
  choose g hg using h
  exact ⟨∑ i, g i, by rw [Finset.sum_congr rfl fun i _ => hg i]; exact (Cert.KernelIdeal.Val.coe_sum _ _).symm⟩
/-- A product of real numbers is a real number. -/
theorem real_mul {x y : EReal} (hx : ∃ r : ℝ, x = r) (hy : ∃ r : ℝ, y = r) : ∃ r : ℝ, x * y = r := by
  obtain ⟨p, rfl⟩ := hx
  obtain ⟨q, rfl⟩ := hy
  exact ⟨p * q, (EReal.coe_mul p q).symm⟩
/-- A sum of real numbers is a real number. -/
theorem real_add {x y : EReal} (hx : ∃ r : ℝ, x = r) (hy : ∃ r : ℝ, y = r) : ∃ r : ℝ, x + y = r := by
  obtain ⟨p, rfl⟩ := hx
  obtain ⟨q, rfl⟩ := hy
  exact ⟨p + q, (EReal.coe_add p q).symm⟩

/-- The width is the real number 1024. -/
theorem cD_real : cD = ((1024 : ℝ) : EReal) := by
  unfold cD
  simp [Ideal.ofBits, Ideal.ieee]
  rw [← EReal.coe_mul]
  norm_num
/-- The epsilon is a positive real number. -/
theorem cE_real : ∃ r : ℝ, 0 < r ∧ cE = r := by
  refine ⟨8796093 / 8796093022208, by norm_num, ?_⟩
  unfold cE
  simp [Ideal.ofBits, Ideal.ieee]
  rw [← EReal.coe_mul]
  norm_num

/-- An entry divided by the root mean square of its row, epsilon added, is a real number, whatever the row holds: an infinite entry
    makes the mean infinite, and one over its root zero. -/
theorem real_rms (f : Fin 1024 → EReal) (k : Fin 1024) : ∃ r : ℝ, f k * Ideal.rsqrt (Ideal.div (∑ i, f i * f i) cD + cE) = r := by
  obtain ⟨e, he, hE⟩ := cE_real
  have hq : ∀ x : EReal, 0 ≤ x * x := fun x => by
    induction x using EReal.rec with
    | bot => simp
    | top => simp
    | coe r => exact_mod_cast mul_self_nonneg r
  by_cases h : ∀ i, ∃ r : ℝ, f i = r
  · choose g hg using h
    have hs : ∑ i, f i * f i = ((∑ i, g i * g i : ℝ) : EReal) := by
      rw [Cert.KernelIdeal.Val.coe_sum]
      exact Finset.sum_congr rfl fun i _ => by rw [hg, EReal.coe_mul]
    have hp : 0 < (∑ i, g i * g i) * (1 / 1024) + e := by
      have : 0 ≤ ∑ i, g i * g i := Finset.sum_nonneg fun i _ => mul_self_nonneg _
      positivity
    refine ⟨g k * (Real.sqrt ((∑ i, g i * g i) * (1 / 1024) + e))⁻¹, ?_⟩
    rw [hs, cD_real, Ideal.div_coe (by norm_num), hE, ← EReal.coe_mul, ← EReal.coe_add, Ideal.rsqrt_coe, if_neg (not_lt.mpr hp.le), if_neg hp.ne', hg k,
      ← EReal.coe_mul]
  · push Not at h
    obtain ⟨i, hi⟩ := h
    have ht : f i * f i = ⊤ := by
      generalize f i = x at hi
      induction x using EReal.rec with
      | bot => simp
      | top => simp
      | coe r => exact absurd rfl (hi r)
    have hs : ∑ i, f i * f i = ⊤ := top_le_iff.mp (ht ▸ Finset.single_le_sum (f := fun i => f i * f i) (fun j _ => hq (f j)) (Finset.mem_univ i))
    refine ⟨0, ?_⟩
    rw [hs, cD_real, Ideal.div_coe (by norm_num), EReal.top_mul_coe_of_pos (by norm_num), hE, EReal.top_add_coe]
    exact mul_zero _

variable (A : Args) (hm : ∀ (b : Fin 16) (c : Fin 2048), ∃ r : ℝ, A.md b ⟨c.val, by omega⟩ = r) (hn : ∀ c, ∃ r : ℝ, A.np c = r)
  (hl : ∀ c, ∃ r : ℝ, A.lo c = r) (hl0 : ∀ c, 0 ≤ A.lo c)

include hm hn in
/-- A column of the projection is a real number. -/
theorem zM_real (b : Fin 16) (s : Fin 2048) (n : Fin 6144) (hw : ∀ x, ∃ r : ℝ, A.wi x n = r) : ∃ r : ℝ, zM A b s n = r :=
  real_sum _ fun x => real_mul (real_add (real_mul (real_mul (real_rms (A.x b s) x) (hn x))
    (real_add ⟨1, rfl⟩ (hm b ⟨1024 + x.val, by omega⟩))) (hm b ⟨x.val, by omega⟩)) (hw x)

include hm hn hl hl0 in
/-- The logarithm of the forget gate is a real number. -/
theorem lfM_real (b : Fin 16) (s : Fin 2048) (c : Fin 1024) (hw : ∀ x, ∃ r : ℝ, A.wi x (part 3 c) = r) : ∃ r : ℝ, lfM A b s c = r := by
  obtain ⟨z, hz⟩ := zM_real A hm hn b s (part 3 c) hw
  obtain ⟨l, hL⟩ := hl c
  have l0 : 0 ≤ l := by
    have := hl0 c
    rw [hL] at this
    exact_mod_cast this
  have hd : (1 + Real.exp (-z) : ℝ) ≠ 0 := by positivity
  have hf : fM A b s c = ((l + (1 - l) * (1 / (1 + Real.exp (-z))) : ℝ) : EReal) := by
    unfold fM
    rw [hz, hL, ← EReal.coe_neg, Ideal.exp_coe, ← EReal.coe_one, ← EReal.coe_add, Ideal.div_coe hd, EReal.coe_one, one_mul, ← EReal.coe_one,
      ← EReal.coe_sub, ← EReal.coe_mul, ← EReal.coe_add]
  have hp : 0 < l + (1 - l) * (1 / (1 + Real.exp (-z))) := by
    have e : l + (1 - l) * (1 / (1 + Real.exp (-z))) = (l * Real.exp (-z) + 1) / (1 + Real.exp (-z)) := by
      field_simp
      ring
    rw [e]
    have := Real.exp_pos (-z)
    positivity
  exact ⟨_, by rw [lfM, hf, Ideal.log_coe, if_neg (not_le.mpr hp)]⟩

end Cert.Layer

end
-- ==== Proof.RefLoop.lean ====
/- The reference's loop read at an index. -/
module

public import proofs.«01_k».proof.Proof.RefRead

@[expose] public section

set_option maxRecDepth 16384

noncomputable section

namespace Cert.Layer

open Idealize.ShloMosaic Idealize.ShloMosaic.TcCoe Cert.ReferenceIdeal Cert.ReferenceIdeal.Gen Cert.ReferenceIdeal.Step

/-- A chunk's slice starts at the chunk. -/
theorem start0 : ∀ n : Fin 32, (Scalar.select (IntOp.cmpi .slt (BitVec.ofNat 32 n.val) 0#32) (IntOp.addi (BitVec.ofNat 32 n.val) 32#32) (BitVec.ofNat 32 n.val)).toInt = (n.val : ℤ) := by
  decide +kernel

/-- A slice of one chunk at the given start, read at an index. -/
theorem slice_gen (x : FVec Ideal S32x16x8x64x128 .f32) (st : Fin 5 → Int) (n : Fin 32) (b : Fin 16) (g : Fin 8) (r : Fin 64) (d : Fin 128)
    (h0 : st 0 = (n.val : ℤ)) (h1 : st 1 = ((0 : ℕ) : ℤ)) (h2 : st 2 = ((0 : ℕ) : ℤ)) (h3 : st 3 = ((0 : ℕ) : ℤ)) (h4 : st 4 = ((0 : ℕ) : ℤ)) :
    shapeCast S16x8x64x128 (Host.dynamicSlice S1x16x8x64x128 x st sliceFits_S32x16x8x64x128_S1x16x8x64x128)
      shapeCasts_S1x16x8x64x128_S16x8x64x128 (ix4 b g r d) = x (ix5 n b g r d) := by
  pointwise []
  refine congrArg x (ix5_ext ?_ ?_ ?_ ?_ ?_)
  · exact Host.clampedStart_of_le (s := S32x16x8x64x128) (t := S1x16x8x64x128) rfl st 0 n.val h0
      (le_trans (Nat.add_le_add_left (show S1x16x8x64x128.size (Fin.cast rfl 0) ≤ 1 by decide) n.val) n.isLt)
  · exact (congrArg (· + b.val) (Host.clampedStart_of_le _ _ _ 0 h1 (by decide))).trans (Nat.zero_add _)
  · exact (congrArg (· + g.val) (Host.clampedStart_of_le _ _ _ 0 h2 (by decide))).trans (Nat.zero_add _)
  · exact (congrArg (· + r.val) (Host.clampedStart_of_le _ _ _ 0 h3 (by decide))).trans (Nat.zero_add _)
  · exact (congrArg (· + d.val) (Host.clampedStart_of_le _ _ _ 0 h4 (by decide))).trans (Nat.zero_add _)

/-- The slice that the loop takes of its chunked arrays. -/
theorem r_slice (x : FVec Ideal S32x16x8x64x128 .f32) (n : Fin 32) (s : State Ideal) (b : Fin 16) (g : Fin 8) (r : Fin 64) (d : Fin 128) :
    shapeCast S16x8x64x128 (Host.dynamicSlice S1x16x8x64x128 x (fun k => (((![(b7 n.val s), (b8 n.val s), (b9 n.val s), (b10 n.val s), (b11 n.val s)] : Fin 5 → IVec S_ 32)) k (Shape.Idx.first h_S_)).toInt) sliceFits_S32x16x8x64x128_S1x16x8x64x128)
      shapeCasts_S1x16x8x64x128_S16x8x64x128 (ix4 b g r d) = x (ix5 n b g r d) := by
  refine slice_gen x _ n b g r d ?_ ?_ ?_ ?_ ?_
  · refine Eq.trans (congrArg BitVec.toInt ?_) (start0 n)
    show b7 n.val s (Shape.Idx.first h_S_) = _
    unfold b7 b6 b5 b4 b3 b2
    rfl
  all_goals rfl

variable (a0 : FVec Ideal S16x2048x1024 .f32) (a1 : FVec Ideal S16x3072 .f32) (a2 : FVec Ideal S1024 .f32) (a3 : FVec Ideal S1024x6144 .f32) (a4 : FVec Ideal S4x256x256 .f32) (a5 a6 : FVec Ideal S1024 .f32)
  (a7 : FVec Ideal S128 .f32) (a8 : FVec Ideal S2048x1024 .f32) (a9 : FVec Ideal S1024 .f32)

local notation "AA" => argsOf a0 a1 a2 a3 a4 a5 a6 a7 a8 a9

variable (hz : ∀ b s c, ∃ r : ℝ, zM (argsOf a0 a1 a2 a3 a4 a5 a6 a7 a8 a9) b s (part 0 c) = r)

include hz in
/-- The four pool groups side by side. -/
theorem r_avg (b : Fin 16) (s : Fin 2048) (q : Fin 4) (e : Fin 256) : A_main_v99 (F := Ideal) a0 a1 a2 a3 a4 a5 a6 (ix4 b s q e) = avM AA b s q e := by
  match q with
  | 0 => pointwise [A_main_v99, A_main_v95]; exact r_pool0 (hz := hz) ..
  | 1 => pointwise [A_main_v99, A_main_v96]; exact r_pool1 (hz := hz) ..
  | 2 => pointwise [A_main_v99, A_main_v97]; exact r_pool2 (hz := hz) ..
  | 3 => pointwise [A_main_v99, A_main_v98]; exact r_pool3 (hz := hz) ..

/-- The pool's output before its gate. -/
def pgM (A : Args) (b : Fin 16) (s : Fin 2048) (c : Fin 1024) : EReal :=
  (∑ x : Fin 256, A.pw ⟨c.val / 256, by omega⟩ x ⟨c.val % 256, by omega⟩ * avM A b s ⟨c.val / 256, by omega⟩ x) * A.ps c

include hz in
/-- The pool's product with its weights, scaled. -/
theorem r_pg (b : Fin 16) (s : Fin 2048) (c : Fin 1024) : A_main_v105 (F := Ideal) a0 a1 a2 a3 a4 a5 a6 (ix3 b s c) = pgM AA b s c := by
  pointwise [A_main_v105, A_main_v104, A_main_v103, A_main_v102, A_main_v101, A_main_v100]
  refine congrArg (fun z : EReal => z * a5 (ix1 c)) (Finset.sum_congr rfl fun x _ => congrArg (fun z : EReal => a4 (ix3 ⟨c.val / 256, by omega⟩ x ⟨c.val % 256, by omega⟩) * z) ?_)
  exact r_avg (hz := hz) ..

include hz in
/-- The pool in chunks and heads. -/
theorem r_p (n : Fin 32) (b : Fin 16) (g : Fin 8) (r : Fin 64) (d : Fin 128) : A_main_v128 (F := Ideal) a0 a1 a2 a3 a4 a5 a6 (ix5 n b g r d) = pgM AA b (row n r) (col g d) := by
  pointwise [A_main_v128, A_main_v127, A_main_v106]
  exact r_pg (hz := hz) ..

/-- The causal comparison of two row numbers. -/
theorem mask_le' : ∀ r j : Fin 64, IntOp.cmpi .sge (BitVec.ofNat 32 r.val) (BitVec.ofNat 32 j.val) = if j ≤ r then 1#1 else 0#1 := by
  decide +kernel
/-- A choice by the causal comparison. -/
theorem mask_le (r j : Fin 64) (u v : EReal) : Scalar.select (IntOp.cmpi .sge (BitVec.ofNat 32 r.val) (BitVec.ofNat 32 j.val)) u v = if j ≤ r then u else v := by
  rw [mask_le']; split <;> rfl
/-- The masking constant is minus infinity. -/
theorem ofBits_neg_inf : Ideal.ofBits .f32 4286578688#32 = ⊥ := by
  simp [Ideal.ofBits, Ideal.ieee, BitVec.toNat]
/-- The comparison of two chunk numbers. -/
theorem mask_eq' : ∀ m n : Fin 32, IntOp.cmpi .eq (BitVec.ofNat 32 m.val) (BitVec.ofNat 32 n.val) = if m = n then 1#1 else 0#1 := by
  decide +kernel
/-- Writing the chunk with the loop's number extends what is written by that chunk. -/
theorem mask_eq (m n : Fin 32) (u : Fin 32 → EReal) : Scalar.select (IntOp.cmpi .eq (BitVec.ofNat 32 m.val) (BitVec.ofNat 32 n.val)) (u n) (if m.val < n.val then u m else 0)
    = if m.val < n.val + 1 then u m else 0 := by
  rw [mask_eq']
  by_cases h : m = n
  · subst h; rw [if_pos rfl, if_pos (Nat.lt_succ_self _)]; rfl
  · rw [if_neg h]
    have h' : m.val ≠ n.val := fun e => h (Fin.ext e)
    show (if m.val < n.val then u m else 0) = _
    by_cases h2 : m.val < n.val
    · rw [if_pos h2, if_pos (by omega)]
    · rw [if_neg h2, if_neg (by omega)]

/-- The loop's state before trip `n`. -/
structure Inv (n : ℕ) (S : State Ideal) : Prop where
  i0 : S.main_v135_0 = A_main_v118 a0 a1 a2 a3 a4 a5 a6
  i1 : S.main_v135_1 = A_main_v120 a0 a1 a2 a3 a4 a5 a6
  i2 : S.main_v135_2 = A_main_v122 a0 a1 a2 a3 a4 a5 a6
  i3 : S.main_v135_3 = A_main_v124 a0 a1 a2 a3 a4 a5 a6
  i4 : S.main_v135_4 = A_main_v126 a0 a1 a2 a3 a4 a5 a6
  i5 : S.main_v135_5 = A_main_v128 a0 a1 a2 a3 a4 a5 a6
  i6 : S.main_v135_6 = A_main_v130 a0 a1 a2 a3 a4 a5 a6
  i8 : ∀ d : Fin 128, S.main_v135_8 (ix1 d) = a7 (ix1 d)
  i12 : ∀ b g a d, S.main_v135_12 (ix4 b g a d) = stM AA b n g a d
  i13 : ∀ (m : Fin 32) b g r d, S.main_v135_13 (ix5 m b g r d) = if m.val < n then ohM AA b m g r d else 0
  i14 : ∀ (m : Fin 32) b g r d, S.main_v135_14 (ix5 m b g r d) = if m.val < n then plM AA b (row m r) (col g d) else 0

/-- The invariant holds before the loop. -/
theorem inv_init : Inv a0 a1 a2 a3 a4 a5 a6 a7 a8 a9 0 (init (F := Ideal) a7 a0 a1 a2 a3 a4 a5 a6) where
  i0 := rfl
  i1 := rfl
  i2 := rfl
  i3 := rfl
  i4 := rfl
  i5 := rfl
  i6 := rfl
  i8 d := rfl
  i12 b g a d := by pointwise [init, K_main_v133, K_main_cst_15]; rfl
  i13 m b g r d := by pointwise [init, K_main_v134, K_main_cst_16]; exact (if_neg (Nat.not_lt_zero _)).symm
  i14 m b g r d := by pointwise [init, K_main_v134, K_main_cst_16]; exact (if_neg (Nat.not_lt_zero _)).symm

section
variable {n : Fin 32} {S : State Ideal} (I : Inv a0 a1 a2 a3 a4 a5 a6 a7 a8 a9 n.val S)
include I

/-- The chunk's queries. -/
theorem t_q (b g r d) : b13 n.val S (ix4 b g r d) = zM AA b (row n r) (part 2 (col g d)) :=
  (r_slice S.main_v135_0 n S b g r d).trans (by rw [I.i0]; exact r_q ..)
/-- The logarithms of the chunk's forget gate. -/
theorem t_lf (b g r d) : b25 n.val S (ix4 b g r d) = lfM AA b (row n r) (col g d) :=
  (r_slice S.main_v135_1 n S b g r d).trans (by rw [I.i1]; exact r_lf ..)
/-- The chunk's keys. -/
theorem t_k (b g r d) : b37 n.val S (ix4 b g r d) = 1 - fM AA b (row n r) (col g d) :=
  (r_slice S.main_v135_2 n S b g r d).trans (by rw [I.i2]; exact r_k ..)
/-- The chunk's values. -/
theorem t_v (b g r d) : b49 n.val S (ix4 b g r d) = zM AA b (row n r) (part 4 (col g d)) :=
  (r_slice S.main_v135_3 n S b g r d).trans (by rw [I.i3]; exact r_v ..)
/-- The chunk's output gate. -/
theorem t_g (b g r d) : b61 n.val S (ix4 b g r d) = zM AA b (row n r) (part 5 (col g d)) :=
  (r_slice S.main_v135_4 n S b g r d).trans (by rw [I.i4]; exact r_g ..)
include hz in
/-- The chunk's pool. -/
theorem t_p (b g r d) : b73 n.val S (ix4 b g r d) = pgM AA b (row n r) (col g d) :=
  (r_slice S.main_v135_5 n S b g r d).trans (by rw [I.i5]; exact r_p (hz := hz) ..)
/-- The chunk's pool gate. -/
theorem t_gp (b g r d) : b85 n.val S (ix4 b g r d) = zM AA b (row n r) (part 1 (col g d)) :=
  (r_slice S.main_v135_6 n S b g r d).trans (by rw [I.i6]; exact r_gp ..)

/-- The chunk's running sums. -/
theorem t_b (b g r d) : b88 n.val S (ix4 b g r d) = bM AA b n r (col g d) := by
  unfold b88
  refine (cumsum_chunk _ _ ?_ _ _ b g r d).trans (Finset.sum_congr rfl fun i _ => ?_)
  · intro i
    pointwise [b86, b87]
  · exact if_congr Iff.rfl (t_lf (I := I) ..) rfl

/-- The state behind the chunk. -/
theorem t_st (b g a d) : b124 n.val S (ix4 b g a d) = stM AA b (n.val + 1) g a d := by
  pointwise [b124, b123, b122, b121, b120, b119, b118, b117, b116, b115, b114, b113, b112]
  rw [I.i12, stM, dif_pos n.isLt, t_b (I := I)]
  refine congrArg (fun z : EReal => Ideal.exp (bM AA b n 63 (col g a)) * stM AA b n.val g a d + z) (Finset.sum_congr rfl fun x _ => ?_)
  rw [t_b (I := I), t_k (I := I), t_v (I := I)]

/-- The attention inside the chunk, times the values. -/
theorem t_at (b g r d) : b111 n.val S (ix4 b g r d) = ∑ j : Fin 64, atM AA b n g r j * zM AA b (row n j) (part 4 (col g d)) := by
  pointwise [b92, b93, b94, b95, b96, b97, b98, b99, b100, b101, b102, b103, b104, b105, b106, b107, b108, b109, b110, b111, K_main_v109, K_main_v110, K_main_v111, K_main_v112, K_main_v113, K_main_v114, K_main_v115, K_main_v116]
  refine Finset.sum_congr rfl fun j _ => ?_
  rw [t_v (I := I), atM]
  refine congrArg (fun z : EReal => z * zM AA b (row n j) (part 4 (col g d))) ?_
  by_cases h : j ≤ r
  · rw [if_pos h]
    refine Finset.sum_congr rfl fun x _ => ?_
    rw [t_q (I := I), t_k (I := I), t_b (I := I), t_b (I := I)]
    rw [mask_le, if_pos h]
  · rw [if_neg h]
    refine Finset.sum_eq_zero fun x _ => ?_
    rw [mask_le, if_neg h]
    refine Eq.trans (congrArg (fun z : EReal => _ * Ideal.exp z) (show _ = (⊥ : EReal) from ofBits_neg_inf)) ?_
    rw [Ideal.exp_bot, mul_zero]

/-- The chunk's output before its norm. -/
theorem t_o (b g r d) : b125 n.val S (ix4 b g r d) = oM AA b n g r d := by
  pointwise [b125, b91, b90, b89]
  rw [t_at (I := I), oM]
  refine congrArg (fun z : EReal => z + _) (Finset.sum_congr rfl fun x _ => ?_)
  rw [t_q (I := I), t_b (I := I), I.i12]

/-- The chunk's output. -/
theorem t_oh (b g r d) : b151 n.val S (ix4 b g r d) = ohM AA b n g r d := by
  pointwise [b126, b127, b128, b129, b130, b131, b132, b133, b134, b135, b136, b137, b138, b139, b140, b141, b142, b143, b144, b145, b146, b147, b148, b149, b150, b151]
  simp only [t_o (I := I), t_g (I := I), I.i8]
  rfl

include hz in
/-- The chunk's gated pool. -/
theorem t_pl (b g r d) : b161 n.val S (ix4 b g r d) = plM AA b (row n r) (col g d) := by
  pointwise [b152, b153, b154, b155, b156, b157, b158, b159, b160, b161]
  rw [t_p (I := I) (hz := hz), t_gp (I := I)]
  rfl

/-- The outputs written so far. -/
theorem t_13 (m : Fin 32) (b g r d) : b168 n.val S (ix5 m b g r d) = if m.val < n.val + 1 then ohM AA b m g r d else 0 := by
  pointwise [b162, b163, b164, b165, b166, b167, b168, K_main_c_17, K_main_v131, K_main_v132]
  rw [t_oh (I := I), I.i13]
  exact mask_eq m n (fun m => ohM AA b m g r d)

include hz in
/-- The gated pool rows written so far. -/
theorem t_14 (m : Fin 32) (b g r d) : b175 n.val S (ix5 m b g r d) = if m.val < n.val + 1 then plM AA b (row m r) (col g d) else 0 := by
  pointwise [b169, b170, b171, b172, b173, b174, b175, K_main_c_18, K_main_v131, K_main_v132]
  rw [t_pl (I := I) (hz := hz), I.i14]
  exact mask_eq m n (fun m => plM AA b (row m r) (col g d))

include hz in
/-- A step of the loop keeps the invariant. -/
theorem inv_step : Inv a0 a1 a2 a3 a4 a5 a6 a7 a8 a9 (n.val + 1) (step n.val S) where
  i0 := I.i0
  i1 := I.i1
  i2 := I.i2
  i3 := I.i3
  i4 := I.i4
  i5 := I.i5
  i6 := I.i6
  i8 := I.i8
  i12 := fun b g a d => t_st (I := I) ..
  i13 := fun m b g r d => t_13 (I := I) ..
  i14 := fun m b g r d => t_14 (I := I) (hz := hz) ..

end

include hz in
/-- The invariant holds before each step and behind the last. -/
theorem inv_iter (it : ℕ → State Ideal) (h0 : it 0 = init (F := Ideal) a7 a0 a1 a2 a3 a4 a5 a6) (hs : ∀ n, it (n + 1) = step n (it n)) :
    ∀ n, n ≤ 32 → Inv a0 a1 a2 a3 a4 a5 a6 a7 a8 a9 n (it n)
  | 0, _ => by rw [h0]; exact inv_init ..
  | n + 1, h => by
    rw [hs]
    exact inv_step (n := ⟨n, by omega⟩) (hz := hz) (I := inv_iter it h0 hs n (by omega)) ..

include hz in
/-- The reference's result is the model's. -/
theorem ref_read {S : State Ideal} (I : Inv a0 a1 a2 a3 a4 a5 a6 a7 a8 a9 32 S) (b : Fin 16) (s : Fin 2048) (c : Fin 1024) :
    R_main_v159 S a0 a1 a8 a9 (ix3 b s c) = outM AA b s c := by
  have h13 : ∀ (m : Fin 32) b g r d, S.main_v135_13 (ix5 m b g r d) = ohM AA b m g r d := fun m b g r d => (I.i13 m b g r d).trans (if_pos m.isLt)
  have h14 : ∀ (x : Fin 1024), S.main_v135_14 (ix5 ⟨s.val / 64, by omega⟩ b ⟨x.val / 128, by omega⟩ ⟨s.val % 64, by omega⟩ ⟨x.val % 128, by omega⟩) = plM AA b s x := by
    intro x
    rw [I.i14, if_pos (by show s.val / 64 < 32; omega)]
    exact congrArg₂ (plM AA b) (Fin.ext (by show s.val / 64 * 64 + s.val % 64 = s.val; omega)) (Fin.ext (by show x.val / 128 * 128 + x.val % 128 = x.val; omega))
  pointwise [R_main_v159]
  simp only [h13, h14]
  rfl

end Cert.Layer

end
-- ==== Proof.ChunkHead.lean ====
/- A block's heads: the loop over its chunks computes the model's states and head outputs. -/
module

public import proofs.«01_k».proof.Proof.ChunkAlg

@[expose] public section

set_option maxRecDepth 16384

noncomputable section

namespace Cert.KernelIdeal.Val

open Idealize.ShloMosaic Idealize.ShloMosaic.TcCoe Cert.KernelIdeal Cert.KernelIdeal.Gen

/-- Row `ρ` of block `s` of a sequence. -/
def prow (s : Fin 8) (ρ : Fin 256) : Fin 2048 := ⟨256 * s.val + ρ.val, by omega⟩
/-- Chunk `k` of block `s`. -/
def nch (s : Fin 8) (k : Fin k0_t1_loop.trips) : Fin 32 := ⟨4 * s.val + k.val, by have := k.isLt; have := trips_eq; omega⟩

/-- A chunk's row as a row of its block. -/
theorem row_eq (s : Fin 8) (k : Fin k0_t1_loop.trips) (r : Fin 64) : Layer.row (nch s k) r = prow s (rw64 k r) :=
  Fin.ext (by show (4 * s.val + k.val) * 64 + r.val = 256 * s.val + (64 * k.val + r.val); omega)
/-- The two ways of naming a head's column. -/
theorem col_eq (g : Fin 8) (d : Fin 128) : Layer.col g d = hc g d := Fin.ext (by show g.val * 128 + d.val = 128 * g.val + d.val; omega)

/-- The nested choice by level picks the sum of its level. -/
theorem attn_sel (E : FVec Ideal S512x1024 .f32) (lvl : Vec Ideal S64x64 .i32) (Q K : Vec Ideal S256x1024 .f32) (k : Fin k0_t1_loop.trips) (hd : Fin 8) (r j : Fin 64)
    (q : Fin 8) (hq : 2 ≤ q.val) (h : lvl (ix2 r j) = BitVec.ofNat 32 (q.val - 1)) : attnI E lvl Q K k hd r j = lev E Q K k hd q r j := by
  unfold attnI
  rw [h]
  match q, hq with
  | 2, _ => rfl
  | 3, _ => rfl
  | 4, _ => rfl
  | 5, _ => rfl
  | 6, _ => rfl
  | 7, _ => rfl

section
variable (A : Layer.Args) (b : Fin 16) (s : Fin 8) (W : Vec Ideal S512x192 .bf16) (lvl : Vec Ideal S64x64 .i32) (hnw : Vec Ideal S1x128 .f32)
  (Q L K V G : Vec Ideal S256x1024 .f32) (S0 : Vec Ideal S8x128x128 .f32)
  (hW : ∀ (q : Fin 8) (t : Fin 64) (x : Fin 192), W (ix2 (es q t) x) = if wlo q.val t.val ≤ x.val % 64 ∧ x.val % 64 < whi q.val t.val then (1 : EReal) else 0)
  (hlf : ∀ t c, ∃ r : ℝ, Layer.lfM A b t c = r)
  (hL : ∀ ρ c, L (ix2 ρ c) = Layer.lfM A b (prow s ρ) c)
  (hQ : ∀ ρ c, Q (ix2 ρ c) = Layer.zM A b (prow s ρ) (Layer.part 2 c))
  (hK : ∀ ρ c, K (ix2 ρ c) = 1 - Layer.fM A b (prow s ρ) c)
  (hV : ∀ ρ c, V (ix2 ρ c) = Layer.zM A b (prow s ρ) (Layer.part 4 c))
  (hG : ∀ ρ c, G (ix2 ρ c) = Layer.zM A b (prow s ρ) (Layer.part 5 c))
  (hlvl : ∀ r j, lvl (ix2 r j) = lvlF r.val j.val)
  (hS0 : ∀ g a d, S0 (ix3 g a d) = Layer.stM A b (4 * s.val) g a d)
  (hhn : ∀ d, hnw (ix2 0 d) = A.hn d)

include hW hlf hL hQ hK hlvl in
/-- The attention inside a chunk is the model's. -/
theorem attn_read (k : Fin k0_t1_loop.trips) (hd : Fin 8) (r j : Fin 64) : attnI (chunkE W L k) lvl Q K k hd r j = Layer.atM A b (nch s k) hd r j := by
  rw [Layer.atM]
  obtain ⟨h, e⟩ | ⟨h, e⟩ | ⟨q, hq, h, e, h1, h2, h3⟩ := lvl_cases r j
  · rw [if_neg (not_le.mpr h), attnI, hlvl, e]; rfl
  · subst h
    rw [if_pos le_rfl, attnI, hlvl, e]
    refine Eq.trans (b := ∑ x : Fin 128, Q (ix2 (rw64 k r) (hc hd x)) * K (ix2 (rw64 k r) (hc hd x))) rfl ?_
    refine Finset.sum_congr rfl fun x _ => ?_
    rw [e_diag A b (nch s k) W L k (Layer.col hd x) hW (fun j => hlf _ _) (fun j => by rw [hL, row_eq]) r, mul_one, hQ, hK, row_eq, col_eq]
  · rw [if_pos h.le, attn_sel _ _ _ _ k hd r j q hq ((hlvl r j).trans e), lev]
    refine Finset.sum_congr rfl fun x _ => ?_
    rw [mul_mul_mul_comm, e_pair A b (nch s k) W L k (hc hd x) hW (fun j => hlf _ _) (fun j => by rw [hL, row_eq]) q r j h1 h2 h3, hQ, hK, row_eq, row_eq, col_eq]

include hW hlf hL hK hV hS0 in
/-- The state before each chunk of the block is the model's. -/
theorem st_read : ∀ n, n ≤ 4 → ∀ g a d, stS W L K V S0 n (ix3 g a d) = Layer.stM A b (4 * s.val + n) g a d
  | 0, _, g, a, d => hS0 g a d
  | n + 1, hn, g, a, d => by
    have hk : n < k0_t1_loop.trips := by have := trips_eq; omega
    have hn' : 4 * s.val + n < 32 := by omega
    have hl : ∀ c j, L (ix2 (rw64 ⟨n, hk⟩ j) c) = Layer.lfM A b (Layer.row (nch s ⟨n, hk⟩) j) c := fun c j => by rw [hL, row_eq]
    rw [stS, dif_pos hk, ← Nat.add_assoc, Layer.stM, dif_pos hn']
    show sNew (chunkE W L ⟨n, hk⟩) K V (stS W L K V S0 n) ⟨n, hk⟩ g a d = _
    rw [sNew, st_read n (by omega), e_0 A b (nch s ⟨n, hk⟩) W L ⟨n, hk⟩ (hc g a) hW (fun j => hlf _ _) (hl _) 63, mul_comm, ← col_eq]
    refine congrArg₂ (fun x y : EReal => x + y) rfl (Finset.sum_congr rfl fun x _ => ?_)
    rw [e_1 A b (nch s ⟨n, hk⟩) W L ⟨n, hk⟩ (Layer.col g a) hW (fun j => hlf _ _) (hl _) x, hK, hV, ← row_eq, ← col_eq]
    rfl

include hW hlf hL hQ hK hV hG hlvl hS0 hhn in
/-- The loop's head outputs are the model's. -/
theorem head_read (k : Fin k0_t1_loop.trips) (hd : Fin 8) (r : Fin 64) (d : Fin 128) :
    oNew (chunkE W L k) hnw lvl Q K V G (stS W L K V S0 k.val) k hd r d = Layer.ohM A b (nch s k) hd r d := by
  have ho : oRaw (chunkE W L k) lvl Q K V (stS W L K V S0 k.val) k hd r = Layer.oM A b (nch s k) hd r := by
    funext d
    rw [oRaw, Layer.oM]
    refine congrArg₂ (fun x y : EReal => x + y) (Finset.sum_congr rfl fun x _ => ?_) (Finset.sum_congr rfl fun j _ => ?_)
    · rw [e_0 A b (nch s k) W L k (hc hd x) hW (fun j => hlf _ _) (fun j => by rw [hL, row_eq]) r, hQ, row_eq, col_eq,
        st_read A b s W L K V S0 hW hlf hL hK hV hS0 k.val (by have := k.isLt; have := trips_eq; omega)]
      rfl
    · rw [attn_read A b s W lvl Q L K hW hlf hL hQ hK hlvl, hV, row_eq, col_eq]
  rw [oNew, ho, Layer.ohM, normGate, Layer.normGate, hhn, hG, row_eq, col_eq, Layer.silu, zero_sub]
  rfl
end

end Cert.KernelIdeal.Val

end
-- ==== Proof.Point.lean ====
/- A grid point's straight-line code: the values the kernel names, read at an index, are the model's. -/
module

public import proofs.«01_k».proof.Proof.ChunkHead
public import proofs.«01_k».proof.Proof.RefRead

@[expose] public section

set_option maxRecDepth 16384

noncomputable section

namespace Cert.KernelIdeal.Val

open Idealize.ShloMosaic Idealize.ShloMosaic.TcCoe Cert.KernelIdeal Cert.KernelIdeal.Gen

/-- A matrix from its entries. -/
theorem vec2 {m n : ℕ} {α : Type} (v : Shape.Idx ⟨2, ![m, n]⟩ → α) (f : Fin m → Fin n → α) (h : ∀ a b, v (ix2 a b) = f a b) :
    v = fun i => f (show Fin m from i 0) (show Fin n from i 1) := funext fun i => by
  obtain ⟨a, b, rfl⟩ : ∃ a b, i = ix2 a b := ⟨i 0, i 1, by funext q; match q with | 0 => rfl | 1 => rfl⟩
  exact h a b
/-- An array of rank three from its entries. -/
theorem vec3 {l m n : ℕ} {α : Type} (v : Shape.Idx ⟨3, ![l, m, n]⟩ → α) (f : Fin l → Fin m → Fin n → α) (h : ∀ a b c, v (ix3 a b c) = f a b c) :
    v = fun i => f (show Fin l from i 0) (show Fin m from i 1) (show Fin n from i 2) := funext fun i => by
  obtain ⟨a, b, c, rfl⟩ : ∃ a b c, i = ix3 a b c := ⟨i 0, i 1, i 2, by funext q; match q with | 0 => rfl | 1 => rfl | 2 => rfl⟩
  exact h a b c

/-- A load through a unit-stride rectangle, at an index. -/
theorem rd {sig' : RefSig} {κ : Kind} {sp : Space} {S : Shape} {e : EltTy} (v : View sig' κ sp S e) (f : v.ty.Contents (Elt Ideal)) (X : S.Idx → Elt Ideal e)
    (hf : v.read (Elt Ideal) f = X) (off size : Fin S.rank → ℕ) (inb) (x : (Rect.unit off size inb).shape.Idx) (i : S.Idx) (hi : ∀ a, (i a : ℕ) = off a + x a) :
    View.readAt (Elt Ideal) v (Rect.unit off size inb).toLoadRect f x = X i := by
  subst hf; exact View.ld_unit_apply_of _ off size inb x i hi

variable (A : Layer.Args) (b : Fin 16) (s : Fin 8)

/-- A pool column `d` rows up. -/
def uD (d : ℕ) (q : Fin 4) (ρ e : Fin 256) : EReal := if d ≤ (prow s ρ).val then Layer.uN A b (Layer.pcol q e) ((prow s ρ).val - d) else 0
/-- The pool's output before its scale. -/
def avP (q : Fin 4) (ρ e : Fin 256) : EReal := ∑ x : Fin 256, A.pw q x e * Layer.avM A b (prow s ρ) q x

/-- No rows up: the entry itself. -/
theorem uD_zero (q : Fin 4) (ρ e : Fin 256) : uD A b s 0 q ρ e = Layer.zM A b (prow s ρ) (Layer.part 0 (Layer.pcol q e)) := by
  rw [uD, if_pos (Nat.zero_le _), Nat.sub_zero, Layer.uN, dif_pos (prow s ρ).isLt]

set_option maxHeartbeats 4000000 in
/-- The kernel's count of rows in a pool's window. -/
theorem den_bits : ∀ (s : Fin 8) (ρ : Fin 256),
    (IntOp.minsi (IntOp.addi (IntOp.addi (Scalar.muli (BitVec.ofNat 32 s.val) 256#32) (BitVec.ofNat 32 ρ.val)) 1#32) 2#32 = BitVec.ofNat 32 (min (256 * s.val + ρ.val + 1) 2))
    ∧ (IntOp.minsi (IntOp.addi (IntOp.addi (Scalar.muli (BitVec.ofNat 32 s.val) 256#32) (BitVec.ofNat 32 ρ.val)) 1#32) 4#32 = BitVec.ofNat 32 (min (256 * s.val + ρ.val + 1) 4))
    ∧ (IntOp.minsi (IntOp.addi (IntOp.addi (Scalar.muli (BitVec.ofNat 32 s.val) 256#32) (BitVec.ofNat 32 ρ.val)) 1#32) 8#32 = BitVec.ofNat 32 (min (256 * s.val + ρ.val + 1) 8))
    ∧ (IntOp.minsi (IntOp.addi (IntOp.addi (Scalar.muli (BitVec.ofNat 32 s.val) 256#32) (BitVec.ofNat 32 ρ.val)) 1#32) 16#32 = BitVec.ofNat 32 (min (256 * s.val + ρ.val + 1) 16)) := by
  decide +kernel

/-- The count of rows in pool 0's window, as an extended real. -/
theorem den_0 (ρ : Fin 256) : (FloatOps.sitofp (F := Ideal) .f32 (IntOp.minsi (IntOp.addi (IntOp.addi (Scalar.muli (BitVec.ofNat 32 s.val) 256#32) (BitVec.ofNat 32 ρ.val)) 1#32) 2#32) : EReal)
    = (((min ((prow s ρ).val + 1) (Layer.pwin 0) : ℕ) : ℝ) : EReal) := by
  rw [(den_bits s ρ).1]
  exact Layer.sitofp_nat _ (lt_of_le_of_lt (Nat.min_le_right _ _) (by decide))

/-- The trailing mean of pool 0, written out. -/
theorem avg_0 (ρ x : Fin 256) : Layer.avM A b (prow s ρ) 0 x
    = Ideal.div ((uD A b s 0 0 ρ x + uD A b s 1 0 ρ x))
        (FloatOps.sitofp (F := Ideal) .f32 (IntOp.minsi (IntOp.addi (IntOp.addi (Scalar.muli (BitVec.ofNat 32 s.val) 256#32) (BitVec.ofNat 32 ρ.val)) 1#32) 2#32) : EReal) - uD A b s 0 0 ρ x := by
  rw [den_0, Layer.avM, show Layer.pwin 0 = 2 from rfl]
  simp only [Finset.sum_range_succ, Finset.sum_range_zero, zero_add, uD_zero]
  refine congrArg (fun z : EReal => Ideal.div z _ - _) ?_
  simp only [← uD_zero]
  rfl

/-- The count of rows in pool 1's window, as an extended real. -/
theorem den_1 (ρ : Fin 256) : (FloatOps.sitofp (F := Ideal) .f32 (IntOp.minsi (IntOp.addi (IntOp.addi (Scalar.muli (BitVec.ofNat 32 s.val) 256#32) (BitVec.ofNat 32 ρ.val)) 1#32) 4#32) : EReal)
    = (((min ((prow s ρ).val + 1) (Layer.pwin 1) : ℕ) : ℝ) : EReal) := by
  rw [(den_bits s ρ).2.1]
  exact Layer.sitofp_nat _ (lt_of_le_of_lt (Nat.min_le_right _ _) (by decide))

/-- The trailing mean of pool 1, written out. -/
theorem avg_1 (ρ x : Fin 256) : Layer.avM A b (prow s ρ) 1 x
    = Ideal.div ((((uD A b s 0 1 ρ x + uD A b s 1 1 ρ x) + uD A b s 2 1 ρ x) + uD A b s 3 1 ρ x))
        (FloatOps.sitofp (F := Ideal) .f32 (IntOp.minsi (IntOp.addi (IntOp.addi (Scalar.muli (BitVec.ofNat 32 s.val) 256#32) (BitVec.ofNat 32 ρ.val)) 1#32) 4#32) : EReal) - uD A b s 0 1 ρ x := by
  rw [den_1, Layer.avM, show Layer.pwin 1 = 4 from rfl]
  simp only [Finset.sum_range_succ, Finset.sum_range_zero, zero_add, uD_zero]
  refine congrArg (fun z : EReal => Ideal.div z _ - _) ?_
  simp only [← uD_zero]
  rfl

/-- The count of rows in pool 2's window, as an extended real. -/
theorem den_2 (ρ : Fin 256) : (FloatOps.sitofp (F := Ideal) .f32 (IntOp.minsi (IntOp.addi (IntOp.addi (Scalar.muli (BitVec.ofNat 32 s.val) 256#32) (BitVec.ofNat 32 ρ.val)) 1#32) 8#32) : EReal)
    = (((min ((prow s ρ).val + 1) (Layer.pwin 2) : ℕ) : ℝ) : EReal) := by
  rw [(den_bits s ρ).2.2.1]
  exact Layer.sitofp_nat _ (lt_of_le_of_lt (Nat.min_le_right _ _) (by decide))

/-- The trailing mean of pool 2, written out. -/
theorem avg_2 (ρ x : Fin 256) : Layer.avM A b (prow s ρ) 2 x
    = Ideal.div ((((((((uD A b s 0 2 ρ x + uD A b s 1 2 ρ x) + uD A b s 2 2 ρ x) + uD A b s 3 2 ρ x) + uD A b s 4 2 ρ x) + uD A b s 5 2 ρ x) + uD A b s 6 2 ρ x) + uD A b s 7 2 ρ x))
        (FloatOps.sitofp (F := Ideal) .f32 (IntOp.minsi (IntOp.addi (IntOp.addi (Scalar.muli (BitVec.ofNat 32 s.val) 256#32) (BitVec.ofNat 32 ρ.val)) 1#32) 8#32) : EReal) - uD A b s 0 2 ρ x := by
  rw [den_2, Layer.avM, show Layer.pwin 2 = 8 from rfl]
  simp only [Finset.sum_range_succ, Finset.sum_range_zero, zero_add, uD_zero]
  refine congrArg (fun z : EReal => Ideal.div z _ - _) ?_
  simp only [← uD_zero]
  rfl

/-- The count of rows in pool 3's window, as an extended real. -/
theorem den_3 (ρ : Fin 256) : (FloatOps.sitofp (F := Ideal) .f32 (IntOp.minsi (IntOp.addi (IntOp.addi (Scalar.muli (BitVec.ofNat 32 s.val) 256#32) (BitVec.ofNat 32 ρ.val)) 1#32) 16#32) : EReal)
    = (((min ((prow s ρ).val + 1) (Layer.pwin 3) : ℕ) : ℝ) : EReal) := by
  rw [(den_bits s ρ).2.2.2]
  exact Layer.sitofp_nat _ (lt_of_le_of_lt (Nat.min_le_right _ _) (by decide))

/-- The trailing mean of pool 3, written out. -/
theorem avg_3 (ρ x : Fin 256) : Layer.avM A b (prow s ρ) 3 x
    = Ideal.div ((((((((((((((((uD A b s 0 3 ρ x + uD A b s 1 3 ρ x) + uD A b s 2 3 ρ x) + uD A b s 3 3 ρ x) + uD A b s 4 3 ρ x) + uD A b s 5 3 ρ x) + uD A b s 6 3 ρ x) + uD A b s 7 3 ρ x) + uD A b s 8 3 ρ x) + uD A b s 9 3 ρ x) + uD A b s 10 3 ρ x) + uD A b s 11 3 ρ x) + uD A b s 12 3 ρ x) + uD A b s 13 3 ρ x) + uD A b s 14 3 ρ x) + uD A b s 15 3 ρ x))
        (FloatOps.sitofp (F := Ideal) .f32 (IntOp.minsi (IntOp.addi (IntOp.addi (Scalar.muli (BitVec.ofNat 32 s.val) 256#32) (BitVec.ofNat 32 ρ.val)) 1#32) 16#32) : EReal) - uD A b s 0 3 ρ x := by
  rw [den_3, Layer.avM, show Layer.pwin 3 = 16 from rfl]
  simp only [Finset.sum_range_succ, Finset.sum_range_zero, zero_add, uD_zero]
  refine congrArg (fun z : EReal => Ideal.div z _ - _) ?_
  simp only [← uD_zero]
  rfl

/-- The input block. -/
theorem p98 (v3 : Vec Ideal S1x256x1024 .f32) (h3 : ∀ ρ c, v3 (ix3 0 ρ c) = A.x b (prow s ρ) c) (ρ c) :
    k0_pay98 (F := Ideal) v3 (ix2 ρ c) = A.x b (prow s ρ) c := by
  unfold k0_pay98; pointwise []; exact h3 ρ c

/-- The gate of the output. -/
theorem p100 (v5 : Vec Ideal S1x1x3072 .f32) (h5 : ∀ c, v5 (ix3 0 0 c) = A.md b c) (c : Fin 1024) :
    k0_pay100 (F := Ideal) v5 (ix2 0 c) = A.md b ⟨2048 + c.val, by omega⟩ := by
  unfold k0_pay100 k0_pay99; pointwise []; exact h5 _

/-- The normed and modulated input. -/
theorem p101 (v3 : Vec Ideal S1x256x1024 .f32) (h3 : ∀ ρ c, v3 (ix3 0 ρ c) = A.x b (prow s ρ) c) (v5 : Vec Ideal S1x1x3072 .f32) (h5 : ∀ c, v5 (ix3 0 0 c) = A.md b c) (v20 : Vec Ideal S1x1024 .f32) (h20 : ∀ c, v20 (ix2 0 c) = A.np c) (ρ c) :
    k0_pay101 (F := Ideal) v3 v5 v20 (ix2 ρ c) = Layer.hM A b (prow s ρ) c := by
  obtain rfl := vec3 v3 (fun _ ρ c => A.x b (prow s ρ) c) (fun a ρ c => by obtain rfl : a = 0 := Subsingleton.elim _ _; exact h3 ρ c)
  obtain rfl := vec3 v5 (fun _ _ c => A.md b c) (fun a a2 c => by obtain rfl : a = 0 := Subsingleton.elim _ _; obtain rfl : a2 = 0 := Subsingleton.elim _ _; exact h5 c)
  obtain rfl := vec2 v20 (fun _ c => A.np c) (fun a c => by obtain rfl : a = 0 := Subsingleton.elim _ _; exact h20 c)
  unfold k0_pay101 k0_pay98 k0_pay99; pointwise []
  rfl

/-- The pool columns of the projection. -/
theorem p102 (v3 : Vec Ideal S1x256x1024 .f32) (h3 : ∀ ρ c, v3 (ix3 0 ρ c) = A.x b (prow s ρ) c) (v5 : Vec Ideal S1x1x3072 .f32) (h5 : ∀ c, v5 (ix3 0 0 c) = A.md b c) (v20 : Vec Ideal S1x1024 .f32) (h20 : ∀ c, v20 (ix2 0 c) = A.np c) (i : Fin 6) (w : Vec Ideal S1024x1024 .bf16) (h_w : ∀ r c, w (ix2 r c) = A.wi r (Layer.part i c)) (ρ c) :
    k0_pay102 (F := Ideal) v3 v5 v20 w (ix2 ρ c) = Layer.zM A b (prow s ρ) (Layer.part i c) := by
  have e : k0_pay102 (F := Ideal) v3 v5 v20 w (ix2 ρ c) = ∑ k : Fin 1024, k0_pay101 (F := Ideal) v3 v5 v20 (ix2 ρ k) * w (ix2 k c) := by
    unfold k0_pay102; pointwise []
  rw [e, Layer.zM]
  exact Finset.sum_congr rfl fun k _ => congrArg₂ (fun x y : EReal => x * y) (p101 A b s v3 h3 v5 h5 v20 h20 ρ k) (h_w k c)

/-- A part of the projection. -/
theorem p106 (v30 : FVec Ideal S256x1024 .bf16) (h_v30 : ∀ ρ c, v30 (ix2 ρ c) = Layer.hM A b (prow s ρ) c) (i : Fin 6) (w : Vec Ideal S1024x1024 .bf16) (h_w : ∀ r c, w (ix2 r c) = A.wi r (Layer.part i c)) (ρ c) :
    k0_pay106 (F := Ideal) v30 w (ix2 ρ c) = Layer.zM A b (prow s ρ) (Layer.part i c) := by
  obtain rfl := vec2 v30 (fun ρ c => Layer.hM A b (prow s ρ) c) h_v30
  obtain rfl := vec2 w (fun ρ c => A.wi ρ (Layer.part i c)) h_w
  unfold k0_pay106; pointwise []
  rfl

/-- A part of the projection. -/
theorem p125 (v30 : FVec Ideal S256x1024 .bf16) (h_v30 : ∀ ρ c, v30 (ix2 ρ c) = Layer.hM A b (prow s ρ) c) (i : Fin 6) (w : Vec Ideal S1024x1024 .bf16) (h_w : ∀ r c, w (ix2 r c) = A.wi r (Layer.part i c)) (ρ c) :
    k0_pay125 (F := Ideal) v30 w (ix2 ρ c) = Layer.zM A b (prow s ρ) (Layer.part i c) := by
  obtain rfl := vec2 v30 (fun ρ c => Layer.hM A b (prow s ρ) c) h_v30
  obtain rfl := vec2 w (fun ρ c => A.wi ρ (Layer.part i c)) h_w
  unfold k0_pay125; pointwise []
  rfl

/-- A part of the projection. -/
theorem p130 (v30 : FVec Ideal S256x1024 .bf16) (h_v30 : ∀ ρ c, v30 (ix2 ρ c) = Layer.hM A b (prow s ρ) c) (i : Fin 6) (w : Vec Ideal S1024x1024 .bf16) (h_w : ∀ r c, w (ix2 r c) = A.wi r (Layer.part i c)) (ρ c) :
    k0_pay130 (F := Ideal) v30 w (ix2 ρ c) = Layer.zM A b (prow s ρ) (Layer.part i c) := by
  obtain rfl := vec2 v30 (fun ρ c => Layer.hM A b (prow s ρ) c) h_v30
  obtain rfl := vec2 w (fun ρ c => A.wi ρ (Layer.part i c)) h_w
  unfold k0_pay130; pointwise []
  rfl

/-- A part of the projection. -/
theorem p131 (v30 : FVec Ideal S256x1024 .bf16) (h_v30 : ∀ ρ c, v30 (ix2 ρ c) = Layer.hM A b (prow s ρ) c) (i : Fin 6) (w : Vec Ideal S1024x1024 .bf16) (h_w : ∀ r c, w (ix2 r c) = A.wi r (Layer.part i c)) (ρ c) :
    k0_pay131 (F := Ideal) v30 w (ix2 ρ c) = Layer.zM A b (prow s ρ) (Layer.part i c) := by
  obtain rfl := vec2 v30 (fun ρ c => Layer.hM A b (prow s ρ) c) h_v30
  obtain rfl := vec2 w (fun ρ c => A.wi ρ (Layer.part i c)) h_w
  unfold k0_pay131; pointwise []
  rfl

/-- The pool gate of group 0. -/
theorem p109 (v30 : FVec Ideal S256x1024 .bf16) (h_v30 : ∀ ρ c, v30 (ix2 ρ c) = Layer.hM A b (prow s ρ) c) (w : Vec Ideal S1024x1024 .bf16) (h_w : ∀ r c, w (ix2 r c) = A.wi r (Layer.part 1 c)) (ρ c) :
    k0_pay109 (F := Ideal) v30 w (ix2 ρ c) = Layer.zM A b (prow s ρ) (Layer.part 1 (Layer.pcol 0 c)) := by
  obtain rfl := vec2 v30 (fun ρ c => Layer.hM A b (prow s ρ) c) h_v30
  obtain rfl := vec2 w (fun ρ c => A.wi ρ (Layer.part 1 c)) h_w
  rw [show Layer.pcol 0 c = ⟨c.val, by omega⟩ from Fin.ext (by show 256 * 0 + c.val = c.val; omega)]
  unfold k0_pay109 k0_pay106; pointwise []
  rfl

/-- The pool gate of group 0, negated. -/
theorem p110 (v30 : FVec Ideal S256x1024 .bf16) (h_v30 : ∀ ρ c, v30 (ix2 ρ c) = Layer.hM A b (prow s ρ) c) (w : Vec Ideal S1024x1024 .bf16) (h_w : ∀ r c, w (ix2 r c) = A.wi r (Layer.part 1 c)) (ρ c) :
    k0_pay110 (F := Ideal) v30 w (ix2 ρ c) = 0 - Layer.zM A b (prow s ρ) (Layer.part 1 (Layer.pcol 0 c)) := by
  rw [← p109 A b s v30 h_v30 w h_w]
  unfold k0_pay110; pointwise []

/-- The pool piece of group 0. -/
theorem p111 (P Z : Fin 256 → Fin 256 → EReal) (v70 : FVec Ideal S256x256 .f32) (v71 : FVec Ideal S256x256 .f32) (v73 : FVec Ideal S256x256 .f32) (h_v70 : ∀ ρ c, v70 (ix2 ρ c) = P ρ c) (h_v71 : ∀ ρ c, v71 (ix2 ρ c) = Z ρ c) (h_v73 : ∀ ρ c, v73 (ix2 ρ c) = 0 - Z ρ c) (ρ c) :
    k0_pay111 (F := Ideal) v70 v71 v73 (ix2 ρ c) = P ρ c * Layer.silu (Z ρ c) := by
  obtain rfl := vec2 v70 (fun ρ c => P ρ c) h_v70
  obtain rfl := vec2 v71 (fun ρ c => Z ρ c) h_v71
  obtain rfl := vec2 v73 (fun ρ c => 0 - Z ρ c) h_v73
  unfold Layer.silu; rw [← zero_sub]
  unfold k0_pay111; pointwise []

/-- The pool gate of group 1. -/
theorem p113 (v47 : FVec Ideal S256x1024 .f32) (h_v47 : ∀ ρ c, v47 (ix2 ρ c) = Layer.zM A b (prow s ρ) (Layer.part 1 c)) (ρ c) :
    k0_pay113 (F := Ideal) v47 (ix2 ρ c) = Layer.zM A b (prow s ρ) (Layer.part 1 (Layer.pcol 1 c)) := by
  obtain rfl := vec2 v47 (fun ρ c => Layer.zM A b (prow s ρ) (Layer.part 1 c)) h_v47
  unfold k0_pay113; pointwise []; rfl

/-- The exponential of the pool gate of group 1, negated. -/
theorem p114 (v47 : FVec Ideal S256x1024 .f32) (h_v47 : ∀ ρ c, v47 (ix2 ρ c) = Layer.zM A b (prow s ρ) (Layer.part 1 c)) (ρ c) :
    k0_pay114 (F := Ideal) v47 (ix2 ρ c) = Ideal.exp (0 - Layer.zM A b (prow s ρ) (Layer.part 1 (Layer.pcol 1 c))) := by
  obtain rfl := vec2 v47 (fun ρ c => Layer.zM A b (prow s ρ) (Layer.part 1 c)) h_v47
  unfold k0_pay114 k0_pay113; pointwise []; rfl

/-- The pool piece of group 1. -/
theorem p116 (P Z : Fin 256 → Fin 256 → EReal) (v107 : FVec Ideal S256x256 .f32) (v108 : FVec Ideal S256x256 .f32) (v111 : FVec Ideal S256x256 .f32) (h_v107 : ∀ ρ c, v107 (ix2 ρ c) = P ρ c) (h_v108 : ∀ ρ c, v108 (ix2 ρ c) = Z ρ c) (h_v111 : ∀ ρ c, v111 (ix2 ρ c) = Ideal.exp (0 - Z ρ c)) (ρ c) :
    k0_pay116 (F := Ideal) v107 v108 v111 k0_pay115 (ix2 ρ c) = P ρ c * Layer.silu (Z ρ c) := by
  obtain rfl := vec2 v107 (fun ρ c => P ρ c) h_v107
  obtain rfl := vec2 v108 (fun ρ c => Z ρ c) h_v108
  obtain rfl := vec2 v111 (fun ρ c => Ideal.exp (0 - Z ρ c)) h_v111
  unfold Layer.silu; rw [← zero_sub]
  unfold k0_pay116 k0_pay115; pointwise []

/-- The pool piece of group 2. -/
theorem p118 (v47 : FVec Ideal S256x1024 .f32) (h_v47 : ∀ ρ c, v47 (ix2 ρ c) = Layer.zM A b (prow s ρ) (Layer.part 1 c)) (P : Fin 256 → Fin 256 → EReal) (v148 : FVec Ideal S256x256 .f32) (h_v148 : ∀ ρ c, v148 (ix2 ρ c) = P ρ c) (v149 : Vec Ideal S1x256 .f32) (h_v149 : ∀ c, v149 (ix2 0 c) = A.ps (Layer.pcol 2 c)) (ρ c) :
    k0_pay118 (F := Ideal) v47 v148 v149 (ix2 ρ c) = P ρ c * A.ps (Layer.pcol 2 c) * Layer.silu (Layer.zM A b (prow s ρ) (Layer.part 1 (Layer.pcol 2 c))) := by
  obtain rfl := vec2 v47 (fun ρ c => Layer.zM A b (prow s ρ) (Layer.part 1 c)) h_v47
  obtain rfl := vec2 v148 (fun ρ c => P ρ c) h_v148
  obtain rfl := vec2 v149 (fun _ c => A.ps (Layer.pcol 2 c)) (fun a c => by obtain rfl : a = 0 := Subsingleton.elim _ _; exact h_v149 c)
  unfold Layer.silu; rw [← zero_sub]
  unfold k0_pay118; pointwise []; rfl

/-- The pool gate of group 3. -/
theorem p122 (v47 : FVec Ideal S256x1024 .f32) (h_v47 : ∀ ρ c, v47 (ix2 ρ c) = Layer.zM A b (prow s ρ) (Layer.part 1 c)) (ρ c) :
    k0_pay122 (F := Ideal) v47 (ix2 ρ c) = Layer.zM A b (prow s ρ) (Layer.part 1 (Layer.pcol 3 c)) := by
  obtain rfl := vec2 v47 (fun ρ c => Layer.zM A b (prow s ρ) (Layer.part 1 c)) h_v47
  unfold k0_pay122; pointwise []; rfl

/-- The denominator of the gate of group 3. -/
theorem p123 (v47 : FVec Ideal S256x1024 .f32) (h_v47 : ∀ ρ c, v47 (ix2 ρ c) = Layer.zM A b (prow s ρ) (Layer.part 1 c)) (ρ c) :
    k0_pay123 (F := Ideal) v47 (ix2 ρ c) = 1 + Ideal.exp (0 - Layer.zM A b (prow s ρ) (Layer.part 1 (Layer.pcol 3 c))) := by
  obtain rfl := vec2 v47 (fun ρ c => Layer.zM A b (prow s ρ) (Layer.part 1 c)) h_v47
  unfold k0_pay123 k0_pay122; pointwise []; rfl

/-- The pool piece of group 3. -/
theorem p124 (P Z : Fin 256 → Fin 256 → EReal) (v213 : FVec Ideal S256x256 .f32) (v214 : FVec Ideal S256x256 .f32) (v219 : FVec Ideal S256x256 .f32) (h_v213 : ∀ ρ c, v213 (ix2 ρ c) = P ρ c) (h_v214 : ∀ ρ c, v214 (ix2 ρ c) = Z ρ c) (h_v219 : ∀ ρ c, v219 (ix2 ρ c) = 1 + Ideal.exp (0 - Z ρ c)) (cst : Ideal .f32) (hcst : cst = (1 : EReal)) (ρ c) :
    k0_pay124 (F := Ideal) v213 v214 v219 cst (ix2 ρ c) = P ρ c * Layer.silu (Z ρ c) := by
  subst hcst
  obtain rfl := vec2 v213 (fun ρ c => P ρ c) h_v213
  obtain rfl := vec2 v214 (fun ρ c => Z ρ c) h_v214
  obtain rfl := vec2 v219 (fun ρ c => 1 + Ideal.exp (0 - Z ρ c)) h_v219
  unfold Layer.silu; rw [← zero_sub]
  unfold k0_pay124; pointwise []

/-- The pool of group 0, scaled. -/
theorem p108 (v33 : FVec Ideal S256x1024 .f32) (h_v33 : ∀ ρ c, v33 (ix2 ρ c) = Layer.zM A b (prow s ρ) (Layer.part 0 c)) (v53 : Vec Ideal S256x256 .f32) (h_v53 : ∀ ρ c, v53 (ix2 ρ c) = uD A b s 1 0 ρ c) (v64 : Vec Ideal S1x256x256 .bf16) (h_v64 : ∀ x e, v64 (ix3 0 x e) = A.pw 0 x e) (v67 : Vec Ideal S1x256 .f32) (h_v67 : ∀ c, v67 (ix2 0 c) = A.ps (Layer.pcol 0 c)) (ρ c) :
    k0_pay108 (F := Ideal) (BitVec.ofNat 32 s.val) v33 v53 v64 v67 (ix2 ρ c) = avP A b s 0 ρ c * A.ps (Layer.pcol 0 c) := by
  obtain rfl := vec2 v33 (fun ρ c => Layer.zM A b (prow s ρ) (Layer.part 0 c)) h_v33
  obtain rfl := vec2 v53 (fun ρ c => uD A b s 1 0 ρ c) h_v53
  obtain rfl := vec3 v64 (fun _ x e => A.pw 0 x e) (fun a x e => by obtain rfl : a = 0 := Subsingleton.elim _ _; exact h_v64 x e)
  obtain rfl := vec2 v67 (fun _ c => A.ps (Layer.pcol 0 c)) (fun a c => by obtain rfl : a = 0 := Subsingleton.elim _ _; exact h_v67 c)
  unfold k0_pay108 k0_pay107; pointwise []
  refine congrArg (fun z : EReal => z * _) (Finset.sum_congr rfl fun x _ => ?_)
  refine (mul_comm _ _).trans (congrArg (fun z : EReal => A.pw 0 x c * z) ?_)
  rw [avg_0, uD_zero]
  rw [show Layer.pcol 0 x = ⟨x.val, by omega⟩ from Fin.ext (by show 256 * 0 + x.val = x.val; omega)]

/-- The pool of group 1, scaled. -/
theorem p112 (v33 : FVec Ideal S256x1024 .f32) (h_v33 : ∀ ρ c, v33 (ix2 ρ c) = Layer.zM A b (prow s ρ) (Layer.part 0 c)) (v86 : Vec Ideal S256x256 .f32) (h_v86 : ∀ ρ c, v86 (ix2 ρ c) = uD A b s 1 1 ρ c) (v88 : Vec Ideal S256x256 .f32) (h_v88 : ∀ ρ c, v88 (ix2 ρ c) = uD A b s 2 1 ρ c) (v90 : Vec Ideal S256x256 .f32) (h_v90 : ∀ ρ c, v90 (ix2 ρ c) = uD A b s 3 1 ρ c) (v101 : Vec Ideal S1x256x256 .bf16) (h_v101 : ∀ x e, v101 (ix3 0 x e) = A.pw 1 x e) (v104 : Vec Ideal S1x256 .f32) (h_v104 : ∀ c, v104 (ix2 0 c) = A.ps (Layer.pcol 1 c)) (ρ c) :
    k0_pay112 (F := Ideal) v33 (k0_pay107 (BitVec.ofNat 32 s.val)) v86 v88 v90 v101 v104 (ix2 ρ c) = avP A b s 1 ρ c * A.ps (Layer.pcol 1 c) := by
  obtain rfl := vec2 v33 (fun ρ c => Layer.zM A b (prow s ρ) (Layer.part 0 c)) h_v33
  obtain rfl := vec2 v86 (fun ρ c => uD A b s 1 1 ρ c) h_v86
  obtain rfl := vec2 v88 (fun ρ c => uD A b s 2 1 ρ c) h_v88
  obtain rfl := vec2 v90 (fun ρ c => uD A b s 3 1 ρ c) h_v90
  obtain rfl := vec3 v101 (fun _ x e => A.pw 1 x e) (fun a x e => by obtain rfl : a = 0 := Subsingleton.elim _ _; exact h_v101 x e)
  obtain rfl := vec2 v104 (fun _ c => A.ps (Layer.pcol 1 c)) (fun a c => by obtain rfl : a = 0 := Subsingleton.elim _ _; exact h_v104 c)
  unfold k0_pay112 k0_pay107; pointwise []
  refine congrArg (fun z : EReal => z * _) (Finset.sum_congr rfl fun x _ => ?_)
  refine (mul_comm _ _).trans (congrArg (fun z : EReal => A.pw 1 x c * z) ?_)
  rw [avg_1, uD_zero]
  rfl

/-- The pool of group 2. -/
theorem p117 (v33 : FVec Ideal S256x1024 .f32) (h_v33 : ∀ ρ c, v33 (ix2 ρ c) = Layer.zM A b (prow s ρ) (Layer.part 0 c)) (v123 : Vec Ideal S256x256 .f32) (h_v123 : ∀ ρ c, v123 (ix2 ρ c) = uD A b s 1 2 ρ c) (v125 : Vec Ideal S256x256 .f32) (h_v125 : ∀ ρ c, v125 (ix2 ρ c) = uD A b s 2 2 ρ c) (v127 : Vec Ideal S256x256 .f32) (h_v127 : ∀ ρ c, v127 (ix2 ρ c) = uD A b s 3 2 ρ c) (v129 : Vec Ideal S256x256 .f32) (h_v129 : ∀ ρ c, v129 (ix2 ρ c) = uD A b s 4 2 ρ c) (v131 : Vec Ideal S256x256 .f32) (h_v131 : ∀ ρ c, v131 (ix2 ρ c) = uD A b s 5 2 ρ c) (v133 : Vec Ideal S256x256 .f32) (h_v133 : ∀ ρ c, v133 (ix2 ρ c) = uD A b s 6 2 ρ c) (v135 : Vec Ideal S256x256 .f32) (h_v135 : ∀ ρ c, v135 (ix2 ρ c) = uD A b s 7 2 ρ c) (v146 : Vec Ideal S1x256x256 .bf16) (h_v146 : ∀ x e, v146 (ix3 0 x e) = A.pw 2 x e) (ρ c) :
    k0_pay117 (F := Ideal) v33 (k0_pay107 (BitVec.ofNat 32 s.val)) v123 v125 v127 v129 v131 v133 v135 v146 (ix2 ρ c) = avP A b s 2 ρ c := by
  obtain rfl := vec2 v33 (fun ρ c => Layer.zM A b (prow s ρ) (Layer.part 0 c)) h_v33
  obtain rfl := vec2 v123 (fun ρ c => uD A b s 1 2 ρ c) h_v123
  obtain rfl := vec2 v125 (fun ρ c => uD A b s 2 2 ρ c) h_v125
  obtain rfl := vec2 v127 (fun ρ c => uD A b s 3 2 ρ c) h_v127
  obtain rfl := vec2 v129 (fun ρ c => uD A b s 4 2 ρ c) h_v129
  obtain rfl := vec2 v131 (fun ρ c => uD A b s 5 2 ρ c) h_v131
  obtain rfl := vec2 v133 (fun ρ c => uD A b s 6 2 ρ c) h_v133
  obtain rfl := vec2 v135 (fun ρ c => uD A b s 7 2 ρ c) h_v135
  obtain rfl := vec3 v146 (fun _ x e => A.pw 2 x e) (fun a x e => by obtain rfl : a = 0 := Subsingleton.elim _ _; exact h_v146 x e)
  unfold k0_pay117 k0_pay107; pointwise []
  refine Finset.sum_congr rfl fun x _ => ?_
  refine (mul_comm _ _).trans (congrArg (fun z : EReal => A.pw 2 x c * z) ?_)
  rw [avg_2, uD_zero]
  rfl

/-- The pool of group 3, scaled. -/
theorem p121 (v33 : FVec Ideal S256x1024 .f32) (h_v33 : ∀ ρ c, v33 (ix2 ρ c) = Layer.zM A b (prow s ρ) (Layer.part 0 c)) (v168 : Vec Ideal S256x256 .f32) (h_v168 : ∀ ρ c, v168 (ix2 ρ c) = uD A b s 1 3 ρ c) (v170 : Vec Ideal S256x256 .f32) (h_v170 : ∀ ρ c, v170 (ix2 ρ c) = uD A b s 2 3 ρ c) (v172 : Vec Ideal S256x256 .f32) (h_v172 : ∀ ρ c, v172 (ix2 ρ c) = uD A b s 3 3 ρ c) (v174 : Vec Ideal S256x256 .f32) (h_v174 : ∀ ρ c, v174 (ix2 ρ c) = uD A b s 4 3 ρ c) (v176 : Vec Ideal S256x256 .f32) (h_v176 : ∀ ρ c, v176 (ix2 ρ c) = uD A b s 5 3 ρ c) (v178 : Vec Ideal S256x256 .f32) (h_v178 : ∀ ρ c, v178 (ix2 ρ c) = uD A b s 6 3 ρ c) (v180 : Vec Ideal S256x256 .f32) (h_v180 : ∀ ρ c, v180 (ix2 ρ c) = uD A b s 7 3 ρ c) (v182 : Vec Ideal S256x256 .f32) (h_v182 : ∀ ρ c, v182 (ix2 ρ c) = uD A b s 8 3 ρ c) (v184 : Vec Ideal S256x256 .f32) (h_v184 : ∀ ρ c, v184 (ix2 ρ c) = uD A b s 9 3 ρ c) (v186 : Vec Ideal S256x256 .f32) (h_v186 : ∀ ρ c, v186 (ix2 ρ c) = uD A b s 10 3 ρ c) (v188 : Vec Ideal S256x256 .f32) (h_v188 : ∀ ρ c, v188 (ix2 ρ c) = uD A b s 11 3 ρ c) (v190 : Vec Ideal S256x256 .f32) (h_v190 : ∀ ρ c, v190 (ix2 ρ c) = uD A b s 12 3 ρ c) (v192 : Vec Ideal S256x256 .f32) (h_v192 : ∀ ρ c, v192 (ix2 ρ c) = uD A b s 13 3 ρ c) (v194 : Vec Ideal S256x256 .f32) (h_v194 : ∀ ρ c, v194 (ix2 ρ c) = uD A b s 14 3 ρ c) (v196 : Vec Ideal S256x256 .f32) (h_v196 : ∀ ρ c, v196 (ix2 ρ c) = uD A b s 15 3 ρ c) (v207 : Vec Ideal S1x256x256 .bf16) (h_v207 : ∀ x e, v207 (ix3 0 x e) = A.pw 3 x e) (v210 : Vec Ideal S1x256 .f32) (h_v210 : ∀ c, v210 (ix2 0 c) = A.ps (Layer.pcol 3 c)) (ρ c) :
    k0_pay121 (F := Ideal) (k0_pay107 (BitVec.ofNat 32 s.val)) (k0_pay119 v33) (k0_pay120 v33 v168 v170 v172 v174 v176 v178 v180 v182) v184 v186 v188 v190 v192 v194 v196 v207 v210 (ix2 ρ c) = avP A b s 3 ρ c * A.ps (Layer.pcol 3 c) := by
  obtain rfl := vec2 v33 (fun ρ c => Layer.zM A b (prow s ρ) (Layer.part 0 c)) h_v33
  obtain rfl := vec2 v168 (fun ρ c => uD A b s 1 3 ρ c) h_v168
  obtain rfl := vec2 v170 (fun ρ c => uD A b s 2 3 ρ c) h_v170
  obtain rfl := vec2 v172 (fun ρ c => uD A b s 3 3 ρ c) h_v172
  obtain rfl := vec2 v174 (fun ρ c => uD A b s 4 3 ρ c) h_v174
  obtain rfl := vec2 v176 (fun ρ c => uD A b s 5 3 ρ c) h_v176
  obtain rfl := vec2 v178 (fun ρ c => uD A b s 6 3 ρ c) h_v178
  obtain rfl := vec2 v180 (fun ρ c => uD A b s 7 3 ρ c) h_v180
  obtain rfl := vec2 v182 (fun ρ c => uD A b s 8 3 ρ c) h_v182
  obtain rfl := vec2 v184 (fun ρ c => uD A b s 9 3 ρ c) h_v184
  obtain rfl := vec2 v186 (fun ρ c => uD A b s 10 3 ρ c) h_v186
  obtain rfl := vec2 v188 (fun ρ c => uD A b s 11 3 ρ c) h_v188
  obtain rfl := vec2 v190 (fun ρ c => uD A b s 12 3 ρ c) h_v190
  obtain rfl := vec2 v192 (fun ρ c => uD A b s 13 3 ρ c) h_v192
  obtain rfl := vec2 v194 (fun ρ c => uD A b s 14 3 ρ c) h_v194
  obtain rfl := vec2 v196 (fun ρ c => uD A b s 15 3 ρ c) h_v196
  obtain rfl := vec3 v207 (fun _ x e => A.pw 3 x e) (fun a x e => by obtain rfl : a = 0 := Subsingleton.elim _ _; exact h_v207 x e)
  obtain rfl := vec2 v210 (fun _ c => A.ps (Layer.pcol 3 c)) (fun a c => by obtain rfl : a = 0 := Subsingleton.elim _ _; exact h_v210 c)
  unfold k0_pay121 k0_pay120 k0_pay119 k0_pay107; pointwise []
  refine congrArg (fun z : EReal => z * _) (Finset.sum_congr rfl fun x _ => ?_)
  refine (mul_comm _ _).trans (congrArg (fun z : EReal => A.pw 3 x c * z) ?_)
  rw [avg_3, uD_zero]
  rfl

/-- The forget gate. -/
theorem p126 (v30 : FVec Ideal S256x1024 .bf16) (h_v30 : ∀ ρ c, v30 (ix2 ρ c) = Layer.hM A b (prow s ρ) c) (v234 : Vec Ideal S1x1024 .f32) (h_v234 : ∀ c, v234 (ix2 0 c) = A.lo c) (w : Vec Ideal S1024x1024 .bf16) (h_w : ∀ r c, w (ix2 r c) = A.wi r (Layer.part 3 c)) (ρ c) :
    k0_pay126 (F := Ideal) v30 v234 w (ix2 ρ c) = Layer.fM A b (prow s ρ) c := by
  obtain rfl := vec2 v30 (fun ρ c => Layer.hM A b (prow s ρ) c) h_v30
  obtain rfl := vec2 v234 (fun _ c => A.lo c) (fun a c => by obtain rfl : a = 0 := Subsingleton.elim _ _; exact h_v234 c)
  obtain rfl := vec2 w (fun ρ c => A.wi ρ (Layer.part 3 c)) h_w
  unfold Layer.fM; rw [← zero_sub]
  unfold k0_pay126; pointwise []
  rfl

/-- The logarithm of the forget gate. -/
theorem p127 (v30 : FVec Ideal S256x1024 .bf16) (h_v30 : ∀ ρ c, v30 (ix2 ρ c) = Layer.hM A b (prow s ρ) c) (v234 : Vec Ideal S1x1024 .f32) (h_v234 : ∀ c, v234 (ix2 0 c) = A.lo c) (w : Vec Ideal S1024x1024 .bf16) (h_w : ∀ r c, w (ix2 r c) = A.wi r (Layer.part 3 c)) (ρ c) :
    k0_pay127 (F := Ideal) v30 v234 w (ix2 ρ c) = Layer.lfM A b (prow s ρ) c := by
  rw [Layer.lfM, ← p126 A b s v30 h_v30 v234 h_v234 w h_w]
  unfold k0_pay127; pointwise []

/-- The keys. -/
theorem p129 (v30 : FVec Ideal S256x1024 .bf16) (h_v30 : ∀ ρ c, v30 (ix2 ρ c) = Layer.hM A b (prow s ρ) c) (v234 : Vec Ideal S1x1024 .f32) (h_v234 : ∀ c, v234 (ix2 0 c) = A.lo c) (w : Vec Ideal S1024x1024 .bf16) (h_w : ∀ r c, w (ix2 r c) = A.wi r (Layer.part 3 c)) (ρ c) :
    k0_pay129 (F := Ideal) (k0_pay128 v30 v234 w) (ix2 ρ c) = 1 - Layer.fM A b (prow s ρ) c := by
  rw [← p126 A b s v30 h_v30 v234 h_v234 w h_w]
  unfold k0_pay129 k0_pay128; pointwise []

/-- The output projection. -/
theorem p134 (v277 : Vec Ideal S256x2048 .bf16) (hlo : ∀ ρ (m : Fin 1024), v277 (ix2 ρ ⟨m.val, by omega⟩) = Layer.plM A b (prow s ρ) m) (hhi : ∀ ρ (m : Fin 1024), v277 (ix2 ρ ⟨1024 + m.val, by omega⟩) = Layer.omM A b (prow s ρ) m) (v278 : Vec Ideal S2048x1024 .bf16) (h278 : ∀ m c, v278 (ix2 m c) = A.wo m c) (ρ c) :
    k0_pay134 (F := Ideal) v277 v278 (ix2 ρ c) = Layer.yM A b (prow s ρ) c := by
  have e : k0_pay134 (F := Ideal) v277 v278 (ix2 ρ c) = ∑ k : Fin 2048, v277 (ix2 ρ k) * v278 (ix2 k c) := by
    unfold k0_pay134; pointwise []
  rw [e, Layer.yM]
  refine (Fin.sum_univ_add (a := 1024) (b := 1024) _).trans ?_
  exact congrArg₂ (fun x y : EReal => x + y) (Finset.sum_congr rfl fun m _ => congrArg₂ (fun x y : EReal => x * y) (hlo ρ m) (h278 _ c))
    (Finset.sum_congr rfl fun m _ => congrArg₂ (fun x y : EReal => x * y) (hhi ρ m) (h278 _ c))

/-- The mean square of the output projection. -/
theorem p135 (v277 : Vec Ideal S256x2048 .bf16) (hlo : ∀ ρ (m : Fin 1024), v277 (ix2 ρ ⟨m.val, by omega⟩) = Layer.plM A b (prow s ρ) m) (hhi : ∀ ρ (m : Fin 1024), v277 (ix2 ρ ⟨1024 + m.val, by omega⟩) = Layer.omM A b (prow s ρ) m) (v278 : Vec Ideal S2048x1024 .bf16) (h278 : ∀ m c, v278 (ix2 m c) = A.wo m c) (ρ) :
    k0_pay135 (F := Ideal) v277 v278 (ix2 ρ 0) = Ideal.div (∑ x : Fin 1024, Layer.yM A b (prow s ρ) x * Layer.yM A b (prow s ρ) x) Layer.cD := by
  have e : k0_pay135 (F := Ideal) v277 v278 (ix2 ρ 0) = Ideal.div (∑ x : Fin 1024, k0_pay134 (F := Ideal) v277 v278 (ix2 ρ x) * k0_pay134 (F := Ideal) v277 v278 (ix2 ρ x)) (Ideal.ofBits .f32 1149239296#32) := by
    unfold k0_pay135; pointwise []
  rw [e, Layer.cD]
  refine congrArg (fun z : EReal => Ideal.div z _) (Finset.sum_congr rfl fun x _ => ?_)
  rw [p134 A b s v277 hlo hhi v278 h278]

/-- The output block. -/
theorem p1 (v4 : FVec Ideal S256x1024 .f32) (v9 : FVec Ideal S1x1024 .f32) (v280 : FVec Ideal S256x1024 .f32) (v285 : FVec Ideal S256x1 .f32) (cst : Ideal .f32) (v291 : Vec Ideal S1x1024 .f32) (h4 : ∀ ρ c, v4 (ix2 ρ c) = A.x b (prow s ρ) c) (h9 : ∀ c : Fin 1024, v9 (ix2 0 c) = A.md b ⟨2048 + c.val, by omega⟩) (h280 : ∀ ρ c, v280 (ix2 ρ c) = Layer.yM A b (prow s ρ) c) (h285 : ∀ ρ, v285 (ix2 ρ 0) = Ideal.div (∑ x : Fin 1024, Layer.yM A b (prow s ρ) x * Layer.yM A b (prow s ρ) x) Layer.cD) (hc : cst = Layer.cE) (h291 : ∀ c, v291 (ix2 0 c) = A.nq c) (a : Fin 1) (ρ c) :
    k0_pay1 (F := Ideal) v4 v9 v280 v285 cst v291 (ix3 a ρ c) = Layer.outM A b (prow s ρ) c := by
  subst hc
  have e : k0_pay1 (F := Ideal) v4 v9 v280 v285 Layer.cE v291 (ix3 a ρ c) = v4 (ix2 ρ c) + v9 (ix2 0 c) * (v280 (ix2 ρ c) * Ideal.rsqrt (v285 (ix2 ρ 0) + Layer.cE) * v291 (ix2 0 c)) := by
    unfold k0_pay1; pointwise []
  rw [e, h4, h9, h280, h285, h291, Layer.outM]

/-- The rows before a block and the block's own, laid one after the other and read `d` rows up. -/
theorem ext_read {sig' : RefSig} {κ : Kind} {sp : Space} (v : View sig' κ sp S272x1024 .f32) (f : v.ty.Contents (Elt Ideal)) (U : FVec Ideal S256x1024 .f32) (T : FVec Ideal S16x1024 .f32)
    (hU : ∀ ρ c, U (ix2 ρ c) = Layer.zM A b (prow s ρ) (Layer.part 0 c))
    (hT : ∀ (j : Fin 16) c, T (ix2 j c) = if 16 ≤ 256 * s.val + j.val then Layer.uN A b c (256 * s.val + j.val - 16) else 0)
    (inb1 inb2) (a c0 : ℕ) (inb) (q : Fin 4) (hq : c0 = 256 * q.val) (d : ℕ) (hd : a + d = 16) (ρ e : Fin 256) :
    View.readAt (Elt Ideal) v (Rect.unit (s := S272x1024) ![a, c0] S256x256.size inb).toLoadRect
      (v.writes (Elt Ideal) f [⟨Rect.unit (s := S272x1024) ![16, 0] S256x1024.size inb1, k0_pay104 (F := Ideal) U⟩, ⟨Rect.unit (s := S272x1024) ![0, 0] S16x1024.size inb2, k0_pay103 (F := Ideal) T⟩]) (ix2 ρ e) = uD A b s d q ρ e := by
  have hp : (prow s ρ).val = 256 * s.val + ρ.val := rfl
  refine (rd v _ _ rfl _ _ inb (ix2 ρ e) (ix2 (⟨a + ρ.val, by omega⟩ : Fin 272) (Layer.pcol q e)) (by intro x; match x with | 0 => rfl | 1 => (show 256 * q.val + e.val = c0 + e.val; rw [hq]))).trans ?_
  have e104 : ∀ ρ c, k0_pay104 (F := Ideal) U (ix2 ρ c) = U (ix2 ρ c) := fun ρ c => by unfold k0_pay104; pointwise []
  have e103 : ∀ ρ c, k0_pay103 (F := Ideal) T (ix2 ρ c) = T (ix2 ρ c) := fun ρ c => by unfold k0_pay103; pointwise []
  by_cases h : 16 ≤ a + ρ.val
  · refine (View.read_writes_cons_unit_of_mem v f _ _ _ _ (ix2 (⟨a + ρ.val - 16, by omega⟩ : Fin 256) (Layer.pcol q e)) rfl
      (by intro x; match x with | 0 => (show a + ρ.val = 16 + (a + ρ.val - 16); omega) | 1 => exact (Nat.zero_add _).symm)).trans ?_
    rw [e104, hU, uD, if_pos (by omega), Layer.uN, dif_pos (by omega)]
    refine congrArg (fun t => Layer.zM A b t _) (Fin.ext ?_)
    show 256 * s.val + (a + ρ.val - 16) = (prow s ρ).val - d
    omega
  · refine (View.read_writes_cons_unit_of_not_mem v f _ _ _ _ rfl 0 (by left; show a + ρ.val < 16; omega)).trans ?_
    refine (View.read_writes_cons_unit_of_mem v f _ _ _ _ (ix2 (⟨a + ρ.val, by omega⟩ : Fin 16) (Layer.pcol q e)) rfl
      (by intro x; match x with | 0 => exact (Nat.zero_add _).symm | 1 => exact (Nat.zero_add _).symm)).trans ?_
    rw [e103, hT, uD]
    show (if 16 ≤ 256 * s.val + (a + ρ.val) then Layer.uN A b (Layer.pcol q e) (256 * s.val + (a + ρ.val) - 16) else 0) = _
    by_cases h' : 16 ≤ 256 * s.val + (a + ρ.val)
    · rw [if_pos h', if_pos (by omega)]
      refine congrArg (Layer.uN A b _) ?_
      omega
    · rw [if_neg h', if_neg (by omega)]

/-- The rows kept for the next block. -/
theorem p105 (U : FVec Ideal S256x1024 .f32) (hU : ∀ ρ c, U (ix2 ρ c) = Layer.zM A b (prow s ρ) (Layer.part 0 c)) (j : Fin 16) (c : Fin 1024) :
    k0_pay105 (F := Ideal) U (ix2 j c) = if 16 ≤ 256 * (s.val + 1) + j.val then Layer.uN A b c (256 * (s.val + 1) + j.val - 16) else 0 := by
  have e : k0_pay105 (F := Ideal) U (ix2 j c) = U (ix2 ⟨240 + j.val, by omega⟩ c) := by unfold k0_pay105; pointwise []
  rw [e, hU, if_pos (by omega), Layer.uN, dif_pos (by omega)]
  refine congrArg (fun t => Layer.zM A b t _) (Fin.ext ?_)
  show 256 * s.val + (240 + j.val) = 256 * (s.val + 1) + j.val - 16
  omega

/-- The pool's output at a column of a group. -/
theorem plM_at (t : Fin 2048) (q : Fin 4) (e : Fin 256) : Layer.plM A b t (Layer.pcol q e)
    = (∑ x : Fin 256, A.pw q x e * Layer.avM A b t q x) * A.ps (Layer.pcol q e) * Layer.silu (Layer.zM A b t (Layer.part 1 (Layer.pcol q e))) := by
  have h1 : (⟨(Layer.pcol q e).val / 256, by omega⟩ : Fin 4) = q := Fin.ext (by show (256 * q.val + e.val) / 256 = q.val; omega)
  have h2 : (⟨(Layer.pcol q e).val % 256, by omega⟩ : Fin 256) = e := Fin.ext (by show (256 * q.val + e.val) % 256 = e.val; omega)
  rw [Layer.plM]
  simp only [h1, h2]

end Cert.KernelIdeal.Val

end
-- ==== Proof.Mix.lean ====
/- The loop over a block's chunks: the state it leaves and the mixed output it completes are the model's. -/
module

public import proofs.«01_k».proof.Proof.Point

@[expose] public section

set_option maxRecDepth 16384

noncomputable section

namespace Cert.KernelIdeal.Val

open Idealize.ShloMosaic Idealize.ShloMosaic.TcCoe Cert.KernelIdeal Cert.KernelIdeal.Gen

/-- The model's state before chunk `n`, as an array. -/
def stV (A : Layer.Args) (b : Fin 16) (n : ℕ) : Vec Ideal S8x128x128 .f32 := fun i => Layer.stM A b n (show Fin 8 from i 0) (show Fin 128 from i 1) (show Fin 128 from i 2)
/-- The sixteen pool rows before block `n`, as an array. -/
def tlV (A : Layer.Args) (b : Fin 16) (n : ℕ) : Vec Ideal S16x1024 .f32 := fun i =>
  if 16 ≤ 256 * n + (show Fin 16 from i 0).val then Layer.uN A b (show Fin 1024 from i 1) (256 * n + (show Fin 16 from i 0).val - 16) else 0
/-- The model's output block. -/
def outV (A : Layer.Args) (b : Fin 16) (s : Fin 8) : Vec Ideal S1x256x1024 .f32 := fun i => Layer.outM A b (prow s (show Fin 256 from i 1)) (show Fin 1024 from i 2)

set_option maxHeartbeats 4000000 in
/-- The state the loop leaves. -/
theorem st_fin (𝒱 : Variants) (c : Dev nD) (bd : Option 𝒱.V) (i : grid0.Coords) (arg2 : Memref sig .tc .vmem S1x256x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S2048x1024 .bf16) (harg10 : arg10.IsWhole) (arg11 : Memref sig .tc .vmem S1x1024 .f32) (harg11 : arg11.IsWhole) (arg12 : Memref sig .tc .vmem S512x192 .bf16) (harg12 : arg12.IsWhole) (arg13 : Memref sig .tc .vmem S64x64 .i32) (harg13 : arg13.IsWhole) (arg14 : Memref sig .tc .vmem S1x256x1024 .f32) (harg14 : arg14.IsWhole) (arg15 : Memref sig .tc .vmem S8x128x128 .f32) (harg15 : arg15.IsWhole) (arg16 : Memref sig .tc .vmem S16x1024 .f32) (harg16 : arg16.IsWhole) (arg17 : Memref sig .tc .vmem S272x1024 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .f32) (harg22 : arg22.IsWhole) (arg23 : Memref sig .tc .vmem S256x2048 .bf16) (harg23 : arg23.IsWhole) (v30 : FVec Ideal S256x1024 .bf16) (v257 : FVec Ideal S256x1024 .f32) (v273 : Vec Ideal S64x64 .i32) (v274 : Vec Ideal S1x128 .f32) (X_arg12 : BufTy.Contents (Elt Ideal) arg12.view.ty) (X_arg18 : BufTy.Contents (Elt Ideal) arg18.view.ty) (X_arg19 : BufTy.Contents (Elt Ideal) arg19.view.ty) (X_arg20 : BufTy.Contents (Elt Ideal) arg20.view.ty) (X_arg21 : BufTy.Contents (Elt Ideal) arg21.view.ty) (X_arg22 : BufTy.Contents (Elt Ideal) arg22.view.ty) (G15 : BufTy.Contents (Elt Ideal) arg15.view.ty) (G23 : BufTy.Contents (Elt Ideal) arg23.view.ty) (A : Layer.Args) (b : Fin 16) (s : Fin 8) (hlf : ∀ t c, ∃ r : ℝ, Layer.lfM A b t c = r)
    (h12 : ∀ (q : Fin 8) (t : Fin 64) (x : Fin 192), arg12.view.read (Elt Ideal) X_arg12 (ix2 (es q t) x) = if wlo q.val t.val ≤ x.val % 64 ∧ x.val % 64 < whi q.val t.val then (1 : EReal) else 0)
    (h18 : ∀ ρ c, arg18.view.read (Elt Ideal) X_arg18 (ix2 ρ c) = Layer.zM A b (prow s ρ) (Layer.part 2 c))
    (h19 : ∀ ρ c, arg19.view.read (Elt Ideal) X_arg19 (ix2 ρ c) = Layer.lfM A b (prow s ρ) c)
    (h20 : ∀ ρ c, arg20.view.read (Elt Ideal) X_arg20 (ix2 ρ c) = 1 - Layer.fM A b (prow s ρ) c)
    (h21 : ∀ ρ c, arg21.view.read (Elt Ideal) X_arg21 (ix2 ρ c) = Layer.zM A b (prow s ρ) (Layer.part 4 c))
    (h22 : ∀ ρ c, arg22.view.read (Elt Ideal) X_arg22 (ix2 ρ c) = Layer.zM A b (prow s ρ) (Layer.part 5 c))
    (hlvl : ∀ r j : Fin 64, v273 (ix2 r j) = lvlF r.val j.val) (hhn : ∀ d, v274 (ix2 0 d) = A.hn d)
    (hS : ∀ g a d, arg15.view.read (Elt Ideal) G15 (ix3 g a d) = Layer.stM A b (4 * s.val) g a d) :
    arg15.view.read (Elt Ideal) (arg15.view.writes (Elt Ideal) G15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v30 v257 v273 v274 X_arg12 X_arg18 X_arg19 X_arg20 X_arg21 X_arg22 G15 G23 k0_t1_loop.trips).1) = stV A b (4 * (s.val + 1)) := by
  rw [loop_state 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v30 v257 v273 v274 X_arg12 X_arg18 X_arg19 X_arg20 X_arg21 X_arg22 G15 G23 k0_t1_loop.trips le_rfl]
  refine vec3 _ (fun g a d => Layer.stM A b (4 * (s.val + 1)) g a d) fun g a d => ?_
  rw [trips_eq, st_read A b s _ _ _ _ _ h12 hlf h19 h20 h21 hS 4 le_rfl, Nat.mul_add]

set_option maxHeartbeats 4000000 in
/-- The mixed output's head columns. -/
theorem mix_hi (𝒱 : Variants) (c : Dev nD) (bd : Option 𝒱.V) (i : grid0.Coords) (arg2 : Memref sig .tc .vmem S1x256x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S2048x1024 .bf16) (harg10 : arg10.IsWhole) (arg11 : Memref sig .tc .vmem S1x1024 .f32) (harg11 : arg11.IsWhole) (arg12 : Memref sig .tc .vmem S512x192 .bf16) (harg12 : arg12.IsWhole) (arg13 : Memref sig .tc .vmem S64x64 .i32) (harg13 : arg13.IsWhole) (arg14 : Memref sig .tc .vmem S1x256x1024 .f32) (harg14 : arg14.IsWhole) (arg15 : Memref sig .tc .vmem S8x128x128 .f32) (harg15 : arg15.IsWhole) (arg16 : Memref sig .tc .vmem S16x1024 .f32) (harg16 : arg16.IsWhole) (arg17 : Memref sig .tc .vmem S272x1024 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .f32) (harg22 : arg22.IsWhole) (arg23 : Memref sig .tc .vmem S256x2048 .bf16) (harg23 : arg23.IsWhole) (v30 : FVec Ideal S256x1024 .bf16) (v257 : FVec Ideal S256x1024 .f32) (v273 : Vec Ideal S64x64 .i32) (v274 : Vec Ideal S1x128 .f32) (X_arg12 : BufTy.Contents (Elt Ideal) arg12.view.ty) (X_arg18 : BufTy.Contents (Elt Ideal) arg18.view.ty) (X_arg19 : BufTy.Contents (Elt Ideal) arg19.view.ty) (X_arg20 : BufTy.Contents (Elt Ideal) arg20.view.ty) (X_arg21 : BufTy.Contents (Elt Ideal) arg21.view.ty) (X_arg22 : BufTy.Contents (Elt Ideal) arg22.view.ty) (G15 : BufTy.Contents (Elt Ideal) arg15.view.ty) (f23 : BufTy.Contents (Elt Ideal) arg23.view.ty) (A : Layer.Args) (b : Fin 16) (s : Fin 8) (hlf : ∀ t c, ∃ r : ℝ, Layer.lfM A b t c = r)
    (h12 : ∀ (q : Fin 8) (t : Fin 64) (x : Fin 192), arg12.view.read (Elt Ideal) X_arg12 (ix2 (es q t) x) = if wlo q.val t.val ≤ x.val % 64 ∧ x.val % 64 < whi q.val t.val then (1 : EReal) else 0)
    (h18 : ∀ ρ c, arg18.view.read (Elt Ideal) X_arg18 (ix2 ρ c) = Layer.zM A b (prow s ρ) (Layer.part 2 c))
    (h19 : ∀ ρ c, arg19.view.read (Elt Ideal) X_arg19 (ix2 ρ c) = Layer.lfM A b (prow s ρ) c)
    (h20 : ∀ ρ c, arg20.view.read (Elt Ideal) X_arg20 (ix2 ρ c) = 1 - Layer.fM A b (prow s ρ) c)
    (h21 : ∀ ρ c, arg21.view.read (Elt Ideal) X_arg21 (ix2 ρ c) = Layer.zM A b (prow s ρ) (Layer.part 4 c))
    (h22 : ∀ ρ c, arg22.view.read (Elt Ideal) X_arg22 (ix2 ρ c) = Layer.zM A b (prow s ρ) (Layer.part 5 c))
    (hlvl : ∀ r j : Fin 64, v273 (ix2 r j) = lvlF r.val j.val) (hhn : ∀ d, v274 (ix2 0 d) = A.hn d)
    (hS : ∀ g a d, arg15.view.read (Elt Ideal) G15 (ix3 g a d) = Layer.stM A b (4 * s.val) g a d) (L : List (View.Piece (Elt Ideal) S256x2048 .bf16)) (inb) (ρ : Fin 256) (m : Fin 1024) :
    View.readAt (Elt Ideal) arg23.view (Rect.unit (s := S256x2048) ![0, 0] S256x2048.size inb).toLoadRect
      (arg23.view.writes (Elt Ideal) f23 ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v30 v257 v273 v274 X_arg12 X_arg18 X_arg19 X_arg20 X_arg21 X_arg22 G15 (arg23.view.writes (Elt Ideal) f23 L) k0_t1_loop.trips).2 ++ L)) (ix2 ρ ⟨1024 + m.val, by omega⟩) = Layer.omM A b (prow s ρ) m := by
  have ht := trips_eq
  have hk : ρ.val / 64 < k0_t1_loop.trips := by omega
  rw [View.writes_append]
  refine (rd _ _ _ rfl _ _ inb (ix2 ρ ⟨1024 + m.val, by omega⟩) (ix2 (rw64 ⟨ρ.val / 64, hk⟩ ⟨ρ.val % 64, by omega⟩) (mc ⟨m.val / 128, by omega⟩ ⟨m.val % 128, by omega⟩)) ?_).trans ?_
  · intro x; match x with
    | 0 => show 64 * (ρ.val / 64) + ρ.val % 64 = 0 + ρ.val; omega
    | 1 => show 1024 + (128 * (m.val / 128) + m.val % 128) = 0 + (1024 + m.val); omega
  refine (loop_mix 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v30 v257 v273 v274 X_arg12 X_arg18 X_arg19 X_arg20 X_arg21 X_arg22 G15 (arg23.view.writes (Elt Ideal) f23 L) _ _ _ _ k0_t1_loop.trips le_rfl hk).trans ?_
  refine (head_read A b s _ _ _ _ _ _ _ _ _ h12 hlf h19 h18 h20 h21 h22 hlvl hS hhn _ _ _ _).trans ?_
  have e1 : nch s ⟨ρ.val / 64, hk⟩ = ⟨(prow s ρ).val / 64, by omega⟩ := Fin.ext (by show 4 * s.val + ρ.val / 64 = (256 * s.val + ρ.val) / 64; omega)
  have e2 : (⟨ρ.val % 64, by omega⟩ : Fin 64) = ⟨(prow s ρ).val % 64, by omega⟩ := Fin.ext (by show ρ.val % 64 = (256 * s.val + ρ.val) % 64; omega)
  rw [Layer.omM, e1, e2]

set_option maxHeartbeats 4000000 in
/-- The mixed output's pool columns. -/
theorem mix_lo (𝒱 : Variants) (c : Dev nD) (bd : Option 𝒱.V) (i : grid0.Coords) (arg2 : Memref sig .tc .vmem S1x256x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S2048x1024 .bf16) (harg10 : arg10.IsWhole) (arg11 : Memref sig .tc .vmem S1x1024 .f32) (harg11 : arg11.IsWhole) (arg12 : Memref sig .tc .vmem S512x192 .bf16) (harg12 : arg12.IsWhole) (arg13 : Memref sig .tc .vmem S64x64 .i32) (harg13 : arg13.IsWhole) (arg14 : Memref sig .tc .vmem S1x256x1024 .f32) (harg14 : arg14.IsWhole) (arg15 : Memref sig .tc .vmem S8x128x128 .f32) (harg15 : arg15.IsWhole) (arg16 : Memref sig .tc .vmem S16x1024 .f32) (harg16 : arg16.IsWhole) (arg17 : Memref sig .tc .vmem S272x1024 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .f32) (harg22 : arg22.IsWhole) (arg23 : Memref sig .tc .vmem S256x2048 .bf16) (harg23 : arg23.IsWhole) (v30 : FVec Ideal S256x1024 .bf16) (v257 : FVec Ideal S256x1024 .f32) (v273 : Vec Ideal S64x64 .i32) (v274 : Vec Ideal S1x128 .f32) (X_arg12 : BufTy.Contents (Elt Ideal) arg12.view.ty) (X_arg18 : BufTy.Contents (Elt Ideal) arg18.view.ty) (X_arg19 : BufTy.Contents (Elt Ideal) arg19.view.ty) (X_arg20 : BufTy.Contents (Elt Ideal) arg20.view.ty) (X_arg21 : BufTy.Contents (Elt Ideal) arg21.view.ty) (X_arg22 : BufTy.Contents (Elt Ideal) arg22.view.ty) (G15 : BufTy.Contents (Elt Ideal) arg15.view.ty) (f23 : BufTy.Contents (Elt Ideal) arg23.view.ty) (A : Layer.Args) (b : Fin 16) (s : Fin 8)
    (P0 P1 P2 P3 : FVec Ideal S256x256 .bf16) (h0 : ∀ ρ c, P0 (ix2 ρ c) = Layer.plM A b (prow s ρ) (Layer.pcol 0 c)) (h1 : ∀ ρ c, P1 (ix2 ρ c) = Layer.plM A b (prow s ρ) (Layer.pcol 1 c))
    (h2 : ∀ ρ c, P2 (ix2 ρ c) = Layer.plM A b (prow s ρ) (Layer.pcol 2 c)) (h3 : ∀ ρ c, P3 (ix2 ρ c) = Layer.plM A b (prow s ρ) (Layer.pcol 3 c)) (i0 i1 i2 i3) (inb) (ρ : Fin 256) (m : Fin 1024) :
    View.readAt (Elt Ideal) arg23.view (Rect.unit (s := S256x2048) ![0, 0] S256x2048.size inb).toLoadRect
      (arg23.view.writes (Elt Ideal) f23 ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v30 v257 v273 v274 X_arg12 X_arg18 X_arg19 X_arg20 X_arg21 X_arg22 G15 (arg23.view.writes (Elt Ideal) f23
          [⟨Rect.unit (s := S256x2048) ![0, 768] S256x256.size i3, P3⟩, ⟨Rect.unit (s := S256x2048) ![0, 512] S256x256.size i2, P2⟩, ⟨Rect.unit (s := S256x2048) ![0, 256] S256x256.size i1, P1⟩, ⟨Rect.unit (s := S256x2048) ![0, 0] S256x256.size i0, P0⟩]) k0_t1_loop.trips).2
        ++ [⟨Rect.unit (s := S256x2048) ![0, 768] S256x256.size i3, P3⟩, ⟨Rect.unit (s := S256x2048) ![0, 512] S256x256.size i2, P2⟩, ⟨Rect.unit (s := S256x2048) ![0, 256] S256x256.size i1, P1⟩, ⟨Rect.unit (s := S256x2048) ![0, 0] S256x256.size i0, P0⟩]))
        (ix2 ρ ⟨m.val, by omega⟩) = Layer.plM A b (prow s ρ) m := by
  rw [View.writes_append]
  refine (rd _ _ _ rfl _ _ inb (ix2 ρ ⟨m.val, by omega⟩) (ix2 ρ ⟨m.val, by omega⟩) (by intro x; match x with | 0 => exact (Nat.zero_add _).symm | 1 => exact (Nat.zero_add _).symm)).trans ?_
  refine (loop_pool 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v30 v257 v273 v274 X_arg12 X_arg18 X_arg19 X_arg20 X_arg21 X_arg22 G15 _ ρ ⟨m.val, by omega⟩ m.isLt k0_t1_loop.trips le_rfl).trans ?_
  have hm : ∀ (q : Fin 4) (h : m.val / 256 = q.val), m = Layer.pcol q ⟨m.val % 256, by omega⟩ := fun q h => Fin.ext (by show m.val = 256 * q.val + m.val % 256; omega)
  obtain h | h | h | h : m.val / 256 = 3 ∨ m.val / 256 = 2 ∨ m.val / 256 = 1 ∨ m.val / 256 = 0 := by omega
  · rw [hm 3 h]
    rw [← h3]
    have hv : m.val = 768 + m.val % 256 := by omega
    exact View.read_writes_cons_unit_of_mem arg23.view f23 _ _ _ _ (ix2 ρ ⟨m.val % 256, by omega⟩) rfl (by intro x; match x with | 0 => exact (Nat.zero_add _).symm | 1 => rfl)
  · rw [hm 2 h]
    rw [← h2]
    have hv : m.val = 512 + m.val % 256 := by omega
    refine (View.read_writes_cons_unit_of_not_mem arg23.view f23 _ _ _ _ rfl 1 (by left; show 256 * 2 + m.val % 256 < 768; omega)).trans ?_
    exact View.read_writes_cons_unit_of_mem arg23.view f23 _ _ _ _ (ix2 ρ ⟨m.val % 256, by omega⟩) rfl (by intro x; match x with | 0 => exact (Nat.zero_add _).symm | 1 => rfl)
  · rw [hm 1 h]
    rw [← h1]
    have hv : m.val = 256 + m.val % 256 := by omega
    refine (View.read_writes_cons_unit_of_not_mem arg23.view f23 _ _ _ _ rfl 1 (by left; show 256 * 1 + m.val % 256 < 768; omega)).trans ?_
    refine (View.read_writes_cons_unit_of_not_mem arg23.view f23 _ _ _ _ rfl 1 (by left; show 256 * 1 + m.val % 256 < 512; omega)).trans ?_
    exact View.read_writes_cons_unit_of_mem arg23.view f23 _ _ _ _ (ix2 ρ ⟨m.val % 256, by omega⟩) rfl (by intro x; match x with | 0 => exact (Nat.zero_add _).symm | 1 => rfl)
  · rw [hm 0 h]
    rw [← h0]
    have hv : m.val = 0 + m.val % 256 := by omega
    refine (View.read_writes_cons_unit_of_not_mem arg23.view f23 _ _ _ _ rfl 1 (by left; show 256 * 0 + m.val % 256 < 768; omega)).trans ?_
    refine (View.read_writes_cons_unit_of_not_mem arg23.view f23 _ _ _ _ rfl 1 (by left; show 256 * 0 + m.val % 256 < 512; omega)).trans ?_
    refine (View.read_writes_cons_unit_of_not_mem arg23.view f23 _ _ _ _ rfl 1 (by left; show 256 * 0 + m.val % 256 < 256; omega)).trans ?_
    exact View.read_writes_cons_unit_of_mem arg23.view f23 _ _ _ _ (ix2 ρ ⟨m.val % 256, by omega⟩) rfl (by intro x; match x with | 0 => exact (Nat.zero_add _).symm | 1 => rfl)

end Cert.KernelIdeal.Val

end
-- ==== Proof.Value.lean ====
/- The layer kernel's body run at a grid point, with the values it leaves: the output block, the state and the last pool rows are the model's. -/
module

public import proofs.«01_k».proof.Proof.Mix
public import proofs.«01_k».proof.Proof.KernelIdealFrame

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen Cert.KernelIdeal.Hand

/-- The batch of a grid point. -/
abbrev bI (i : grid0.Coords) : Fin 16 := i 0
/-- The block of a grid point. -/
abbrev sI (i : grid0.Coords) : Fin 8 := i 1

/-- The windows' blocks at a grid point are the model's arguments. -/
structure In (A : Layer.Args) (b : Fin 16) (s : Fin 8) (x2 : Vec Ideal S1x256x1024 .f32) (x3 : Vec Ideal S1x1x3072 .f32) (x4 : Vec Ideal S1x1024 .f32) (x5 : Vec Ideal S1024x6144 .bf16) (x6 : Vec Ideal S4x256x256 .bf16) (x7 : Vec Ideal S1x1024 .f32) (x8 : Vec Ideal S1x1024 .f32) (x9 : Vec Ideal S1x128 .f32) (x10 : Vec Ideal S2048x1024 .bf16) (x11 : Vec Ideal S1x1024 .f32) (x12 : Vec Ideal S512x192 .bf16) (x13 : Vec Ideal S64x64 .i32) : Prop where
  h2 : ∀ ρ c, x2 (ix3 0 ρ c) = A.x b (prow s ρ) c
  h3 : ∀ c, x3 (ix3 0 0 c) = A.md b c
  h4 : ∀ c, x4 (ix2 0 c) = A.np c
  h5 : ∀ r c, x5 (ix2 r c) = A.wi r c
  h6 : ∀ q x e, x6 (ix3 q x e) = A.pw q x e
  h7 : ∀ c, x7 (ix2 0 c) = A.ps c
  h8 : ∀ c, x8 (ix2 0 c) = A.lo c
  h9 : ∀ d, x9 (ix2 0 d) = A.hn d
  h10 : ∀ m c, x10 (ix2 m c) = A.wo m c
  h11 : ∀ c, x11 (ix2 0 c) = A.nq c
  h12 : ∀ (q : Fin 8) (t : Fin 64) (x : Fin 192), x12 (ix2 (es q t) x) = if wlo q.val t.val ≤ x.val % 64 ∧ x.val % 64 < whi q.val t.val then (1 : EReal) else 0
  h13 : ∀ r j : Fin 64, x13 (ix2 r j) = lvlF r.val j.val

section
variable {κ' : Kind} {sp : Space}

/-- A whole matrix loaded. -/
theorem lz2 {m n : ℕ} {e : EltTy} (M : Memref sig .tc .vmem ⟨2, ![m, n]⟩ e) (hM : M.IsWhole) (X : Vec Ideal ⟨2, ![m, n]⟩ e) (inb) (r : Fin m) (c : Fin n) :
    View.readAt (Elt Ideal) M.view (Rect.unit (s := ⟨2, ![m, n]⟩) ![0, 0] (⟨2, ![m, n]⟩ : Shape).size inb).toLoadRect (hM.unread X) (ix2 r c) = X (ix2 r c) :=
  rd _ _ _ (hM.read_unread X) _ _ inb (ix2 r c) (ix2 r c) (by intro x; match x with | 0 => exact (Nat.zero_add _).symm | 1 => exact (Nat.zero_add _).symm)
/-- A whole array of rank three loaded. -/
theorem lz3 {l m n : ℕ} {e : EltTy} (M : Memref sig .tc .vmem ⟨3, ![l, m, n]⟩ e) (hM : M.IsWhole) (X : Vec Ideal ⟨3, ![l, m, n]⟩ e) (inb) (a : Fin l) (r : Fin m) (c : Fin n) :
    View.readAt (Elt Ideal) M.view (Rect.unit (s := ⟨3, ![l, m, n]⟩) ![0, 0, 0] (⟨3, ![l, m, n]⟩ : Shape).size inb).toLoadRect (hM.unread X) (ix3 a r c) = X (ix3 a r c) :=
  rd _ _ _ (hM.read_unread X) _ _ inb (ix3 a r c) (ix3 a r c) (by intro x; match x with | 0 => exact (Nat.zero_add _).symm | 1 => exact (Nat.zero_add _).symm | 2 => exact (Nat.zero_add _).symm)
/-- A part's columns of the projection's weights loaded. -/
theorem l5 (A : Layer.Args) (M : Memref sig .tc .vmem S1024x6144 .bf16) (hM : M.IsWhole) (X : Vec Ideal S1024x6144 .bf16) (h : ∀ r c, X (ix2 r c) = A.wi r c) (i : Fin 6) (o : ℕ) (ho : o = 1024 * i.val) (inb) (r c) :
    View.readAt (Elt Ideal) M.view (Rect.unit (s := S1024x6144) ![0, o] S1024x1024.size inb).toLoadRect (hM.unread X) (ix2 r c) = A.wi r (Layer.part i c) := by
  subst ho
  exact (rd _ _ _ (hM.read_unread X) _ _ inb (ix2 r c) (ix2 r (Layer.part i c)) (by intro x; match x with | 0 => exact (Nat.zero_add _).symm | 1 => rfl)).trans (h _ _)
/-- A pool group's weights loaded. -/
theorem l6 (A : Layer.Args) (M : Memref sig .tc .vmem S4x256x256 .bf16) (hM : M.IsWhole) (X : Vec Ideal S4x256x256 .bf16) (h : ∀ q x e, X (ix3 q x e) = A.pw q x e) (q : Fin 4) (o : ℕ) (ho : o = q.val) (inb) (x e) :
    View.readAt (Elt Ideal) M.view (Rect.unit (s := S4x256x256) ![o, 0, 0] S1x256x256.size inb).toLoadRect (hM.unread X) (ix3 0 x e) = A.pw q x e := by
  subst ho
  exact (rd _ _ _ (hM.read_unread X) _ _ inb (ix3 0 x e) (ix3 q x e) (by intro x; match x with | 0 => rfl | 1 => exact (Nat.zero_add _).symm | 2 => exact (Nat.zero_add _).symm)).trans (h _ _ _)
/-- A pool group's scales loaded. -/
theorem l7 (A : Layer.Args) (M : Memref sig .tc .vmem S1x1024 .f32) (hM : M.IsWhole) (X : Vec Ideal S1x1024 .f32) (h : ∀ c, X (ix2 0 c) = A.ps c) (q : Fin 4) (o : ℕ) (ho : o = 256 * q.val) (inb) (c) :
    View.readAt (Elt Ideal) M.view (Rect.unit (s := S1x1024) ![0, o] S1x256.size inb).toLoadRect (hM.unread X) (ix2 0 c) = A.ps (Layer.pcol q c) := by
  subst ho
  exact (rd _ _ _ (hM.read_unread X) _ _ inb (ix2 0 c) (ix2 0 (Layer.pcol q c)) (by intro x; match x with | 0 => rfl | 1 => rfl)).trans (h _)
/-- A whole matrix written and read. -/
theorem wz2 {m n : ℕ} {e : EltTy} (v : View sig κ' sp ⟨2, ![m, n]⟩ e) (f : v.ty.Contents (Elt Ideal)) (inb) (p : Vec Ideal ⟨2, ![m, n]⟩ e) (L) (r : Fin m) (c : Fin n) :
    v.read (Elt Ideal) (v.writes (Elt Ideal) f (⟨Rect.unit (s := ⟨2, ![m, n]⟩) ![0, 0] (⟨2, ![m, n]⟩ : Shape).size inb, p⟩ :: L)) (ix2 r c) = p (ix2 r c) :=
  View.read_writes_cons_unit_of_mem v f _ _ _ _ (ix2 r c) rfl (by intro x; match x with | 0 => exact (Nat.zero_add _).symm | 1 => exact (Nat.zero_add _).symm)
/-- A whole array of rank three written and read. -/
theorem wz3 {l m n : ℕ} {e : EltTy} (v : View sig κ' sp ⟨3, ![l, m, n]⟩ e) (f : v.ty.Contents (Elt Ideal)) (inb) (p : Vec Ideal ⟨3, ![l, m, n]⟩ e) (L) (a : Fin l) (r : Fin m) (c : Fin n) :
    v.read (Elt Ideal) (v.writes (Elt Ideal) f (⟨Rect.unit (s := ⟨3, ![l, m, n]⟩) ![0, 0, 0] (⟨3, ![l, m, n]⟩ : Shape).size inb, p⟩ :: L)) (ix3 a r c) = p (ix3 a r c) :=
  View.read_writes_cons_unit_of_mem v f _ _ _ _ (ix3 a r c) rfl (by intro x; match x with | 0 => exact (Nat.zero_add _).symm | 1 => exact (Nat.zero_add _).symm | 2 => exact (Nat.zero_add _).symm)
end

/-- One, as the kernel writes it. -/
theorem bits_one : Ideal.ofBits .f32 1065353216#32 = 1 := by
  simp [Ideal.ofBits, Ideal.ieee, BitVec.toNat]
  rw [← EReal.coe_mul, ← EReal.coe_one]; congr 1; norm_num

/-- The output block, from the mixed output. -/
theorem p1' (A : Layer.Args) (b : Fin 16) (s : Fin 8) (v4 : FVec Ideal S256x1024 .f32) (v9 : FVec Ideal S1x1024 .f32) (v277 : Vec Ideal S256x2048 .bf16) (v278 : Vec Ideal S2048x1024 .bf16) (cst : Ideal .f32) (v291 : Vec Ideal S1x1024 .f32)
    (h4 : ∀ ρ c, v4 (ix2 ρ c) = A.x b (prow s ρ) c) (h9 : ∀ c : Fin 1024, v9 (ix2 0 c) = A.md b ⟨2048 + c.val, by omega⟩)
    (hlo : ∀ ρ (m : Fin 1024), v277 (ix2 ρ ⟨m.val, by omega⟩) = Layer.plM A b (prow s ρ) m) (hhi : ∀ ρ (m : Fin 1024), v277 (ix2 ρ ⟨1024 + m.val, by omega⟩) = Layer.omM A b (prow s ρ) m)
    (hc : cst = Layer.cE) (h278 : ∀ m c, v278 (ix2 m c) = A.wo m c) (h291 : ∀ c, v291 (ix2 0 c) = A.nq c) (a : Fin 1) (ρ c) :
    k0_pay1 (F := Ideal) v4 v9 (k0_pay134 v277 v278) (k0_pay135 v277 v278) cst v291 (ix3 a ρ c) = Layer.outM A b (prow s ρ) c :=
  p1 A b s v4 v9 _ _ cst v291 h4 h9 (p134 A b s v277 hlo hhi v278 h278) (p135 A b s v277 hlo hhi v278 h278) hc h291 a ρ c

set_option maxHeartbeats 40000000 in
/-- The body {'run_start': 'at the first block of a sequence', 'run_rest': 'at a later block of a sequence'}: from the model's arguments in its windows and the model's state and pool rows in its scratch to the model's output block, state and pool rows. -/
theorem val_rest (A : Layer.Args) (hlf : ∀ b t c, ∃ r : ℝ, Layer.lfM A b t c = r) (c : Dev nD) (i : grid0.Coords) (arg2 : Memref sig .tc .vmem S1x256x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S2048x1024 .bf16) (harg10 : arg10.IsWhole) (arg11 : Memref sig .tc .vmem S1x1024 .f32) (harg11 : arg11.IsWhole) (arg12 : Memref sig .tc .vmem S512x192 .bf16) (harg12 : arg12.IsWhole) (arg13 : Memref sig .tc .vmem S64x64 .i32) (harg13 : arg13.IsWhole) (arg14 : Memref sig .tc .vmem S1x256x1024 .f32) (harg14 : arg14.IsWhole) (arg15 : Memref sig .tc .vmem S8x128x128 .f32) (harg15 : arg15.IsWhole) (arg16 : Memref sig .tc .vmem S16x1024 .f32) (harg16 : arg16.IsWhole) (arg17 : Memref sig .tc .vmem S272x1024 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .f32) (harg22 : arg22.IsWhole) (arg23 : Memref sig .tc .vmem S256x2048 .bf16) (harg23 : arg23.IsWhole)
    (hc : ¬ atStart i) (x2 : Vec Ideal S1x256x1024 .f32) (x3 : Vec Ideal S1x1x3072 .f32) (x4 : Vec Ideal S1x1024 .f32) (x5 : Vec Ideal S1024x6144 .bf16) (x6 : Vec Ideal S4x256x256 .bf16) (x7 : Vec Ideal S1x1024 .f32) (x8 : Vec Ideal S1x1024 .f32) (x9 : Vec Ideal S1x128 .f32) (x10 : Vec Ideal S2048x1024 .bf16) (x11 : Vec Ideal S1x1024 .f32) (x12 : Vec Ideal S512x192 .bf16) (x13 : Vec Ideal S64x64 .i32) (I : In A (bI i) (sI i) x2 x3 x4 x5 x6 x7 x8 x9 x10 x11 x12 x13) (E : Set ℕ) (K : PUnit → sProp (MT nD τ sig Unit (Elt Ideal) ℕ (UR sig nD τ) ℕ)) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ owns (c : Thread nD τ) arg15 fullShare (stV A (bI i) (4 * (sI i).val)) ∗ owns (c : Thread nD τ) arg16 fullShare (tlV A (bI i) (sI i).val) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (outV A (bI i) (sI i)) ∗ owns (c : Thread nD τ) arg15 fullShare (stV A (bI i) (4 * ((sI i).val + 1))) ∗ owns (c : Thread nD τ) arg16 fullShare (tlV A (bI i) ((sI i).val + 1)) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := Ideal)) Variants.none c none) E (cc0_hybrid_layer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_hybrid_layer_eq_skeleton]; unfold cc0_hybrid_layer_skel
  simp only [k0_part22_eq_skeleton, k0_part23_eq_skeleton, k0_part24_eq_skeleton, k0_part25_eq_skeleton, k0_part26_eq_skeleton, k0_part27_eq_skeleton, k0_part28_eq_skeleton, k0_part29_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg15.eq_unread hf15; obtain rfl := harg16.eq_unread hf16
  sl_exec (disch := first | sl_exact hc)
  sl_step
  iapply Hk
  have hH : ∀ ρ k, val_rest.sl.r_2 c arg2 harg2 arg3 harg3 arg4 harg4 x2 x3 x4 (ix2 ρ k) = Layer.hM A (bI i) (prow (sI i) ρ) k := by
    intro ρ k
    refine p101 A (bI i) (sI i) _ ?_ _ ?_ _ ?_ ρ k
    · exact fun ρ k => (lz3 arg2 harg2 x2 _ 0 ρ k).trans (I.h2 ρ k)
    · exact fun k => (lz3 arg3 harg3 x3 _ 0 0 k).trans (I.h3 k)
    · exact fun k => (lz2 arg4 harg4 x4 _ 0 k).trans (I.h4 k)
  have hU : ∀ ρ k, val_rest.sl.r_3 c arg2 harg2 arg3 harg3 arg4 harg4 arg5 harg5 x2 x3 x4 x5 (ix2 ρ k) = Layer.zM A (bI i) (prow (sI i) ρ) (Layer.part 0 k) := by
    intro ρ k
    refine p102 A (bI i) (sI i) _ ?_ _ ?_ _ ?_ 0 _ ?_ ρ k
    · exact fun ρ k => (lz3 arg2 harg2 x2 _ 0 ρ k).trans (I.h2 ρ k)
    · exact fun k => (lz3 arg3 harg3 x3 _ 0 0 k).trans (I.h3 k)
    · exact fun k => (lz2 arg4 harg4 x4 _ 0 k).trans (I.h4 k)
    · exact l5 A arg5 harg5 x5 I.h5 0 _ rfl _
  have hg : ∀ ρ k, val_rest.sl.r_6 c arg2 harg2 arg3 harg3 arg4 harg4 arg5 harg5 x2 x3 x4 x5 (ix2 ρ k) = Layer.zM A (bI i) (prow (sI i) ρ) (Layer.part 1 k) := by
    intro ρ k
    refine p106 A (bI i) (sI i) _ hH 1 _ ?_ ρ k
    exact l5 A arg5 harg5 x5 I.h5 1 _ rfl _
  have hw3 := l5 A arg5 harg5 x5 I.h5 3 3072 rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; swap; · iexact H14
    ipureintro
    refine vec3 _ (fun _ ρ k => Layer.outM A (bI i) (prow (sI i) ρ) k) fun a ρ k => ?_
    refine (wz3 arg14.view _ _ _ _ a ρ k).trans ?_
    refine p1' A (bI i) (sI i) _ _ _ _ _ _ ?_ ?_ ?_ ?_ rfl ?_ ?_ a ρ k
    · exact p98 A (bI i) (sI i) _ (fun ρ k => (lz3 arg2 harg2 x2 _ 0 ρ k).trans (I.h2 ρ k))
    · exact p100 A (bI i) _ (fun k => (lz3 arg3 harg3 x3 _ 0 0 k).trans (I.h3 k))
    · intro ρ m
      refine mix_lo _ _ _ _ _ _ _ _ _ _ _ _ _ _ _ _ _ _ _ _ _ _ _ _ _ _ _ _ _ _ _ _ _ _ _ _ _ _ _ _ _ _ _ _ _ _ _ _ _ _ _ _ _ _ _ _ _ _ _ _ A (bI i) (sI i) _ _ _ _ ?_ ?_ ?_ ?_ _ _ _ _ _ ρ m
      · intro ρ k; rw [plM_at]
        refine p111 (fun ρ k => avP A (bI i) (sI i) 0 ρ k * A.ps (Layer.pcol 0 k)) (fun ρ k => Layer.zM A (bI i) (prow (sI i) ρ) (Layer.part 1 (Layer.pcol 0 k))) _ _ _ ?_ ?_ ?_ ρ k
        · intro ρ k; refine p108 A (bI i) (sI i) _ hU _ ?_ _ ?_ _ ?_ ρ k
          · intro ρ k; refine ext_read A (bI i) (sI i) _ _ _ _ hU ?_ _ _ 15 0 _ 0 rfl 1 rfl ρ k; exact fun j k => lz2 arg16 harg16 (tlV A (bI i) (sI i).val) _ j k
          · exact l6 A arg6 harg6 x6 I.h6 0 _ rfl _
          · exact l7 A arg7 harg7 x7 I.h7 0 _ rfl _
        · intro ρ k; exact p109 A (bI i) (sI i) _ hH _ (l5 A arg5 harg5 x5 I.h5 1 _ rfl _) ρ k
        · intro ρ k; exact p110 A (bI i) (sI i) _ hH _ (l5 A arg5 harg5 x5 I.h5 1 _ rfl _) ρ k
      · intro ρ k; rw [plM_at]
        refine p116 (fun ρ k => avP A (bI i) (sI i) 1 ρ k * A.ps (Layer.pcol 1 k)) (fun ρ k => Layer.zM A (bI i) (prow (sI i) ρ) (Layer.part 1 (Layer.pcol 1 k))) _ _ _ ?_ ?_ ?_ ρ k
        · intro ρ k; refine p112 A (bI i) (sI i) _ hU _ ?_ _ ?_ _ ?_ _ ?_ _ ?_ ρ k
          · intro ρ k; refine ext_read A (bI i) (sI i) _ _ _ _ hU ?_ _ _ 15 256 _ 1 rfl 1 rfl ρ k; exact fun j k => lz2 arg16 harg16 (tlV A (bI i) (sI i).val) _ j k
          · intro ρ k; refine ext_read A (bI i) (sI i) _ _ _ _ hU ?_ _ _ 14 256 _ 1 rfl 2 rfl ρ k; exact fun j k => lz2 arg16 harg16 (tlV A (bI i) (sI i).val) _ j k
          · intro ρ k; refine ext_read A (bI i) (sI i) _ _ _ _ hU ?_ _ _ 13 256 _ 1 rfl 3 rfl ρ k; exact fun j k => lz2 arg16 harg16 (tlV A (bI i) (sI i).val) _ j k
          · exact l6 A arg6 harg6 x6 I.h6 1 _ rfl _
          · exact l7 A arg7 harg7 x7 I.h7 1 _ rfl _
        · intro ρ k; exact p113 A (bI i) (sI i) _ hg ρ k
        · intro ρ k; exact p114 A (bI i) (sI i) _ hg ρ k
      · intro ρ k; rw [plM_at]
        refine p118 A (bI i) (sI i) _ hg (avP A (bI i) (sI i) 2) _ ?_ _ ?_ ρ k
        · intro ρ k; refine p117 A (bI i) (sI i) _ hU _ ?_ _ ?_ _ ?_ _ ?_ _ ?_ _ ?_ _ ?_ _ ?_ ρ k
          · intro ρ k; refine ext_read A (bI i) (sI i) _ _ _ _ hU ?_ _ _ 15 512 _ 2 rfl 1 rfl ρ k; exact fun j k => lz2 arg16 harg16 (tlV A (bI i) (sI i).val) _ j k
          · intro ρ k; refine ext_read A (bI i) (sI i) _ _ _ _ hU ?_ _ _ 14 512 _ 2 rfl 2 rfl ρ k; exact fun j k => lz2 arg16 harg16 (tlV A (bI i) (sI i).val) _ j k
          · intro ρ k; refine ext_read A (bI i) (sI i) _ _ _ _ hU ?_ _ _ 13 512 _ 2 rfl 3 rfl ρ k; exact fun j k => lz2 arg16 harg16 (tlV A (bI i) (sI i).val) _ j k
          · intro ρ k; refine ext_read A (bI i) (sI i) _ _ _ _ hU ?_ _ _ 12 512 _ 2 rfl 4 rfl ρ k; exact fun j k => lz2 arg16 harg16 (tlV A (bI i) (sI i).val) _ j k
          · intro ρ k; refine ext_read A (bI i) (sI i) _ _ _ _ hU ?_ _ _ 11 512 _ 2 rfl 5 rfl ρ k; exact fun j k => lz2 arg16 harg16 (tlV A (bI i) (sI i).val) _ j k
          · intro ρ k; refine ext_read A (bI i) (sI i) _ _ _ _ hU ?_ _ _ 10 512 _ 2 rfl 6 rfl ρ k; exact fun j k => lz2 arg16 harg16 (tlV A (bI i) (sI i).val) _ j k
          · intro ρ k; refine ext_read A (bI i) (sI i) _ _ _ _ hU ?_ _ _ 9 512 _ 2 rfl 7 rfl ρ k; exact fun j k => lz2 arg16 harg16 (tlV A (bI i) (sI i).val) _ j k
          · exact l6 A arg6 harg6 x6 I.h6 2 _ rfl _
        · exact l7 A arg7 harg7 x7 I.h7 2 _ rfl _
      · intro ρ k; rw [plM_at]
        refine p124 (fun ρ k => avP A (bI i) (sI i) 3 ρ k * A.ps (Layer.pcol 3 k)) (fun ρ k => Layer.zM A (bI i) (prow (sI i) ρ) (Layer.part 1 (Layer.pcol 3 k))) _ _ _ ?_ ?_ ?_ _ bits_one ρ k
        · intro ρ k; refine p121 A (bI i) (sI i) _ hU _ ?_ _ ?_ _ ?_ _ ?_ _ ?_ _ ?_ _ ?_ _ ?_ _ ?_ _ ?_ _ ?_ _ ?_ _ ?_ _ ?_ _ ?_ _ ?_ _ ?_ ρ k
          · intro ρ k; refine ext_read A (bI i) (sI i) _ _ _ _ hU ?_ _ _ 15 768 _ 3 rfl 1 rfl ρ k; exact fun j k => lz2 arg16 harg16 (tlV A (bI i) (sI i).val) _ j k
          · intro ρ k; refine ext_read A (bI i) (sI i) _ _ _ _ hU ?_ _ _ 14 768 _ 3 rfl 2 rfl ρ k; exact fun j k => lz2 arg16 harg16 (tlV A (bI i) (sI i).val) _ j k
          · intro ρ k; refine ext_read A (bI i) (sI i) _ _ _ _ hU ?_ _ _ 13 768 _ 3 rfl 3 rfl ρ k; exact fun j k => lz2 arg16 harg16 (tlV A (bI i) (sI i).val) _ j k
          · intro ρ k; refine ext_read A (bI i) (sI i) _ _ _ _ hU ?_ _ _ 12 768 _ 3 rfl 4 rfl ρ k; exact fun j k => lz2 arg16 harg16 (tlV A (bI i) (sI i).val) _ j k
          · intro ρ k; refine ext_read A (bI i) (sI i) _ _ _ _ hU ?_ _ _ 11 768 _ 3 rfl 5 rfl ρ k; exact fun j k => lz2 arg16 harg16 (tlV A (bI i) (sI i).val) _ j k
          · intro ρ k; refine ext_read A (bI i) (sI i) _ _ _ _ hU ?_ _ _ 10 768 _ 3 rfl 6 rfl ρ k; exact fun j k => lz2 arg16 harg16 (tlV A (bI i) (sI i).val) _ j k
          · intro ρ k; refine ext_read A (bI i) (sI i) _ _ _ _ hU ?_ _ _ 9 768 _ 3 rfl 7 rfl ρ k; exact fun j k => lz2 arg16 harg16 (tlV A (bI i) (sI i).val) _ j k
          · intro ρ k; refine ext_read A (bI i) (sI i) _ _ _ _ hU ?_ _ _ 8 768 _ 3 rfl 8 rfl ρ k; exact fun j k => lz2 arg16 harg16 (tlV A (bI i) (sI i).val) _ j k
          · intro ρ k; refine ext_read A (bI i) (sI i) _ _ _ _ hU ?_ _ _ 7 768 _ 3 rfl 9 rfl ρ k; exact fun j k => lz2 arg16 harg16 (tlV A (bI i) (sI i).val) _ j k
          · intro ρ k; refine ext_read A (bI i) (sI i) _ _ _ _ hU ?_ _ _ 6 768 _ 3 rfl 10 rfl ρ k; exact fun j k => lz2 arg16 harg16 (tlV A (bI i) (sI i).val) _ j k
          · intro ρ k; refine ext_read A (bI i) (sI i) _ _ _ _ hU ?_ _ _ 5 768 _ 3 rfl 11 rfl ρ k; exact fun j k => lz2 arg16 harg16 (tlV A (bI i) (sI i).val) _ j k
          · intro ρ k; refine ext_read A (bI i) (sI i) _ _ _ _ hU ?_ _ _ 4 768 _ 3 rfl 12 rfl ρ k; exact fun j k => lz2 arg16 harg16 (tlV A (bI i) (sI i).val) _ j k
          · intro ρ k; refine ext_read A (bI i) (sI i) _ _ _ _ hU ?_ _ _ 3 768 _ 3 rfl 13 rfl ρ k; exact fun j k => lz2 arg16 harg16 (tlV A (bI i) (sI i).val) _ j k
          · intro ρ k; refine ext_read A (bI i) (sI i) _ _ _ _ hU ?_ _ _ 2 768 _ 3 rfl 14 rfl ρ k; exact fun j k => lz2 arg16 harg16 (tlV A (bI i) (sI i).val) _ j k
          · intro ρ k; refine ext_read A (bI i) (sI i) _ _ _ _ hU ?_ _ _ 1 768 _ 3 rfl 15 rfl ρ k; exact fun j k => lz2 arg16 harg16 (tlV A (bI i) (sI i).val) _ j k
          · exact l6 A arg6 harg6 x6 I.h6 3 _ rfl _
          · exact l7 A arg7 harg7 x7 I.h7 3 _ rfl _
        · intro ρ k; exact p122 A (bI i) (sI i) _ hg ρ k
        · intro ρ k; exact p123 A (bI i) (sI i) _ hg ρ k
    · intro ρ m
      refine mix_hi _ _ _ _ _ _ _ _ _ _ _ _ _ _ _ _ _ _ _ _ _ _ _ _ _ _ _ _ _ _ _ _ _ _ _ _ _ _ _ _ _ _ _ _ _ _ _ _ _ _ _ _ _ _ _ _ _ _ _ _ A (bI i) (sI i) (hlf (bI i)) ?_ ?_ ?_ ?_ ?_ ?_ ?_ ?_ ?_ _ _ ρ m
      · exact fun q t x => (congrFun (harg12.read_unread x12) _).trans (I.h12 q t x)
      · intro ρ k; refine (wz2 arg18.view _ _ _ _ ρ k).trans ?_; exact p125 A (bI i) (sI i) _ hH 2 _ (l5 A arg5 harg5 x5 I.h5 2 _ rfl _) ρ k
      · intro ρ k; refine (wz2 arg19.view _ _ _ _ ρ k).trans ?_; exact p127 A (bI i) (sI i) _ hH _ (fun k => (lz2 arg8 harg8 x8 _ 0 k).trans (I.h8 k)) _ (hw3 _) ρ k
      · intro ρ k; refine (wz2 arg20.view _ _ _ _ ρ k).trans ?_; exact p129 A (bI i) (sI i) _ hH _ (fun k => (lz2 arg8 harg8 x8 _ 0 k).trans (I.h8 k)) _ (hw3 _) ρ k
      · intro ρ k; refine (wz2 arg21.view _ _ _ _ ρ k).trans ?_; exact p130 A (bI i) (sI i) _ hH 4 _ (l5 A arg5 harg5 x5 I.h5 4 _ rfl _) ρ k
      · intro ρ k; refine (wz2 arg22.view _ _ _ _ ρ k).trans ?_; exact p131 A (bI i) (sI i) _ hH 5 _ (l5 A arg5 harg5 x5 I.h5 5 _ rfl _) ρ k
      · exact fun r j => (lz2 arg13 harg13 x13 _ r j).trans (I.h13 r j)
      · exact fun d => (lz2 arg9 harg9 x9 _ 0 d).trans (I.h9 d)
      · exact fun g a d => congrFun (harg15.read_unread (stV A (bI i) (4 * (sI i).val))) (ix3 g a d)
    · exact fun m k => (lz2 arg10 harg10 x10 _ m k).trans (I.h10 m k)
    · exact fun k => (lz2 arg11 harg11 x11 _ 0 k).trans (I.h11 k)
  isplitl [H15]
  · iexists _; isplitr; swap; · iexact H15
    ipureintro

    refine st_fin _ _ _ _ _ _ _ _ _ _ _ _ _ _ _ _ _ _ _ _ _ _ _ _ _ _ _ _ _ _ _ _ _ _ _ _ _ _ _ _ _ _ _ _ _ _ _ _ _ _ _ _ _ _ _ _ _ _ _ _ A (bI i) (sI i) (hlf (bI i)) ?_ ?_ ?_ ?_ ?_ ?_ ?_ ?_ ?_
    · exact fun q t x => (congrFun (harg12.read_unread x12) _).trans (I.h12 q t x)
    · intro ρ k; refine (wz2 arg18.view _ _ _ _ ρ k).trans ?_; exact p125 A (bI i) (sI i) _ hH 2 _ (l5 A arg5 harg5 x5 I.h5 2 _ rfl _) ρ k
    · intro ρ k; refine (wz2 arg19.view _ _ _ _ ρ k).trans ?_; exact p127 A (bI i) (sI i) _ hH _ (fun k => (lz2 arg8 harg8 x8 _ 0 k).trans (I.h8 k)) _ (hw3 _) ρ k
    · intro ρ k; refine (wz2 arg20.view _ _ _ _ ρ k).trans ?_; exact p129 A (bI i) (sI i) _ hH _ (fun k => (lz2 arg8 harg8 x8 _ 0 k).trans (I.h8 k)) _ (hw3 _) ρ k
    · intro ρ k; refine (wz2 arg21.view _ _ _ _ ρ k).trans ?_; exact p130 A (bI i) (sI i) _ hH 4 _ (l5 A arg5 harg5 x5 I.h5 4 _ rfl _) ρ k
    · intro ρ k; refine (wz2 arg22.view _ _ _ _ ρ k).trans ?_; exact p131 A (bI i) (sI i) _ hH 5 _ (l5 A arg5 harg5 x5 I.h5 5 _ rfl _) ρ k
    · exact fun r j => (lz2 arg13 harg13 x13 _ r j).trans (I.h13 r j)
    · exact fun d => (lz2 arg9 harg9 x9 _ 0 d).trans (I.h9 d)
    · exact fun g a d => congrFun (harg15.read_unread (stV A (bI i) (4 * (sI i).val))) (ix3 g a d)
  isplitl [H16]
  · iexists _; isplitr; swap; · iexact H16
    ipureintro
    refine vec2 _ (fun (j : Fin 16) k => if 16 ≤ 256 * ((sI i).val + 1) + j.val then Layer.uN A (bI i) k (256 * ((sI i).val + 1) + j.val - 16) else 0) fun j k => ?_
    refine (wz2 arg16.view _ _ _ _ j k).trans ?_
    exact p105 A (bI i) (sI i) _ hU j k
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl

  · iexists _, _; isplitr; swap; · iexact H23
    ipureintro; rfl

set_option maxHeartbeats 40000000 in
/-- The body {'run_start': 'at the first block of a sequence', 'run_rest': 'at a later block of a sequence'}: from the model's arguments in its windows to the model's output block, state and pool rows. -/
theorem val_start (A : Layer.Args) (hlf : ∀ b t c, ∃ r : ℝ, Layer.lfM A b t c = r) (c : Dev nD) (i : grid0.Coords) (arg2 : Memref sig .tc .vmem S1x256x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x128 .f32) (harg9 : arg9.IsWhole) (arg10 : Memref sig .tc .vmem S2048x1024 .bf16) (harg10 : arg10.IsWhole) (arg11 : Memref sig .tc .vmem S1x1024 .f32) (harg11 : arg11.IsWhole) (arg12 : Memref sig .tc .vmem S512x192 .bf16) (harg12 : arg12.IsWhole) (arg13 : Memref sig .tc .vmem S64x64 .i32) (harg13 : arg13.IsWhole) (arg14 : Memref sig .tc .vmem S1x256x1024 .f32) (harg14 : arg14.IsWhole) (arg15 : Memref sig .tc .vmem S8x128x128 .f32) (harg15 : arg15.IsWhole) (arg16 : Memref sig .tc .vmem S16x1024 .f32) (harg16 : arg16.IsWhole) (arg17 : Memref sig .tc .vmem S272x1024 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x1024 .f32) (harg21 : arg21.IsWhole) (arg22 : Memref sig .tc .vmem S256x1024 .f32) (harg22 : arg22.IsWhole) (arg23 : Memref sig .tc .vmem S256x2048 .bf16) (harg23 : arg23.IsWhole)
    (hc : atStart i) (hi : (sI i).val = 0) (x2 : Vec Ideal S1x256x1024 .f32) (x3 : Vec Ideal S1x1x3072 .f32) (x4 : Vec Ideal S1x1024 .f32) (x5 : Vec Ideal S1024x6144 .bf16) (x6 : Vec Ideal S4x256x256 .bf16) (x7 : Vec Ideal S1x1024 .f32) (x8 : Vec Ideal S1x1024 .f32) (x9 : Vec Ideal S1x128 .f32) (x10 : Vec Ideal S2048x1024 .bf16) (x11 : Vec Ideal S1x1024 .f32) (x12 : Vec Ideal S512x192 .bf16) (x13 : Vec Ideal S64x64 .i32) (I : In A (bI i) (sI i) x2 x3 x4 x5 x6 x7 x8 x9 x10 x11 x12 x13) (E : Set ℕ) (K : PUnit → sProp (MT nD τ sig Unit (Elt Ideal) ℕ (UR sig nD τ) ℕ)) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (outV A (bI i) (sI i)) ∗ owns (c : Thread nD τ) arg15 fullShare (stV A (bI i) (4 * ((sI i).val + 1))) ∗ owns (c : Thread nD τ) arg16 fullShare (tlV A (bI i) ((sI i).val + 1)) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := Ideal)) Variants.none c none) E (cc0_hybrid_layer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_hybrid_layer_eq_skeleton]; unfold cc0_hybrid_layer_skel
  simp only [k0_part22_eq_skeleton, k0_part23_eq_skeleton, k0_part24_eq_skeleton, k0_part25_eq_skeleton, k0_part26_eq_skeleton, k0_part27_eq_skeleton, k0_part28_eq_skeleton, k0_part29_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec (disch := first | sl_exact hc)
  sl_step
  iapply Hk
  have hH : ∀ ρ k, val_start.sl.r_2 c arg2 harg2 arg3 harg3 arg4 harg4 x2 x3 x4 (ix2 ρ k) = Layer.hM A (bI i) (prow (sI i) ρ) k := by
    intro ρ k
    refine p101 A (bI i) (sI i) _ ?_ _ ?_ _ ?_ ρ k
    · exact fun ρ k => (lz3 arg2 harg2 x2 _ 0 ρ k).trans (I.h2 ρ k)
    · exact fun k => (lz3 arg3 harg3 x3 _ 0 0 k).trans (I.h3 k)
    · exact fun k => (lz2 arg4 harg4 x4 _ 0 k).trans (I.h4 k)
  have hU : ∀ ρ k, val_start.sl.r_3 c arg2 harg2 arg3 harg3 arg4 harg4 arg5 harg5 x2 x3 x4 x5 (ix2 ρ k) = Layer.zM A (bI i) (prow (sI i) ρ) (Layer.part 0 k) := by
    intro ρ k
    refine p102 A (bI i) (sI i) _ ?_ _ ?_ _ ?_ 0 _ ?_ ρ k
    · exact fun ρ k => (lz3 arg2 harg2 x2 _ 0 ρ k).trans (I.h2 ρ k)
    · exact fun k => (lz3 arg3 harg3 x3 _ 0 0 k).trans (I.h3 k)
    · exact fun k => (lz2 arg4 harg4 x4 _ 0 k).trans (I.h4 k)
    · exact l5 A arg5 harg5 x5 I.h5 0 _ rfl _
  have hg : ∀ ρ k, val_start.sl.r_5 c arg2 harg2 arg3 harg3 arg4 harg4 arg5 harg5 x2 x3 x4 x5 (ix2 ρ k) = Layer.zM A (bI i) (prow (sI i) ρ) (Layer.part 1 k) := by
    intro ρ k
    refine p106 A (bI i) (sI i) _ hH 1 _ ?_ ρ k
    exact l5 A arg5 harg5 x5 I.h5 1 _ rfl _
  have hZ : ∀ j k, val_start.sl.v34 c arg16 (ix2 j k) = (0 : EReal) := by
    intro j k
    unfold val_start.sl.v34
    refine (rd _ _ _ rfl _ _ _ (ix2 j k) (ix2 j k) ?_).trans ?_
    · intro x; match x with | 0 => exact (Nat.zero_add _).symm | 1 => exact (Nat.zero_add _).symm
    refine (wz2 arg16.view _ _ _ _ j k).trans ?_
    unfold k0_pay97; pointwise []
  have hS : ∀ g a d, View.read (Elt Ideal) arg15.view (arg15.view.writes (Elt Ideal) arg15.view.junk val_start.sl.H15_1) (ix3 g a d) = stV A (bI i) (4 * (sI i).val) (ix3 g a d) := by
    intro g a d
    refine (wz3 arg15.view _ _ _ _ g a d).trans ?_
    rw [hi]; show _ = (0 : EReal)
    unfold k0_pay96; pointwise []
  have hw3 := l5 A arg5 harg5 x5 I.h5 3 3072 rfl
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; swap; · iexact H14
    ipureintro
    refine vec3 _ (fun _ ρ k => Layer.outM A (bI i) (prow (sI i) ρ) k) fun a ρ k => ?_
    refine (wz3 arg14.view _ _ _ _ a ρ k).trans ?_
    refine p1' A (bI i) (sI i) _ _ _ _ _ _ ?_ ?_ ?_ ?_ rfl ?_ ?_ a ρ k
    · exact p98 A (bI i) (sI i) _ (fun ρ k => (lz3 arg2 harg2 x2 _ 0 ρ k).trans (I.h2 ρ k))
    · exact p100 A (bI i) _ (fun k => (lz3 arg3 harg3 x3 _ 0 0 k).trans (I.h3 k))
    · intro ρ m
      refine mix_lo _ _ _ _ _ _ _ _ _ _ _ _ _ _ _ _ _ _ _ _ _ _ _ _ _ _ _ _ _ _ _ _ _ _ _ _ _ _ _ _ _ _ _ _ _ _ _ _ _ _ _ _ _ _ _ _ _ _ _ _ A (bI i) (sI i) _ _ _ _ ?_ ?_ ?_ ?_ _ _ _ _ _ ρ m
      · intro ρ k; rw [plM_at]
        refine p111 (fun ρ k => avP A (bI i) (sI i) 0 ρ k * A.ps (Layer.pcol 0 k)) (fun ρ k => Layer.zM A (bI i) (prow (sI i) ρ) (Layer.part 1 (Layer.pcol 0 k))) _ _ _ ?_ ?_ ?_ ρ k
        · intro ρ k; refine p108 A (bI i) (sI i) _ hU _ ?_ _ ?_ _ ?_ ρ k
          · intro ρ k; refine ext_read A (bI i) (sI i) _ _ _ _ hU ?_ _ _ 15 0 _ 0 rfl 1 rfl ρ k; exact fun j k => (hZ j k).trans (if_neg (by omega)).symm
          · exact l6 A arg6 harg6 x6 I.h6 0 _ rfl _
          · exact l7 A arg7 harg7 x7 I.h7 0 _ rfl _
        · intro ρ k; exact p109 A (bI i) (sI i) _ hH _ (l5 A arg5 harg5 x5 I.h5 1 _ rfl _) ρ k
        · intro ρ k; exact p110 A (bI i) (sI i) _ hH _ (l5 A arg5 harg5 x5 I.h5 1 _ rfl _) ρ k
      · intro ρ k; rw [plM_at]
        refine p116 (fun ρ k => avP A (bI i) (sI i) 1 ρ k * A.ps (Layer.pcol 1 k)) (fun ρ k => Layer.zM A (bI i) (prow (sI i) ρ) (Layer.part 1 (Layer.pcol 1 k))) _ _ _ ?_ ?_ ?_ ρ k
        · intro ρ k; refine p112 A (bI i) (sI i) _ hU _ ?_ _ ?_ _ ?_ _ ?_ _ ?_ ρ k
          · intro ρ k; refine ext_read A (bI i) (sI i) _ _ _ _ hU ?_ _ _ 15 256 _ 1 rfl 1 rfl ρ k; exact fun j k => (hZ j k).trans (if_neg (by omega)).symm
          · intro ρ k; refine ext_read A (bI i) (sI i) _ _ _ _ hU ?_ _ _ 14 256 _ 1 rfl 2 rfl ρ k; exact fun j k => (hZ j k).trans (if_neg (by omega)).symm
          · intro ρ k; refine ext_read A (bI i) (sI i) _ _ _ _ hU ?_ _ _ 13 256 _ 1 rfl 3 rfl ρ k; exact fun j k => (hZ j k).trans (if_neg (by omega)).symm
          · exact l6 A arg6 harg6 x6 I.h6 1 _ rfl _
          · exact l7 A arg7 harg7 x7 I.h7 1 _ rfl _
        · intro ρ k; exact p113 A (bI i) (sI i) _ hg ρ k
        · intro ρ k; exact p114 A (bI i) (sI i) _ hg ρ k
      · intro ρ k; rw [plM_at]
        refine p118 A (bI i) (sI i) _ hg (avP A (bI i) (sI i) 2) _ ?_ _ ?_ ρ k
        · intro ρ k; refine p117 A (bI i) (sI i) _ hU _ ?_ _ ?_ _ ?_ _ ?_ _ ?_ _ ?_ _ ?_ _ ?_ ρ k
          · intro ρ k; refine ext_read A (bI i) (sI i) _ _ _ _ hU ?_ _ _ 15 512 _ 2 rfl 1 rfl ρ k; exact fun j k => (hZ j k).trans (if_neg (by omega)).symm
          · intro ρ k; refine ext_read A (bI i) (sI i) _ _ _ _ hU ?_ _ _ 14 512 _ 2 rfl 2 rfl ρ k; exact fun j k => (hZ j k).trans (if_neg (by omega)).symm
          · intro ρ k; refine ext_read A (bI i) (sI i) _ _ _ _ hU ?_ _ _ 13 512 _ 2 rfl 3 rfl ρ k; exact fun j k => (hZ j k).trans (if_neg (by omega)).symm
          · intro ρ k; refine ext_read A (bI i) (sI i) _ _ _ _ hU ?_ _ _ 12 512 _ 2 rfl 4 rfl ρ k; exact fun j k => (hZ j k).trans (if_neg (by omega)).symm
          · intro ρ k; refine ext_read A (bI i) (sI i) _ _ _ _ hU ?_ _ _ 11 512 _ 2 rfl 5 rfl ρ k; exact fun j k => (hZ j k).trans (if_neg (by omega)).symm
          · intro ρ k; refine ext_read A (bI i) (sI i) _ _ _ _ hU ?_ _ _ 10 512 _ 2 rfl 6 rfl ρ k; exact fun j k => (hZ j k).trans (if_neg (by omega)).symm
          · intro ρ k; refine ext_read A (bI i) (sI i) _ _ _ _ hU ?_ _ _ 9 512 _ 2 rfl 7 rfl ρ k; exact fun j k => (hZ j k).trans (if_neg (by omega)).symm
          · exact l6 A arg6 harg6 x6 I.h6 2 _ rfl _
        · exact l7 A arg7 harg7 x7 I.h7 2 _ rfl _
      · intro ρ k; rw [plM_at]
        refine p124 (fun ρ k => avP A (bI i) (sI i) 3 ρ k * A.ps (Layer.pcol 3 k)) (fun ρ k => Layer.zM A (bI i) (prow (sI i) ρ) (Layer.part 1 (Layer.pcol 3 k))) _ _ _ ?_ ?_ ?_ _ bits_one ρ k
        · intro ρ k; refine p121 A (bI i) (sI i) _ hU _ ?_ _ ?_ _ ?_ _ ?_ _ ?_ _ ?_ _ ?_ _ ?_ _ ?_ _ ?_ _ ?_ _ ?_ _ ?_ _ ?_ _ ?_ _ ?_ _ ?_ ρ k
          · intro ρ k; refine ext_read A (bI i) (sI i) _ _ _ _ hU ?_ _ _ 15 768 _ 3 rfl 1 rfl ρ k; exact fun j k => (hZ j k).trans (if_neg (by omega)).symm
          · intro ρ k; refine ext_read A (bI i) (sI i) _ _ _ _ hU ?_ _ _ 14 768 _ 3 rfl 2 rfl ρ k; exact fun j k => (hZ j k).trans (if_neg (by omega)).symm
          · intro ρ k; refine ext_read A (bI i) (sI i) _ _ _ _ hU ?_ _ _ 13 768 _ 3 rfl 3 rfl ρ k; exact fun j k => (hZ j k).trans (if_neg (by omega)).symm
          · intro ρ k; refine ext_read A (bI i) (sI i) _ _ _ _ hU ?_ _ _ 12 768 _ 3 rfl 4 rfl ρ k; exact fun j k => (hZ j k).trans (if_neg (by omega)).symm
          · intro ρ k; refine ext_read A (bI i) (sI i) _ _ _ _ hU ?_ _ _ 11 768 _ 3 rfl 5 rfl ρ k; exact fun j k => (hZ j k).trans (if_neg (by omega)).symm
          · intro ρ k; refine ext_read A (bI i) (sI i) _ _ _ _ hU ?_ _ _ 10 768 _ 3 rfl 6 rfl ρ k; exact fun j k => (hZ j k).trans (if_neg (by omega)).symm
          · intro ρ k; refine ext_read A (bI i) (sI i) _ _ _ _ hU ?_ _ _ 9 768 _ 3 rfl 7 rfl ρ k; exact fun j k => (hZ j k).trans (if_neg (by omega)).symm
          · intro ρ k; refine ext_read A (bI i) (sI i) _ _ _ _ hU ?_ _ _ 8 768 _ 3 rfl 8 rfl ρ k; exact fun j k => (hZ j k).trans (if_neg (by omega)).symm
          · intro ρ k; refine ext_read A (bI i) (sI i) _ _ _ _ hU ?_ _ _ 7 768 _ 3 rfl 9 rfl ρ k; exact fun j k => (hZ j k).trans (if_neg (by omega)).symm
          · intro ρ k; refine ext_read A (bI i) (sI i) _ _ _ _ hU ?_ _ _ 6 768 _ 3 rfl 10 rfl ρ k; exact fun j k => (hZ j k).trans (if_neg (by omega)).symm
          · intro ρ k; refine ext_read A (bI i) (sI i) _ _ _ _ hU ?_ _ _ 5 768 _ 3 rfl 11 rfl ρ k; exact fun j k => (hZ j k).trans (if_neg (by omega)).symm
          · intro ρ k; refine ext_read A (bI i) (sI i) _ _ _ _ hU ?_ _ _ 4 768 _ 3 rfl 12 rfl ρ k; exact fun j k => (hZ j k).trans (if_neg (by omega)).symm
          · intro ρ k; refine ext_read A (bI i) (sI i) _ _ _ _ hU ?_ _ _ 3 768 _ 3 rfl 13 rfl ρ k; exact fun j k => (hZ j k).trans (if_neg (by omega)).symm
          · intro ρ k; refine ext_read A (bI i) (sI i) _ _ _ _ hU ?_ _ _ 2 768 _ 3 rfl 14 rfl ρ k; exact fun j k => (hZ j k).trans (if_neg (by omega)).symm
          · intro ρ k; refine ext_read A (bI i) (sI i) _ _ _ _ hU ?_ _ _ 1 768 _ 3 rfl 15 rfl ρ k; exact fun j k => (hZ j k).trans (if_neg (by omega)).symm
          · exact l6 A arg6 harg6 x6 I.h6 3 _ rfl _
          · exact l7 A arg7 harg7 x7 I.h7 3 _ rfl _
        · intro ρ k; exact p122 A (bI i) (sI i) _ hg ρ k
        · intro ρ k; exact p123 A (bI i) (sI i) _ hg ρ k
    · intro ρ m
      refine mix_hi _ _ _ _ _ _ _ _ _ _ _ _ _ _ _ _ _ _ _ _ _ _ _ _ _ _ _ _ _ _ _ _ _ _ _ _ _ _ _ _ _ _ _ _ _ _ _ _ _ _ _ _ _ _ _ _ _ _ _ _ A (bI i) (sI i) (hlf (bI i)) ?_ ?_ ?_ ?_ ?_ ?_ ?_ ?_ ?_ _ _ ρ m
      · exact fun q t x => (congrFun (harg12.read_unread x12) _).trans (I.h12 q t x)
      · intro ρ k; refine (wz2 arg18.view _ _ _ _ ρ k).trans ?_; exact p125 A (bI i) (sI i) _ hH 2 _ (l5 A arg5 harg5 x5 I.h5 2 _ rfl _) ρ k
      · intro ρ k; refine (wz2 arg19.view _ _ _ _ ρ k).trans ?_; exact p127 A (bI i) (sI i) _ hH _ (fun k => (lz2 arg8 harg8 x8 _ 0 k).trans (I.h8 k)) _ (hw3 _) ρ k
      · intro ρ k; refine (wz2 arg20.view _ _ _ _ ρ k).trans ?_; exact p129 A (bI i) (sI i) _ hH _ (fun k => (lz2 arg8 harg8 x8 _ 0 k).trans (I.h8 k)) _ (hw3 _) ρ k
      · intro ρ k; refine (wz2 arg21.view _ _ _ _ ρ k).trans ?_; exact p130 A (bI i) (sI i) _ hH 4 _ (l5 A arg5 harg5 x5 I.h5 4 _ rfl _) ρ k
      · intro ρ k; refine (wz2 arg22.view _ _ _ _ ρ k).trans ?_; exact p131 A (bI i) (sI i) _ hH 5 _ (l5 A arg5 harg5 x5 I.h5 5 _ rfl _) ρ k
      · exact fun r j => (lz2 arg13 harg13 x13 _ r j).trans (I.h13 r j)
      · exact fun d => (lz2 arg9 harg9 x9 _ 0 d).trans (I.h9 d)
      · exact hS
    · exact fun m k => (lz2 arg10 harg10 x10 _ m k).trans (I.h10 m k)
    · exact fun k => (lz2 arg11 harg11 x11 _ 0 k).trans (I.h11 k)
  isplitl [H15]
  · iexists _; isplitr; swap; · iexact H15
    ipureintro
    rw [View.writes_append]
    refine st_fin _ _ _ _ _ _ _ _ _ _ _ _ _ _ _ _ _ _ _ _ _ _ _ _ _ _ _ _ _ _ _ _ _ _ _ _ _ _ _ _ _ _ _ _ _ _ _ _ _ _ _ _ _ _ _ _ _ _ _ _ A (bI i) (sI i) (hlf (bI i)) ?_ ?_ ?_ ?_ ?_ ?_ ?_ ?_ ?_
    · exact fun q t x => (congrFun (harg12.read_unread x12) _).trans (I.h12 q t x)
    · intro ρ k; refine (wz2 arg18.view _ _ _ _ ρ k).trans ?_; exact p125 A (bI i) (sI i) _ hH 2 _ (l5 A arg5 harg5 x5 I.h5 2 _ rfl _) ρ k
    · intro ρ k; refine (wz2 arg19.view _ _ _ _ ρ k).trans ?_; exact p127 A (bI i) (sI i) _ hH _ (fun k => (lz2 arg8 harg8 x8 _ 0 k).trans (I.h8 k)) _ (hw3 _) ρ k
    · intro ρ k; refine (wz2 arg20.view _ _ _ _ ρ k).trans ?_; exact p129 A (bI i) (sI i) _ hH _ (fun k => (lz2 arg8 harg8 x8 _ 0 k).trans (I.h8 k)) _ (hw3 _) ρ k
    · intro ρ k; refine (wz2 arg21.view _ _ _ _ ρ k).trans ?_; exact p130 A (bI i) (sI i) _ hH 4 _ (l5 A arg5 harg5 x5 I.h5 4 _ rfl _) ρ k
    · intro ρ k; refine (wz2 arg22.view _ _ _ _ ρ k).trans ?_; exact p131 A (bI i) (sI i) _ hH 5 _ (l5 A arg5 harg5 x5 I.h5 5 _ rfl _) ρ k
    · exact fun r j => (lz2 arg13 harg13 x13 _ r j).trans (I.h13 r j)
    · exact fun d => (lz2 arg9 harg9 x9 _ 0 d).trans (I.h9 d)
    · exact hS
  isplitl [H16]
  · iexists _; isplitr; swap; · iexact H16
    ipureintro
    refine vec2 _ (fun (j : Fin 16) k => if 16 ≤ 256 * ((sI i).val + 1) + j.val then Layer.uN A (bI i) k (256 * ((sI i).val + 1) + j.val - 16) else 0) fun j k => ?_
    refine (wz2 arg16.view _ _ _ _ j k).trans ?_
    exact p105 A (bI i) (sI i) _ hU j k
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl

  · iexists _, _; isplitr; swap; · iexact H23
    ipureintro; rfl

end Cert.KernelIdeal.Val

end
-- ==== Proof.TabRead.lean ====
/- The kernel's constant tables: how an entry is read. -/
module

public import proofs.«01_k».proof.Proof.ChunkAlg
public import proofs.«01_k».proof.KernelIdeal

@[expose] public section

set_option maxRecDepth 16384

namespace Cert.KernelIdeal.Val

open Idealize.ShloMosaic Cert.KernelIdeal

/-- The exponent table's entry `n`: one where its row's interval holds its column. -/
def tabF (n : ℕ) : BitVec 16 :=
  if wlo (n / 192 / 64) (n / 192 % 64) ≤ n % 192 % 64 ∧ n % 192 % 64 < whi (n / 192 / 64) (n / 192 % 64) then 0x3F80#16 else 0#16
/-- The level table's entry `n`. -/
def lvlN (n : ℕ) : BitVec 32 := lvlF (n / 64) (n % 64)

/-- A table of 128 entries read at an index below 128, where its entries are those of `f`. -/
theorem nodeA {α : Type} {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 d : α} (f : ℕ → α) (h : a0 = f 0 ∧ a1 = f 1 ∧ a2 = f 2 ∧ a3 = f 3 ∧ a4 = f 4 ∧ a5 = f 5 ∧ a6 = f 6 ∧ a7 = f 7 ∧ a8 = f 8 ∧ a9 = f 9 ∧ a10 = f 10 ∧ a11 = f 11 ∧ a12 = f 12 ∧ a13 = f 13 ∧ a14 = f 14 ∧ a15 = f 15 ∧ a16 = f 16 ∧ a17 = f 17 ∧ a18 = f 18 ∧ a19 = f 19 ∧ a20 = f 20 ∧ a21 = f 21 ∧ a22 = f 22 ∧ a23 = f 23 ∧ a24 = f 24 ∧ a25 = f 25 ∧ a26 = f 26 ∧ a27 = f 27 ∧ a28 = f 28 ∧ a29 = f 29 ∧ a30 = f 30 ∧ a31 = f 31 ∧ a32 = f 32 ∧ a33 = f 33 ∧ a34 = f 34 ∧ a35 = f 35 ∧ a36 = f 36 ∧ a37 = f 37 ∧ a38 = f 38 ∧ a39 = f 39 ∧ a40 = f 40 ∧ a41 = f 41 ∧ a42 = f 42 ∧ a43 = f 43 ∧ a44 = f 44 ∧ a45 = f 45 ∧ a46 = f 46 ∧ a47 = f 47 ∧ a48 = f 48 ∧ a49 = f 49 ∧ a50 = f 50 ∧ a51 = f 51 ∧ a52 = f 52 ∧ a53 = f 53 ∧ a54 = f 54 ∧ a55 = f 55 ∧ a56 = f 56 ∧ a57 = f 57 ∧ a58 = f 58 ∧ a59 = f 59 ∧ a60 = f 60 ∧ a61 = f 61 ∧ a62 = f 62 ∧ a63 = f 63 ∧ a64 = f 64 ∧ a65 = f 65 ∧ a66 = f 66 ∧ a67 = f 67 ∧ a68 = f 68 ∧ a69 = f 69 ∧ a70 = f 70 ∧ a71 = f 71 ∧ a72 = f 72 ∧ a73 = f 73 ∧ a74 = f 74 ∧ a75 = f 75 ∧ a76 = f 76 ∧ a77 = f 77 ∧ a78 = f 78 ∧ a79 = f 79 ∧ a80 = f 80 ∧ a81 = f 81 ∧ a82 = f 82 ∧ a83 = f 83 ∧ a84 = f 84 ∧ a85 = f 85 ∧ a86 = f 86 ∧ a87 = f 87 ∧ a88 = f 88 ∧ a89 = f 89 ∧ a90 = f 90 ∧ a91 = f 91 ∧ a92 = f 92 ∧ a93 = f 93 ∧ a94 = f 94 ∧ a95 = f 95 ∧ a96 = f 96 ∧ a97 = f 97 ∧ a98 = f 98 ∧ a99 = f 99 ∧ a100 = f 100 ∧ a101 = f 101 ∧ a102 = f 102 ∧ a103 = f 103 ∧ a104 = f 104 ∧ a105 = f 105 ∧ a106 = f 106 ∧ a107 = f 107 ∧ a108 = f 108 ∧ a109 = f 109 ∧ a110 = f 110 ∧ a111 = f 111 ∧ a112 = f 112 ∧ a113 = f 113 ∧ a114 = f 114 ∧ a115 = f 115 ∧ a116 = f 116 ∧ a117 = f 117 ∧ a118 = f 118 ∧ a119 = f 119 ∧ a120 = f 120 ∧ a121 = f 121 ∧ a122 = f 122 ∧ a123 = f 123 ∧ a124 = f 124 ∧ a125 = f 125 ∧ a126 = f 126 ∧ a127 = f 127) (k : ℕ) (hk : k < 128) :
    lit0t0_0.match_1 (fun _ => α) k (fun _ => a0) (fun _ => a1) (fun _ => a2) (fun _ => a3) (fun _ => a4) (fun _ => a5) (fun _ => a6) (fun _ => a7) (fun _ => a8) (fun _ => a9) (fun _ => a10) (fun _ => a11) (fun _ => a12) (fun _ => a13) (fun _ => a14) (fun _ => a15) (fun _ => a16) (fun _ => a17) (fun _ => a18) (fun _ => a19) (fun _ => a20) (fun _ => a21) (fun _ => a22) (fun _ => a23) (fun _ => a24) (fun _ => a25) (fun _ => a26) (fun _ => a27) (fun _ => a28) (fun _ => a29) (fun _ => a30) (fun _ => a31) (fun _ => a32) (fun _ => a33) (fun _ => a34) (fun _ => a35) (fun _ => a36) (fun _ => a37) (fun _ => a38) (fun _ => a39) (fun _ => a40) (fun _ => a41) (fun _ => a42) (fun _ => a43) (fun _ => a44) (fun _ => a45) (fun _ => a46) (fun _ => a47) (fun _ => a48) (fun _ => a49) (fun _ => a50) (fun _ => a51) (fun _ => a52) (fun _ => a53) (fun _ => a54) (fun _ => a55) (fun _ => a56) (fun _ => a57) (fun _ => a58) (fun _ => a59) (fun _ => a60) (fun _ => a61) (fun _ => a62) (fun _ => a63) (fun _ => a64) (fun _ => a65) (fun _ => a66) (fun _ => a67) (fun _ => a68) (fun _ => a69) (fun _ => a70) (fun _ => a71) (fun _ => a72) (fun _ => a73) (fun _ => a74) (fun _ => a75) (fun _ => a76) (fun _ => a77) (fun _ => a78) (fun _ => a79) (fun _ => a80) (fun _ => a81) (fun _ => a82) (fun _ => a83) (fun _ => a84) (fun _ => a85) (fun _ => a86) (fun _ => a87) (fun _ => a88) (fun _ => a89) (fun _ => a90) (fun _ => a91) (fun _ => a92) (fun _ => a93) (fun _ => a94) (fun _ => a95) (fun _ => a96) (fun _ => a97) (fun _ => a98) (fun _ => a99) (fun _ => a100) (fun _ => a101) (fun _ => a102) (fun _ => a103) (fun _ => a104) (fun _ => a105) (fun _ => a106) (fun _ => a107) (fun _ => a108) (fun _ => a109) (fun _ => a110) (fun _ => a111) (fun _ => a112) (fun _ => a113) (fun _ => a114) (fun _ => a115) (fun _ => a116) (fun _ => a117) (fun _ => a118) (fun _ => a119) (fun _ => a120) (fun _ => a121) (fun _ => a122) (fun _ => a123) (fun _ => a124) (fun _ => a125) (fun _ => a126) (fun _ => a127) (fun _ => d) = f k := by
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65, h66, h67, h68, h69, h70, h71, h72, h73, h74, h75, h76, h77, h78, h79, h80, h81, h82, h83, h84, h85, h86, h87, h88, h89, h90, h91, h92, h93, h94, h95, h96, h97, h98, h99, h100, h101, h102, h103, h104, h105, h106, h107, h108, h109, h110, h111, h112, h113, h114, h115, h116, h117, h118, h119, h120, h121, h122, h123, h124, h125, h126, h127⟩ := h
  interval_cases k
  exacts [h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65, h66, h67, h68, h69, h70, h71, h72, h73, h74, h75, h76, h77, h78, h79, h80, h81, h82, h83, h84, h85, h86, h87, h88, h89, h90, h91, h92, h93, h94, h95, h96, h97, h98, h99, h100, h101, h102, h103, h104, h105, h106, h107, h108, h109, h110, h111, h112, h113, h114, h115, h116, h117, h118, h119, h120, h121, h122, h123, h124, h125, h126, h127]

/-- A table of 128 entries read at an index below 128, where its entries are those of `f`. -/
theorem nodeB {α : Type} {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 d : α} (f : ℕ → α) (h : a0 = f 0 ∧ a1 = f 1 ∧ a2 = f 2 ∧ a3 = f 3 ∧ a4 = f 4 ∧ a5 = f 5 ∧ a6 = f 6 ∧ a7 = f 7 ∧ a8 = f 8 ∧ a9 = f 9 ∧ a10 = f 10 ∧ a11 = f 11 ∧ a12 = f 12 ∧ a13 = f 13 ∧ a14 = f 14 ∧ a15 = f 15 ∧ a16 = f 16 ∧ a17 = f 17 ∧ a18 = f 18 ∧ a19 = f 19 ∧ a20 = f 20 ∧ a21 = f 21 ∧ a22 = f 22 ∧ a23 = f 23 ∧ a24 = f 24 ∧ a25 = f 25 ∧ a26 = f 26 ∧ a27 = f 27 ∧ a28 = f 28 ∧ a29 = f 29 ∧ a30 = f 30 ∧ a31 = f 31 ∧ a32 = f 32 ∧ a33 = f 33 ∧ a34 = f 34 ∧ a35 = f 35 ∧ a36 = f 36 ∧ a37 = f 37 ∧ a38 = f 38 ∧ a39 = f 39 ∧ a40 = f 40 ∧ a41 = f 41 ∧ a42 = f 42 ∧ a43 = f 43 ∧ a44 = f 44 ∧ a45 = f 45 ∧ a46 = f 46 ∧ a47 = f 47 ∧ a48 = f 48 ∧ a49 = f 49 ∧ a50 = f 50 ∧ a51 = f 51 ∧ a52 = f 52 ∧ a53 = f 53 ∧ a54 = f 54 ∧ a55 = f 55 ∧ a56 = f 56 ∧ a57 = f 57 ∧ a58 = f 58 ∧ a59 = f 59 ∧ a60 = f 60 ∧ a61 = f 61 ∧ a62 = f 62 ∧ a63 = f 63 ∧ a64 = f 64 ∧ a65 = f 65 ∧ a66 = f 66 ∧ a67 = f 67 ∧ a68 = f 68 ∧ a69 = f 69 ∧ a70 = f 70 ∧ a71 = f 71 ∧ a72 = f 72 ∧ a73 = f 73 ∧ a74 = f 74 ∧ a75 = f 75 ∧ a76 = f 76 ∧ a77 = f 77 ∧ a78 = f 78 ∧ a79 = f 79 ∧ a80 = f 80 ∧ a81 = f 81 ∧ a82 = f 82 ∧ a83 = f 83 ∧ a84 = f 84 ∧ a85 = f 85 ∧ a86 = f 86 ∧ a87 = f 87 ∧ a88 = f 88 ∧ a89 = f 89 ∧ a90 = f 90 ∧ a91 = f 91 ∧ a92 = f 92 ∧ a93 = f 93 ∧ a94 = f 94 ∧ a95 = f 95 ∧ a96 = f 96 ∧ a97 = f 97 ∧ a98 = f 98 ∧ a99 = f 99 ∧ a100 = f 100 ∧ a101 = f 101 ∧ a102 = f 102 ∧ a103 = f 103 ∧ a104 = f 104 ∧ a105 = f 105 ∧ a106 = f 106 ∧ a107 = f 107 ∧ a108 = f 108 ∧ a109 = f 109 ∧ a110 = f 110 ∧ a111 = f 111 ∧ a112 = f 112 ∧ a113 = f 113 ∧ a114 = f 114 ∧ a115 = f 115 ∧ a116 = f 116 ∧ a117 = f 117 ∧ a118 = f 118 ∧ a119 = f 119 ∧ a120 = f 120 ∧ a121 = f 121 ∧ a122 = f 122 ∧ a123 = f 123 ∧ a124 = f 124 ∧ a125 = f 125 ∧ a126 = f 126 ∧ a127 = f 127) (k : ℕ) (hk : k < 128) :
    lit0t0_742.match_1 (fun _ => α) k (fun _ => a0) (fun _ => a1) (fun _ => a2) (fun _ => a3) (fun _ => a4) (fun _ => a5) (fun _ => a6) (fun _ => a7) (fun _ => a8) (fun _ => a9) (fun _ => a10) (fun _ => a11) (fun _ => a12) (fun _ => a13) (fun _ => a14) (fun _ => a15) (fun _ => a16) (fun _ => a17) (fun _ => a18) (fun _ => a19) (fun _ => a20) (fun _ => a21) (fun _ => a22) (fun _ => a23) (fun _ => a24) (fun _ => a25) (fun _ => a26) (fun _ => a27) (fun _ => a28) (fun _ => a29) (fun _ => a30) (fun _ => a31) (fun _ => a32) (fun _ => a33) (fun _ => a34) (fun _ => a35) (fun _ => a36) (fun _ => a37) (fun _ => a38) (fun _ => a39) (fun _ => a40) (fun _ => a41) (fun _ => a42) (fun _ => a43) (fun _ => a44) (fun _ => a45) (fun _ => a46) (fun _ => a47) (fun _ => a48) (fun _ => a49) (fun _ => a50) (fun _ => a51) (fun _ => a52) (fun _ => a53) (fun _ => a54) (fun _ => a55) (fun _ => a56) (fun _ => a57) (fun _ => a58) (fun _ => a59) (fun _ => a60) (fun _ => a61) (fun _ => a62) (fun _ => a63) (fun _ => a64) (fun _ => a65) (fun _ => a66) (fun _ => a67) (fun _ => a68) (fun _ => a69) (fun _ => a70) (fun _ => a71) (fun _ => a72) (fun _ => a73) (fun _ => a74) (fun _ => a75) (fun _ => a76) (fun _ => a77) (fun _ => a78) (fun _ => a79) (fun _ => a80) (fun _ => a81) (fun _ => a82) (fun _ => a83) (fun _ => a84) (fun _ => a85) (fun _ => a86) (fun _ => a87) (fun _ => a88) (fun _ => a89) (fun _ => a90) (fun _ => a91) (fun _ => a92) (fun _ => a93) (fun _ => a94) (fun _ => a95) (fun _ => a96) (fun _ => a97) (fun _ => a98) (fun _ => a99) (fun _ => a100) (fun _ => a101) (fun _ => a102) (fun _ => a103) (fun _ => a104) (fun _ => a105) (fun _ => a106) (fun _ => a107) (fun _ => a108) (fun _ => a109) (fun _ => a110) (fun _ => a111) (fun _ => a112) (fun _ => a113) (fun _ => a114) (fun _ => a115) (fun _ => a116) (fun _ => a117) (fun _ => a118) (fun _ => a119) (fun _ => a120) (fun _ => a121) (fun _ => a122) (fun _ => a123) (fun _ => a124) (fun _ => a125) (fun _ => a126) (fun _ => a127) (fun _ => d) = f k := by
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65, h66, h67, h68, h69, h70, h71, h72, h73, h74, h75, h76, h77, h78, h79, h80, h81, h82, h83, h84, h85, h86, h87, h88, h89, h90, h91, h92, h93, h94, h95, h96, h97, h98, h99, h100, h101, h102, h103, h104, h105, h106, h107, h108, h109, h110, h111, h112, h113, h114, h115, h116, h117, h118, h119, h120, h121, h122, h123, h124, h125, h126, h127⟩ := h
  interval_cases k
  exacts [h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65, h66, h67, h68, h69, h70, h71, h72, h73, h74, h75, h76, h77, h78, h79, h80, h81, h82, h83, h84, h85, h86, h87, h88, h89, h90, h91, h92, h93, h94, h95, h96, h97, h98, h99, h100, h101, h102, h103, h104, h105, h106, h107, h108, h109, h110, h111, h112, h113, h114, h115, h116, h117, h118, h119, h120, h121, h122, h123, h124, h125, h126, h127]

/-- The same, its entries compared by deciding. -/
theorem leafA {α : Type} [DecidableEq α] {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 d : α} (f : ℕ → α) (h : (decide (a0 = f 0) && (decide (a1 = f 1) && (decide (a2 = f 2) && (decide (a3 = f 3) && (decide (a4 = f 4) && (decide (a5 = f 5) && (decide (a6 = f 6) && (decide (a7 = f 7) && (decide (a8 = f 8) && (decide (a9 = f 9) && (decide (a10 = f 10) && (decide (a11 = f 11) && (decide (a12 = f 12) && (decide (a13 = f 13) && (decide (a14 = f 14) && (decide (a15 = f 15) && (decide (a16 = f 16) && (decide (a17 = f 17) && (decide (a18 = f 18) && (decide (a19 = f 19) && (decide (a20 = f 20) && (decide (a21 = f 21) && (decide (a22 = f 22) && (decide (a23 = f 23) && (decide (a24 = f 24) && (decide (a25 = f 25) && (decide (a26 = f 26) && (decide (a27 = f 27) && (decide (a28 = f 28) && (decide (a29 = f 29) && (decide (a30 = f 30) && (decide (a31 = f 31) && (decide (a32 = f 32) && (decide (a33 = f 33) && (decide (a34 = f 34) && (decide (a35 = f 35) && (decide (a36 = f 36) && (decide (a37 = f 37) && (decide (a38 = f 38) && (decide (a39 = f 39) && (decide (a40 = f 40) && (decide (a41 = f 41) && (decide (a42 = f 42) && (decide (a43 = f 43) && (decide (a44 = f 44) && (decide (a45 = f 45) && (decide (a46 = f 46) && (decide (a47 = f 47) && (decide (a48 = f 48) && (decide (a49 = f 49) && (decide (a50 = f 50) && (decide (a51 = f 51) && (decide (a52 = f 52) && (decide (a53 = f 53) && (decide (a54 = f 54) && (decide (a55 = f 55) && (decide (a56 = f 56) && (decide (a57 = f 57) && (decide (a58 = f 58) && (decide (a59 = f 59) && (decide (a60 = f 60) && (decide (a61 = f 61) && (decide (a62 = f 62) && (decide (a63 = f 63) && (decide (a64 = f 64) && (decide (a65 = f 65) && (decide (a66 = f 66) && (decide (a67 = f 67) && (decide (a68 = f 68) && (decide (a69 = f 69) && (decide (a70 = f 70) && (decide (a71 = f 71) && (decide (a72 = f 72) && (decide (a73 = f 73) && (decide (a74 = f 74) && (decide (a75 = f 75) && (decide (a76 = f 76) && (decide (a77 = f 77) && (decide (a78 = f 78) && (decide (a79 = f 79) && (decide (a80 = f 80) && (decide (a81 = f 81) && (decide (a82 = f 82) && (decide (a83 = f 83) && (decide (a84 = f 84) && (decide (a85 = f 85) && (decide (a86 = f 86) && (decide (a87 = f 87) && (decide (a88 = f 88) && (decide (a89 = f 89) && (decide (a90 = f 90) && (decide (a91 = f 91) && (decide (a92 = f 92) && (decide (a93 = f 93) && (decide (a94 = f 94) && (decide (a95 = f 95) && (decide (a96 = f 96) && (decide (a97 = f 97) && (decide (a98 = f 98) && (decide (a99 = f 99) && (decide (a100 = f 100) && (decide (a101 = f 101) && (decide (a102 = f 102) && (decide (a103 = f 103) && (decide (a104 = f 104) && (decide (a105 = f 105) && (decide (a106 = f 106) && (decide (a107 = f 107) && (decide (a108 = f 108) && (decide (a109 = f 109) && (decide (a110 = f 110) && (decide (a111 = f 111) && (decide (a112 = f 112) && (decide (a113 = f 113) && (decide (a114 = f 114) && (decide (a115 = f 115) && (decide (a116 = f 116) && (decide (a117 = f 117) && (decide (a118 = f 118) && (decide (a119 = f 119) && (decide (a120 = f 120) && (decide (a121 = f 121) && (decide (a122 = f 122) && (decide (a123 = f 123) && (decide (a124 = f 124) && (decide (a125 = f 125) && (decide (a126 = f 126) && (decide (a127 = f 127))))))))))))))))))))))))))))))))))))))))))))))))))))))))))))))))))))))))))))))))))))))))))))))))))))))))))))))))))))))))))))))))) = true) (k : ℕ) (hk : k < 128) :
    lit0t0_0.match_1 (fun _ => α) k (fun _ => a0) (fun _ => a1) (fun _ => a2) (fun _ => a3) (fun _ => a4) (fun _ => a5) (fun _ => a6) (fun _ => a7) (fun _ => a8) (fun _ => a9) (fun _ => a10) (fun _ => a11) (fun _ => a12) (fun _ => a13) (fun _ => a14) (fun _ => a15) (fun _ => a16) (fun _ => a17) (fun _ => a18) (fun _ => a19) (fun _ => a20) (fun _ => a21) (fun _ => a22) (fun _ => a23) (fun _ => a24) (fun _ => a25) (fun _ => a26) (fun _ => a27) (fun _ => a28) (fun _ => a29) (fun _ => a30) (fun _ => a31) (fun _ => a32) (fun _ => a33) (fun _ => a34) (fun _ => a35) (fun _ => a36) (fun _ => a37) (fun _ => a38) (fun _ => a39) (fun _ => a40) (fun _ => a41) (fun _ => a42) (fun _ => a43) (fun _ => a44) (fun _ => a45) (fun _ => a46) (fun _ => a47) (fun _ => a48) (fun _ => a49) (fun _ => a50) (fun _ => a51) (fun _ => a52) (fun _ => a53) (fun _ => a54) (fun _ => a55) (fun _ => a56) (fun _ => a57) (fun _ => a58) (fun _ => a59) (fun _ => a60) (fun _ => a61) (fun _ => a62) (fun _ => a63) (fun _ => a64) (fun _ => a65) (fun _ => a66) (fun _ => a67) (fun _ => a68) (fun _ => a69) (fun _ => a70) (fun _ => a71) (fun _ => a72) (fun _ => a73) (fun _ => a74) (fun _ => a75) (fun _ => a76) (fun _ => a77) (fun _ => a78) (fun _ => a79) (fun _ => a80) (fun _ => a81) (fun _ => a82) (fun _ => a83) (fun _ => a84) (fun _ => a85) (fun _ => a86) (fun _ => a87) (fun _ => a88) (fun _ => a89) (fun _ => a90) (fun _ => a91) (fun _ => a92) (fun _ => a93) (fun _ => a94) (fun _ => a95) (fun _ => a96) (fun _ => a97) (fun _ => a98) (fun _ => a99) (fun _ => a100) (fun _ => a101) (fun _ => a102) (fun _ => a103) (fun _ => a104) (fun _ => a105) (fun _ => a106) (fun _ => a107) (fun _ => a108) (fun _ => a109) (fun _ => a110) (fun _ => a111) (fun _ => a112) (fun _ => a113) (fun _ => a114) (fun _ => a115) (fun _ => a116) (fun _ => a117) (fun _ => a118) (fun _ => a119) (fun _ => a120) (fun _ => a121) (fun _ => a122) (fun _ => a123) (fun _ => a124) (fun _ => a125) (fun _ => a126) (fun _ => a127) (fun _ => d) = f k := by
  simp only [Bool.and_eq_true, decide_eq_true_eq] at h
  exact nodeA f h k hk

/-- The same, its entries compared by deciding. -/
theorem leafB {α : Type} [DecidableEq α] {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 d : α} (f : ℕ → α) (h : (decide (a0 = f 0) && (decide (a1 = f 1) && (decide (a2 = f 2) && (decide (a3 = f 3) && (decide (a4 = f 4) && (decide (a5 = f 5) && (decide (a6 = f 6) && (decide (a7 = f 7) && (decide (a8 = f 8) && (decide (a9 = f 9) && (decide (a10 = f 10) && (decide (a11 = f 11) && (decide (a12 = f 12) && (decide (a13 = f 13) && (decide (a14 = f 14) && (decide (a15 = f 15) && (decide (a16 = f 16) && (decide (a17 = f 17) && (decide (a18 = f 18) && (decide (a19 = f 19) && (decide (a20 = f 20) && (decide (a21 = f 21) && (decide (a22 = f 22) && (decide (a23 = f 23) && (decide (a24 = f 24) && (decide (a25 = f 25) && (decide (a26 = f 26) && (decide (a27 = f 27) && (decide (a28 = f 28) && (decide (a29 = f 29) && (decide (a30 = f 30) && (decide (a31 = f 31) && (decide (a32 = f 32) && (decide (a33 = f 33) && (decide (a34 = f 34) && (decide (a35 = f 35) && (decide (a36 = f 36) && (decide (a37 = f 37) && (decide (a38 = f 38) && (decide (a39 = f 39) && (decide (a40 = f 40) && (decide (a41 = f 41) && (decide (a42 = f 42) && (decide (a43 = f 43) && (decide (a44 = f 44) && (decide (a45 = f 45) && (decide (a46 = f 46) && (decide (a47 = f 47) && (decide (a48 = f 48) && (decide (a49 = f 49) && (decide (a50 = f 50) && (decide (a51 = f 51) && (decide (a52 = f 52) && (decide (a53 = f 53) && (decide (a54 = f 54) && (decide (a55 = f 55) && (decide (a56 = f 56) && (decide (a57 = f 57) && (decide (a58 = f 58) && (decide (a59 = f 59) && (decide (a60 = f 60) && (decide (a61 = f 61) && (decide (a62 = f 62) && (decide (a63 = f 63) && (decide (a64 = f 64) && (decide (a65 = f 65) && (decide (a66 = f 66) && (decide (a67 = f 67) && (decide (a68 = f 68) && (decide (a69 = f 69) && (decide (a70 = f 70) && (decide (a71 = f 71) && (decide (a72 = f 72) && (decide (a73 = f 73) && (decide (a74 = f 74) && (decide (a75 = f 75) && (decide (a76 = f 76) && (decide (a77 = f 77) && (decide (a78 = f 78) && (decide (a79 = f 79) && (decide (a80 = f 80) && (decide (a81 = f 81) && (decide (a82 = f 82) && (decide (a83 = f 83) && (decide (a84 = f 84) && (decide (a85 = f 85) && (decide (a86 = f 86) && (decide (a87 = f 87) && (decide (a88 = f 88) && (decide (a89 = f 89) && (decide (a90 = f 90) && (decide (a91 = f 91) && (decide (a92 = f 92) && (decide (a93 = f 93) && (decide (a94 = f 94) && (decide (a95 = f 95) && (decide (a96 = f 96) && (decide (a97 = f 97) && (decide (a98 = f 98) && (decide (a99 = f 99) && (decide (a100 = f 100) && (decide (a101 = f 101) && (decide (a102 = f 102) && (decide (a103 = f 103) && (decide (a104 = f 104) && (decide (a105 = f 105) && (decide (a106 = f 106) && (decide (a107 = f 107) && (decide (a108 = f 108) && (decide (a109 = f 109) && (decide (a110 = f 110) && (decide (a111 = f 111) && (decide (a112 = f 112) && (decide (a113 = f 113) && (decide (a114 = f 114) && (decide (a115 = f 115) && (decide (a116 = f 116) && (decide (a117 = f 117) && (decide (a118 = f 118) && (decide (a119 = f 119) && (decide (a120 = f 120) && (decide (a121 = f 121) && (decide (a122 = f 122) && (decide (a123 = f 123) && (decide (a124 = f 124) && (decide (a125 = f 125) && (decide (a126 = f 126) && (decide (a127 = f 127))))))))))))))))))))))))))))))))))))))))))))))))))))))))))))))))))))))))))))))))))))))))))))))))))))))))))))))))))))))))))))))))) = true) (k : ℕ) (hk : k < 128) :
    lit0t0_742.match_1 (fun _ => α) k (fun _ => a0) (fun _ => a1) (fun _ => a2) (fun _ => a3) (fun _ => a4) (fun _ => a5) (fun _ => a6) (fun _ => a7) (fun _ => a8) (fun _ => a9) (fun _ => a10) (fun _ => a11) (fun _ => a12) (fun _ => a13) (fun _ => a14) (fun _ => a15) (fun _ => a16) (fun _ => a17) (fun _ => a18) (fun _ => a19) (fun _ => a20) (fun _ => a21) (fun _ => a22) (fun _ => a23) (fun _ => a24) (fun _ => a25) (fun _ => a26) (fun _ => a27) (fun _ => a28) (fun _ => a29) (fun _ => a30) (fun _ => a31) (fun _ => a32) (fun _ => a33) (fun _ => a34) (fun _ => a35) (fun _ => a36) (fun _ => a37) (fun _ => a38) (fun _ => a39) (fun _ => a40) (fun _ => a41) (fun _ => a42) (fun _ => a43) (fun _ => a44) (fun _ => a45) (fun _ => a46) (fun _ => a47) (fun _ => a48) (fun _ => a49) (fun _ => a50) (fun _ => a51) (fun _ => a52) (fun _ => a53) (fun _ => a54) (fun _ => a55) (fun _ => a56) (fun _ => a57) (fun _ => a58) (fun _ => a59) (fun _ => a60) (fun _ => a61) (fun _ => a62) (fun _ => a63) (fun _ => a64) (fun _ => a65) (fun _ => a66) (fun _ => a67) (fun _ => a68) (fun _ => a69) (fun _ => a70) (fun _ => a71) (fun _ => a72) (fun _ => a73) (fun _ => a74) (fun _ => a75) (fun _ => a76) (fun _ => a77) (fun _ => a78) (fun _ => a79) (fun _ => a80) (fun _ => a81) (fun _ => a82) (fun _ => a83) (fun _ => a84) (fun _ => a85) (fun _ => a86) (fun _ => a87) (fun _ => a88) (fun _ => a89) (fun _ => a90) (fun _ => a91) (fun _ => a92) (fun _ => a93) (fun _ => a94) (fun _ => a95) (fun _ => a96) (fun _ => a97) (fun _ => a98) (fun _ => a99) (fun _ => a100) (fun _ => a101) (fun _ => a102) (fun _ => a103) (fun _ => a104) (fun _ => a105) (fun _ => a106) (fun _ => a107) (fun _ => a108) (fun _ => a109) (fun _ => a110) (fun _ => a111) (fun _ => a112) (fun _ => a113) (fun _ => a114) (fun _ => a115) (fun _ => a116) (fun _ => a117) (fun _ => a118) (fun _ => a119) (fun _ => a120) (fun _ => a121) (fun _ => a122) (fun _ => a123) (fun _ => a124) (fun _ => a125) (fun _ => a126) (fun _ => a127) (fun _ => d) = f k := by
  simp only [Bool.and_eq_true, decide_eq_true_eq] at h
  exact nodeB f h k hk

end Cert.KernelIdeal.Val

end
-- ==== Proof.TabA.lean ====
/- The kernel's exponent table, entry by entry: its first half. -/
module

public import proofs.«01_k».proof.Proof.TabRead

@[expose] public section

set_option maxRecDepth 16384

namespace Cert.KernelIdeal.Val

open Idealize.ShloMosaic Cert.KernelIdeal

/-! The exponent table, 128 entries at a time. -/

/-- Part 0 of the matrix. -/
theorem l0_0 (i : ℕ) : lit0t0_0 i = tabF (128 * 0 + i % 128) := leafA (fun k => tabF (128 * 0 + k)) (by decide +kernel) (i % 128) (Nat.mod_lt _ (by decide))
/-- Part 1 of the matrix. -/
theorem l0_1 (i : ℕ) : lit0t0_1 i = tabF (128 * 1 + i % 128) := leafA (fun k => tabF (128 * 1 + k)) (by decide +kernel) (i % 128) (Nat.mod_lt _ (by decide))
/-- Part 2 of the matrix. -/
theorem l0_2 (i : ℕ) : lit0t0_2 i = tabF (128 * 2 + i % 128) := leafA (fun k => tabF (128 * 2 + k)) (by decide +kernel) (i % 128) (Nat.mod_lt _ (by decide))
/-- Part 3 of the matrix. -/
theorem l0_3 (i : ℕ) : lit0t0_3 i = tabF (128 * 3 + i % 128) := leafA (fun k => tabF (128 * 3 + k)) (by decide +kernel) (i % 128) (Nat.mod_lt _ (by decide))
/-- Part 4 of the matrix. -/
theorem l0_4 (i : ℕ) : lit0t0_4 i = tabF (128 * 4 + i % 128) := leafA (fun k => tabF (128 * 4 + k)) (by decide +kernel) (i % 128) (Nat.mod_lt _ (by decide))
/-- Part 5 of the matrix. -/
theorem l0_5 (i : ℕ) : lit0t0_5 i = tabF (128 * 5 + i % 128) := leafA (fun k => tabF (128 * 5 + k)) (by decide +kernel) (i % 128) (Nat.mod_lt _ (by decide))
/-- Part 6 of the matrix. -/
theorem l0_6 (i : ℕ) : lit0t0_6 i = tabF (128 * 6 + i % 128) := leafA (fun k => tabF (128 * 6 + k)) (by decide +kernel) (i % 128) (Nat.mod_lt _ (by decide))
/-- Part 7 of the matrix. -/
theorem l0_7 (i : ℕ) : lit0t0_7 i = tabF (128 * 7 + i % 128) := leafA (fun k => tabF (128 * 7 + k)) (by decide +kernel) (i % 128) (Nat.mod_lt _ (by decide))
/-- Part 8 of the matrix. -/
theorem l0_8 (i : ℕ) : lit0t0_8 i = tabF (128 * 8 + i % 128) := leafA (fun k => tabF (128 * 8 + k)) (by decide +kernel) (i % 128) (Nat.mod_lt _ (by decide))
/-- Part 9 of the matrix. -/
theorem l0_9 (i : ℕ) : lit0t0_9 i = tabF (128 * 9 + i % 128) := leafA (fun k => tabF (128 * 9 + k)) (by decide +kernel) (i % 128) (Nat.mod_lt _ (by decide))
/-- Part 10 of the matrix. -/
theorem l0_10 (i : ℕ) : lit0t0_10 i = tabF (128 * 10 + i % 128) := leafA (fun k => tabF (128 * 10 + k)) (by decide +kernel) (i % 128) (Nat.mod_lt _ (by decide))
/-- Part 11 of the matrix. -/
theorem l0_11 (i : ℕ) : lit0t0_11 i = tabF (128 * 11 + i % 128) := leafA (fun k => tabF (128 * 11 + k)) (by decide +kernel) (i % 128) (Nat.mod_lt _ (by decide))
/-- Part 12 of the matrix. -/
theorem l0_12 (i : ℕ) : lit0t0_12 i = tabF (128 * 12 + i % 128) := leafA (fun k => tabF (128 * 12 + k)) (by decide +kernel) (i % 128) (Nat.mod_lt _ (by decide))
/-- Part 13 of the matrix. -/
theorem l0_13 (i : ℕ) : lit0t0_13 i = tabF (128 * 13 + i % 128) := leafA (fun k => tabF (128 * 13 + k)) (by decide +kernel) (i % 128) (Nat.mod_lt _ (by decide))
/-- Part 14 of the matrix. -/
theorem l0_14 (i : ℕ) : lit0t0_14 i = tabF (128 * 14 + i % 128) := leafA (fun k => tabF (128 * 14 + k)) (by decide +kernel) (i % 128) (Nat.mod_lt _ (by decide))
/-- Part 15 of the matrix. -/
theorem l0_15 (i : ℕ) : lit0t0_15 i = tabF (128 * 15 + i % 128) := leafA (fun k => tabF (128 * 15 + k)) (by decide +kernel) (i % 128) (Nat.mod_lt _ (by decide))
/-- Part 16 of the matrix. -/
theorem l0_16 (i : ℕ) : lit0t0_16 i = tabF (128 * 16 + i % 128) := leafA (fun k => tabF (128 * 16 + k)) (by decide +kernel) (i % 128) (Nat.mod_lt _ (by decide))
/-- Part 17 of the matrix. -/
theorem l0_17 (i : ℕ) : lit0t0_17 i = tabF (128 * 17 + i % 128) := leafA (fun k => tabF (128 * 17 + k)) (by decide +kernel) (i % 128) (Nat.mod_lt _ (by decide))
/-- Part 18 of the matrix. -/
theorem l0_18 (i : ℕ) : lit0t0_18 i = tabF (128 * 18 + i % 128) := leafA (fun k => tabF (128 * 18 + k)) (by decide +kernel) (i % 128) (Nat.mod_lt _ (by decide))
/-- Part 19 of the matrix. -/
theorem l0_19 (i : ℕ) : lit0t0_19 i = tabF (128 * 19 + i % 128) := leafA (fun k => tabF (128 * 19 + k)) (by decide +kernel) (i % 128) (Nat.mod_lt _ (by decide))
/-- Part 20 of the matrix. -/
theorem l0_20 (i : ℕ) : lit0t0_20 i = tabF (128 * 20 + i % 128) := leafA (fun k => tabF (128 * 20 + k)) (by decide +kernel) (i % 128) (Nat.mod_lt _ (by decide))
/-- Part 21 of the matrix. -/
theorem l0_21 (i : ℕ) : lit0t0_21 i = tabF (128 * 21 + i % 128) := leafA (fun k => tabF (128 * 21 + k)) (by decide +kernel) (i % 128) (Nat.mod_lt _ (by decide))
/-- Part 22 of the matrix. -/
theorem l0_22 (i : ℕ) : lit0t0_22 i = tabF (128 * 22 + i % 128) := leafA (fun k => tabF (128 * 22 + k)) (by decide +kernel) (i % 128) (Nat.mod_lt _ (by decide))
/-- Part 23 of the matrix. -/
theorem l0_23 (i : ℕ) : lit0t0_23 i = tabF (128 * 23 + i % 128) := leafA (fun k => tabF (128 * 23 + k)) (by decide +kernel) (i % 128) (Nat.mod_lt _ (by decide))
/-- Part 24 of the matrix. -/
theorem l0_24 (i : ℕ) : lit0t0_24 i = tabF (128 * 24 + i % 128) := leafA (fun k => tabF (128 * 24 + k)) (by decide +kernel) (i % 128) (Nat.mod_lt _ (by decide))
/-- Part 25 of the matrix. -/
theorem l0_25 (i : ℕ) : lit0t0_25 i = tabF (128 * 25 + i % 128) := leafA (fun k => tabF (128 * 25 + k)) (by decide +kernel) (i % 128) (Nat.mod_lt _ (by decide))
/-- Part 26 of the matrix. -/
theorem l0_26 (i : ℕ) : lit0t0_26 i = tabF (128 * 26 + i % 128) := leafA (fun k => tabF (128 * 26 + k)) (by decide +kernel) (i % 128) (Nat.mod_lt _ (by decide))
/-- Part 27 of the matrix. -/
theorem l0_27 (i : ℕ) : lit0t0_27 i = tabF (128 * 27 + i % 128) := leafA (fun k => tabF (128 * 27 + k)) (by decide +kernel) (i % 128) (Nat.mod_lt _ (by decide))
/-- Part 28 of the matrix. -/
theorem l0_28 (i : ℕ) : lit0t0_28 i = tabF (128 * 28 + i % 128) := leafA (fun k => tabF (128 * 28 + k)) (by decide +kernel) (i % 128) (Nat.mod_lt _ (by decide))
/-- Part 29 of the matrix. -/
theorem l0_29 (i : ℕ) : lit0t0_29 i = tabF (128 * 29 + i % 128) := leafA (fun k => tabF (128 * 29 + k)) (by decide +kernel) (i % 128) (Nat.mod_lt _ (by decide))
/-- Part 30 of the matrix. -/
theorem l0_30 (i : ℕ) : lit0t0_30 i = tabF (128 * 30 + i % 128) := leafA (fun k => tabF (128 * 30 + k)) (by decide +kernel) (i % 128) (Nat.mod_lt _ (by decide))
/-- Part 31 of the matrix. -/
theorem l0_31 (i : ℕ) : lit0t0_31 i = tabF (128 * 31 + i % 128) := leafA (fun k => tabF (128 * 31 + k)) (by decide +kernel) (i % 128) (Nat.mod_lt _ (by decide))
/-- Part 32 of the matrix. -/
theorem l0_32 (i : ℕ) : lit0t0_32 i = tabF (128 * 32 + i % 128) := leafA (fun k => tabF (128 * 32 + k)) (by decide +kernel) (i % 128) (Nat.mod_lt _ (by decide))
/-- Part 33 of the matrix. -/
theorem l0_33 (i : ℕ) : lit0t0_33 i = tabF (128 * 33 + i % 128) := leafA (fun k => tabF (128 * 33 + k)) (by decide +kernel) (i % 128) (Nat.mod_lt _ (by decide))
/-- Part 34 of the matrix. -/
theorem l0_34 (i : ℕ) : lit0t0_34 i = tabF (128 * 34 + i % 128) := leafA (fun k => tabF (128 * 34 + k)) (by decide +kernel) (i % 128) (Nat.mod_lt _ (by decide))
/-- Part 35 of the matrix. -/
theorem l0_35 (i : ℕ) : lit0t0_35 i = tabF (128 * 35 + i % 128) := leafA (fun k => tabF (128 * 35 + k)) (by decide +kernel) (i % 128) (Nat.mod_lt _ (by decide))
/-- Part 36 of the matrix. -/
theorem l0_36 (i : ℕ) : lit0t0_36 i = tabF (128 * 36 + i % 128) := leafA (fun k => tabF (128 * 36 + k)) (by decide +kernel) (i % 128) (Nat.mod_lt _ (by decide))
/-- Part 37 of the matrix. -/
theorem l0_37 (i : ℕ) : lit0t0_37 i = tabF (128 * 37 + i % 128) := leafA (fun k => tabF (128 * 37 + k)) (by decide +kernel) (i % 128) (Nat.mod_lt _ (by decide))
/-- Part 38 of the matrix. -/
theorem l0_38 (i : ℕ) : lit0t0_38 i = tabF (128 * 38 + i % 128) := leafA (fun k => tabF (128 * 38 + k)) (by decide +kernel) (i % 128) (Nat.mod_lt _ (by decide))
/-- Part 39 of the matrix. -/
theorem l0_39 (i : ℕ) : lit0t0_39 i = tabF (128 * 39 + i % 128) := leafA (fun k => tabF (128 * 39 + k)) (by decide +kernel) (i % 128) (Nat.mod_lt _ (by decide))
/-- Part 40 of the matrix. -/
theorem l0_40 (i : ℕ) : lit0t0_40 i = tabF (128 * 40 + i % 128) := leafA (fun k => tabF (128 * 40 + k)) (by decide +kernel) (i % 128) (Nat.mod_lt _ (by decide))
/-- Part 41 of the matrix. -/
theorem l0_41 (i : ℕ) : lit0t0_41 i = tabF (128 * 41 + i % 128) := leafA (fun k => tabF (128 * 41 + k)) (by decide +kernel) (i % 128) (Nat.mod_lt _ (by decide))
/-- Part 42 of the matrix. -/
theorem l0_42 (i : ℕ) : lit0t0_42 i = tabF (128 * 42 + i % 128) := leafA (fun k => tabF (128 * 42 + k)) (by decide +kernel) (i % 128) (Nat.mod_lt _ (by decide))
/-- Part 43 of the matrix. -/
theorem l0_43 (i : ℕ) : lit0t0_43 i = tabF (128 * 43 + i % 128) := leafA (fun k => tabF (128 * 43 + k)) (by decide +kernel) (i % 128) (Nat.mod_lt _ (by decide))
/-- Part 44 of the matrix. -/
theorem l0_44 (i : ℕ) : lit0t0_44 i = tabF (128 * 44 + i % 128) := leafA (fun k => tabF (128 * 44 + k)) (by decide +kernel) (i % 128) (Nat.mod_lt _ (by decide))
/-- Part 45 of the matrix. -/
theorem l0_45 (i : ℕ) : lit0t0_45 i = tabF (128 * 45 + i % 128) := leafA (fun k => tabF (128 * 45 + k)) (by decide +kernel) (i % 128) (Nat.mod_lt _ (by decide))
/-- Part 46 of the matrix. -/
theorem l0_46 (i : ℕ) : lit0t0_46 i = tabF (128 * 46 + i % 128) := leafA (fun k => tabF (128 * 46 + k)) (by decide +kernel) (i % 128) (Nat.mod_lt _ (by decide))
/-- Part 47 of the matrix. -/
theorem l0_47 (i : ℕ) : lit0t0_47 i = tabF (128 * 47 + i % 128) := leafA (fun k => tabF (128 * 47 + k)) (by decide +kernel) (i % 128) (Nat.mod_lt _ (by decide))
/-- Part 48 of the matrix. -/
theorem l0_48 (i : ℕ) : lit0t0_48 i = tabF (128 * 48 + i % 128) := leafA (fun k => tabF (128 * 48 + k)) (by decide +kernel) (i % 128) (Nat.mod_lt _ (by decide))
/-- Part 49 of the matrix. -/
theorem l0_49 (i : ℕ) : lit0t0_49 i = tabF (128 * 49 + i % 128) := leafA (fun k => tabF (128 * 49 + k)) (by decide +kernel) (i % 128) (Nat.mod_lt _ (by decide))
/-- Part 50 of the matrix. -/
theorem l0_50 (i : ℕ) : lit0t0_50 i = tabF (128 * 50 + i % 128) := leafA (fun k => tabF (128 * 50 + k)) (by decide +kernel) (i % 128) (Nat.mod_lt _ (by decide))
/-- Part 51 of the matrix. -/
theorem l0_51 (i : ℕ) : lit0t0_51 i = tabF (128 * 51 + i % 128) := leafA (fun k => tabF (128 * 51 + k)) (by decide +kernel) (i % 128) (Nat.mod_lt _ (by decide))
/-- Part 52 of the matrix. -/
theorem l0_52 (i : ℕ) : lit0t0_52 i = tabF (128 * 52 + i % 128) := leafA (fun k => tabF (128 * 52 + k)) (by decide +kernel) (i % 128) (Nat.mod_lt _ (by decide))
/-- Part 53 of the matrix. -/
theorem l0_53 (i : ℕ) : lit0t0_53 i = tabF (128 * 53 + i % 128) := leafA (fun k => tabF (128 * 53 + k)) (by decide +kernel) (i % 128) (Nat.mod_lt _ (by decide))
/-- Part 54 of the matrix. -/
theorem l0_54 (i : ℕ) : lit0t0_54 i = tabF (128 * 54 + i % 128) := leafA (fun k => tabF (128 * 54 + k)) (by decide +kernel) (i % 128) (Nat.mod_lt _ (by decide))
/-- Part 55 of the matrix. -/
theorem l0_55 (i : ℕ) : lit0t0_55 i = tabF (128 * 55 + i % 128) := leafA (fun k => tabF (128 * 55 + k)) (by decide +kernel) (i % 128) (Nat.mod_lt _ (by decide))
/-- Part 56 of the matrix. -/
theorem l0_56 (i : ℕ) : lit0t0_56 i = tabF (128 * 56 + i % 128) := leafA (fun k => tabF (128 * 56 + k)) (by decide +kernel) (i % 128) (Nat.mod_lt _ (by decide))
/-- Part 57 of the matrix. -/
theorem l0_57 (i : ℕ) : lit0t0_57 i = tabF (128 * 57 + i % 128) := leafA (fun k => tabF (128 * 57 + k)) (by decide +kernel) (i % 128) (Nat.mod_lt _ (by decide))
/-- Part 58 of the matrix. -/
theorem l0_58 (i : ℕ) : lit0t0_58 i = tabF (128 * 58 + i % 128) := leafA (fun k => tabF (128 * 58 + k)) (by decide +kernel) (i % 128) (Nat.mod_lt _ (by decide))
/-- Part 59 of the matrix. -/
theorem l0_59 (i : ℕ) : lit0t0_59 i = tabF (128 * 59 + i % 128) := leafA (fun k => tabF (128 * 59 + k)) (by decide +kernel) (i % 128) (Nat.mod_lt _ (by decide))
/-- Part 60 of the matrix. -/
theorem l0_60 (i : ℕ) : lit0t0_60 i = tabF (128 * 60 + i % 128) := leafA (fun k => tabF (128 * 60 + k)) (by decide +kernel) (i % 128) (Nat.mod_lt _ (by decide))
/-- Part 61 of the matrix. -/
theorem l0_61 (i : ℕ) : lit0t0_61 i = tabF (128 * 61 + i % 128) := leafA (fun k => tabF (128 * 61 + k)) (by decide +kernel) (i % 128) (Nat.mod_lt _ (by decide))
/-- Part 62 of the matrix. -/
theorem l0_62 (i : ℕ) : lit0t0_62 i = tabF (128 * 62 + i % 128) := leafA (fun k => tabF (128 * 62 + k)) (by decide +kernel) (i % 128) (Nat.mod_lt _ (by decide))
/-- Part 63 of the matrix. -/
theorem l0_63 (i : ℕ) : lit0t0_63 i = tabF (128 * 63 + i % 128) := leafA (fun k => tabF (128 * 63 + k)) (by decide +kernel) (i % 128) (Nat.mod_lt _ (by decide))
/-- Part 64 of the matrix. -/
theorem l0_64 (i : ℕ) : lit0t0_64 i = tabF (128 * 64 + i % 128) := leafA (fun k => tabF (128 * 64 + k)) (by decide +kernel) (i % 128) (Nat.mod_lt _ (by decide))
/-- Part 65 of the matrix. -/
theorem l0_65 (i : ℕ) : lit0t0_65 i = tabF (128 * 65 + i % 128) := leafA (fun k => tabF (128 * 65 + k)) (by decide +kernel) (i % 128) (Nat.mod_lt _ (by decide))
/-- Part 66 of the matrix. -/
theorem l0_66 (i : ℕ) : lit0t0_66 i = tabF (128 * 66 + i % 128) := leafA (fun k => tabF (128 * 66 + k)) (by decide +kernel) (i % 128) (Nat.mod_lt _ (by decide))
/-- Part 67 of the matrix. -/
theorem l0_67 (i : ℕ) : lit0t0_67 i = tabF (128 * 67 + i % 128) := leafA (fun k => tabF (128 * 67 + k)) (by decide +kernel) (i % 128) (Nat.mod_lt _ (by decide))
/-- Part 68 of the matrix. -/
theorem l0_68 (i : ℕ) : lit0t0_68 i = tabF (128 * 68 + i % 128) := leafA (fun k => tabF (128 * 68 + k)) (by decide +kernel) (i % 128) (Nat.mod_lt _ (by decide))
/-- Part 69 of the matrix. -/
theorem l0_69 (i : ℕ) : lit0t0_69 i = tabF (128 * 69 + i % 128) := leafA (fun k => tabF (128 * 69 + k)) (by decide +kernel) (i % 128) (Nat.mod_lt _ (by decide))
/-- Part 70 of the matrix. -/
theorem l0_70 (i : ℕ) : lit0t0_70 i = tabF (128 * 70 + i % 128) := leafA (fun k => tabF (128 * 70 + k)) (by decide +kernel) (i % 128) (Nat.mod_lt _ (by decide))
/-- Part 71 of the matrix. -/
theorem l0_71 (i : ℕ) : lit0t0_71 i = tabF (128 * 71 + i % 128) := leafA (fun k => tabF (128 * 71 + k)) (by decide +kernel) (i % 128) (Nat.mod_lt _ (by decide))
/-- Part 72 of the matrix. -/
theorem l0_72 (i : ℕ) : lit0t0_72 i = tabF (128 * 72 + i % 128) := leafA (fun k => tabF (128 * 72 + k)) (by decide +kernel) (i % 128) (Nat.mod_lt _ (by decide))
/-- Part 73 of the matrix. -/
theorem l0_73 (i : ℕ) : lit0t0_73 i = tabF (128 * 73 + i % 128) := leafA (fun k => tabF (128 * 73 + k)) (by decide +kernel) (i % 128) (Nat.mod_lt _ (by decide))
/-- Part 74 of the matrix. -/
theorem l0_74 (i : ℕ) : lit0t0_74 i = tabF (128 * 74 + i % 128) := leafA (fun k => tabF (128 * 74 + k)) (by decide +kernel) (i % 128) (Nat.mod_lt _ (by decide))
/-- Part 75 of the matrix. -/
theorem l0_75 (i : ℕ) : lit0t0_75 i = tabF (128 * 75 + i % 128) := leafA (fun k => tabF (128 * 75 + k)) (by decide +kernel) (i % 128) (Nat.mod_lt _ (by decide))
/-- Part 76 of the matrix. -/
theorem l0_76 (i : ℕ) : lit0t0_76 i = tabF (128 * 76 + i % 128) := leafA (fun k => tabF (128 * 76 + k)) (by decide +kernel) (i % 128) (Nat.mod_lt _ (by decide))
/-- Part 77 of the matrix. -/
theorem l0_77 (i : ℕ) : lit0t0_77 i = tabF (128 * 77 + i % 128) := leafA (fun k => tabF (128 * 77 + k)) (by decide +kernel) (i % 128) (Nat.mod_lt _ (by decide))
/-- Part 78 of the matrix. -/
theorem l0_78 (i : ℕ) : lit0t0_78 i = tabF (128 * 78 + i % 128) := leafA (fun k => tabF (128 * 78 + k)) (by decide +kernel) (i % 128) (Nat.mod_lt _ (by decide))
/-- Part 79 of the matrix. -/
theorem l0_79 (i : ℕ) : lit0t0_79 i = tabF (128 * 79 + i % 128) := leafA (fun k => tabF (128 * 79 + k)) (by decide +kernel) (i % 128) (Nat.mod_lt _ (by decide))
/-- Part 80 of the matrix. -/
theorem l0_80 (i : ℕ) : lit0t0_80 i = tabF (128 * 80 + i % 128) := leafA (fun k => tabF (128 * 80 + k)) (by decide +kernel) (i % 128) (Nat.mod_lt _ (by decide))
/-- Part 81 of the matrix. -/
theorem l0_81 (i : ℕ) : lit0t0_81 i = tabF (128 * 81 + i % 128) := leafA (fun k => tabF (128 * 81 + k)) (by decide +kernel) (i % 128) (Nat.mod_lt _ (by decide))
/-- Part 82 of the matrix. -/
theorem l0_82 (i : ℕ) : lit0t0_82 i = tabF (128 * 82 + i % 128) := leafA (fun k => tabF (128 * 82 + k)) (by decide +kernel) (i % 128) (Nat.mod_lt _ (by decide))
/-- Part 83 of the matrix. -/
theorem l0_83 (i : ℕ) : lit0t0_83 i = tabF (128 * 83 + i % 128) := leafA (fun k => tabF (128 * 83 + k)) (by decide +kernel) (i % 128) (Nat.mod_lt _ (by decide))
/-- Part 84 of the matrix. -/
theorem l0_84 (i : ℕ) : lit0t0_84 i = tabF (128 * 84 + i % 128) := leafA (fun k => tabF (128 * 84 + k)) (by decide +kernel) (i % 128) (Nat.mod_lt _ (by decide))
/-- Part 85 of the matrix. -/
theorem l0_85 (i : ℕ) : lit0t0_85 i = tabF (128 * 85 + i % 128) := leafA (fun k => tabF (128 * 85 + k)) (by decide +kernel) (i % 128) (Nat.mod_lt _ (by decide))
/-- Part 86 of the matrix. -/
theorem l0_86 (i : ℕ) : lit0t0_86 i = tabF (128 * 86 + i % 128) := leafA (fun k => tabF (128 * 86 + k)) (by decide +kernel) (i % 128) (Nat.mod_lt _ (by decide))
/-- Part 87 of the matrix. -/
theorem l0_87 (i : ℕ) : lit0t0_87 i = tabF (128 * 87 + i % 128) := leafA (fun k => tabF (128 * 87 + k)) (by decide +kernel) (i % 128) (Nat.mod_lt _ (by decide))
/-- Part 88 of the matrix. -/
theorem l0_88 (i : ℕ) : lit0t0_88 i = tabF (128 * 88 + i % 128) := leafA (fun k => tabF (128 * 88 + k)) (by decide +kernel) (i % 128) (Nat.mod_lt _ (by decide))
/-- Part 89 of the matrix. -/
theorem l0_89 (i : ℕ) : lit0t0_89 i = tabF (128 * 89 + i % 128) := leafA (fun k => tabF (128 * 89 + k)) (by decide +kernel) (i % 128) (Nat.mod_lt _ (by decide))
/-- Part 90 of the matrix. -/
theorem l0_90 (i : ℕ) : lit0t0_90 i = tabF (128 * 90 + i % 128) := leafA (fun k => tabF (128 * 90 + k)) (by decide +kernel) (i % 128) (Nat.mod_lt _ (by decide))
/-- Part 91 of the matrix. -/
theorem l0_91 (i : ℕ) : lit0t0_91 i = tabF (128 * 91 + i % 128) := leafA (fun k => tabF (128 * 91 + k)) (by decide +kernel) (i % 128) (Nat.mod_lt _ (by decide))
/-- Part 92 of the matrix. -/
theorem l0_92 (i : ℕ) : lit0t0_92 i = tabF (128 * 92 + i % 128) := leafA (fun k => tabF (128 * 92 + k)) (by decide +kernel) (i % 128) (Nat.mod_lt _ (by decide))
/-- Part 93 of the matrix. -/
theorem l0_93 (i : ℕ) : lit0t0_93 i = tabF (128 * 93 + i % 128) := leafA (fun k => tabF (128 * 93 + k)) (by decide +kernel) (i % 128) (Nat.mod_lt _ (by decide))
/-- Part 94 of the matrix. -/
theorem l0_94 (i : ℕ) : lit0t0_94 i = tabF (128 * 94 + i % 128) := leafA (fun k => tabF (128 * 94 + k)) (by decide +kernel) (i % 128) (Nat.mod_lt _ (by decide))
/-- Part 95 of the matrix. -/
theorem l0_95 (i : ℕ) : lit0t0_95 i = tabF (128 * 95 + i % 128) := leafA (fun k => tabF (128 * 95 + k)) (by decide +kernel) (i % 128) (Nat.mod_lt _ (by decide))
/-- Part 96 of the matrix. -/
theorem l0_96 (i : ℕ) : lit0t0_96 i = tabF (128 * 96 + i % 128) := leafA (fun k => tabF (128 * 96 + k)) (by decide +kernel) (i % 128) (Nat.mod_lt _ (by decide))
/-- Part 97 of the matrix. -/
theorem l0_97 (i : ℕ) : lit0t0_97 i = tabF (128 * 97 + i % 128) := leafA (fun k => tabF (128 * 97 + k)) (by decide +kernel) (i % 128) (Nat.mod_lt _ (by decide))
/-- Part 98 of the matrix. -/
theorem l0_98 (i : ℕ) : lit0t0_98 i = tabF (128 * 98 + i % 128) := leafA (fun k => tabF (128 * 98 + k)) (by decide +kernel) (i % 128) (Nat.mod_lt _ (by decide))
/-- Part 99 of the matrix. -/
theorem l0_99 (i : ℕ) : lit0t0_99 i = tabF (128 * 99 + i % 128) := leafA (fun k => tabF (128 * 99 + k)) (by decide +kernel) (i % 128) (Nat.mod_lt _ (by decide))
/-- Part 100 of the matrix. -/
theorem l0_100 (i : ℕ) : lit0t0_100 i = tabF (128 * 100 + i % 128) := leafA (fun k => tabF (128 * 100 + k)) (by decide +kernel) (i % 128) (Nat.mod_lt _ (by decide))
/-- Part 101 of the matrix. -/
theorem l0_101 (i : ℕ) : lit0t0_101 i = tabF (128 * 101 + i % 128) := leafA (fun k => tabF (128 * 101 + k)) (by decide +kernel) (i % 128) (Nat.mod_lt _ (by decide))
/-- Part 102 of the matrix. -/
theorem l0_102 (i : ℕ) : lit0t0_102 i = tabF (128 * 102 + i % 128) := leafA (fun k => tabF (128 * 102 + k)) (by decide +kernel) (i % 128) (Nat.mod_lt _ (by decide))
/-- Part 103 of the matrix. -/
theorem l0_103 (i : ℕ) : lit0t0_103 i = tabF (128 * 103 + i % 128) := leafA (fun k => tabF (128 * 103 + k)) (by decide +kernel) (i % 128) (Nat.mod_lt _ (by decide))
/-- Part 104 of the matrix. -/
theorem l0_104 (i : ℕ) : lit0t0_104 i = tabF (128 * 104 + i % 128) := leafA (fun k => tabF (128 * 104 + k)) (by decide +kernel) (i % 128) (Nat.mod_lt _ (by decide))
/-- Part 105 of the matrix. -/
theorem l0_105 (i : ℕ) : lit0t0_105 i = tabF (128 * 105 + i % 128) := leafA (fun k => tabF (128 * 105 + k)) (by decide +kernel) (i % 128) (Nat.mod_lt _ (by decide))
/-- Part 106 of the matrix. -/
theorem l0_106 (i : ℕ) : lit0t0_106 i = tabF (128 * 106 + i % 128) := leafA (fun k => tabF (128 * 106 + k)) (by decide +kernel) (i % 128) (Nat.mod_lt _ (by decide))
/-- Part 107 of the matrix. -/
theorem l0_107 (i : ℕ) : lit0t0_107 i = tabF (128 * 107 + i % 128) := leafA (fun k => tabF (128 * 107 + k)) (by decide +kernel) (i % 128) (Nat.mod_lt _ (by decide))
/-- Part 108 of the matrix. -/
theorem l0_108 (i : ℕ) : lit0t0_108 i = tabF (128 * 108 + i % 128) := leafA (fun k => tabF (128 * 108 + k)) (by decide +kernel) (i % 128) (Nat.mod_lt _ (by decide))
/-- Part 109 of the matrix. -/
theorem l0_109 (i : ℕ) : lit0t0_109 i = tabF (128 * 109 + i % 128) := leafA (fun k => tabF (128 * 109 + k)) (by decide +kernel) (i % 128) (Nat.mod_lt _ (by decide))
/-- Part 110 of the matrix. -/
theorem l0_110 (i : ℕ) : lit0t0_110 i = tabF (128 * 110 + i % 128) := leafA (fun k => tabF (128 * 110 + k)) (by decide +kernel) (i % 128) (Nat.mod_lt _ (by decide))
/-- Part 111 of the matrix. -/
theorem l0_111 (i : ℕ) : lit0t0_111 i = tabF (128 * 111 + i % 128) := leafA (fun k => tabF (128 * 111 + k)) (by decide +kernel) (i % 128) (Nat.mod_lt _ (by decide))
/-- Part 112 of the matrix. -/
theorem l0_112 (i : ℕ) : lit0t0_112 i = tabF (128 * 112 + i % 128) := leafA (fun k => tabF (128 * 112 + k)) (by decide +kernel) (i % 128) (Nat.mod_lt _ (by decide))
/-- Part 113 of the matrix. -/
theorem l0_113 (i : ℕ) : lit0t0_113 i = tabF (128 * 113 + i % 128) := leafA (fun k => tabF (128 * 113 + k)) (by decide +kernel) (i % 128) (Nat.mod_lt _ (by decide))
/-- Part 114 of the matrix. -/
theorem l0_114 (i : ℕ) : lit0t0_114 i = tabF (128 * 114 + i % 128) := leafA (fun k => tabF (128 * 114 + k)) (by decide +kernel) (i % 128) (Nat.mod_lt _ (by decide))
/-- Part 115 of the matrix. -/
theorem l0_115 (i : ℕ) : lit0t0_115 i = tabF (128 * 115 + i % 128) := leafA (fun k => tabF (128 * 115 + k)) (by decide +kernel) (i % 128) (Nat.mod_lt _ (by decide))
/-- Part 116 of the matrix. -/
theorem l0_116 (i : ℕ) : lit0t0_116 i = tabF (128 * 116 + i % 128) := leafA (fun k => tabF (128 * 116 + k)) (by decide +kernel) (i % 128) (Nat.mod_lt _ (by decide))
/-- Part 117 of the matrix. -/
theorem l0_117 (i : ℕ) : lit0t0_117 i = tabF (128 * 117 + i % 128) := leafA (fun k => tabF (128 * 117 + k)) (by decide +kernel) (i % 128) (Nat.mod_lt _ (by decide))
/-- Part 118 of the matrix. -/
theorem l0_118 (i : ℕ) : lit0t0_118 i = tabF (128 * 118 + i % 128) := leafA (fun k => tabF (128 * 118 + k)) (by decide +kernel) (i % 128) (Nat.mod_lt _ (by decide))
/-- Part 119 of the matrix. -/
theorem l0_119 (i : ℕ) : lit0t0_119 i = tabF (128 * 119 + i % 128) := leafA (fun k => tabF (128 * 119 + k)) (by decide +kernel) (i % 128) (Nat.mod_lt _ (by decide))
/-- Part 120 of the matrix. -/
theorem l0_120 (i : ℕ) : lit0t0_120 i = tabF (128 * 120 + i % 128) := leafA (fun k => tabF (128 * 120 + k)) (by decide +kernel) (i % 128) (Nat.mod_lt _ (by decide))
/-- Part 121 of the matrix. -/
theorem l0_121 (i : ℕ) : lit0t0_121 i = tabF (128 * 121 + i % 128) := leafA (fun k => tabF (128 * 121 + k)) (by decide +kernel) (i % 128) (Nat.mod_lt _ (by decide))
/-- Part 122 of the matrix. -/
theorem l0_122 (i : ℕ) : lit0t0_122 i = tabF (128 * 122 + i % 128) := leafA (fun k => tabF (128 * 122 + k)) (by decide +kernel) (i % 128) (Nat.mod_lt _ (by decide))
/-- Part 123 of the matrix. -/
theorem l0_123 (i : ℕ) : lit0t0_123 i = tabF (128 * 123 + i % 128) := leafA (fun k => tabF (128 * 123 + k)) (by decide +kernel) (i % 128) (Nat.mod_lt _ (by decide))
/-- Part 124 of the matrix. -/
theorem l0_124 (i : ℕ) : lit0t0_124 i = tabF (128 * 124 + i % 128) := leafA (fun k => tabF (128 * 124 + k)) (by decide +kernel) (i % 128) (Nat.mod_lt _ (by decide))
/-- Part 125 of the matrix. -/
theorem l0_125 (i : ℕ) : lit0t0_125 i = tabF (128 * 125 + i % 128) := leafA (fun k => tabF (128 * 125 + k)) (by decide +kernel) (i % 128) (Nat.mod_lt _ (by decide))
/-- Part 126 of the matrix. -/
theorem l0_126 (i : ℕ) : lit0t0_126 i = tabF (128 * 126 + i % 128) := leafA (fun k => tabF (128 * 126 + k)) (by decide +kernel) (i % 128) (Nat.mod_lt _ (by decide))
/-- Part 127 of the matrix. -/
theorem l0_127 (i : ℕ) : lit0t0_127 i = tabF (128 * 127 + i % 128) := leafA (fun k => tabF (128 * 127 + k)) (by decide +kernel) (i % 128) (Nat.mod_lt _ (by decide))
/-- Part 128 of the matrix. -/
theorem l0_128 (i : ℕ) : lit0t0_128 i = tabF (128 * 128 + i % 128) := leafA (fun k => tabF (128 * 128 + k)) (by decide +kernel) (i % 128) (Nat.mod_lt _ (by decide))
/-- Part 129 of the matrix. -/
theorem l0_129 (i : ℕ) : lit0t0_129 i = tabF (128 * 129 + i % 128) := leafA (fun k => tabF (128 * 129 + k)) (by decide +kernel) (i % 128) (Nat.mod_lt _ (by decide))
/-- Part 130 of the matrix. -/
theorem l0_130 (i : ℕ) : lit0t0_130 i = tabF (128 * 130 + i % 128) := leafA (fun k => tabF (128 * 130 + k)) (by decide +kernel) (i % 128) (Nat.mod_lt _ (by decide))
/-- Part 131 of the matrix. -/
theorem l0_131 (i : ℕ) : lit0t0_131 i = tabF (128 * 131 + i % 128) := leafA (fun k => tabF (128 * 131 + k)) (by decide +kernel) (i % 128) (Nat.mod_lt _ (by decide))
/-- Part 132 of the matrix. -/
theorem l0_132 (i : ℕ) : lit0t0_132 i = tabF (128 * 132 + i % 128) := leafA (fun k => tabF (128 * 132 + k)) (by decide +kernel) (i % 128) (Nat.mod_lt _ (by decide))
/-- Part 133 of the matrix. -/
theorem l0_133 (i : ℕ) : lit0t0_133 i = tabF (128 * 133 + i % 128) := leafA (fun k => tabF (128 * 133 + k)) (by decide +kernel) (i % 128) (Nat.mod_lt _ (by decide))
/-- Part 134 of the matrix. -/
theorem l0_134 (i : ℕ) : lit0t0_134 i = tabF (128 * 134 + i % 128) := leafA (fun k => tabF (128 * 134 + k)) (by decide +kernel) (i % 128) (Nat.mod_lt _ (by decide))
/-- Part 135 of the matrix. -/
theorem l0_135 (i : ℕ) : lit0t0_135 i = tabF (128 * 135 + i % 128) := leafA (fun k => tabF (128 * 135 + k)) (by decide +kernel) (i % 128) (Nat.mod_lt _ (by decide))
/-- Part 136 of the matrix. -/
theorem l0_136 (i : ℕ) : lit0t0_136 i = tabF (128 * 136 + i % 128) := leafA (fun k => tabF (128 * 136 + k)) (by decide +kernel) (i % 128) (Nat.mod_lt _ (by decide))
/-- Part 137 of the matrix. -/
theorem l0_137 (i : ℕ) : lit0t0_137 i = tabF (128 * 137 + i % 128) := leafA (fun k => tabF (128 * 137 + k)) (by decide +kernel) (i % 128) (Nat.mod_lt _ (by decide))
/-- Part 138 of the matrix. -/
theorem l0_138 (i : ℕ) : lit0t0_138 i = tabF (128 * 138 + i % 128) := leafA (fun k => tabF (128 * 138 + k)) (by decide +kernel) (i % 128) (Nat.mod_lt _ (by decide))
/-- Part 139 of the matrix. -/
theorem l0_139 (i : ℕ) : lit0t0_139 i = tabF (128 * 139 + i % 128) := leafA (fun k => tabF (128 * 139 + k)) (by decide +kernel) (i % 128) (Nat.mod_lt _ (by decide))
/-- Part 140 of the matrix. -/
theorem l0_140 (i : ℕ) : lit0t0_140 i = tabF (128 * 140 + i % 128) := leafA (fun k => tabF (128 * 140 + k)) (by decide +kernel) (i % 128) (Nat.mod_lt _ (by decide))
/-- Part 141 of the matrix. -/
theorem l0_141 (i : ℕ) : lit0t0_141 i = tabF (128 * 141 + i % 128) := leafA (fun k => tabF (128 * 141 + k)) (by decide +kernel) (i % 128) (Nat.mod_lt _ (by decide))
/-- Part 142 of the matrix. -/
theorem l0_142 (i : ℕ) : lit0t0_142 i = tabF (128 * 142 + i % 128) := leafA (fun k => tabF (128 * 142 + k)) (by decide +kernel) (i % 128) (Nat.mod_lt _ (by decide))
/-- Part 143 of the matrix. -/
theorem l0_143 (i : ℕ) : lit0t0_143 i = tabF (128 * 143 + i % 128) := leafA (fun k => tabF (128 * 143 + k)) (by decide +kernel) (i % 128) (Nat.mod_lt _ (by decide))
/-- Part 144 of the matrix. -/
theorem l0_144 (i : ℕ) : lit0t0_144 i = tabF (128 * 144 + i % 128) := leafA (fun k => tabF (128 * 144 + k)) (by decide +kernel) (i % 128) (Nat.mod_lt _ (by decide))
/-- Part 145 of the matrix. -/
theorem l0_145 (i : ℕ) : lit0t0_145 i = tabF (128 * 145 + i % 128) := leafA (fun k => tabF (128 * 145 + k)) (by decide +kernel) (i % 128) (Nat.mod_lt _ (by decide))
/-- Part 146 of the matrix. -/
theorem l0_146 (i : ℕ) : lit0t0_146 i = tabF (128 * 146 + i % 128) := leafA (fun k => tabF (128 * 146 + k)) (by decide +kernel) (i % 128) (Nat.mod_lt _ (by decide))
/-- Part 147 of the matrix. -/
theorem l0_147 (i : ℕ) : lit0t0_147 i = tabF (128 * 147 + i % 128) := leafA (fun k => tabF (128 * 147 + k)) (by decide +kernel) (i % 128) (Nat.mod_lt _ (by decide))
/-- Part 148 of the matrix. -/
theorem l0_148 (i : ℕ) : lit0t0_148 i = tabF (128 * 148 + i % 128) := leafA (fun k => tabF (128 * 148 + k)) (by decide +kernel) (i % 128) (Nat.mod_lt _ (by decide))
/-- Part 149 of the matrix. -/
theorem l0_149 (i : ℕ) : lit0t0_149 i = tabF (128 * 149 + i % 128) := leafA (fun k => tabF (128 * 149 + k)) (by decide +kernel) (i % 128) (Nat.mod_lt _ (by decide))
/-- Part 150 of the matrix. -/
theorem l0_150 (i : ℕ) : lit0t0_150 i = tabF (128 * 150 + i % 128) := leafA (fun k => tabF (128 * 150 + k)) (by decide +kernel) (i % 128) (Nat.mod_lt _ (by decide))
/-- Part 151 of the matrix. -/
theorem l0_151 (i : ℕ) : lit0t0_151 i = tabF (128 * 151 + i % 128) := leafA (fun k => tabF (128 * 151 + k)) (by decide +kernel) (i % 128) (Nat.mod_lt _ (by decide))
/-- Part 152 of the matrix. -/
theorem l0_152 (i : ℕ) : lit0t0_152 i = tabF (128 * 152 + i % 128) := leafA (fun k => tabF (128 * 152 + k)) (by decide +kernel) (i % 128) (Nat.mod_lt _ (by decide))
/-- Part 153 of the matrix. -/
theorem l0_153 (i : ℕ) : lit0t0_153 i = tabF (128 * 153 + i % 128) := leafA (fun k => tabF (128 * 153 + k)) (by decide +kernel) (i % 128) (Nat.mod_lt _ (by decide))
/-- Part 154 of the matrix. -/
theorem l0_154 (i : ℕ) : lit0t0_154 i = tabF (128 * 154 + i % 128) := leafA (fun k => tabF (128 * 154 + k)) (by decide +kernel) (i % 128) (Nat.mod_lt _ (by decide))
/-- Part 155 of the matrix. -/
theorem l0_155 (i : ℕ) : lit0t0_155 i = tabF (128 * 155 + i % 128) := leafA (fun k => tabF (128 * 155 + k)) (by decide +kernel) (i % 128) (Nat.mod_lt _ (by decide))
/-- Part 156 of the matrix. -/
theorem l0_156 (i : ℕ) : lit0t0_156 i = tabF (128 * 156 + i % 128) := leafA (fun k => tabF (128 * 156 + k)) (by decide +kernel) (i % 128) (Nat.mod_lt _ (by decide))
/-- Part 157 of the matrix. -/
theorem l0_157 (i : ℕ) : lit0t0_157 i = tabF (128 * 157 + i % 128) := leafA (fun k => tabF (128 * 157 + k)) (by decide +kernel) (i % 128) (Nat.mod_lt _ (by decide))
/-- Part 158 of the matrix. -/
theorem l0_158 (i : ℕ) : lit0t0_158 i = tabF (128 * 158 + i % 128) := leafA (fun k => tabF (128 * 158 + k)) (by decide +kernel) (i % 128) (Nat.mod_lt _ (by decide))
/-- Part 159 of the matrix. -/
theorem l0_159 (i : ℕ) : lit0t0_159 i = tabF (128 * 159 + i % 128) := leafA (fun k => tabF (128 * 159 + k)) (by decide +kernel) (i % 128) (Nat.mod_lt _ (by decide))
/-- Part 160 of the matrix. -/
theorem l0_160 (i : ℕ) : lit0t0_160 i = tabF (128 * 160 + i % 128) := leafA (fun k => tabF (128 * 160 + k)) (by decide +kernel) (i % 128) (Nat.mod_lt _ (by decide))
/-- Part 161 of the matrix. -/
theorem l0_161 (i : ℕ) : lit0t0_161 i = tabF (128 * 161 + i % 128) := leafA (fun k => tabF (128 * 161 + k)) (by decide +kernel) (i % 128) (Nat.mod_lt _ (by decide))
/-- Part 162 of the matrix. -/
theorem l0_162 (i : ℕ) : lit0t0_162 i = tabF (128 * 162 + i % 128) := leafA (fun k => tabF (128 * 162 + k)) (by decide +kernel) (i % 128) (Nat.mod_lt _ (by decide))
/-- Part 163 of the matrix. -/
theorem l0_163 (i : ℕ) : lit0t0_163 i = tabF (128 * 163 + i % 128) := leafA (fun k => tabF (128 * 163 + k)) (by decide +kernel) (i % 128) (Nat.mod_lt _ (by decide))
/-- Part 164 of the matrix. -/
theorem l0_164 (i : ℕ) : lit0t0_164 i = tabF (128 * 164 + i % 128) := leafA (fun k => tabF (128 * 164 + k)) (by decide +kernel) (i % 128) (Nat.mod_lt _ (by decide))
/-- Part 165 of the matrix. -/
theorem l0_165 (i : ℕ) : lit0t0_165 i = tabF (128 * 165 + i % 128) := leafA (fun k => tabF (128 * 165 + k)) (by decide +kernel) (i % 128) (Nat.mod_lt _ (by decide))
/-- Part 166 of the matrix. -/
theorem l0_166 (i : ℕ) : lit0t0_166 i = tabF (128 * 166 + i % 128) := leafA (fun k => tabF (128 * 166 + k)) (by decide +kernel) (i % 128) (Nat.mod_lt _ (by decide))
/-- Part 167 of the matrix. -/
theorem l0_167 (i : ℕ) : lit0t0_167 i = tabF (128 * 167 + i % 128) := leafA (fun k => tabF (128 * 167 + k)) (by decide +kernel) (i % 128) (Nat.mod_lt _ (by decide))
/-- Part 168 of the matrix. -/
theorem l0_168 (i : ℕ) : lit0t0_168 i = tabF (128 * 168 + i % 128) := leafA (fun k => tabF (128 * 168 + k)) (by decide +kernel) (i % 128) (Nat.mod_lt _ (by decide))
/-- Part 169 of the matrix. -/
theorem l0_169 (i : ℕ) : lit0t0_169 i = tabF (128 * 169 + i % 128) := leafA (fun k => tabF (128 * 169 + k)) (by decide +kernel) (i % 128) (Nat.mod_lt _ (by decide))
/-- Part 170 of the matrix. -/
theorem l0_170 (i : ℕ) : lit0t0_170 i = tabF (128 * 170 + i % 128) := leafA (fun k => tabF (128 * 170 + k)) (by decide +kernel) (i % 128) (Nat.mod_lt _ (by decide))
/-- Part 171 of the matrix. -/
theorem l0_171 (i : ℕ) : lit0t0_171 i = tabF (128 * 171 + i % 128) := leafA (fun k => tabF (128 * 171 + k)) (by decide +kernel) (i % 128) (Nat.mod_lt _ (by decide))
/-- Part 172 of the matrix. -/
theorem l0_172 (i : ℕ) : lit0t0_172 i = tabF (128 * 172 + i % 128) := leafA (fun k => tabF (128 * 172 + k)) (by decide +kernel) (i % 128) (Nat.mod_lt _ (by decide))
/-- Part 173 of the matrix. -/
theorem l0_173 (i : ℕ) : lit0t0_173 i = tabF (128 * 173 + i % 128) := leafA (fun k => tabF (128 * 173 + k)) (by decide +kernel) (i % 128) (Nat.mod_lt _ (by decide))
/-- Part 174 of the matrix. -/
theorem l0_174 (i : ℕ) : lit0t0_174 i = tabF (128 * 174 + i % 128) := leafA (fun k => tabF (128 * 174 + k)) (by decide +kernel) (i % 128) (Nat.mod_lt _ (by decide))
/-- Part 175 of the matrix. -/
theorem l0_175 (i : ℕ) : lit0t0_175 i = tabF (128 * 175 + i % 128) := leafA (fun k => tabF (128 * 175 + k)) (by decide +kernel) (i % 128) (Nat.mod_lt _ (by decide))
/-- Part 176 of the matrix. -/
theorem l0_176 (i : ℕ) : lit0t0_176 i = tabF (128 * 176 + i % 128) := leafA (fun k => tabF (128 * 176 + k)) (by decide +kernel) (i % 128) (Nat.mod_lt _ (by decide))
/-- Part 177 of the matrix. -/
theorem l0_177 (i : ℕ) : lit0t0_177 i = tabF (128 * 177 + i % 128) := leafA (fun k => tabF (128 * 177 + k)) (by decide +kernel) (i % 128) (Nat.mod_lt _ (by decide))
/-- Part 178 of the matrix. -/
theorem l0_178 (i : ℕ) : lit0t0_178 i = tabF (128 * 178 + i % 128) := leafA (fun k => tabF (128 * 178 + k)) (by decide +kernel) (i % 128) (Nat.mod_lt _ (by decide))
/-- Part 179 of the matrix. -/
theorem l0_179 (i : ℕ) : lit0t0_179 i = tabF (128 * 179 + i % 128) := leafA (fun k => tabF (128 * 179 + k)) (by decide +kernel) (i % 128) (Nat.mod_lt _ (by decide))
/-- Part 180 of the matrix. -/
theorem l0_180 (i : ℕ) : lit0t0_180 i = tabF (128 * 180 + i % 128) := leafA (fun k => tabF (128 * 180 + k)) (by decide +kernel) (i % 128) (Nat.mod_lt _ (by decide))
/-- Part 181 of the matrix. -/
theorem l0_181 (i : ℕ) : lit0t0_181 i = tabF (128 * 181 + i % 128) := leafA (fun k => tabF (128 * 181 + k)) (by decide +kernel) (i % 128) (Nat.mod_lt _ (by decide))
/-- Part 182 of the matrix. -/
theorem l0_182 (i : ℕ) : lit0t0_182 i = tabF (128 * 182 + i % 128) := leafA (fun k => tabF (128 * 182 + k)) (by decide +kernel) (i % 128) (Nat.mod_lt _ (by decide))
/-- Part 183 of the matrix. -/
theorem l0_183 (i : ℕ) : lit0t0_183 i = tabF (128 * 183 + i % 128) := leafA (fun k => tabF (128 * 183 + k)) (by decide +kernel) (i % 128) (Nat.mod_lt _ (by decide))
/-- Part 184 of the matrix. -/
theorem l0_184 (i : ℕ) : lit0t0_184 i = tabF (128 * 184 + i % 128) := leafA (fun k => tabF (128 * 184 + k)) (by decide +kernel) (i % 128) (Nat.mod_lt _ (by decide))
/-- Part 185 of the matrix. -/
theorem l0_185 (i : ℕ) : lit0t0_185 i = tabF (128 * 185 + i % 128) := leafA (fun k => tabF (128 * 185 + k)) (by decide +kernel) (i % 128) (Nat.mod_lt _ (by decide))
/-- Part 186 of the matrix. -/
theorem l0_186 (i : ℕ) : lit0t0_186 i = tabF (128 * 186 + i % 128) := leafA (fun k => tabF (128 * 186 + k)) (by decide +kernel) (i % 128) (Nat.mod_lt _ (by decide))
/-- Part 187 of the matrix. -/
theorem l0_187 (i : ℕ) : lit0t0_187 i = tabF (128 * 187 + i % 128) := leafA (fun k => tabF (128 * 187 + k)) (by decide +kernel) (i % 128) (Nat.mod_lt _ (by decide))
/-- Part 188 of the matrix. -/
theorem l0_188 (i : ℕ) : lit0t0_188 i = tabF (128 * 188 + i % 128) := leafA (fun k => tabF (128 * 188 + k)) (by decide +kernel) (i % 128) (Nat.mod_lt _ (by decide))
/-- Part 189 of the matrix. -/
theorem l0_189 (i : ℕ) : lit0t0_189 i = tabF (128 * 189 + i % 128) := leafA (fun k => tabF (128 * 189 + k)) (by decide +kernel) (i % 128) (Nat.mod_lt _ (by decide))
/-- Part 190 of the matrix. -/
theorem l0_190 (i : ℕ) : lit0t0_190 i = tabF (128 * 190 + i % 128) := leafA (fun k => tabF (128 * 190 + k)) (by decide +kernel) (i % 128) (Nat.mod_lt _ (by decide))
/-- Part 191 of the matrix. -/
theorem l0_191 (i : ℕ) : lit0t0_191 i = tabF (128 * 191 + i % 128) := leafA (fun k => tabF (128 * 191 + k)) (by decide +kernel) (i % 128) (Nat.mod_lt _ (by decide))
/-- Part 192 of the matrix. -/
theorem l0_192 (i : ℕ) : lit0t0_192 i = tabF (128 * 192 + i % 128) := leafA (fun k => tabF (128 * 192 + k)) (by decide +kernel) (i % 128) (Nat.mod_lt _ (by decide))
/-- Part 193 of the matrix. -/
theorem l0_193 (i : ℕ) : lit0t0_193 i = tabF (128 * 193 + i % 128) := leafA (fun k => tabF (128 * 193 + k)) (by decide +kernel) (i % 128) (Nat.mod_lt _ (by decide))
/-- Part 194 of the matrix. -/
theorem l0_194 (i : ℕ) : lit0t0_194 i = tabF (128 * 194 + i % 128) := leafA (fun k => tabF (128 * 194 + k)) (by decide +kernel) (i % 128) (Nat.mod_lt _ (by decide))
/-- Part 195 of the matrix. -/
theorem l0_195 (i : ℕ) : lit0t0_195 i = tabF (128 * 195 + i % 128) := leafA (fun k => tabF (128 * 195 + k)) (by decide +kernel) (i % 128) (Nat.mod_lt _ (by decide))
/-- Part 196 of the matrix. -/
theorem l0_196 (i : ℕ) : lit0t0_196 i = tabF (128 * 196 + i % 128) := leafA (fun k => tabF (128 * 196 + k)) (by decide +kernel) (i % 128) (Nat.mod_lt _ (by decide))
/-- Part 197 of the matrix. -/
theorem l0_197 (i : ℕ) : lit0t0_197 i = tabF (128 * 197 + i % 128) := leafA (fun k => tabF (128 * 197 + k)) (by decide +kernel) (i % 128) (Nat.mod_lt _ (by decide))
/-- Part 198 of the matrix. -/
theorem l0_198 (i : ℕ) : lit0t0_198 i = tabF (128 * 198 + i % 128) := leafA (fun k => tabF (128 * 198 + k)) (by decide +kernel) (i % 128) (Nat.mod_lt _ (by decide))
/-- Part 199 of the matrix. -/
theorem l0_199 (i : ℕ) : lit0t0_199 i = tabF (128 * 199 + i % 128) := leafA (fun k => tabF (128 * 199 + k)) (by decide +kernel) (i % 128) (Nat.mod_lt _ (by decide))
/-- Part 200 of the matrix. -/
theorem l0_200 (i : ℕ) : lit0t0_200 i = tabF (128 * 200 + i % 128) := leafA (fun k => tabF (128 * 200 + k)) (by decide +kernel) (i % 128) (Nat.mod_lt _ (by decide))
/-- Part 201 of the matrix. -/
theorem l0_201 (i : ℕ) : lit0t0_201 i = tabF (128 * 201 + i % 128) := leafA (fun k => tabF (128 * 201 + k)) (by decide +kernel) (i % 128) (Nat.mod_lt _ (by decide))
/-- Part 202 of the matrix. -/
theorem l0_202 (i : ℕ) : lit0t0_202 i = tabF (128 * 202 + i % 128) := leafA (fun k => tabF (128 * 202 + k)) (by decide +kernel) (i % 128) (Nat.mod_lt _ (by decide))
/-- Part 203 of the matrix. -/
theorem l0_203 (i : ℕ) : lit0t0_203 i = tabF (128 * 203 + i % 128) := leafA (fun k => tabF (128 * 203 + k)) (by decide +kernel) (i % 128) (Nat.mod_lt _ (by decide))
/-- Part 204 of the matrix. -/
theorem l0_204 (i : ℕ) : lit0t0_204 i = tabF (128 * 204 + i % 128) := leafA (fun k => tabF (128 * 204 + k)) (by decide +kernel) (i % 128) (Nat.mod_lt _ (by decide))
/-- Part 205 of the matrix. -/
theorem l0_205 (i : ℕ) : lit0t0_205 i = tabF (128 * 205 + i % 128) := leafA (fun k => tabF (128 * 205 + k)) (by decide +kernel) (i % 128) (Nat.mod_lt _ (by decide))
/-- Part 206 of the matrix. -/
theorem l0_206 (i : ℕ) : lit0t0_206 i = tabF (128 * 206 + i % 128) := leafA (fun k => tabF (128 * 206 + k)) (by decide +kernel) (i % 128) (Nat.mod_lt _ (by decide))
/-- Part 207 of the matrix. -/
theorem l0_207 (i : ℕ) : lit0t0_207 i = tabF (128 * 207 + i % 128) := leafA (fun k => tabF (128 * 207 + k)) (by decide +kernel) (i % 128) (Nat.mod_lt _ (by decide))
/-- Part 208 of the matrix. -/
theorem l0_208 (i : ℕ) : lit0t0_208 i = tabF (128 * 208 + i % 128) := leafA (fun k => tabF (128 * 208 + k)) (by decide +kernel) (i % 128) (Nat.mod_lt _ (by decide))
/-- Part 209 of the matrix. -/
theorem l0_209 (i : ℕ) : lit0t0_209 i = tabF (128 * 209 + i % 128) := leafA (fun k => tabF (128 * 209 + k)) (by decide +kernel) (i % 128) (Nat.mod_lt _ (by decide))
/-- Part 210 of the matrix. -/
theorem l0_210 (i : ℕ) : lit0t0_210 i = tabF (128 * 210 + i % 128) := leafA (fun k => tabF (128 * 210 + k)) (by decide +kernel) (i % 128) (Nat.mod_lt _ (by decide))
/-- Part 211 of the matrix. -/
theorem l0_211 (i : ℕ) : lit0t0_211 i = tabF (128 * 211 + i % 128) := leafA (fun k => tabF (128 * 211 + k)) (by decide +kernel) (i % 128) (Nat.mod_lt _ (by decide))
/-- Part 212 of the matrix. -/
theorem l0_212 (i : ℕ) : lit0t0_212 i = tabF (128 * 212 + i % 128) := leafA (fun k => tabF (128 * 212 + k)) (by decide +kernel) (i % 128) (Nat.mod_lt _ (by decide))
/-- Part 213 of the matrix. -/
theorem l0_213 (i : ℕ) : lit0t0_213 i = tabF (128 * 213 + i % 128) := leafA (fun k => tabF (128 * 213 + k)) (by decide +kernel) (i % 128) (Nat.mod_lt _ (by decide))
/-- Part 214 of the matrix. -/
theorem l0_214 (i : ℕ) : lit0t0_214 i = tabF (128 * 214 + i % 128) := leafA (fun k => tabF (128 * 214 + k)) (by decide +kernel) (i % 128) (Nat.mod_lt _ (by decide))
/-- Part 215 of the matrix. -/
theorem l0_215 (i : ℕ) : lit0t0_215 i = tabF (128 * 215 + i % 128) := leafA (fun k => tabF (128 * 215 + k)) (by decide +kernel) (i % 128) (Nat.mod_lt _ (by decide))
/-- Part 216 of the matrix. -/
theorem l0_216 (i : ℕ) : lit0t0_216 i = tabF (128 * 216 + i % 128) := leafA (fun k => tabF (128 * 216 + k)) (by decide +kernel) (i % 128) (Nat.mod_lt _ (by decide))
/-- Part 217 of the matrix. -/
theorem l0_217 (i : ℕ) : lit0t0_217 i = tabF (128 * 217 + i % 128) := leafA (fun k => tabF (128 * 217 + k)) (by decide +kernel) (i % 128) (Nat.mod_lt _ (by decide))
/-- Part 218 of the matrix. -/
theorem l0_218 (i : ℕ) : lit0t0_218 i = tabF (128 * 218 + i % 128) := leafA (fun k => tabF (128 * 218 + k)) (by decide +kernel) (i % 128) (Nat.mod_lt _ (by decide))
/-- Part 219 of the matrix. -/
theorem l0_219 (i : ℕ) : lit0t0_219 i = tabF (128 * 219 + i % 128) := leafA (fun k => tabF (128 * 219 + k)) (by decide +kernel) (i % 128) (Nat.mod_lt _ (by decide))
/-- Part 220 of the matrix. -/
theorem l0_220 (i : ℕ) : lit0t0_220 i = tabF (128 * 220 + i % 128) := leafA (fun k => tabF (128 * 220 + k)) (by decide +kernel) (i % 128) (Nat.mod_lt _ (by decide))
/-- Part 221 of the matrix. -/
theorem l0_221 (i : ℕ) : lit0t0_221 i = tabF (128 * 221 + i % 128) := leafA (fun k => tabF (128 * 221 + k)) (by decide +kernel) (i % 128) (Nat.mod_lt _ (by decide))
/-- Part 222 of the matrix. -/
theorem l0_222 (i : ℕ) : lit0t0_222 i = tabF (128 * 222 + i % 128) := leafA (fun k => tabF (128 * 222 + k)) (by decide +kernel) (i % 128) (Nat.mod_lt _ (by decide))
/-- Part 223 of the matrix. -/
theorem l0_223 (i : ℕ) : lit0t0_223 i = tabF (128 * 223 + i % 128) := leafA (fun k => tabF (128 * 223 + k)) (by decide +kernel) (i % 128) (Nat.mod_lt _ (by decide))
/-- Part 224 of the matrix. -/
theorem l0_224 (i : ℕ) : lit0t0_224 i = tabF (128 * 224 + i % 128) := leafA (fun k => tabF (128 * 224 + k)) (by decide +kernel) (i % 128) (Nat.mod_lt _ (by decide))
/-- Part 225 of the matrix. -/
theorem l0_225 (i : ℕ) : lit0t0_225 i = tabF (128 * 225 + i % 128) := leafA (fun k => tabF (128 * 225 + k)) (by decide +kernel) (i % 128) (Nat.mod_lt _ (by decide))
/-- Part 226 of the matrix. -/
theorem l0_226 (i : ℕ) : lit0t0_226 i = tabF (128 * 226 + i % 128) := leafA (fun k => tabF (128 * 226 + k)) (by decide +kernel) (i % 128) (Nat.mod_lt _ (by decide))
/-- Part 227 of the matrix. -/
theorem l0_227 (i : ℕ) : lit0t0_227 i = tabF (128 * 227 + i % 128) := leafA (fun k => tabF (128 * 227 + k)) (by decide +kernel) (i % 128) (Nat.mod_lt _ (by decide))
/-- Part 228 of the matrix. -/
theorem l0_228 (i : ℕ) : lit0t0_228 i = tabF (128 * 228 + i % 128) := leafA (fun k => tabF (128 * 228 + k)) (by decide +kernel) (i % 128) (Nat.mod_lt _ (by decide))
/-- Part 229 of the matrix. -/
theorem l0_229 (i : ℕ) : lit0t0_229 i = tabF (128 * 229 + i % 128) := leafA (fun k => tabF (128 * 229 + k)) (by decide +kernel) (i % 128) (Nat.mod_lt _ (by decide))
/-- Part 230 of the matrix. -/
theorem l0_230 (i : ℕ) : lit0t0_230 i = tabF (128 * 230 + i % 128) := leafA (fun k => tabF (128 * 230 + k)) (by decide +kernel) (i % 128) (Nat.mod_lt _ (by decide))
/-- Part 231 of the matrix. -/
theorem l0_231 (i : ℕ) : lit0t0_231 i = tabF (128 * 231 + i % 128) := leafA (fun k => tabF (128 * 231 + k)) (by decide +kernel) (i % 128) (Nat.mod_lt _ (by decide))
/-- Part 232 of the matrix. -/
theorem l0_232 (i : ℕ) : lit0t0_232 i = tabF (128 * 232 + i % 128) := leafA (fun k => tabF (128 * 232 + k)) (by decide +kernel) (i % 128) (Nat.mod_lt _ (by decide))
/-- Part 233 of the matrix. -/
theorem l0_233 (i : ℕ) : lit0t0_233 i = tabF (128 * 233 + i % 128) := leafA (fun k => tabF (128 * 233 + k)) (by decide +kernel) (i % 128) (Nat.mod_lt _ (by decide))
/-- Part 234 of the matrix. -/
theorem l0_234 (i : ℕ) : lit0t0_234 i = tabF (128 * 234 + i % 128) := leafA (fun k => tabF (128 * 234 + k)) (by decide +kernel) (i % 128) (Nat.mod_lt _ (by decide))
/-- Part 235 of the matrix. -/
theorem l0_235 (i : ℕ) : lit0t0_235 i = tabF (128 * 235 + i % 128) := leafA (fun k => tabF (128 * 235 + k)) (by decide +kernel) (i % 128) (Nat.mod_lt _ (by decide))
/-- Part 236 of the matrix. -/
theorem l0_236 (i : ℕ) : lit0t0_236 i = tabF (128 * 236 + i % 128) := leafA (fun k => tabF (128 * 236 + k)) (by decide +kernel) (i % 128) (Nat.mod_lt _ (by decide))
/-- Part 237 of the matrix. -/
theorem l0_237 (i : ℕ) : lit0t0_237 i = tabF (128 * 237 + i % 128) := leafA (fun k => tabF (128 * 237 + k)) (by decide +kernel) (i % 128) (Nat.mod_lt _ (by decide))
/-- Part 238 of the matrix. -/
theorem l0_238 (i : ℕ) : lit0t0_238 i = tabF (128 * 238 + i % 128) := leafA (fun k => tabF (128 * 238 + k)) (by decide +kernel) (i % 128) (Nat.mod_lt _ (by decide))
/-- Part 239 of the matrix. -/
theorem l0_239 (i : ℕ) : lit0t0_239 i = tabF (128 * 239 + i % 128) := leafA (fun k => tabF (128 * 239 + k)) (by decide +kernel) (i % 128) (Nat.mod_lt _ (by decide))
/-- Part 240 of the matrix. -/
theorem l0_240 (i : ℕ) : lit0t0_240 i = tabF (128 * 240 + i % 128) := leafA (fun k => tabF (128 * 240 + k)) (by decide +kernel) (i % 128) (Nat.mod_lt _ (by decide))
/-- Part 241 of the matrix. -/
theorem l0_241 (i : ℕ) : lit0t0_241 i = tabF (128 * 241 + i % 128) := leafA (fun k => tabF (128 * 241 + k)) (by decide +kernel) (i % 128) (Nat.mod_lt _ (by decide))
/-- Part 242 of the matrix. -/
theorem l0_242 (i : ℕ) : lit0t0_242 i = tabF (128 * 242 + i % 128) := leafA (fun k => tabF (128 * 242 + k)) (by decide +kernel) (i % 128) (Nat.mod_lt _ (by decide))
/-- Part 243 of the matrix. -/
theorem l0_243 (i : ℕ) : lit0t0_243 i = tabF (128 * 243 + i % 128) := leafA (fun k => tabF (128 * 243 + k)) (by decide +kernel) (i % 128) (Nat.mod_lt _ (by decide))
/-- Part 244 of the matrix. -/
theorem l0_244 (i : ℕ) : lit0t0_244 i = tabF (128 * 244 + i % 128) := leafA (fun k => tabF (128 * 244 + k)) (by decide +kernel) (i % 128) (Nat.mod_lt _ (by decide))
/-- Part 245 of the matrix. -/
theorem l0_245 (i : ℕ) : lit0t0_245 i = tabF (128 * 245 + i % 128) := leafA (fun k => tabF (128 * 245 + k)) (by decide +kernel) (i % 128) (Nat.mod_lt _ (by decide))
/-- Part 246 of the matrix. -/
theorem l0_246 (i : ℕ) : lit0t0_246 i = tabF (128 * 246 + i % 128) := leafA (fun k => tabF (128 * 246 + k)) (by decide +kernel) (i % 128) (Nat.mod_lt _ (by decide))
/-- Part 247 of the matrix. -/
theorem l0_247 (i : ℕ) : lit0t0_247 i = tabF (128 * 247 + i % 128) := leafA (fun k => tabF (128 * 247 + k)) (by decide +kernel) (i % 128) (Nat.mod_lt _ (by decide))
/-- Part 248 of the matrix. -/
theorem l0_248 (i : ℕ) : lit0t0_248 i = tabF (128 * 248 + i % 128) := leafA (fun k => tabF (128 * 248 + k)) (by decide +kernel) (i % 128) (Nat.mod_lt _ (by decide))
/-- Part 249 of the matrix. -/
theorem l0_249 (i : ℕ) : lit0t0_249 i = tabF (128 * 249 + i % 128) := leafA (fun k => tabF (128 * 249 + k)) (by decide +kernel) (i % 128) (Nat.mod_lt _ (by decide))
/-- Part 250 of the matrix. -/
theorem l0_250 (i : ℕ) : lit0t0_250 i = tabF (128 * 250 + i % 128) := leafA (fun k => tabF (128 * 250 + k)) (by decide +kernel) (i % 128) (Nat.mod_lt _ (by decide))
/-- Part 251 of the matrix. -/
theorem l0_251 (i : ℕ) : lit0t0_251 i = tabF (128 * 251 + i % 128) := leafA (fun k => tabF (128 * 251 + k)) (by decide +kernel) (i % 128) (Nat.mod_lt _ (by decide))
/-- Part 252 of the matrix. -/
theorem l0_252 (i : ℕ) : lit0t0_252 i = tabF (128 * 252 + i % 128) := leafA (fun k => tabF (128 * 252 + k)) (by decide +kernel) (i % 128) (Nat.mod_lt _ (by decide))
/-- Part 253 of the matrix. -/
theorem l0_253 (i : ℕ) : lit0t0_253 i = tabF (128 * 253 + i % 128) := leafA (fun k => tabF (128 * 253 + k)) (by decide +kernel) (i % 128) (Nat.mod_lt _ (by decide))
/-- Part 254 of the matrix. -/
theorem l0_254 (i : ℕ) : lit0t0_254 i = tabF (128 * 254 + i % 128) := leafA (fun k => tabF (128 * 254 + k)) (by decide +kernel) (i % 128) (Nat.mod_lt _ (by decide))
/-- Part 255 of the matrix. -/
theorem l0_255 (i : ℕ) : lit0t0_255 i = tabF (128 * 255 + i % 128) := leafA (fun k => tabF (128 * 255 + k)) (by decide +kernel) (i % 128) (Nat.mod_lt _ (by decide))
/-- Part 256 of the matrix. -/
theorem l0_256 (i : ℕ) : lit0t0_256 i = tabF (128 * 256 + i % 128) := leafA (fun k => tabF (128 * 256 + k)) (by decide +kernel) (i % 128) (Nat.mod_lt _ (by decide))
/-- Part 257 of the matrix. -/
theorem l0_257 (i : ℕ) : lit0t0_257 i = tabF (128 * 257 + i % 128) := leafA (fun k => tabF (128 * 257 + k)) (by decide +kernel) (i % 128) (Nat.mod_lt _ (by decide))
/-- Part 258 of the matrix. -/
theorem l0_258 (i : ℕ) : lit0t0_258 i = tabF (128 * 258 + i % 128) := leafA (fun k => tabF (128 * 258 + k)) (by decide +kernel) (i % 128) (Nat.mod_lt _ (by decide))
/-- Part 259 of the matrix. -/
theorem l0_259 (i : ℕ) : lit0t0_259 i = tabF (128 * 259 + i % 128) := leafA (fun k => tabF (128 * 259 + k)) (by decide +kernel) (i % 128) (Nat.mod_lt _ (by decide))
/-- Part 260 of the matrix. -/
theorem l0_260 (i : ℕ) : lit0t0_260 i = tabF (128 * 260 + i % 128) := leafA (fun k => tabF (128 * 260 + k)) (by decide +kernel) (i % 128) (Nat.mod_lt _ (by decide))
/-- Part 261 of the matrix. -/
theorem l0_261 (i : ℕ) : lit0t0_261 i = tabF (128 * 261 + i % 128) := leafA (fun k => tabF (128 * 261 + k)) (by decide +kernel) (i % 128) (Nat.mod_lt _ (by decide))
/-- Part 262 of the matrix. -/
theorem l0_262 (i : ℕ) : lit0t0_262 i = tabF (128 * 262 + i % 128) := leafA (fun k => tabF (128 * 262 + k)) (by decide +kernel) (i % 128) (Nat.mod_lt _ (by decide))
/-- Part 263 of the matrix. -/
theorem l0_263 (i : ℕ) : lit0t0_263 i = tabF (128 * 263 + i % 128) := leafA (fun k => tabF (128 * 263 + k)) (by decide +kernel) (i % 128) (Nat.mod_lt _ (by decide))
/-- Part 264 of the matrix. -/
theorem l0_264 (i : ℕ) : lit0t0_264 i = tabF (128 * 264 + i % 128) := leafA (fun k => tabF (128 * 264 + k)) (by decide +kernel) (i % 128) (Nat.mod_lt _ (by decide))
/-- Part 265 of the matrix. -/
theorem l0_265 (i : ℕ) : lit0t0_265 i = tabF (128 * 265 + i % 128) := leafA (fun k => tabF (128 * 265 + k)) (by decide +kernel) (i % 128) (Nat.mod_lt _ (by decide))
/-- Part 266 of the matrix. -/
theorem l0_266 (i : ℕ) : lit0t0_266 i = tabF (128 * 266 + i % 128) := leafA (fun k => tabF (128 * 266 + k)) (by decide +kernel) (i % 128) (Nat.mod_lt _ (by decide))
/-- Part 267 of the matrix. -/
theorem l0_267 (i : ℕ) : lit0t0_267 i = tabF (128 * 267 + i % 128) := leafA (fun k => tabF (128 * 267 + k)) (by decide +kernel) (i % 128) (Nat.mod_lt _ (by decide))
/-- Part 268 of the matrix. -/
theorem l0_268 (i : ℕ) : lit0t0_268 i = tabF (128 * 268 + i % 128) := leafA (fun k => tabF (128 * 268 + k)) (by decide +kernel) (i % 128) (Nat.mod_lt _ (by decide))
/-- Part 269 of the matrix. -/
theorem l0_269 (i : ℕ) : lit0t0_269 i = tabF (128 * 269 + i % 128) := leafA (fun k => tabF (128 * 269 + k)) (by decide +kernel) (i % 128) (Nat.mod_lt _ (by decide))
/-- Part 270 of the matrix. -/
theorem l0_270 (i : ℕ) : lit0t0_270 i = tabF (128 * 270 + i % 128) := leafA (fun k => tabF (128 * 270 + k)) (by decide +kernel) (i % 128) (Nat.mod_lt _ (by decide))
/-- Part 271 of the matrix. -/
theorem l0_271 (i : ℕ) : lit0t0_271 i = tabF (128 * 271 + i % 128) := leafA (fun k => tabF (128 * 271 + k)) (by decide +kernel) (i % 128) (Nat.mod_lt _ (by decide))
/-- Part 272 of the matrix. -/
theorem l0_272 (i : ℕ) : lit0t0_272 i = tabF (128 * 272 + i % 128) := leafA (fun k => tabF (128 * 272 + k)) (by decide +kernel) (i % 128) (Nat.mod_lt _ (by decide))
/-- Part 273 of the matrix. -/
theorem l0_273 (i : ℕ) : lit0t0_273 i = tabF (128 * 273 + i % 128) := leafA (fun k => tabF (128 * 273 + k)) (by decide +kernel) (i % 128) (Nat.mod_lt _ (by decide))
/-- Part 274 of the matrix. -/
theorem l0_274 (i : ℕ) : lit0t0_274 i = tabF (128 * 274 + i % 128) := leafA (fun k => tabF (128 * 274 + k)) (by decide +kernel) (i % 128) (Nat.mod_lt _ (by decide))
/-- Part 275 of the matrix. -/
theorem l0_275 (i : ℕ) : lit0t0_275 i = tabF (128 * 275 + i % 128) := leafA (fun k => tabF (128 * 275 + k)) (by decide +kernel) (i % 128) (Nat.mod_lt _ (by decide))
/-- Part 276 of the matrix. -/
theorem l0_276 (i : ℕ) : lit0t0_276 i = tabF (128 * 276 + i % 128) := leafA (fun k => tabF (128 * 276 + k)) (by decide +kernel) (i % 128) (Nat.mod_lt _ (by decide))
/-- Part 277 of the matrix. -/
theorem l0_277 (i : ℕ) : lit0t0_277 i = tabF (128 * 277 + i % 128) := leafA (fun k => tabF (128 * 277 + k)) (by decide +kernel) (i % 128) (Nat.mod_lt _ (by decide))
/-- Part 278 of the matrix. -/
theorem l0_278 (i : ℕ) : lit0t0_278 i = tabF (128 * 278 + i % 128) := leafA (fun k => tabF (128 * 278 + k)) (by decide +kernel) (i % 128) (Nat.mod_lt _ (by decide))
/-- Part 279 of the matrix. -/
theorem l0_279 (i : ℕ) : lit0t0_279 i = tabF (128 * 279 + i % 128) := leafA (fun k => tabF (128 * 279 + k)) (by decide +kernel) (i % 128) (Nat.mod_lt _ (by decide))
/-- Part 280 of the matrix. -/
theorem l0_280 (i : ℕ) : lit0t0_280 i = tabF (128 * 280 + i % 128) := leafA (fun k => tabF (128 * 280 + k)) (by decide +kernel) (i % 128) (Nat.mod_lt _ (by decide))
/-- Part 281 of the matrix. -/
theorem l0_281 (i : ℕ) : lit0t0_281 i = tabF (128 * 281 + i % 128) := leafA (fun k => tabF (128 * 281 + k)) (by decide +kernel) (i % 128) (Nat.mod_lt _ (by decide))
/-- Part 282 of the matrix. -/
theorem l0_282 (i : ℕ) : lit0t0_282 i = tabF (128 * 282 + i % 128) := leafA (fun k => tabF (128 * 282 + k)) (by decide +kernel) (i % 128) (Nat.mod_lt _ (by decide))
/-- Part 283 of the matrix. -/
theorem l0_283 (i : ℕ) : lit0t0_283 i = tabF (128 * 283 + i % 128) := leafA (fun k => tabF (128 * 283 + k)) (by decide +kernel) (i % 128) (Nat.mod_lt _ (by decide))
/-- Part 284 of the matrix. -/
theorem l0_284 (i : ℕ) : lit0t0_284 i = tabF (128 * 284 + i % 128) := leafA (fun k => tabF (128 * 284 + k)) (by decide +kernel) (i % 128) (Nat.mod_lt _ (by decide))
/-- Part 285 of the matrix. -/
theorem l0_285 (i : ℕ) : lit0t0_285 i = tabF (128 * 285 + i % 128) := leafA (fun k => tabF (128 * 285 + k)) (by decide +kernel) (i % 128) (Nat.mod_lt _ (by decide))
/-- Part 286 of the matrix. -/
theorem l0_286 (i : ℕ) : lit0t0_286 i = tabF (128 * 286 + i % 128) := leafA (fun k => tabF (128 * 286 + k)) (by decide +kernel) (i % 128) (Nat.mod_lt _ (by decide))
/-- Part 287 of the matrix. -/
theorem l0_287 (i : ℕ) : lit0t0_287 i = tabF (128 * 287 + i % 128) := leafA (fun k => tabF (128 * 287 + k)) (by decide +kernel) (i % 128) (Nat.mod_lt _ (by decide))
/-- Part 288 of the matrix. -/
theorem l0_288 (i : ℕ) : lit0t0_288 i = tabF (128 * 288 + i % 128) := leafA (fun k => tabF (128 * 288 + k)) (by decide +kernel) (i % 128) (Nat.mod_lt _ (by decide))
/-- Part 289 of the matrix. -/
theorem l0_289 (i : ℕ) : lit0t0_289 i = tabF (128 * 289 + i % 128) := leafA (fun k => tabF (128 * 289 + k)) (by decide +kernel) (i % 128) (Nat.mod_lt _ (by decide))
/-- Part 290 of the matrix. -/
theorem l0_290 (i : ℕ) : lit0t0_290 i = tabF (128 * 290 + i % 128) := leafA (fun k => tabF (128 * 290 + k)) (by decide +kernel) (i % 128) (Nat.mod_lt _ (by decide))
/-- Part 291 of the matrix. -/
theorem l0_291 (i : ℕ) : lit0t0_291 i = tabF (128 * 291 + i % 128) := leafA (fun k => tabF (128 * 291 + k)) (by decide +kernel) (i % 128) (Nat.mod_lt _ (by decide))
/-- Part 292 of the matrix. -/
theorem l0_292 (i : ℕ) : lit0t0_292 i = tabF (128 * 292 + i % 128) := leafA (fun k => tabF (128 * 292 + k)) (by decide +kernel) (i % 128) (Nat.mod_lt _ (by decide))
/-- Part 293 of the matrix. -/
theorem l0_293 (i : ℕ) : lit0t0_293 i = tabF (128 * 293 + i % 128) := leafA (fun k => tabF (128 * 293 + k)) (by decide +kernel) (i % 128) (Nat.mod_lt _ (by decide))
/-- Part 294 of the matrix. -/
theorem l0_294 (i : ℕ) : lit0t0_294 i = tabF (128 * 294 + i % 128) := leafA (fun k => tabF (128 * 294 + k)) (by decide +kernel) (i % 128) (Nat.mod_lt _ (by decide))
/-- Part 295 of the matrix. -/
theorem l0_295 (i : ℕ) : lit0t0_295 i = tabF (128 * 295 + i % 128) := leafA (fun k => tabF (128 * 295 + k)) (by decide +kernel) (i % 128) (Nat.mod_lt _ (by decide))
/-- Part 296 of the matrix. -/
theorem l0_296 (i : ℕ) : lit0t0_296 i = tabF (128 * 296 + i % 128) := leafA (fun k => tabF (128 * 296 + k)) (by decide +kernel) (i % 128) (Nat.mod_lt _ (by decide))
/-- Part 297 of the matrix. -/
theorem l0_297 (i : ℕ) : lit0t0_297 i = tabF (128 * 297 + i % 128) := leafA (fun k => tabF (128 * 297 + k)) (by decide +kernel) (i % 128) (Nat.mod_lt _ (by decide))
/-- Part 298 of the matrix. -/
theorem l0_298 (i : ℕ) : lit0t0_298 i = tabF (128 * 298 + i % 128) := leafA (fun k => tabF (128 * 298 + k)) (by decide +kernel) (i % 128) (Nat.mod_lt _ (by decide))
/-- Part 299 of the matrix. -/
theorem l0_299 (i : ℕ) : lit0t0_299 i = tabF (128 * 299 + i % 128) := leafA (fun k => tabF (128 * 299 + k)) (by decide +kernel) (i % 128) (Nat.mod_lt _ (by decide))
/-- Part 300 of the matrix. -/
theorem l0_300 (i : ℕ) : lit0t0_300 i = tabF (128 * 300 + i % 128) := leafA (fun k => tabF (128 * 300 + k)) (by decide +kernel) (i % 128) (Nat.mod_lt _ (by decide))
/-- Part 301 of the matrix. -/
theorem l0_301 (i : ℕ) : lit0t0_301 i = tabF (128 * 301 + i % 128) := leafA (fun k => tabF (128 * 301 + k)) (by decide +kernel) (i % 128) (Nat.mod_lt _ (by decide))
/-- Part 302 of the matrix. -/
theorem l0_302 (i : ℕ) : lit0t0_302 i = tabF (128 * 302 + i % 128) := leafA (fun k => tabF (128 * 302 + k)) (by decide +kernel) (i % 128) (Nat.mod_lt _ (by decide))
/-- Part 303 of the matrix. -/
theorem l0_303 (i : ℕ) : lit0t0_303 i = tabF (128 * 303 + i % 128) := leafA (fun k => tabF (128 * 303 + k)) (by decide +kernel) (i % 128) (Nat.mod_lt _ (by decide))
/-- Part 304 of the matrix. -/
theorem l0_304 (i : ℕ) : lit0t0_304 i = tabF (128 * 304 + i % 128) := leafA (fun k => tabF (128 * 304 + k)) (by decide +kernel) (i % 128) (Nat.mod_lt _ (by decide))
/-- Part 305 of the matrix. -/
theorem l0_305 (i : ℕ) : lit0t0_305 i = tabF (128 * 305 + i % 128) := leafA (fun k => tabF (128 * 305 + k)) (by decide +kernel) (i % 128) (Nat.mod_lt _ (by decide))
/-- Part 306 of the matrix. -/
theorem l0_306 (i : ℕ) : lit0t0_306 i = tabF (128 * 306 + i % 128) := leafA (fun k => tabF (128 * 306 + k)) (by decide +kernel) (i % 128) (Nat.mod_lt _ (by decide))
/-- Part 307 of the matrix. -/
theorem l0_307 (i : ℕ) : lit0t0_307 i = tabF (128 * 307 + i % 128) := leafA (fun k => tabF (128 * 307 + k)) (by decide +kernel) (i % 128) (Nat.mod_lt _ (by decide))
/-- Part 308 of the matrix. -/
theorem l0_308 (i : ℕ) : lit0t0_308 i = tabF (128 * 308 + i % 128) := leafA (fun k => tabF (128 * 308 + k)) (by decide +kernel) (i % 128) (Nat.mod_lt _ (by decide))
/-- Part 309 of the matrix. -/
theorem l0_309 (i : ℕ) : lit0t0_309 i = tabF (128 * 309 + i % 128) := leafA (fun k => tabF (128 * 309 + k)) (by decide +kernel) (i % 128) (Nat.mod_lt _ (by decide))
/-- Part 310 of the matrix. -/
theorem l0_310 (i : ℕ) : lit0t0_310 i = tabF (128 * 310 + i % 128) := leafA (fun k => tabF (128 * 310 + k)) (by decide +kernel) (i % 128) (Nat.mod_lt _ (by decide))
/-- Part 311 of the matrix. -/
theorem l0_311 (i : ℕ) : lit0t0_311 i = tabF (128 * 311 + i % 128) := leafA (fun k => tabF (128 * 311 + k)) (by decide +kernel) (i % 128) (Nat.mod_lt _ (by decide))
/-- Part 312 of the matrix. -/
theorem l0_312 (i : ℕ) : lit0t0_312 i = tabF (128 * 312 + i % 128) := leafA (fun k => tabF (128 * 312 + k)) (by decide +kernel) (i % 128) (Nat.mod_lt _ (by decide))
/-- Part 313 of the matrix. -/
theorem l0_313 (i : ℕ) : lit0t0_313 i = tabF (128 * 313 + i % 128) := leafA (fun k => tabF (128 * 313 + k)) (by decide +kernel) (i % 128) (Nat.mod_lt _ (by decide))
/-- Part 314 of the matrix. -/
theorem l0_314 (i : ℕ) : lit0t0_314 i = tabF (128 * 314 + i % 128) := leafA (fun k => tabF (128 * 314 + k)) (by decide +kernel) (i % 128) (Nat.mod_lt _ (by decide))
/-- Part 315 of the matrix. -/
theorem l0_315 (i : ℕ) : lit0t0_315 i = tabF (128 * 315 + i % 128) := leafA (fun k => tabF (128 * 315 + k)) (by decide +kernel) (i % 128) (Nat.mod_lt _ (by decide))
/-- Part 316 of the matrix. -/
theorem l0_316 (i : ℕ) : lit0t0_316 i = tabF (128 * 316 + i % 128) := leafA (fun k => tabF (128 * 316 + k)) (by decide +kernel) (i % 128) (Nat.mod_lt _ (by decide))
/-- Part 317 of the matrix. -/
theorem l0_317 (i : ℕ) : lit0t0_317 i = tabF (128 * 317 + i % 128) := leafA (fun k => tabF (128 * 317 + k)) (by decide +kernel) (i % 128) (Nat.mod_lt _ (by decide))
/-- Part 318 of the matrix. -/
theorem l0_318 (i : ℕ) : lit0t0_318 i = tabF (128 * 318 + i % 128) := leafA (fun k => tabF (128 * 318 + k)) (by decide +kernel) (i % 128) (Nat.mod_lt _ (by decide))
/-- Part 319 of the matrix. -/
theorem l0_319 (i : ℕ) : lit0t0_319 i = tabF (128 * 319 + i % 128) := leafA (fun k => tabF (128 * 319 + k)) (by decide +kernel) (i % 128) (Nat.mod_lt _ (by decide))
/-- Part 320 of the matrix. -/
theorem l0_320 (i : ℕ) : lit0t0_320 i = tabF (128 * 320 + i % 128) := leafA (fun k => tabF (128 * 320 + k)) (by decide +kernel) (i % 128) (Nat.mod_lt _ (by decide))
/-- Part 321 of the matrix. -/
theorem l0_321 (i : ℕ) : lit0t0_321 i = tabF (128 * 321 + i % 128) := leafA (fun k => tabF (128 * 321 + k)) (by decide +kernel) (i % 128) (Nat.mod_lt _ (by decide))
/-- Part 322 of the matrix. -/
theorem l0_322 (i : ℕ) : lit0t0_322 i = tabF (128 * 322 + i % 128) := leafA (fun k => tabF (128 * 322 + k)) (by decide +kernel) (i % 128) (Nat.mod_lt _ (by decide))
/-- Part 323 of the matrix. -/
theorem l0_323 (i : ℕ) : lit0t0_323 i = tabF (128 * 323 + i % 128) := leafA (fun k => tabF (128 * 323 + k)) (by decide +kernel) (i % 128) (Nat.mod_lt _ (by decide))
/-- Part 324 of the matrix. -/
theorem l0_324 (i : ℕ) : lit0t0_324 i = tabF (128 * 324 + i % 128) := leafA (fun k => tabF (128 * 324 + k)) (by decide +kernel) (i % 128) (Nat.mod_lt _ (by decide))
/-- Part 325 of the matrix. -/
theorem l0_325 (i : ℕ) : lit0t0_325 i = tabF (128 * 325 + i % 128) := leafA (fun k => tabF (128 * 325 + k)) (by decide +kernel) (i % 128) (Nat.mod_lt _ (by decide))
/-- Part 326 of the matrix. -/
theorem l0_326 (i : ℕ) : lit0t0_326 i = tabF (128 * 326 + i % 128) := leafA (fun k => tabF (128 * 326 + k)) (by decide +kernel) (i % 128) (Nat.mod_lt _ (by decide))
/-- Part 327 of the matrix. -/
theorem l0_327 (i : ℕ) : lit0t0_327 i = tabF (128 * 327 + i % 128) := leafA (fun k => tabF (128 * 327 + k)) (by decide +kernel) (i % 128) (Nat.mod_lt _ (by decide))
/-- Part 328 of the matrix. -/
theorem l0_328 (i : ℕ) : lit0t0_328 i = tabF (128 * 328 + i % 128) := leafA (fun k => tabF (128 * 328 + k)) (by decide +kernel) (i % 128) (Nat.mod_lt _ (by decide))
/-- Part 329 of the matrix. -/
theorem l0_329 (i : ℕ) : lit0t0_329 i = tabF (128 * 329 + i % 128) := leafA (fun k => tabF (128 * 329 + k)) (by decide +kernel) (i % 128) (Nat.mod_lt _ (by decide))
/-- Part 330 of the matrix. -/
theorem l0_330 (i : ℕ) : lit0t0_330 i = tabF (128 * 330 + i % 128) := leafA (fun k => tabF (128 * 330 + k)) (by decide +kernel) (i % 128) (Nat.mod_lt _ (by decide))
/-- Part 331 of the matrix. -/
theorem l0_331 (i : ℕ) : lit0t0_331 i = tabF (128 * 331 + i % 128) := leafA (fun k => tabF (128 * 331 + k)) (by decide +kernel) (i % 128) (Nat.mod_lt _ (by decide))
/-- Part 332 of the matrix. -/
theorem l0_332 (i : ℕ) : lit0t0_332 i = tabF (128 * 332 + i % 128) := leafA (fun k => tabF (128 * 332 + k)) (by decide +kernel) (i % 128) (Nat.mod_lt _ (by decide))
/-- Part 333 of the matrix. -/
theorem l0_333 (i : ℕ) : lit0t0_333 i = tabF (128 * 333 + i % 128) := leafA (fun k => tabF (128 * 333 + k)) (by decide +kernel) (i % 128) (Nat.mod_lt _ (by decide))
/-- Part 334 of the matrix. -/
theorem l0_334 (i : ℕ) : lit0t0_334 i = tabF (128 * 334 + i % 128) := leafA (fun k => tabF (128 * 334 + k)) (by decide +kernel) (i % 128) (Nat.mod_lt _ (by decide))
/-- Part 335 of the matrix. -/
theorem l0_335 (i : ℕ) : lit0t0_335 i = tabF (128 * 335 + i % 128) := leafA (fun k => tabF (128 * 335 + k)) (by decide +kernel) (i % 128) (Nat.mod_lt _ (by decide))
/-- Part 336 of the matrix. -/
theorem l0_336 (i : ℕ) : lit0t0_336 i = tabF (128 * 336 + i % 128) := leafA (fun k => tabF (128 * 336 + k)) (by decide +kernel) (i % 128) (Nat.mod_lt _ (by decide))
/-- Part 337 of the matrix. -/
theorem l0_337 (i : ℕ) : lit0t0_337 i = tabF (128 * 337 + i % 128) := leafA (fun k => tabF (128 * 337 + k)) (by decide +kernel) (i % 128) (Nat.mod_lt _ (by decide))
/-- Part 338 of the matrix. -/
theorem l0_338 (i : ℕ) : lit0t0_338 i = tabF (128 * 338 + i % 128) := leafA (fun k => tabF (128 * 338 + k)) (by decide +kernel) (i % 128) (Nat.mod_lt _ (by decide))
/-- Part 339 of the matrix. -/
theorem l0_339 (i : ℕ) : lit0t0_339 i = tabF (128 * 339 + i % 128) := leafA (fun k => tabF (128 * 339 + k)) (by decide +kernel) (i % 128) (Nat.mod_lt _ (by decide))
/-- Part 340 of the matrix. -/
theorem l0_340 (i : ℕ) : lit0t0_340 i = tabF (128 * 340 + i % 128) := leafA (fun k => tabF (128 * 340 + k)) (by decide +kernel) (i % 128) (Nat.mod_lt _ (by decide))
/-- Part 341 of the matrix. -/
theorem l0_341 (i : ℕ) : lit0t0_341 i = tabF (128 * 341 + i % 128) := leafA (fun k => tabF (128 * 341 + k)) (by decide +kernel) (i % 128) (Nat.mod_lt _ (by decide))
/-- Part 342 of the matrix. -/
theorem l0_342 (i : ℕ) : lit0t0_342 i = tabF (128 * 342 + i % 128) := leafA (fun k => tabF (128 * 342 + k)) (by decide +kernel) (i % 128) (Nat.mod_lt _ (by decide))
/-- Part 343 of the matrix. -/
theorem l0_343 (i : ℕ) : lit0t0_343 i = tabF (128 * 343 + i % 128) := leafA (fun k => tabF (128 * 343 + k)) (by decide +kernel) (i % 128) (Nat.mod_lt _ (by decide))
/-- Part 344 of the matrix. -/
theorem l0_344 (i : ℕ) : lit0t0_344 i = tabF (128 * 344 + i % 128) := leafA (fun k => tabF (128 * 344 + k)) (by decide +kernel) (i % 128) (Nat.mod_lt _ (by decide))
/-- Part 345 of the matrix. -/
theorem l0_345 (i : ℕ) : lit0t0_345 i = tabF (128 * 345 + i % 128) := leafA (fun k => tabF (128 * 345 + k)) (by decide +kernel) (i % 128) (Nat.mod_lt _ (by decide))
/-- Part 346 of the matrix. -/
theorem l0_346 (i : ℕ) : lit0t0_346 i = tabF (128 * 346 + i % 128) := leafA (fun k => tabF (128 * 346 + k)) (by decide +kernel) (i % 128) (Nat.mod_lt _ (by decide))
/-- Part 347 of the matrix. -/
theorem l0_347 (i : ℕ) : lit0t0_347 i = tabF (128 * 347 + i % 128) := leafA (fun k => tabF (128 * 347 + k)) (by decide +kernel) (i % 128) (Nat.mod_lt _ (by decide))
/-- Part 348 of the matrix. -/
theorem l0_348 (i : ℕ) : lit0t0_348 i = tabF (128 * 348 + i % 128) := leafA (fun k => tabF (128 * 348 + k)) (by decide +kernel) (i % 128) (Nat.mod_lt _ (by decide))
/-- Part 349 of the matrix. -/
theorem l0_349 (i : ℕ) : lit0t0_349 i = tabF (128 * 349 + i % 128) := leafA (fun k => tabF (128 * 349 + k)) (by decide +kernel) (i % 128) (Nat.mod_lt _ (by decide))
/-- Part 350 of the matrix. -/
theorem l0_350 (i : ℕ) : lit0t0_350 i = tabF (128 * 350 + i % 128) := leafA (fun k => tabF (128 * 350 + k)) (by decide +kernel) (i % 128) (Nat.mod_lt _ (by decide))
/-- Part 351 of the matrix. -/
theorem l0_351 (i : ℕ) : lit0t0_351 i = tabF (128 * 351 + i % 128) := leafA (fun k => tabF (128 * 351 + k)) (by decide +kernel) (i % 128) (Nat.mod_lt _ (by decide))
/-- Part 352 of the matrix. -/
theorem l0_352 (i : ℕ) : lit0t0_352 i = tabF (128 * 352 + i % 128) := leafA (fun k => tabF (128 * 352 + k)) (by decide +kernel) (i % 128) (Nat.mod_lt _ (by decide))
/-- Part 353 of the matrix. -/
theorem l0_353 (i : ℕ) : lit0t0_353 i = tabF (128 * 353 + i % 128) := leafA (fun k => tabF (128 * 353 + k)) (by decide +kernel) (i % 128) (Nat.mod_lt _ (by decide))
/-- Part 354 of the matrix. -/
theorem l0_354 (i : ℕ) : lit0t0_354 i = tabF (128 * 354 + i % 128) := leafA (fun k => tabF (128 * 354 + k)) (by decide +kernel) (i % 128) (Nat.mod_lt _ (by decide))
/-- Part 355 of the matrix. -/
theorem l0_355 (i : ℕ) : lit0t0_355 i = tabF (128 * 355 + i % 128) := leafA (fun k => tabF (128 * 355 + k)) (by decide +kernel) (i % 128) (Nat.mod_lt _ (by decide))
/-- Part 356 of the matrix. -/
theorem l0_356 (i : ℕ) : lit0t0_356 i = tabF (128 * 356 + i % 128) := leafA (fun k => tabF (128 * 356 + k)) (by decide +kernel) (i % 128) (Nat.mod_lt _ (by decide))
/-- Part 357 of the matrix. -/
theorem l0_357 (i : ℕ) : lit0t0_357 i = tabF (128 * 357 + i % 128) := leafA (fun k => tabF (128 * 357 + k)) (by decide +kernel) (i % 128) (Nat.mod_lt _ (by decide))
/-- Part 358 of the matrix. -/
theorem l0_358 (i : ℕ) : lit0t0_358 i = tabF (128 * 358 + i % 128) := leafA (fun k => tabF (128 * 358 + k)) (by decide +kernel) (i % 128) (Nat.mod_lt _ (by decide))
/-- Part 359 of the matrix. -/
theorem l0_359 (i : ℕ) : lit0t0_359 i = tabF (128 * 359 + i % 128) := leafA (fun k => tabF (128 * 359 + k)) (by decide +kernel) (i % 128) (Nat.mod_lt _ (by decide))
/-- Part 360 of the matrix. -/
theorem l0_360 (i : ℕ) : lit0t0_360 i = tabF (128 * 360 + i % 128) := leafA (fun k => tabF (128 * 360 + k)) (by decide +kernel) (i % 128) (Nat.mod_lt _ (by decide))
/-- Part 361 of the matrix. -/
theorem l0_361 (i : ℕ) : lit0t0_361 i = tabF (128 * 361 + i % 128) := leafA (fun k => tabF (128 * 361 + k)) (by decide +kernel) (i % 128) (Nat.mod_lt _ (by decide))
/-- Part 362 of the matrix. -/
theorem l0_362 (i : ℕ) : lit0t0_362 i = tabF (128 * 362 + i % 128) := leafA (fun k => tabF (128 * 362 + k)) (by decide +kernel) (i % 128) (Nat.mod_lt _ (by decide))
/-- Part 363 of the matrix. -/
theorem l0_363 (i : ℕ) : lit0t0_363 i = tabF (128 * 363 + i % 128) := leafA (fun k => tabF (128 * 363 + k)) (by decide +kernel) (i % 128) (Nat.mod_lt _ (by decide))
/-- Part 364 of the matrix. -/
theorem l0_364 (i : ℕ) : lit0t0_364 i = tabF (128 * 364 + i % 128) := leafA (fun k => tabF (128 * 364 + k)) (by decide +kernel) (i % 128) (Nat.mod_lt _ (by decide))
/-- Part 365 of the matrix. -/
theorem l0_365 (i : ℕ) : lit0t0_365 i = tabF (128 * 365 + i % 128) := leafA (fun k => tabF (128 * 365 + k)) (by decide +kernel) (i % 128) (Nat.mod_lt _ (by decide))
/-- Part 366 of the matrix. -/
theorem l0_366 (i : ℕ) : lit0t0_366 i = tabF (128 * 366 + i % 128) := leafA (fun k => tabF (128 * 366 + k)) (by decide +kernel) (i % 128) (Nat.mod_lt _ (by decide))
/-- Part 367 of the matrix. -/
theorem l0_367 (i : ℕ) : lit0t0_367 i = tabF (128 * 367 + i % 128) := leafA (fun k => tabF (128 * 367 + k)) (by decide +kernel) (i % 128) (Nat.mod_lt _ (by decide))
/-- Part 368 of the matrix. -/
theorem l0_368 (i : ℕ) : lit0t0_368 i = tabF (128 * 368 + i % 128) := leafA (fun k => tabF (128 * 368 + k)) (by decide +kernel) (i % 128) (Nat.mod_lt _ (by decide))
/-- Part 369 of the matrix. -/
theorem l0_369 (i : ℕ) : lit0t0_369 i = tabF (128 * 369 + i % 128) := leafA (fun k => tabF (128 * 369 + k)) (by decide +kernel) (i % 128) (Nat.mod_lt _ (by decide))
/-- Part 370 of the matrix. -/
theorem l0_370 (i : ℕ) : lit0t0_370 i = tabF (128 * 370 + i % 128) := leafA (fun k => tabF (128 * 370 + k)) (by decide +kernel) (i % 128) (Nat.mod_lt _ (by decide))
/-- Part 371 of the matrix. -/
theorem l0_371 (i : ℕ) : lit0t0_371 i = tabF (128 * 371 + i % 128) := leafA (fun k => tabF (128 * 371 + k)) (by decide +kernel) (i % 128) (Nat.mod_lt _ (by decide))
/-- Part 372 of the matrix. -/
theorem l0_372 (i : ℕ) : lit0t0_372 i = tabF (128 * 372 + i % 128) := leafA (fun k => tabF (128 * 372 + k)) (by decide +kernel) (i % 128) (Nat.mod_lt _ (by decide))
/-- Part 373 of the matrix. -/
theorem l0_373 (i : ℕ) : lit0t0_373 i = tabF (128 * 373 + i % 128) := leafA (fun k => tabF (128 * 373 + k)) (by decide +kernel) (i % 128) (Nat.mod_lt _ (by decide))
/-- Part 374 of the matrix. -/
theorem l0_374 (i : ℕ) : lit0t0_374 i = tabF (128 * 374 + i % 128) := leafA (fun k => tabF (128 * 374 + k)) (by decide +kernel) (i % 128) (Nat.mod_lt _ (by decide))
/-- Part 375 of the matrix. -/
theorem l0_375 (i : ℕ) : lit0t0_375 i = tabF (128 * 375 + i % 128) := leafA (fun k => tabF (128 * 375 + k)) (by decide +kernel) (i % 128) (Nat.mod_lt _ (by decide))
/-- Part 376 of the matrix. -/
theorem l0_376 (i : ℕ) : lit0t0_376 i = tabF (128 * 376 + i % 128) := leafA (fun k => tabF (128 * 376 + k)) (by decide +kernel) (i % 128) (Nat.mod_lt _ (by decide))
/-- Part 377 of the matrix. -/
theorem l0_377 (i : ℕ) : lit0t0_377 i = tabF (128 * 377 + i % 128) := leafA (fun k => tabF (128 * 377 + k)) (by decide +kernel) (i % 128) (Nat.mod_lt _ (by decide))
/-- Part 378 of the matrix. -/
theorem l0_378 (i : ℕ) : lit0t0_378 i = tabF (128 * 378 + i % 128) := leafA (fun k => tabF (128 * 378 + k)) (by decide +kernel) (i % 128) (Nat.mod_lt _ (by decide))
/-- Part 379 of the matrix. -/
theorem l0_379 (i : ℕ) : lit0t0_379 i = tabF (128 * 379 + i % 128) := leafA (fun k => tabF (128 * 379 + k)) (by decide +kernel) (i % 128) (Nat.mod_lt _ (by decide))
/-- Part 380 of the matrix. -/
theorem l0_380 (i : ℕ) : lit0t0_380 i = tabF (128 * 380 + i % 128) := leafA (fun k => tabF (128 * 380 + k)) (by decide +kernel) (i % 128) (Nat.mod_lt _ (by decide))
/-- Part 381 of the matrix. -/
theorem l0_381 (i : ℕ) : lit0t0_381 i = tabF (128 * 381 + i % 128) := leafA (fun k => tabF (128 * 381 + k)) (by decide +kernel) (i % 128) (Nat.mod_lt _ (by decide))
/-- Part 382 of the matrix. -/
theorem l0_382 (i : ℕ) : lit0t0_382 i = tabF (128 * 382 + i % 128) := leafA (fun k => tabF (128 * 382 + k)) (by decide +kernel) (i % 128) (Nat.mod_lt _ (by decide))
/-- Part 383 of the matrix. -/
theorem l0_383 (i : ℕ) : lit0t0_383 i = tabF (128 * 383 + i % 128) := leafA (fun k => tabF (128 * 383 + k)) (by decide +kernel) (i % 128) (Nat.mod_lt _ (by decide))
/-- A node's entries. -/
theorem n0_0 (i : ℕ) : lit0t1_0 i = tabF (128 * (128 * 0 + i / 128 % 128) + i % 128) :=
  nodeB (fun j => tabF (128 * (128 * 0 + j) + i % 128)) ⟨l0_0 i, l0_1 i, l0_2 i, l0_3 i, l0_4 i, l0_5 i, l0_6 i, l0_7 i, l0_8 i, l0_9 i, l0_10 i, l0_11 i, l0_12 i, l0_13 i, l0_14 i, l0_15 i, l0_16 i, l0_17 i, l0_18 i, l0_19 i, l0_20 i, l0_21 i, l0_22 i, l0_23 i, l0_24 i, l0_25 i, l0_26 i, l0_27 i, l0_28 i, l0_29 i, l0_30 i, l0_31 i, l0_32 i, l0_33 i, l0_34 i, l0_35 i, l0_36 i, l0_37 i, l0_38 i, l0_39 i, l0_40 i, l0_41 i, l0_42 i, l0_43 i, l0_44 i, l0_45 i, l0_46 i, l0_47 i, l0_48 i, l0_49 i, l0_50 i, l0_51 i, l0_52 i, l0_53 i, l0_54 i, l0_55 i, l0_56 i, l0_57 i, l0_58 i, l0_59 i, l0_60 i, l0_61 i, l0_62 i, l0_63 i, l0_64 i, l0_65 i, l0_66 i, l0_67 i, l0_68 i, l0_69 i, l0_70 i, l0_71 i, l0_72 i, l0_73 i, l0_74 i, l0_75 i, l0_76 i, l0_77 i, l0_78 i, l0_79 i, l0_80 i, l0_81 i, l0_82 i, l0_83 i, l0_84 i, l0_85 i, l0_86 i, l0_87 i, l0_88 i, l0_89 i, l0_90 i, l0_91 i, l0_92 i, l0_93 i, l0_94 i, l0_95 i, l0_96 i, l0_97 i, l0_98 i, l0_99 i, l0_100 i, l0_101 i, l0_102 i, l0_103 i, l0_104 i, l0_105 i, l0_106 i, l0_107 i, l0_108 i, l0_109 i, l0_110 i, l0_111 i, l0_112 i, l0_113 i, l0_114 i, l0_115 i, l0_116 i, l0_117 i, l0_118 i, l0_119 i, l0_120 i, l0_121 i, l0_122 i, l0_123 i, l0_124 i, l0_125 i, l0_126 i, l0_127 i⟩ (i / 128 % 128) (Nat.mod_lt _ (by decide))
/-- A node's entries. -/
theorem n0_1 (i : ℕ) : lit0t1_1 i = tabF (128 * (128 * 1 + i / 128 % 128) + i % 128) :=
  nodeB (fun j => tabF (128 * (128 * 1 + j) + i % 128)) ⟨l0_128 i, l0_129 i, l0_130 i, l0_131 i, l0_132 i, l0_133 i, l0_134 i, l0_135 i, l0_136 i, l0_137 i, l0_138 i, l0_139 i, l0_140 i, l0_141 i, l0_142 i, l0_143 i, l0_144 i, l0_145 i, l0_146 i, l0_147 i, l0_148 i, l0_149 i, l0_150 i, l0_151 i, l0_152 i, l0_153 i, l0_154 i, l0_155 i, l0_156 i, l0_157 i, l0_158 i, l0_159 i, l0_160 i, l0_161 i, l0_162 i, l0_163 i, l0_164 i, l0_165 i, l0_166 i, l0_167 i, l0_168 i, l0_169 i, l0_170 i, l0_171 i, l0_172 i, l0_173 i, l0_174 i, l0_175 i, l0_176 i, l0_177 i, l0_178 i, l0_179 i, l0_180 i, l0_181 i, l0_182 i, l0_183 i, l0_184 i, l0_185 i, l0_186 i, l0_187 i, l0_188 i, l0_189 i, l0_190 i, l0_191 i, l0_192 i, l0_193 i, l0_194 i, l0_195 i, l0_196 i, l0_197 i, l0_198 i, l0_199 i, l0_200 i, l0_201 i, l0_202 i, l0_203 i, l0_204 i, l0_205 i, l0_206 i, l0_207 i, l0_208 i, l0_209 i, l0_210 i, l0_211 i, l0_212 i, l0_213 i, l0_214 i, l0_215 i, l0_216 i, l0_217 i, l0_218 i, l0_219 i, l0_220 i, l0_221 i, l0_222 i, l0_223 i, l0_224 i, l0_225 i, l0_226 i, l0_227 i, l0_228 i, l0_229 i, l0_230 i, l0_231 i, l0_232 i, l0_233 i, l0_234 i, l0_235 i, l0_236 i, l0_237 i, l0_238 i, l0_239 i, l0_240 i, l0_241 i, l0_242 i, l0_243 i, l0_244 i, l0_245 i, l0_246 i, l0_247 i, l0_248 i, l0_249 i, l0_250 i, l0_251 i, l0_252 i, l0_253 i, l0_254 i, l0_255 i⟩ (i / 128 % 128) (Nat.mod_lt _ (by decide))
/-- A node's entries. -/
theorem n0_2 (i : ℕ) : lit0t1_2 i = tabF (128 * (128 * 2 + i / 128 % 128) + i % 128) :=
  nodeB (fun j => tabF (128 * (128 * 2 + j) + i % 128)) ⟨l0_256 i, l0_257 i, l0_258 i, l0_259 i, l0_260 i, l0_261 i, l0_262 i, l0_263 i, l0_264 i, l0_265 i, l0_266 i, l0_267 i, l0_268 i, l0_269 i, l0_270 i, l0_271 i, l0_272 i, l0_273 i, l0_274 i, l0_275 i, l0_276 i, l0_277 i, l0_278 i, l0_279 i, l0_280 i, l0_281 i, l0_282 i, l0_283 i, l0_284 i, l0_285 i, l0_286 i, l0_287 i, l0_288 i, l0_289 i, l0_290 i, l0_291 i, l0_292 i, l0_293 i, l0_294 i, l0_295 i, l0_296 i, l0_297 i, l0_298 i, l0_299 i, l0_300 i, l0_301 i, l0_302 i, l0_303 i, l0_304 i, l0_305 i, l0_306 i, l0_307 i, l0_308 i, l0_309 i, l0_310 i, l0_311 i, l0_312 i, l0_313 i, l0_314 i, l0_315 i, l0_316 i, l0_317 i, l0_318 i, l0_319 i, l0_320 i, l0_321 i, l0_322 i, l0_323 i, l0_324 i, l0_325 i, l0_326 i, l0_327 i, l0_328 i, l0_329 i, l0_330 i, l0_331 i, l0_332 i, l0_333 i, l0_334 i, l0_335 i, l0_336 i, l0_337 i, l0_338 i, l0_339 i, l0_340 i, l0_341 i, l0_342 i, l0_343 i, l0_344 i, l0_345 i, l0_346 i, l0_347 i, l0_348 i, l0_349 i, l0_350 i, l0_351 i, l0_352 i, l0_353 i, l0_354 i, l0_355 i, l0_356 i, l0_357 i, l0_358 i, l0_359 i, l0_360 i, l0_361 i, l0_362 i, l0_363 i, l0_364 i, l0_365 i, l0_366 i, l0_367 i, l0_368 i, l0_369 i, l0_370 i, l0_371 i, l0_372 i, l0_373 i, l0_374 i, l0_375 i, l0_376 i, l0_377 i, l0_378 i, l0_379 i, l0_380 i, l0_381 i, l0_382 i, l0_383 i⟩ (i / 128 % 128) (Nat.mod_lt _ (by decide))

end Cert.KernelIdeal.Val

end
-- ==== Proof.TabB.lean ====
/- The kernel's exponent table, entry by entry: its second half. -/
module

public import proofs.«01_k».proof.Proof.TabRead

@[expose] public section

set_option maxRecDepth 16384

namespace Cert.KernelIdeal.Val

open Idealize.ShloMosaic Cert.KernelIdeal

/-! The exponent table, 128 entries at a time. -/

/-- Part 384 of the matrix. -/
theorem l0_384 (i : ℕ) : lit0t0_384 i = tabF (128 * 384 + i % 128) := leafA (fun k => tabF (128 * 384 + k)) (by decide +kernel) (i % 128) (Nat.mod_lt _ (by decide))
/-- Part 385 of the matrix. -/
theorem l0_385 (i : ℕ) : lit0t0_385 i = tabF (128 * 385 + i % 128) := leafA (fun k => tabF (128 * 385 + k)) (by decide +kernel) (i % 128) (Nat.mod_lt _ (by decide))
/-- Part 386 of the matrix. -/
theorem l0_386 (i : ℕ) : lit0t0_386 i = tabF (128 * 386 + i % 128) := leafA (fun k => tabF (128 * 386 + k)) (by decide +kernel) (i % 128) (Nat.mod_lt _ (by decide))
/-- Part 387 of the matrix. -/
theorem l0_387 (i : ℕ) : lit0t0_387 i = tabF (128 * 387 + i % 128) := leafA (fun k => tabF (128 * 387 + k)) (by decide +kernel) (i % 128) (Nat.mod_lt _ (by decide))
/-- Part 388 of the matrix. -/
theorem l0_388 (i : ℕ) : lit0t0_388 i = tabF (128 * 388 + i % 128) := leafA (fun k => tabF (128 * 388 + k)) (by decide +kernel) (i % 128) (Nat.mod_lt _ (by decide))
/-- Part 389 of the matrix. -/
theorem l0_389 (i : ℕ) : lit0t0_389 i = tabF (128 * 389 + i % 128) := leafA (fun k => tabF (128 * 389 + k)) (by decide +kernel) (i % 128) (Nat.mod_lt _ (by decide))
/-- Part 390 of the matrix. -/
theorem l0_390 (i : ℕ) : lit0t0_390 i = tabF (128 * 390 + i % 128) := leafA (fun k => tabF (128 * 390 + k)) (by decide +kernel) (i % 128) (Nat.mod_lt _ (by decide))
/-- Part 391 of the matrix. -/
theorem l0_391 (i : ℕ) : lit0t0_391 i = tabF (128 * 391 + i % 128) := leafA (fun k => tabF (128 * 391 + k)) (by decide +kernel) (i % 128) (Nat.mod_lt _ (by decide))
/-- Part 392 of the matrix. -/
theorem l0_392 (i : ℕ) : lit0t0_392 i = tabF (128 * 392 + i % 128) := leafA (fun k => tabF (128 * 392 + k)) (by decide +kernel) (i % 128) (Nat.mod_lt _ (by decide))
/-- Part 393 of the matrix. -/
theorem l0_393 (i : ℕ) : lit0t0_393 i = tabF (128 * 393 + i % 128) := leafA (fun k => tabF (128 * 393 + k)) (by decide +kernel) (i % 128) (Nat.mod_lt _ (by decide))
/-- Part 394 of the matrix. -/
theorem l0_394 (i : ℕ) : lit0t0_394 i = tabF (128 * 394 + i % 128) := leafA (fun k => tabF (128 * 394 + k)) (by decide +kernel) (i % 128) (Nat.mod_lt _ (by decide))
/-- Part 395 of the matrix. -/
theorem l0_395 (i : ℕ) : lit0t0_395 i = tabF (128 * 395 + i % 128) := leafA (fun k => tabF (128 * 395 + k)) (by decide +kernel) (i % 128) (Nat.mod_lt _ (by decide))
/-- Part 396 of the matrix. -/
theorem l0_396 (i : ℕ) : lit0t0_396 i = tabF (128 * 396 + i % 128) := leafA (fun k => tabF (128 * 396 + k)) (by decide +kernel) (i % 128) (Nat.mod_lt _ (by decide))
/-- Part 397 of the matrix. -/
theorem l0_397 (i : ℕ) : lit0t0_397 i = tabF (128 * 397 + i % 128) := leafA (fun k => tabF (128 * 397 + k)) (by decide +kernel) (i % 128) (Nat.mod_lt _ (by decide))
/-- Part 398 of the matrix. -/
theorem l0_398 (i : ℕ) : lit0t0_398 i = tabF (128 * 398 + i % 128) := leafA (fun k => tabF (128 * 398 + k)) (by decide +kernel) (i % 128) (Nat.mod_lt _ (by decide))
/-- Part 399 of the matrix. -/
theorem l0_399 (i : ℕ) : lit0t0_399 i = tabF (128 * 399 + i % 128) := leafA (fun k => tabF (128 * 399 + k)) (by decide +kernel) (i % 128) (Nat.mod_lt _ (by decide))
/-- Part 400 of the matrix. -/
theorem l0_400 (i : ℕ) : lit0t0_400 i = tabF (128 * 400 + i % 128) := leafA (fun k => tabF (128 * 400 + k)) (by decide +kernel) (i % 128) (Nat.mod_lt _ (by decide))
/-- Part 401 of the matrix. -/
theorem l0_401 (i : ℕ) : lit0t0_401 i = tabF (128 * 401 + i % 128) := leafA (fun k => tabF (128 * 401 + k)) (by decide +kernel) (i % 128) (Nat.mod_lt _ (by decide))
/-- Part 402 of the matrix. -/
theorem l0_402 (i : ℕ) : lit0t0_402 i = tabF (128 * 402 + i % 128) := leafA (fun k => tabF (128 * 402 + k)) (by decide +kernel) (i % 128) (Nat.mod_lt _ (by decide))
/-- Part 403 of the matrix. -/
theorem l0_403 (i : ℕ) : lit0t0_403 i = tabF (128 * 403 + i % 128) := leafA (fun k => tabF (128 * 403 + k)) (by decide +kernel) (i % 128) (Nat.mod_lt _ (by decide))
/-- Part 404 of the matrix. -/
theorem l0_404 (i : ℕ) : lit0t0_404 i = tabF (128 * 404 + i % 128) := leafA (fun k => tabF (128 * 404 + k)) (by decide +kernel) (i % 128) (Nat.mod_lt _ (by decide))
/-- Part 405 of the matrix. -/
theorem l0_405 (i : ℕ) : lit0t0_405 i = tabF (128 * 405 + i % 128) := leafA (fun k => tabF (128 * 405 + k)) (by decide +kernel) (i % 128) (Nat.mod_lt _ (by decide))
/-- Part 406 of the matrix. -/
theorem l0_406 (i : ℕ) : lit0t0_406 i = tabF (128 * 406 + i % 128) := leafA (fun k => tabF (128 * 406 + k)) (by decide +kernel) (i % 128) (Nat.mod_lt _ (by decide))
/-- Part 407 of the matrix. -/
theorem l0_407 (i : ℕ) : lit0t0_407 i = tabF (128 * 407 + i % 128) := leafA (fun k => tabF (128 * 407 + k)) (by decide +kernel) (i % 128) (Nat.mod_lt _ (by decide))
/-- Part 408 of the matrix. -/
theorem l0_408 (i : ℕ) : lit0t0_408 i = tabF (128 * 408 + i % 128) := leafA (fun k => tabF (128 * 408 + k)) (by decide +kernel) (i % 128) (Nat.mod_lt _ (by decide))
/-- Part 409 of the matrix. -/
theorem l0_409 (i : ℕ) : lit0t0_409 i = tabF (128 * 409 + i % 128) := leafA (fun k => tabF (128 * 409 + k)) (by decide +kernel) (i % 128) (Nat.mod_lt _ (by decide))
/-- Part 410 of the matrix. -/
theorem l0_410 (i : ℕ) : lit0t0_410 i = tabF (128 * 410 + i % 128) := leafA (fun k => tabF (128 * 410 + k)) (by decide +kernel) (i % 128) (Nat.mod_lt _ (by decide))
/-- Part 411 of the matrix. -/
theorem l0_411 (i : ℕ) : lit0t0_411 i = tabF (128 * 411 + i % 128) := leafA (fun k => tabF (128 * 411 + k)) (by decide +kernel) (i % 128) (Nat.mod_lt _ (by decide))
/-- Part 412 of the matrix. -/
theorem l0_412 (i : ℕ) : lit0t0_412 i = tabF (128 * 412 + i % 128) := leafA (fun k => tabF (128 * 412 + k)) (by decide +kernel) (i % 128) (Nat.mod_lt _ (by decide))
/-- Part 413 of the matrix. -/
theorem l0_413 (i : ℕ) : lit0t0_413 i = tabF (128 * 413 + i % 128) := leafA (fun k => tabF (128 * 413 + k)) (by decide +kernel) (i % 128) (Nat.mod_lt _ (by decide))
/-- Part 414 of the matrix. -/
theorem l0_414 (i : ℕ) : lit0t0_414 i = tabF (128 * 414 + i % 128) := leafA (fun k => tabF (128 * 414 + k)) (by decide +kernel) (i % 128) (Nat.mod_lt _ (by decide))
/-- Part 415 of the matrix. -/
theorem l0_415 (i : ℕ) : lit0t0_415 i = tabF (128 * 415 + i % 128) := leafA (fun k => tabF (128 * 415 + k)) (by decide +kernel) (i % 128) (Nat.mod_lt _ (by decide))
/-- Part 416 of the matrix. -/
theorem l0_416 (i : ℕ) : lit0t0_416 i = tabF (128 * 416 + i % 128) := leafA (fun k => tabF (128 * 416 + k)) (by decide +kernel) (i % 128) (Nat.mod_lt _ (by decide))
/-- Part 417 of the matrix. -/
theorem l0_417 (i : ℕ) : lit0t0_417 i = tabF (128 * 417 + i % 128) := leafA (fun k => tabF (128 * 417 + k)) (by decide +kernel) (i % 128) (Nat.mod_lt _ (by decide))
/-- Part 418 of the matrix. -/
theorem l0_418 (i : ℕ) : lit0t0_418 i = tabF (128 * 418 + i % 128) := leafA (fun k => tabF (128 * 418 + k)) (by decide +kernel) (i % 128) (Nat.mod_lt _ (by decide))
/-- Part 419 of the matrix. -/
theorem l0_419 (i : ℕ) : lit0t0_419 i = tabF (128 * 419 + i % 128) := leafA (fun k => tabF (128 * 419 + k)) (by decide +kernel) (i % 128) (Nat.mod_lt _ (by decide))
/-- Part 420 of the matrix. -/
theorem l0_420 (i : ℕ) : lit0t0_420 i = tabF (128 * 420 + i % 128) := leafA (fun k => tabF (128 * 420 + k)) (by decide +kernel) (i % 128) (Nat.mod_lt _ (by decide))
/-- Part 421 of the matrix. -/
theorem l0_421 (i : ℕ) : lit0t0_421 i = tabF (128 * 421 + i % 128) := leafA (fun k => tabF (128 * 421 + k)) (by decide +kernel) (i % 128) (Nat.mod_lt _ (by decide))
/-- Part 422 of the matrix. -/
theorem l0_422 (i : ℕ) : lit0t0_422 i = tabF (128 * 422 + i % 128) := leafA (fun k => tabF (128 * 422 + k)) (by decide +kernel) (i % 128) (Nat.mod_lt _ (by decide))
/-- Part 423 of the matrix. -/
theorem l0_423 (i : ℕ) : lit0t0_423 i = tabF (128 * 423 + i % 128) := leafA (fun k => tabF (128 * 423 + k)) (by decide +kernel) (i % 128) (Nat.mod_lt _ (by decide))
/-- Part 424 of the matrix. -/
theorem l0_424 (i : ℕ) : lit0t0_424 i = tabF (128 * 424 + i % 128) := leafA (fun k => tabF (128 * 424 + k)) (by decide +kernel) (i % 128) (Nat.mod_lt _ (by decide))
/-- Part 425 of the matrix. -/
theorem l0_425 (i : ℕ) : lit0t0_425 i = tabF (128 * 425 + i % 128) := leafA (fun k => tabF (128 * 425 + k)) (by decide +kernel) (i % 128) (Nat.mod_lt _ (by decide))
/-- Part 426 of the matrix. -/
theorem l0_426 (i : ℕ) : lit0t0_426 i = tabF (128 * 426 + i % 128) := leafA (fun k => tabF (128 * 426 + k)) (by decide +kernel) (i % 128) (Nat.mod_lt _ (by decide))
/-- Part 427 of the matrix. -/
theorem l0_427 (i : ℕ) : lit0t0_427 i = tabF (128 * 427 + i % 128) := leafA (fun k => tabF (128 * 427 + k)) (by decide +kernel) (i % 128) (Nat.mod_lt _ (by decide))
/-- Part 428 of the matrix. -/
theorem l0_428 (i : ℕ) : lit0t0_428 i = tabF (128 * 428 + i % 128) := leafA (fun k => tabF (128 * 428 + k)) (by decide +kernel) (i % 128) (Nat.mod_lt _ (by decide))
/-- Part 429 of the matrix. -/
theorem l0_429 (i : ℕ) : lit0t0_429 i = tabF (128 * 429 + i % 128) := leafA (fun k => tabF (128 * 429 + k)) (by decide +kernel) (i % 128) (Nat.mod_lt _ (by decide))
/-- Part 430 of the matrix. -/
theorem l0_430 (i : ℕ) : lit0t0_430 i = tabF (128 * 430 + i % 128) := leafA (fun k => tabF (128 * 430 + k)) (by decide +kernel) (i % 128) (Nat.mod_lt _ (by decide))
/-- Part 431 of the matrix. -/
theorem l0_431 (i : ℕ) : lit0t0_431 i = tabF (128 * 431 + i % 128) := leafA (fun k => tabF (128 * 431 + k)) (by decide +kernel) (i % 128) (Nat.mod_lt _ (by decide))
/-- Part 432 of the matrix. -/
theorem l0_432 (i : ℕ) : lit0t0_432 i = tabF (128 * 432 + i % 128) := leafA (fun k => tabF (128 * 432 + k)) (by decide +kernel) (i % 128) (Nat.mod_lt _ (by decide))
/-- Part 433 of the matrix. -/
theorem l0_433 (i : ℕ) : lit0t0_433 i = tabF (128 * 433 + i % 128) := leafA (fun k => tabF (128 * 433 + k)) (by decide +kernel) (i % 128) (Nat.mod_lt _ (by decide))
/-- Part 434 of the matrix. -/
theorem l0_434 (i : ℕ) : lit0t0_434 i = tabF (128 * 434 + i % 128) := leafA (fun k => tabF (128 * 434 + k)) (by decide +kernel) (i % 128) (Nat.mod_lt _ (by decide))
/-- Part 435 of the matrix. -/
theorem l0_435 (i : ℕ) : lit0t0_435 i = tabF (128 * 435 + i % 128) := leafA (fun k => tabF (128 * 435 + k)) (by decide +kernel) (i % 128) (Nat.mod_lt _ (by decide))
/-- Part 436 of the matrix. -/
theorem l0_436 (i : ℕ) : lit0t0_436 i = tabF (128 * 436 + i % 128) := leafA (fun k => tabF (128 * 436 + k)) (by decide +kernel) (i % 128) (Nat.mod_lt _ (by decide))
/-- Part 437 of the matrix. -/
theorem l0_437 (i : ℕ) : lit0t0_437 i = tabF (128 * 437 + i % 128) := leafA (fun k => tabF (128 * 437 + k)) (by decide +kernel) (i % 128) (Nat.mod_lt _ (by decide))
/-- Part 438 of the matrix. -/
theorem l0_438 (i : ℕ) : lit0t0_438 i = tabF (128 * 438 + i % 128) := leafA (fun k => tabF (128 * 438 + k)) (by decide +kernel) (i % 128) (Nat.mod_lt _ (by decide))
/-- Part 439 of the matrix. -/
theorem l0_439 (i : ℕ) : lit0t0_439 i = tabF (128 * 439 + i % 128) := leafA (fun k => tabF (128 * 439 + k)) (by decide +kernel) (i % 128) (Nat.mod_lt _ (by decide))
/-- Part 440 of the matrix. -/
theorem l0_440 (i : ℕ) : lit0t0_440 i = tabF (128 * 440 + i % 128) := leafA (fun k => tabF (128 * 440 + k)) (by decide +kernel) (i % 128) (Nat.mod_lt _ (by decide))
/-- Part 441 of the matrix. -/
theorem l0_441 (i : ℕ) : lit0t0_441 i = tabF (128 * 441 + i % 128) := leafA (fun k => tabF (128 * 441 + k)) (by decide +kernel) (i % 128) (Nat.mod_lt _ (by decide))
/-- Part 442 of the matrix. -/
theorem l0_442 (i : ℕ) : lit0t0_442 i = tabF (128 * 442 + i % 128) := leafA (fun k => tabF (128 * 442 + k)) (by decide +kernel) (i % 128) (Nat.mod_lt _ (by decide))
/-- Part 443 of the matrix. -/
theorem l0_443 (i : ℕ) : lit0t0_443 i = tabF (128 * 443 + i % 128) := leafA (fun k => tabF (128 * 443 + k)) (by decide +kernel) (i % 128) (Nat.mod_lt _ (by decide))
/-- Part 444 of the matrix. -/
theorem l0_444 (i : ℕ) : lit0t0_444 i = tabF (128 * 444 + i % 128) := leafA (fun k => tabF (128 * 444 + k)) (by decide +kernel) (i % 128) (Nat.mod_lt _ (by decide))
/-- Part 445 of the matrix. -/
theorem l0_445 (i : ℕ) : lit0t0_445 i = tabF (128 * 445 + i % 128) := leafA (fun k => tabF (128 * 445 + k)) (by decide +kernel) (i % 128) (Nat.mod_lt _ (by decide))
/-- Part 446 of the matrix. -/
theorem l0_446 (i : ℕ) : lit0t0_446 i = tabF (128 * 446 + i % 128) := leafA (fun k => tabF (128 * 446 + k)) (by decide +kernel) (i % 128) (Nat.mod_lt _ (by decide))
/-- Part 447 of the matrix. -/
theorem l0_447 (i : ℕ) : lit0t0_447 i = tabF (128 * 447 + i % 128) := leafA (fun k => tabF (128 * 447 + k)) (by decide +kernel) (i % 128) (Nat.mod_lt _ (by decide))
/-- Part 448 of the matrix. -/
theorem l0_448 (i : ℕ) : lit0t0_448 i = tabF (128 * 448 + i % 128) := leafA (fun k => tabF (128 * 448 + k)) (by decide +kernel) (i % 128) (Nat.mod_lt _ (by decide))
/-- Part 449 of the matrix. -/
theorem l0_449 (i : ℕ) : lit0t0_449 i = tabF (128 * 449 + i % 128) := leafA (fun k => tabF (128 * 449 + k)) (by decide +kernel) (i % 128) (Nat.mod_lt _ (by decide))
/-- Part 450 of the matrix. -/
theorem l0_450 (i : ℕ) : lit0t0_450 i = tabF (128 * 450 + i % 128) := leafA (fun k => tabF (128 * 450 + k)) (by decide +kernel) (i % 128) (Nat.mod_lt _ (by decide))
/-- Part 451 of the matrix. -/
theorem l0_451 (i : ℕ) : lit0t0_451 i = tabF (128 * 451 + i % 128) := leafA (fun k => tabF (128 * 451 + k)) (by decide +kernel) (i % 128) (Nat.mod_lt _ (by decide))
/-- Part 452 of the matrix. -/
theorem l0_452 (i : ℕ) : lit0t0_452 i = tabF (128 * 452 + i % 128) := leafA (fun k => tabF (128 * 452 + k)) (by decide +kernel) (i % 128) (Nat.mod_lt _ (by decide))
/-- Part 453 of the matrix. -/
theorem l0_453 (i : ℕ) : lit0t0_453 i = tabF (128 * 453 + i % 128) := leafA (fun k => tabF (128 * 453 + k)) (by decide +kernel) (i % 128) (Nat.mod_lt _ (by decide))
/-- Part 454 of the matrix. -/
theorem l0_454 (i : ℕ) : lit0t0_454 i = tabF (128 * 454 + i % 128) := leafA (fun k => tabF (128 * 454 + k)) (by decide +kernel) (i % 128) (Nat.mod_lt _ (by decide))
/-- Part 455 of the matrix. -/
theorem l0_455 (i : ℕ) : lit0t0_455 i = tabF (128 * 455 + i % 128) := leafA (fun k => tabF (128 * 455 + k)) (by decide +kernel) (i % 128) (Nat.mod_lt _ (by decide))
/-- Part 456 of the matrix. -/
theorem l0_456 (i : ℕ) : lit0t0_456 i = tabF (128 * 456 + i % 128) := leafA (fun k => tabF (128 * 456 + k)) (by decide +kernel) (i % 128) (Nat.mod_lt _ (by decide))
/-- Part 457 of the matrix. -/
theorem l0_457 (i : ℕ) : lit0t0_457 i = tabF (128 * 457 + i % 128) := leafA (fun k => tabF (128 * 457 + k)) (by decide +kernel) (i % 128) (Nat.mod_lt _ (by decide))
/-- Part 458 of the matrix. -/
theorem l0_458 (i : ℕ) : lit0t0_458 i = tabF (128 * 458 + i % 128) := leafA (fun k => tabF (128 * 458 + k)) (by decide +kernel) (i % 128) (Nat.mod_lt _ (by decide))
/-- Part 459 of the matrix. -/
theorem l0_459 (i : ℕ) : lit0t0_459 i = tabF (128 * 459 + i % 128) := leafA (fun k => tabF (128 * 459 + k)) (by decide +kernel) (i % 128) (Nat.mod_lt _ (by decide))
/-- Part 460 of the matrix. -/
theorem l0_460 (i : ℕ) : lit0t0_460 i = tabF (128 * 460 + i % 128) := leafA (fun k => tabF (128 * 460 + k)) (by decide +kernel) (i % 128) (Nat.mod_lt _ (by decide))
/-- Part 461 of the matrix. -/
theorem l0_461 (i : ℕ) : lit0t0_461 i = tabF (128 * 461 + i % 128) := leafA (fun k => tabF (128 * 461 + k)) (by decide +kernel) (i % 128) (Nat.mod_lt _ (by decide))
/-- Part 462 of the matrix. -/
theorem l0_462 (i : ℕ) : lit0t0_462 i = tabF (128 * 462 + i % 128) := leafA (fun k => tabF (128 * 462 + k)) (by decide +kernel) (i % 128) (Nat.mod_lt _ (by decide))
/-- Part 463 of the matrix. -/
theorem l0_463 (i : ℕ) : lit0t0_463 i = tabF (128 * 463 + i % 128) := leafA (fun k => tabF (128 * 463 + k)) (by decide +kernel) (i % 128) (Nat.mod_lt _ (by decide))
/-- Part 464 of the matrix. -/
theorem l0_464 (i : ℕ) : lit0t0_464 i = tabF (128 * 464 + i % 128) := leafA (fun k => tabF (128 * 464 + k)) (by decide +kernel) (i % 128) (Nat.mod_lt _ (by decide))
/-- Part 465 of the matrix. -/
theorem l0_465 (i : ℕ) : lit0t0_465 i = tabF (128 * 465 + i % 128) := leafA (fun k => tabF (128 * 465 + k)) (by decide +kernel) (i % 128) (Nat.mod_lt _ (by decide))
/-- Part 466 of the matrix. -/
theorem l0_466 (i : ℕ) : lit0t0_466 i = tabF (128 * 466 + i % 128) := leafA (fun k => tabF (128 * 466 + k)) (by decide +kernel) (i % 128) (Nat.mod_lt _ (by decide))
/-- Part 467 of the matrix. -/
theorem l0_467 (i : ℕ) : lit0t0_467 i = tabF (128 * 467 + i % 128) := leafA (fun k => tabF (128 * 467 + k)) (by decide +kernel) (i % 128) (Nat.mod_lt _ (by decide))
/-- Part 468 of the matrix. -/
theorem l0_468 (i : ℕ) : lit0t0_468 i = tabF (128 * 468 + i % 128) := leafA (fun k => tabF (128 * 468 + k)) (by decide +kernel) (i % 128) (Nat.mod_lt _ (by decide))
/-- Part 469 of the matrix. -/
theorem l0_469 (i : ℕ) : lit0t0_469 i = tabF (128 * 469 + i % 128) := leafA (fun k => tabF (128 * 469 + k)) (by decide +kernel) (i % 128) (Nat.mod_lt _ (by decide))
/-- Part 470 of the matrix. -/
theorem l0_470 (i : ℕ) : lit0t0_470 i = tabF (128 * 470 + i % 128) := leafA (fun k => tabF (128 * 470 + k)) (by decide +kernel) (i % 128) (Nat.mod_lt _ (by decide))
/-- Part 471 of the matrix. -/
theorem l0_471 (i : ℕ) : lit0t0_471 i = tabF (128 * 471 + i % 128) := leafA (fun k => tabF (128 * 471 + k)) (by decide +kernel) (i % 128) (Nat.mod_lt _ (by decide))
/-- Part 472 of the matrix. -/
theorem l0_472 (i : ℕ) : lit0t0_472 i = tabF (128 * 472 + i % 128) := leafA (fun k => tabF (128 * 472 + k)) (by decide +kernel) (i % 128) (Nat.mod_lt _ (by decide))
/-- Part 473 of the matrix. -/
theorem l0_473 (i : ℕ) : lit0t0_473 i = tabF (128 * 473 + i % 128) := leafA (fun k => tabF (128 * 473 + k)) (by decide +kernel) (i % 128) (Nat.mod_lt _ (by decide))
/-- Part 474 of the matrix. -/
theorem l0_474 (i : ℕ) : lit0t0_474 i = tabF (128 * 474 + i % 128) := leafA (fun k => tabF (128 * 474 + k)) (by decide +kernel) (i % 128) (Nat.mod_lt _ (by decide))
/-- Part 475 of the matrix. -/
theorem l0_475 (i : ℕ) : lit0t0_475 i = tabF (128 * 475 + i % 128) := leafA (fun k => tabF (128 * 475 + k)) (by decide +kernel) (i % 128) (Nat.mod_lt _ (by decide))
/-- Part 476 of the matrix. -/
theorem l0_476 (i : ℕ) : lit0t0_476 i = tabF (128 * 476 + i % 128) := leafA (fun k => tabF (128 * 476 + k)) (by decide +kernel) (i % 128) (Nat.mod_lt _ (by decide))
/-- Part 477 of the matrix. -/
theorem l0_477 (i : ℕ) : lit0t0_477 i = tabF (128 * 477 + i % 128) := leafA (fun k => tabF (128 * 477 + k)) (by decide +kernel) (i % 128) (Nat.mod_lt _ (by decide))
/-- Part 478 of the matrix. -/
theorem l0_478 (i : ℕ) : lit0t0_478 i = tabF (128 * 478 + i % 128) := leafA (fun k => tabF (128 * 478 + k)) (by decide +kernel) (i % 128) (Nat.mod_lt _ (by decide))
/-- Part 479 of the matrix. -/
theorem l0_479 (i : ℕ) : lit0t0_479 i = tabF (128 * 479 + i % 128) := leafA (fun k => tabF (128 * 479 + k)) (by decide +kernel) (i % 128) (Nat.mod_lt _ (by decide))
/-- Part 480 of the matrix. -/
theorem l0_480 (i : ℕ) : lit0t0_480 i = tabF (128 * 480 + i % 128) := leafA (fun k => tabF (128 * 480 + k)) (by decide +kernel) (i % 128) (Nat.mod_lt _ (by decide))
/-- Part 481 of the matrix. -/
theorem l0_481 (i : ℕ) : lit0t0_481 i = tabF (128 * 481 + i % 128) := leafA (fun k => tabF (128 * 481 + k)) (by decide +kernel) (i % 128) (Nat.mod_lt _ (by decide))
/-- Part 482 of the matrix. -/
theorem l0_482 (i : ℕ) : lit0t0_482 i = tabF (128 * 482 + i % 128) := leafA (fun k => tabF (128 * 482 + k)) (by decide +kernel) (i % 128) (Nat.mod_lt _ (by decide))
/-- Part 483 of the matrix. -/
theorem l0_483 (i : ℕ) : lit0t0_483 i = tabF (128 * 483 + i % 128) := leafA (fun k => tabF (128 * 483 + k)) (by decide +kernel) (i % 128) (Nat.mod_lt _ (by decide))
/-- Part 484 of the matrix. -/
theorem l0_484 (i : ℕ) : lit0t0_484 i = tabF (128 * 484 + i % 128) := leafA (fun k => tabF (128 * 484 + k)) (by decide +kernel) (i % 128) (Nat.mod_lt _ (by decide))
/-- Part 485 of the matrix. -/
theorem l0_485 (i : ℕ) : lit0t0_485 i = tabF (128 * 485 + i % 128) := leafA (fun k => tabF (128 * 485 + k)) (by decide +kernel) (i % 128) (Nat.mod_lt _ (by decide))
/-- Part 486 of the matrix. -/
theorem l0_486 (i : ℕ) : lit0t0_486 i = tabF (128 * 486 + i % 128) := leafA (fun k => tabF (128 * 486 + k)) (by decide +kernel) (i % 128) (Nat.mod_lt _ (by decide))
/-- Part 487 of the matrix. -/
theorem l0_487 (i : ℕ) : lit0t0_487 i = tabF (128 * 487 + i % 128) := leafA (fun k => tabF (128 * 487 + k)) (by decide +kernel) (i % 128) (Nat.mod_lt _ (by decide))
/-- Part 488 of the matrix. -/
theorem l0_488 (i : ℕ) : lit0t0_488 i = tabF (128 * 488 + i % 128) := leafA (fun k => tabF (128 * 488 + k)) (by decide +kernel) (i % 128) (Nat.mod_lt _ (by decide))
/-- Part 489 of the matrix. -/
theorem l0_489 (i : ℕ) : lit0t0_489 i = tabF (128 * 489 + i % 128) := leafA (fun k => tabF (128 * 489 + k)) (by decide +kernel) (i % 128) (Nat.mod_lt _ (by decide))
/-- Part 490 of the matrix. -/
theorem l0_490 (i : ℕ) : lit0t0_490 i = tabF (128 * 490 + i % 128) := leafA (fun k => tabF (128 * 490 + k)) (by decide +kernel) (i % 128) (Nat.mod_lt _ (by decide))
/-- Part 491 of the matrix. -/
theorem l0_491 (i : ℕ) : lit0t0_491 i = tabF (128 * 491 + i % 128) := leafA (fun k => tabF (128 * 491 + k)) (by decide +kernel) (i % 128) (Nat.mod_lt _ (by decide))
/-- Part 492 of the matrix. -/
theorem l0_492 (i : ℕ) : lit0t0_492 i = tabF (128 * 492 + i % 128) := leafA (fun k => tabF (128 * 492 + k)) (by decide +kernel) (i % 128) (Nat.mod_lt _ (by decide))
/-- Part 493 of the matrix. -/
theorem l0_493 (i : ℕ) : lit0t0_493 i = tabF (128 * 493 + i % 128) := leafA (fun k => tabF (128 * 493 + k)) (by decide +kernel) (i % 128) (Nat.mod_lt _ (by decide))
/-- Part 494 of the matrix. -/
theorem l0_494 (i : ℕ) : lit0t0_494 i = tabF (128 * 494 + i % 128) := leafA (fun k => tabF (128 * 494 + k)) (by decide +kernel) (i % 128) (Nat.mod_lt _ (by decide))
/-- Part 495 of the matrix. -/
theorem l0_495 (i : ℕ) : lit0t0_495 i = tabF (128 * 495 + i % 128) := leafA (fun k => tabF (128 * 495 + k)) (by decide +kernel) (i % 128) (Nat.mod_lt _ (by decide))
/-- Part 496 of the matrix. -/
theorem l0_496 (i : ℕ) : lit0t0_496 i = tabF (128 * 496 + i % 128) := leafA (fun k => tabF (128 * 496 + k)) (by decide +kernel) (i % 128) (Nat.mod_lt _ (by decide))
/-- Part 497 of the matrix. -/
theorem l0_497 (i : ℕ) : lit0t0_497 i = tabF (128 * 497 + i % 128) := leafA (fun k => tabF (128 * 497 + k)) (by decide +kernel) (i % 128) (Nat.mod_lt _ (by decide))
/-- Part 498 of the matrix. -/
theorem l0_498 (i : ℕ) : lit0t0_498 i = tabF (128 * 498 + i % 128) := leafA (fun k => tabF (128 * 498 + k)) (by decide +kernel) (i % 128) (Nat.mod_lt _ (by decide))
/-- Part 499 of the matrix. -/
theorem l0_499 (i : ℕ) : lit0t0_499 i = tabF (128 * 499 + i % 128) := leafA (fun k => tabF (128 * 499 + k)) (by decide +kernel) (i % 128) (Nat.mod_lt _ (by decide))
/-- Part 500 of the matrix. -/
theorem l0_500 (i : ℕ) : lit0t0_500 i = tabF (128 * 500 + i % 128) := leafA (fun k => tabF (128 * 500 + k)) (by decide +kernel) (i % 128) (Nat.mod_lt _ (by decide))
/-- Part 501 of the matrix. -/
theorem l0_501 (i : ℕ) : lit0t0_501 i = tabF (128 * 501 + i % 128) := leafA (fun k => tabF (128 * 501 + k)) (by decide +kernel) (i % 128) (Nat.mod_lt _ (by decide))
/-- Part 502 of the matrix. -/
theorem l0_502 (i : ℕ) : lit0t0_502 i = tabF (128 * 502 + i % 128) := leafA (fun k => tabF (128 * 502 + k)) (by decide +kernel) (i % 128) (Nat.mod_lt _ (by decide))
/-- Part 503 of the matrix. -/
theorem l0_503 (i : ℕ) : lit0t0_503 i = tabF (128 * 503 + i % 128) := leafA (fun k => tabF (128 * 503 + k)) (by decide +kernel) (i % 128) (Nat.mod_lt _ (by decide))
/-- Part 504 of the matrix. -/
theorem l0_504 (i : ℕ) : lit0t0_504 i = tabF (128 * 504 + i % 128) := leafA (fun k => tabF (128 * 504 + k)) (by decide +kernel) (i % 128) (Nat.mod_lt _ (by decide))
/-- Part 505 of the matrix. -/
theorem l0_505 (i : ℕ) : lit0t0_505 i = tabF (128 * 505 + i % 128) := leafA (fun k => tabF (128 * 505 + k)) (by decide +kernel) (i % 128) (Nat.mod_lt _ (by decide))
/-- Part 506 of the matrix. -/
theorem l0_506 (i : ℕ) : lit0t0_506 i = tabF (128 * 506 + i % 128) := leafA (fun k => tabF (128 * 506 + k)) (by decide +kernel) (i % 128) (Nat.mod_lt _ (by decide))
/-- Part 507 of the matrix. -/
theorem l0_507 (i : ℕ) : lit0t0_507 i = tabF (128 * 507 + i % 128) := leafA (fun k => tabF (128 * 507 + k)) (by decide +kernel) (i % 128) (Nat.mod_lt _ (by decide))
/-- Part 508 of the matrix. -/
theorem l0_508 (i : ℕ) : lit0t0_508 i = tabF (128 * 508 + i % 128) := leafA (fun k => tabF (128 * 508 + k)) (by decide +kernel) (i % 128) (Nat.mod_lt _ (by decide))
/-- Part 509 of the matrix. -/
theorem l0_509 (i : ℕ) : lit0t0_509 i = tabF (128 * 509 + i % 128) := leafA (fun k => tabF (128 * 509 + k)) (by decide +kernel) (i % 128) (Nat.mod_lt _ (by decide))
/-- Part 510 of the matrix. -/
theorem l0_510 (i : ℕ) : lit0t0_510 i = tabF (128 * 510 + i % 128) := leafA (fun k => tabF (128 * 510 + k)) (by decide +kernel) (i % 128) (Nat.mod_lt _ (by decide))
/-- Part 511 of the matrix. -/
theorem l0_511 (i : ℕ) : lit0t0_511 i = tabF (128 * 511 + i % 128) := leafA (fun k => tabF (128 * 511 + k)) (by decide +kernel) (i % 128) (Nat.mod_lt _ (by decide))
/-- Part 512 of the matrix. -/
theorem l0_512 (i : ℕ) : lit0t0_512 i = tabF (128 * 512 + i % 128) := leafA (fun k => tabF (128 * 512 + k)) (by decide +kernel) (i % 128) (Nat.mod_lt _ (by decide))
/-- Part 513 of the matrix. -/
theorem l0_513 (i : ℕ) : lit0t0_513 i = tabF (128 * 513 + i % 128) := leafA (fun k => tabF (128 * 513 + k)) (by decide +kernel) (i % 128) (Nat.mod_lt _ (by decide))
/-- Part 514 of the matrix. -/
theorem l0_514 (i : ℕ) : lit0t0_514 i = tabF (128 * 514 + i % 128) := leafA (fun k => tabF (128 * 514 + k)) (by decide +kernel) (i % 128) (Nat.mod_lt _ (by decide))
/-- Part 515 of the matrix. -/
theorem l0_515 (i : ℕ) : lit0t0_515 i = tabF (128 * 515 + i % 128) := leafA (fun k => tabF (128 * 515 + k)) (by decide +kernel) (i % 128) (Nat.mod_lt _ (by decide))
/-- Part 516 of the matrix. -/
theorem l0_516 (i : ℕ) : lit0t0_516 i = tabF (128 * 516 + i % 128) := leafA (fun k => tabF (128 * 516 + k)) (by decide +kernel) (i % 128) (Nat.mod_lt _ (by decide))
/-- Part 517 of the matrix. -/
theorem l0_517 (i : ℕ) : lit0t0_517 i = tabF (128 * 517 + i % 128) := leafA (fun k => tabF (128 * 517 + k)) (by decide +kernel) (i % 128) (Nat.mod_lt _ (by decide))
/-- Part 518 of the matrix. -/
theorem l0_518 (i : ℕ) : lit0t0_518 i = tabF (128 * 518 + i % 128) := leafA (fun k => tabF (128 * 518 + k)) (by decide +kernel) (i % 128) (Nat.mod_lt _ (by decide))
/-- Part 519 of the matrix. -/
theorem l0_519 (i : ℕ) : lit0t0_519 i = tabF (128 * 519 + i % 128) := leafA (fun k => tabF (128 * 519 + k)) (by decide +kernel) (i % 128) (Nat.mod_lt _ (by decide))
/-- Part 520 of the matrix. -/
theorem l0_520 (i : ℕ) : lit0t0_520 i = tabF (128 * 520 + i % 128) := leafA (fun k => tabF (128 * 520 + k)) (by decide +kernel) (i % 128) (Nat.mod_lt _ (by decide))
/-- Part 521 of the matrix. -/
theorem l0_521 (i : ℕ) : lit0t0_521 i = tabF (128 * 521 + i % 128) := leafA (fun k => tabF (128 * 521 + k)) (by decide +kernel) (i % 128) (Nat.mod_lt _ (by decide))
/-- Part 522 of the matrix. -/
theorem l0_522 (i : ℕ) : lit0t0_522 i = tabF (128 * 522 + i % 128) := leafA (fun k => tabF (128 * 522 + k)) (by decide +kernel) (i % 128) (Nat.mod_lt _ (by decide))
/-- Part 523 of the matrix. -/
theorem l0_523 (i : ℕ) : lit0t0_523 i = tabF (128 * 523 + i % 128) := leafA (fun k => tabF (128 * 523 + k)) (by decide +kernel) (i % 128) (Nat.mod_lt _ (by decide))
/-- Part 524 of the matrix. -/
theorem l0_524 (i : ℕ) : lit0t0_524 i = tabF (128 * 524 + i % 128) := leafA (fun k => tabF (128 * 524 + k)) (by decide +kernel) (i % 128) (Nat.mod_lt _ (by decide))
/-- Part 525 of the matrix. -/
theorem l0_525 (i : ℕ) : lit0t0_525 i = tabF (128 * 525 + i % 128) := leafA (fun k => tabF (128 * 525 + k)) (by decide +kernel) (i % 128) (Nat.mod_lt _ (by decide))
/-- Part 526 of the matrix. -/
theorem l0_526 (i : ℕ) : lit0t0_526 i = tabF (128 * 526 + i % 128) := leafA (fun k => tabF (128 * 526 + k)) (by decide +kernel) (i % 128) (Nat.mod_lt _ (by decide))
/-- Part 527 of the matrix. -/
theorem l0_527 (i : ℕ) : lit0t0_527 i = tabF (128 * 527 + i % 128) := leafA (fun k => tabF (128 * 527 + k)) (by decide +kernel) (i % 128) (Nat.mod_lt _ (by decide))
/-- Part 528 of the matrix. -/
theorem l0_528 (i : ℕ) : lit0t0_528 i = tabF (128 * 528 + i % 128) := leafA (fun k => tabF (128 * 528 + k)) (by decide +kernel) (i % 128) (Nat.mod_lt _ (by decide))
/-- Part 529 of the matrix. -/
theorem l0_529 (i : ℕ) : lit0t0_529 i = tabF (128 * 529 + i % 128) := leafA (fun k => tabF (128 * 529 + k)) (by decide +kernel) (i % 128) (Nat.mod_lt _ (by decide))
/-- Part 530 of the matrix. -/
theorem l0_530 (i : ℕ) : lit0t0_530 i = tabF (128 * 530 + i % 128) := leafA (fun k => tabF (128 * 530 + k)) (by decide +kernel) (i % 128) (Nat.mod_lt _ (by decide))
/-- Part 531 of the matrix. -/
theorem l0_531 (i : ℕ) : lit0t0_531 i = tabF (128 * 531 + i % 128) := leafA (fun k => tabF (128 * 531 + k)) (by decide +kernel) (i % 128) (Nat.mod_lt _ (by decide))
/-- Part 532 of the matrix. -/
theorem l0_532 (i : ℕ) : lit0t0_532 i = tabF (128 * 532 + i % 128) := leafA (fun k => tabF (128 * 532 + k)) (by decide +kernel) (i % 128) (Nat.mod_lt _ (by decide))
/-- Part 533 of the matrix. -/
theorem l0_533 (i : ℕ) : lit0t0_533 i = tabF (128 * 533 + i % 128) := leafA (fun k => tabF (128 * 533 + k)) (by decide +kernel) (i % 128) (Nat.mod_lt _ (by decide))
/-- Part 534 of the matrix. -/
theorem l0_534 (i : ℕ) : lit0t0_534 i = tabF (128 * 534 + i % 128) := leafA (fun k => tabF (128 * 534 + k)) (by decide +kernel) (i % 128) (Nat.mod_lt _ (by decide))
/-- Part 535 of the matrix. -/
theorem l0_535 (i : ℕ) : lit0t0_535 i = tabF (128 * 535 + i % 128) := leafA (fun k => tabF (128 * 535 + k)) (by decide +kernel) (i % 128) (Nat.mod_lt _ (by decide))
/-- Part 536 of the matrix. -/
theorem l0_536 (i : ℕ) : lit0t0_536 i = tabF (128 * 536 + i % 128) := leafA (fun k => tabF (128 * 536 + k)) (by decide +kernel) (i % 128) (Nat.mod_lt _ (by decide))
/-- Part 537 of the matrix. -/
theorem l0_537 (i : ℕ) : lit0t0_537 i = tabF (128 * 537 + i % 128) := leafA (fun k => tabF (128 * 537 + k)) (by decide +kernel) (i % 128) (Nat.mod_lt _ (by decide))
/-- Part 538 of the matrix. -/
theorem l0_538 (i : ℕ) : lit0t0_538 i = tabF (128 * 538 + i % 128) := leafA (fun k => tabF (128 * 538 + k)) (by decide +kernel) (i % 128) (Nat.mod_lt _ (by decide))
/-- Part 539 of the matrix. -/
theorem l0_539 (i : ℕ) : lit0t0_539 i = tabF (128 * 539 + i % 128) := leafA (fun k => tabF (128 * 539 + k)) (by decide +kernel) (i % 128) (Nat.mod_lt _ (by decide))
/-- Part 540 of the matrix. -/
theorem l0_540 (i : ℕ) : lit0t0_540 i = tabF (128 * 540 + i % 128) := leafA (fun k => tabF (128 * 540 + k)) (by decide +kernel) (i % 128) (Nat.mod_lt _ (by decide))
/-- Part 541 of the matrix. -/
theorem l0_541 (i : ℕ) : lit0t0_541 i = tabF (128 * 541 + i % 128) := leafA (fun k => tabF (128 * 541 + k)) (by decide +kernel) (i % 128) (Nat.mod_lt _ (by decide))
/-- Part 542 of the matrix. -/
theorem l0_542 (i : ℕ) : lit0t0_542 i = tabF (128 * 542 + i % 128) := leafA (fun k => tabF (128 * 542 + k)) (by decide +kernel) (i % 128) (Nat.mod_lt _ (by decide))
/-- Part 543 of the matrix. -/
theorem l0_543 (i : ℕ) : lit0t0_543 i = tabF (128 * 543 + i % 128) := leafA (fun k => tabF (128 * 543 + k)) (by decide +kernel) (i % 128) (Nat.mod_lt _ (by decide))
/-- Part 544 of the matrix. -/
theorem l0_544 (i : ℕ) : lit0t0_544 i = tabF (128 * 544 + i % 128) := leafA (fun k => tabF (128 * 544 + k)) (by decide +kernel) (i % 128) (Nat.mod_lt _ (by decide))
/-- Part 545 of the matrix. -/
theorem l0_545 (i : ℕ) : lit0t0_545 i = tabF (128 * 545 + i % 128) := leafA (fun k => tabF (128 * 545 + k)) (by decide +kernel) (i % 128) (Nat.mod_lt _ (by decide))
/-- Part 546 of the matrix. -/
theorem l0_546 (i : ℕ) : lit0t0_546 i = tabF (128 * 546 + i % 128) := leafA (fun k => tabF (128 * 546 + k)) (by decide +kernel) (i % 128) (Nat.mod_lt _ (by decide))
/-- Part 547 of the matrix. -/
theorem l0_547 (i : ℕ) : lit0t0_547 i = tabF (128 * 547 + i % 128) := leafA (fun k => tabF (128 * 547 + k)) (by decide +kernel) (i % 128) (Nat.mod_lt _ (by decide))
/-- Part 548 of the matrix. -/
theorem l0_548 (i : ℕ) : lit0t0_548 i = tabF (128 * 548 + i % 128) := leafA (fun k => tabF (128 * 548 + k)) (by decide +kernel) (i % 128) (Nat.mod_lt _ (by decide))
/-- Part 549 of the matrix. -/
theorem l0_549 (i : ℕ) : lit0t0_549 i = tabF (128 * 549 + i % 128) := leafA (fun k => tabF (128 * 549 + k)) (by decide +kernel) (i % 128) (Nat.mod_lt _ (by decide))
/-- Part 550 of the matrix. -/
theorem l0_550 (i : ℕ) : lit0t0_550 i = tabF (128 * 550 + i % 128) := leafA (fun k => tabF (128 * 550 + k)) (by decide +kernel) (i % 128) (Nat.mod_lt _ (by decide))
/-- Part 551 of the matrix. -/
theorem l0_551 (i : ℕ) : lit0t0_551 i = tabF (128 * 551 + i % 128) := leafA (fun k => tabF (128 * 551 + k)) (by decide +kernel) (i % 128) (Nat.mod_lt _ (by decide))
/-- Part 552 of the matrix. -/
theorem l0_552 (i : ℕ) : lit0t0_552 i = tabF (128 * 552 + i % 128) := leafA (fun k => tabF (128 * 552 + k)) (by decide +kernel) (i % 128) (Nat.mod_lt _ (by decide))
/-- Part 553 of the matrix. -/
theorem l0_553 (i : ℕ) : lit0t0_553 i = tabF (128 * 553 + i % 128) := leafA (fun k => tabF (128 * 553 + k)) (by decide +kernel) (i % 128) (Nat.mod_lt _ (by decide))
/-- Part 554 of the matrix. -/
theorem l0_554 (i : ℕ) : lit0t0_554 i = tabF (128 * 554 + i % 128) := leafA (fun k => tabF (128 * 554 + k)) (by decide +kernel) (i % 128) (Nat.mod_lt _ (by decide))
/-- Part 555 of the matrix. -/
theorem l0_555 (i : ℕ) : lit0t0_555 i = tabF (128 * 555 + i % 128) := leafA (fun k => tabF (128 * 555 + k)) (by decide +kernel) (i % 128) (Nat.mod_lt _ (by decide))
/-- Part 556 of the matrix. -/
theorem l0_556 (i : ℕ) : lit0t0_556 i = tabF (128 * 556 + i % 128) := leafA (fun k => tabF (128 * 556 + k)) (by decide +kernel) (i % 128) (Nat.mod_lt _ (by decide))
/-- Part 557 of the matrix. -/
theorem l0_557 (i : ℕ) : lit0t0_557 i = tabF (128 * 557 + i % 128) := leafA (fun k => tabF (128 * 557 + k)) (by decide +kernel) (i % 128) (Nat.mod_lt _ (by decide))
/-- Part 558 of the matrix. -/
theorem l0_558 (i : ℕ) : lit0t0_558 i = tabF (128 * 558 + i % 128) := leafA (fun k => tabF (128 * 558 + k)) (by decide +kernel) (i % 128) (Nat.mod_lt _ (by decide))
/-- Part 559 of the matrix. -/
theorem l0_559 (i : ℕ) : lit0t0_559 i = tabF (128 * 559 + i % 128) := leafA (fun k => tabF (128 * 559 + k)) (by decide +kernel) (i % 128) (Nat.mod_lt _ (by decide))
/-- Part 560 of the matrix. -/
theorem l0_560 (i : ℕ) : lit0t0_560 i = tabF (128 * 560 + i % 128) := leafA (fun k => tabF (128 * 560 + k)) (by decide +kernel) (i % 128) (Nat.mod_lt _ (by decide))
/-- Part 561 of the matrix. -/
theorem l0_561 (i : ℕ) : lit0t0_561 i = tabF (128 * 561 + i % 128) := leafA (fun k => tabF (128 * 561 + k)) (by decide +kernel) (i % 128) (Nat.mod_lt _ (by decide))
/-- Part 562 of the matrix. -/
theorem l0_562 (i : ℕ) : lit0t0_562 i = tabF (128 * 562 + i % 128) := leafA (fun k => tabF (128 * 562 + k)) (by decide +kernel) (i % 128) (Nat.mod_lt _ (by decide))
/-- Part 563 of the matrix. -/
theorem l0_563 (i : ℕ) : lit0t0_563 i = tabF (128 * 563 + i % 128) := leafA (fun k => tabF (128 * 563 + k)) (by decide +kernel) (i % 128) (Nat.mod_lt _ (by decide))
/-- Part 564 of the matrix. -/
theorem l0_564 (i : ℕ) : lit0t0_564 i = tabF (128 * 564 + i % 128) := leafA (fun k => tabF (128 * 564 + k)) (by decide +kernel) (i % 128) (Nat.mod_lt _ (by decide))
/-- Part 565 of the matrix. -/
theorem l0_565 (i : ℕ) : lit0t0_565 i = tabF (128 * 565 + i % 128) := leafA (fun k => tabF (128 * 565 + k)) (by decide +kernel) (i % 128) (Nat.mod_lt _ (by decide))
/-- Part 566 of the matrix. -/
theorem l0_566 (i : ℕ) : lit0t0_566 i = tabF (128 * 566 + i % 128) := leafA (fun k => tabF (128 * 566 + k)) (by decide +kernel) (i % 128) (Nat.mod_lt _ (by decide))
/-- Part 567 of the matrix. -/
theorem l0_567 (i : ℕ) : lit0t0_567 i = tabF (128 * 567 + i % 128) := leafA (fun k => tabF (128 * 567 + k)) (by decide +kernel) (i % 128) (Nat.mod_lt _ (by decide))
/-- Part 568 of the matrix. -/
theorem l0_568 (i : ℕ) : lit0t0_568 i = tabF (128 * 568 + i % 128) := leafA (fun k => tabF (128 * 568 + k)) (by decide +kernel) (i % 128) (Nat.mod_lt _ (by decide))
/-- Part 569 of the matrix. -/
theorem l0_569 (i : ℕ) : lit0t0_569 i = tabF (128 * 569 + i % 128) := leafA (fun k => tabF (128 * 569 + k)) (by decide +kernel) (i % 128) (Nat.mod_lt _ (by decide))
/-- Part 570 of the matrix. -/
theorem l0_570 (i : ℕ) : lit0t0_570 i = tabF (128 * 570 + i % 128) := leafA (fun k => tabF (128 * 570 + k)) (by decide +kernel) (i % 128) (Nat.mod_lt _ (by decide))
/-- Part 571 of the matrix. -/
theorem l0_571 (i : ℕ) : lit0t0_571 i = tabF (128 * 571 + i % 128) := leafA (fun k => tabF (128 * 571 + k)) (by decide +kernel) (i % 128) (Nat.mod_lt _ (by decide))
/-- Part 572 of the matrix. -/
theorem l0_572 (i : ℕ) : lit0t0_572 i = tabF (128 * 572 + i % 128) := leafA (fun k => tabF (128 * 572 + k)) (by decide +kernel) (i % 128) (Nat.mod_lt _ (by decide))
/-- Part 573 of the matrix. -/
theorem l0_573 (i : ℕ) : lit0t0_573 i = tabF (128 * 573 + i % 128) := leafA (fun k => tabF (128 * 573 + k)) (by decide +kernel) (i % 128) (Nat.mod_lt _ (by decide))
/-- Part 574 of the matrix. -/
theorem l0_574 (i : ℕ) : lit0t0_574 i = tabF (128 * 574 + i % 128) := leafA (fun k => tabF (128 * 574 + k)) (by decide +kernel) (i % 128) (Nat.mod_lt _ (by decide))
/-- Part 575 of the matrix. -/
theorem l0_575 (i : ℕ) : lit0t0_575 i = tabF (128 * 575 + i % 128) := leafA (fun k => tabF (128 * 575 + k)) (by decide +kernel) (i % 128) (Nat.mod_lt _ (by decide))
/-- Part 576 of the matrix. -/
theorem l0_576 (i : ℕ) : lit0t0_576 i = tabF (128 * 576 + i % 128) := leafA (fun k => tabF (128 * 576 + k)) (by decide +kernel) (i % 128) (Nat.mod_lt _ (by decide))
/-- Part 577 of the matrix. -/
theorem l0_577 (i : ℕ) : lit0t0_577 i = tabF (128 * 577 + i % 128) := leafA (fun k => tabF (128 * 577 + k)) (by decide +kernel) (i % 128) (Nat.mod_lt _ (by decide))
/-- Part 578 of the matrix. -/
theorem l0_578 (i : ℕ) : lit0t0_578 i = tabF (128 * 578 + i % 128) := leafA (fun k => tabF (128 * 578 + k)) (by decide +kernel) (i % 128) (Nat.mod_lt _ (by decide))
/-- Part 579 of the matrix. -/
theorem l0_579 (i : ℕ) : lit0t0_579 i = tabF (128 * 579 + i % 128) := leafA (fun k => tabF (128 * 579 + k)) (by decide +kernel) (i % 128) (Nat.mod_lt _ (by decide))
/-- Part 580 of the matrix. -/
theorem l0_580 (i : ℕ) : lit0t0_580 i = tabF (128 * 580 + i % 128) := leafA (fun k => tabF (128 * 580 + k)) (by decide +kernel) (i % 128) (Nat.mod_lt _ (by decide))
/-- Part 581 of the matrix. -/
theorem l0_581 (i : ℕ) : lit0t0_581 i = tabF (128 * 581 + i % 128) := leafA (fun k => tabF (128 * 581 + k)) (by decide +kernel) (i % 128) (Nat.mod_lt _ (by decide))
/-- Part 582 of the matrix. -/
theorem l0_582 (i : ℕ) : lit0t0_582 i = tabF (128 * 582 + i % 128) := leafA (fun k => tabF (128 * 582 + k)) (by decide +kernel) (i % 128) (Nat.mod_lt _ (by decide))
/-- Part 583 of the matrix. -/
theorem l0_583 (i : ℕ) : lit0t0_583 i = tabF (128 * 583 + i % 128) := leafA (fun k => tabF (128 * 583 + k)) (by decide +kernel) (i % 128) (Nat.mod_lt _ (by decide))
/-- Part 584 of the matrix. -/
theorem l0_584 (i : ℕ) : lit0t0_584 i = tabF (128 * 584 + i % 128) := leafA (fun k => tabF (128 * 584 + k)) (by decide +kernel) (i % 128) (Nat.mod_lt _ (by decide))
/-- Part 585 of the matrix. -/
theorem l0_585 (i : ℕ) : lit0t0_585 i = tabF (128 * 585 + i % 128) := leafA (fun k => tabF (128 * 585 + k)) (by decide +kernel) (i % 128) (Nat.mod_lt _ (by decide))
/-- Part 586 of the matrix. -/
theorem l0_586 (i : ℕ) : lit0t0_586 i = tabF (128 * 586 + i % 128) := leafA (fun k => tabF (128 * 586 + k)) (by decide +kernel) (i % 128) (Nat.mod_lt _ (by decide))
/-- Part 587 of the matrix. -/
theorem l0_587 (i : ℕ) : lit0t0_587 i = tabF (128 * 587 + i % 128) := leafA (fun k => tabF (128 * 587 + k)) (by decide +kernel) (i % 128) (Nat.mod_lt _ (by decide))
/-- Part 588 of the matrix. -/
theorem l0_588 (i : ℕ) : lit0t0_588 i = tabF (128 * 588 + i % 128) := leafA (fun k => tabF (128 * 588 + k)) (by decide +kernel) (i % 128) (Nat.mod_lt _ (by decide))
/-- Part 589 of the matrix. -/
theorem l0_589 (i : ℕ) : lit0t0_589 i = tabF (128 * 589 + i % 128) := leafA (fun k => tabF (128 * 589 + k)) (by decide +kernel) (i % 128) (Nat.mod_lt _ (by decide))
/-- Part 590 of the matrix. -/
theorem l0_590 (i : ℕ) : lit0t0_590 i = tabF (128 * 590 + i % 128) := leafA (fun k => tabF (128 * 590 + k)) (by decide +kernel) (i % 128) (Nat.mod_lt _ (by decide))
/-- Part 591 of the matrix. -/
theorem l0_591 (i : ℕ) : lit0t0_591 i = tabF (128 * 591 + i % 128) := leafA (fun k => tabF (128 * 591 + k)) (by decide +kernel) (i % 128) (Nat.mod_lt _ (by decide))
/-- Part 592 of the matrix. -/
theorem l0_592 (i : ℕ) : lit0t0_592 i = tabF (128 * 592 + i % 128) := leafA (fun k => tabF (128 * 592 + k)) (by decide +kernel) (i % 128) (Nat.mod_lt _ (by decide))
/-- Part 593 of the matrix. -/
theorem l0_593 (i : ℕ) : lit0t0_593 i = tabF (128 * 593 + i % 128) := leafA (fun k => tabF (128 * 593 + k)) (by decide +kernel) (i % 128) (Nat.mod_lt _ (by decide))
/-- Part 594 of the matrix. -/
theorem l0_594 (i : ℕ) : lit0t0_594 i = tabF (128 * 594 + i % 128) := leafA (fun k => tabF (128 * 594 + k)) (by decide +kernel) (i % 128) (Nat.mod_lt _ (by decide))
/-- Part 595 of the matrix. -/
theorem l0_595 (i : ℕ) : lit0t0_595 i = tabF (128 * 595 + i % 128) := leafA (fun k => tabF (128 * 595 + k)) (by decide +kernel) (i % 128) (Nat.mod_lt _ (by decide))
/-- Part 596 of the matrix. -/
theorem l0_596 (i : ℕ) : lit0t0_596 i = tabF (128 * 596 + i % 128) := leafA (fun k => tabF (128 * 596 + k)) (by decide +kernel) (i % 128) (Nat.mod_lt _ (by decide))
/-- Part 597 of the matrix. -/
theorem l0_597 (i : ℕ) : lit0t0_597 i = tabF (128 * 597 + i % 128) := leafA (fun k => tabF (128 * 597 + k)) (by decide +kernel) (i % 128) (Nat.mod_lt _ (by decide))
/-- Part 598 of the matrix. -/
theorem l0_598 (i : ℕ) : lit0t0_598 i = tabF (128 * 598 + i % 128) := leafA (fun k => tabF (128 * 598 + k)) (by decide +kernel) (i % 128) (Nat.mod_lt _ (by decide))
/-- Part 599 of the matrix. -/
theorem l0_599 (i : ℕ) : lit0t0_599 i = tabF (128 * 599 + i % 128) := leafA (fun k => tabF (128 * 599 + k)) (by decide +kernel) (i % 128) (Nat.mod_lt _ (by decide))
/-- Part 600 of the matrix. -/
theorem l0_600 (i : ℕ) : lit0t0_600 i = tabF (128 * 600 + i % 128) := leafA (fun k => tabF (128 * 600 + k)) (by decide +kernel) (i % 128) (Nat.mod_lt _ (by decide))
/-- Part 601 of the matrix. -/
theorem l0_601 (i : ℕ) : lit0t0_601 i = tabF (128 * 601 + i % 128) := leafA (fun k => tabF (128 * 601 + k)) (by decide +kernel) (i % 128) (Nat.mod_lt _ (by decide))
/-- Part 602 of the matrix. -/
theorem l0_602 (i : ℕ) : lit0t0_602 i = tabF (128 * 602 + i % 128) := leafA (fun k => tabF (128 * 602 + k)) (by decide +kernel) (i % 128) (Nat.mod_lt _ (by decide))
/-- Part 603 of the matrix. -/
theorem l0_603 (i : ℕ) : lit0t0_603 i = tabF (128 * 603 + i % 128) := leafA (fun k => tabF (128 * 603 + k)) (by decide +kernel) (i % 128) (Nat.mod_lt _ (by decide))
/-- Part 604 of the matrix. -/
theorem l0_604 (i : ℕ) : lit0t0_604 i = tabF (128 * 604 + i % 128) := leafA (fun k => tabF (128 * 604 + k)) (by decide +kernel) (i % 128) (Nat.mod_lt _ (by decide))
/-- Part 605 of the matrix. -/
theorem l0_605 (i : ℕ) : lit0t0_605 i = tabF (128 * 605 + i % 128) := leafA (fun k => tabF (128 * 605 + k)) (by decide +kernel) (i % 128) (Nat.mod_lt _ (by decide))
/-- Part 606 of the matrix. -/
theorem l0_606 (i : ℕ) : lit0t0_606 i = tabF (128 * 606 + i % 128) := leafA (fun k => tabF (128 * 606 + k)) (by decide +kernel) (i % 128) (Nat.mod_lt _ (by decide))
/-- Part 607 of the matrix. -/
theorem l0_607 (i : ℕ) : lit0t0_607 i = tabF (128 * 607 + i % 128) := leafA (fun k => tabF (128 * 607 + k)) (by decide +kernel) (i % 128) (Nat.mod_lt _ (by decide))
/-- Part 608 of the matrix. -/
theorem l0_608 (i : ℕ) : lit0t0_608 i = tabF (128 * 608 + i % 128) := leafA (fun k => tabF (128 * 608 + k)) (by decide +kernel) (i % 128) (Nat.mod_lt _ (by decide))
/-- Part 609 of the matrix. -/
theorem l0_609 (i : ℕ) : lit0t0_609 i = tabF (128 * 609 + i % 128) := leafA (fun k => tabF (128 * 609 + k)) (by decide +kernel) (i % 128) (Nat.mod_lt _ (by decide))
/-- Part 610 of the matrix. -/
theorem l0_610 (i : ℕ) : lit0t0_610 i = tabF (128 * 610 + i % 128) := leafA (fun k => tabF (128 * 610 + k)) (by decide +kernel) (i % 128) (Nat.mod_lt _ (by decide))
/-- Part 611 of the matrix. -/
theorem l0_611 (i : ℕ) : lit0t0_611 i = tabF (128 * 611 + i % 128) := leafA (fun k => tabF (128 * 611 + k)) (by decide +kernel) (i % 128) (Nat.mod_lt _ (by decide))
/-- Part 612 of the matrix. -/
theorem l0_612 (i : ℕ) : lit0t0_612 i = tabF (128 * 612 + i % 128) := leafA (fun k => tabF (128 * 612 + k)) (by decide +kernel) (i % 128) (Nat.mod_lt _ (by decide))
/-- Part 613 of the matrix. -/
theorem l0_613 (i : ℕ) : lit0t0_613 i = tabF (128 * 613 + i % 128) := leafA (fun k => tabF (128 * 613 + k)) (by decide +kernel) (i % 128) (Nat.mod_lt _ (by decide))
/-- Part 614 of the matrix. -/
theorem l0_614 (i : ℕ) : lit0t0_614 i = tabF (128 * 614 + i % 128) := leafA (fun k => tabF (128 * 614 + k)) (by decide +kernel) (i % 128) (Nat.mod_lt _ (by decide))
/-- Part 615 of the matrix. -/
theorem l0_615 (i : ℕ) : lit0t0_615 i = tabF (128 * 615 + i % 128) := leafA (fun k => tabF (128 * 615 + k)) (by decide +kernel) (i % 128) (Nat.mod_lt _ (by decide))
/-- Part 616 of the matrix. -/
theorem l0_616 (i : ℕ) : lit0t0_616 i = tabF (128 * 616 + i % 128) := leafA (fun k => tabF (128 * 616 + k)) (by decide +kernel) (i % 128) (Nat.mod_lt _ (by decide))
/-- Part 617 of the matrix. -/
theorem l0_617 (i : ℕ) : lit0t0_617 i = tabF (128 * 617 + i % 128) := leafA (fun k => tabF (128 * 617 + k)) (by decide +kernel) (i % 128) (Nat.mod_lt _ (by decide))
/-- Part 618 of the matrix. -/
theorem l0_618 (i : ℕ) : lit0t0_618 i = tabF (128 * 618 + i % 128) := leafA (fun k => tabF (128 * 618 + k)) (by decide +kernel) (i % 128) (Nat.mod_lt _ (by decide))
/-- Part 619 of the matrix. -/
theorem l0_619 (i : ℕ) : lit0t0_619 i = tabF (128 * 619 + i % 128) := leafA (fun k => tabF (128 * 619 + k)) (by decide +kernel) (i % 128) (Nat.mod_lt _ (by decide))
/-- Part 620 of the matrix. -/
theorem l0_620 (i : ℕ) : lit0t0_620 i = tabF (128 * 620 + i % 128) := leafA (fun k => tabF (128 * 620 + k)) (by decide +kernel) (i % 128) (Nat.mod_lt _ (by decide))
/-- Part 621 of the matrix. -/
theorem l0_621 (i : ℕ) : lit0t0_621 i = tabF (128 * 621 + i % 128) := leafA (fun k => tabF (128 * 621 + k)) (by decide +kernel) (i % 128) (Nat.mod_lt _ (by decide))
/-- Part 622 of the matrix. -/
theorem l0_622 (i : ℕ) : lit0t0_622 i = tabF (128 * 622 + i % 128) := leafA (fun k => tabF (128 * 622 + k)) (by decide +kernel) (i % 128) (Nat.mod_lt _ (by decide))
/-- Part 623 of the matrix. -/
theorem l0_623 (i : ℕ) : lit0t0_623 i = tabF (128 * 623 + i % 128) := leafA (fun k => tabF (128 * 623 + k)) (by decide +kernel) (i % 128) (Nat.mod_lt _ (by decide))
/-- Part 624 of the matrix. -/
theorem l0_624 (i : ℕ) : lit0t0_624 i = tabF (128 * 624 + i % 128) := leafA (fun k => tabF (128 * 624 + k)) (by decide +kernel) (i % 128) (Nat.mod_lt _ (by decide))
/-- Part 625 of the matrix. -/
theorem l0_625 (i : ℕ) : lit0t0_625 i = tabF (128 * 625 + i % 128) := leafA (fun k => tabF (128 * 625 + k)) (by decide +kernel) (i % 128) (Nat.mod_lt _ (by decide))
/-- Part 626 of the matrix. -/
theorem l0_626 (i : ℕ) : lit0t0_626 i = tabF (128 * 626 + i % 128) := leafA (fun k => tabF (128 * 626 + k)) (by decide +kernel) (i % 128) (Nat.mod_lt _ (by decide))
/-- Part 627 of the matrix. -/
theorem l0_627 (i : ℕ) : lit0t0_627 i = tabF (128 * 627 + i % 128) := leafA (fun k => tabF (128 * 627 + k)) (by decide +kernel) (i % 128) (Nat.mod_lt _ (by decide))
/-- Part 628 of the matrix. -/
theorem l0_628 (i : ℕ) : lit0t0_628 i = tabF (128 * 628 + i % 128) := leafA (fun k => tabF (128 * 628 + k)) (by decide +kernel) (i % 128) (Nat.mod_lt _ (by decide))
/-- Part 629 of the matrix. -/
theorem l0_629 (i : ℕ) : lit0t0_629 i = tabF (128 * 629 + i % 128) := leafA (fun k => tabF (128 * 629 + k)) (by decide +kernel) (i % 128) (Nat.mod_lt _ (by decide))
/-- Part 630 of the matrix. -/
theorem l0_630 (i : ℕ) : lit0t0_630 i = tabF (128 * 630 + i % 128) := leafA (fun k => tabF (128 * 630 + k)) (by decide +kernel) (i % 128) (Nat.mod_lt _ (by decide))
/-- Part 631 of the matrix. -/
theorem l0_631 (i : ℕ) : lit0t0_631 i = tabF (128 * 631 + i % 128) := leafA (fun k => tabF (128 * 631 + k)) (by decide +kernel) (i % 128) (Nat.mod_lt _ (by decide))
/-- Part 632 of the matrix. -/
theorem l0_632 (i : ℕ) : lit0t0_632 i = tabF (128 * 632 + i % 128) := leafA (fun k => tabF (128 * 632 + k)) (by decide +kernel) (i % 128) (Nat.mod_lt _ (by decide))
/-- Part 633 of the matrix. -/
theorem l0_633 (i : ℕ) : lit0t0_633 i = tabF (128 * 633 + i % 128) := leafA (fun k => tabF (128 * 633 + k)) (by decide +kernel) (i % 128) (Nat.mod_lt _ (by decide))
/-- Part 634 of the matrix. -/
theorem l0_634 (i : ℕ) : lit0t0_634 i = tabF (128 * 634 + i % 128) := leafA (fun k => tabF (128 * 634 + k)) (by decide +kernel) (i % 128) (Nat.mod_lt _ (by decide))
/-- Part 635 of the matrix. -/
theorem l0_635 (i : ℕ) : lit0t0_635 i = tabF (128 * 635 + i % 128) := leafA (fun k => tabF (128 * 635 + k)) (by decide +kernel) (i % 128) (Nat.mod_lt _ (by decide))
/-- Part 636 of the matrix. -/
theorem l0_636 (i : ℕ) : lit0t0_636 i = tabF (128 * 636 + i % 128) := leafA (fun k => tabF (128 * 636 + k)) (by decide +kernel) (i % 128) (Nat.mod_lt _ (by decide))
/-- Part 637 of the matrix. -/
theorem l0_637 (i : ℕ) : lit0t0_637 i = tabF (128 * 637 + i % 128) := leafA (fun k => tabF (128 * 637 + k)) (by decide +kernel) (i % 128) (Nat.mod_lt _ (by decide))
/-- Part 638 of the matrix. -/
theorem l0_638 (i : ℕ) : lit0t0_638 i = tabF (128 * 638 + i % 128) := leafA (fun k => tabF (128 * 638 + k)) (by decide +kernel) (i % 128) (Nat.mod_lt _ (by decide))
/-- Part 639 of the matrix. -/
theorem l0_639 (i : ℕ) : lit0t0_639 i = tabF (128 * 639 + i % 128) := leafA (fun k => tabF (128 * 639 + k)) (by decide +kernel) (i % 128) (Nat.mod_lt _ (by decide))
/-- Part 640 of the matrix. -/
theorem l0_640 (i : ℕ) : lit0t0_640 i = tabF (128 * 640 + i % 128) := leafA (fun k => tabF (128 * 640 + k)) (by decide +kernel) (i % 128) (Nat.mod_lt _ (by decide))
/-- Part 641 of the matrix. -/
theorem l0_641 (i : ℕ) : lit0t0_641 i = tabF (128 * 641 + i % 128) := leafA (fun k => tabF (128 * 641 + k)) (by decide +kernel) (i % 128) (Nat.mod_lt _ (by decide))
/-- Part 642 of the matrix. -/
theorem l0_642 (i : ℕ) : lit0t0_642 i = tabF (128 * 642 + i % 128) := leafA (fun k => tabF (128 * 642 + k)) (by decide +kernel) (i % 128) (Nat.mod_lt _ (by decide))
/-- Part 643 of the matrix. -/
theorem l0_643 (i : ℕ) : lit0t0_643 i = tabF (128 * 643 + i % 128) := leafA (fun k => tabF (128 * 643 + k)) (by decide +kernel) (i % 128) (Nat.mod_lt _ (by decide))
/-- Part 644 of the matrix. -/
theorem l0_644 (i : ℕ) : lit0t0_644 i = tabF (128 * 644 + i % 128) := leafA (fun k => tabF (128 * 644 + k)) (by decide +kernel) (i % 128) (Nat.mod_lt _ (by decide))
/-- Part 645 of the matrix. -/
theorem l0_645 (i : ℕ) : lit0t0_645 i = tabF (128 * 645 + i % 128) := leafA (fun k => tabF (128 * 645 + k)) (by decide +kernel) (i % 128) (Nat.mod_lt _ (by decide))
/-- Part 646 of the matrix. -/
theorem l0_646 (i : ℕ) : lit0t0_646 i = tabF (128 * 646 + i % 128) := leafA (fun k => tabF (128 * 646 + k)) (by decide +kernel) (i % 128) (Nat.mod_lt _ (by decide))
/-- Part 647 of the matrix. -/
theorem l0_647 (i : ℕ) : lit0t0_647 i = tabF (128 * 647 + i % 128) := leafA (fun k => tabF (128 * 647 + k)) (by decide +kernel) (i % 128) (Nat.mod_lt _ (by decide))
/-- Part 648 of the matrix. -/
theorem l0_648 (i : ℕ) : lit0t0_648 i = tabF (128 * 648 + i % 128) := leafA (fun k => tabF (128 * 648 + k)) (by decide +kernel) (i % 128) (Nat.mod_lt _ (by decide))
/-- Part 649 of the matrix. -/
theorem l0_649 (i : ℕ) : lit0t0_649 i = tabF (128 * 649 + i % 128) := leafA (fun k => tabF (128 * 649 + k)) (by decide +kernel) (i % 128) (Nat.mod_lt _ (by decide))
/-- Part 650 of the matrix. -/
theorem l0_650 (i : ℕ) : lit0t0_650 i = tabF (128 * 650 + i % 128) := leafA (fun k => tabF (128 * 650 + k)) (by decide +kernel) (i % 128) (Nat.mod_lt _ (by decide))
/-- Part 651 of the matrix. -/
theorem l0_651 (i : ℕ) : lit0t0_651 i = tabF (128 * 651 + i % 128) := leafA (fun k => tabF (128 * 651 + k)) (by decide +kernel) (i % 128) (Nat.mod_lt _ (by decide))
/-- Part 652 of the matrix. -/
theorem l0_652 (i : ℕ) : lit0t0_652 i = tabF (128 * 652 + i % 128) := leafA (fun k => tabF (128 * 652 + k)) (by decide +kernel) (i % 128) (Nat.mod_lt _ (by decide))
/-- Part 653 of the matrix. -/
theorem l0_653 (i : ℕ) : lit0t0_653 i = tabF (128 * 653 + i % 128) := leafA (fun k => tabF (128 * 653 + k)) (by decide +kernel) (i % 128) (Nat.mod_lt _ (by decide))
/-- Part 654 of the matrix. -/
theorem l0_654 (i : ℕ) : lit0t0_654 i = tabF (128 * 654 + i % 128) := leafA (fun k => tabF (128 * 654 + k)) (by decide +kernel) (i % 128) (Nat.mod_lt _ (by decide))
/-- Part 655 of the matrix. -/
theorem l0_655 (i : ℕ) : lit0t0_655 i = tabF (128 * 655 + i % 128) := leafA (fun k => tabF (128 * 655 + k)) (by decide +kernel) (i % 128) (Nat.mod_lt _ (by decide))
/-- Part 656 of the matrix. -/
theorem l0_656 (i : ℕ) : lit0t0_656 i = tabF (128 * 656 + i % 128) := leafA (fun k => tabF (128 * 656 + k)) (by decide +kernel) (i % 128) (Nat.mod_lt _ (by decide))
/-- Part 657 of the matrix. -/
theorem l0_657 (i : ℕ) : lit0t0_657 i = tabF (128 * 657 + i % 128) := leafA (fun k => tabF (128 * 657 + k)) (by decide +kernel) (i % 128) (Nat.mod_lt _ (by decide))
/-- Part 658 of the matrix. -/
theorem l0_658 (i : ℕ) : lit0t0_658 i = tabF (128 * 658 + i % 128) := leafA (fun k => tabF (128 * 658 + k)) (by decide +kernel) (i % 128) (Nat.mod_lt _ (by decide))
/-- Part 659 of the matrix. -/
theorem l0_659 (i : ℕ) : lit0t0_659 i = tabF (128 * 659 + i % 128) := leafA (fun k => tabF (128 * 659 + k)) (by decide +kernel) (i % 128) (Nat.mod_lt _ (by decide))
/-- Part 660 of the matrix. -/
theorem l0_660 (i : ℕ) : lit0t0_660 i = tabF (128 * 660 + i % 128) := leafA (fun k => tabF (128 * 660 + k)) (by decide +kernel) (i % 128) (Nat.mod_lt _ (by decide))
/-- Part 661 of the matrix. -/
theorem l0_661 (i : ℕ) : lit0t0_661 i = tabF (128 * 661 + i % 128) := leafA (fun k => tabF (128 * 661 + k)) (by decide +kernel) (i % 128) (Nat.mod_lt _ (by decide))
/-- Part 662 of the matrix. -/
theorem l0_662 (i : ℕ) : lit0t0_662 i = tabF (128 * 662 + i % 128) := leafA (fun k => tabF (128 * 662 + k)) (by decide +kernel) (i % 128) (Nat.mod_lt _ (by decide))
/-- Part 663 of the matrix. -/
theorem l0_663 (i : ℕ) : lit0t0_663 i = tabF (128 * 663 + i % 128) := leafA (fun k => tabF (128 * 663 + k)) (by decide +kernel) (i % 128) (Nat.mod_lt _ (by decide))
/-- Part 664 of the matrix. -/
theorem l0_664 (i : ℕ) : lit0t0_664 i = tabF (128 * 664 + i % 128) := leafA (fun k => tabF (128 * 664 + k)) (by decide +kernel) (i % 128) (Nat.mod_lt _ (by decide))
/-- Part 665 of the matrix. -/
theorem l0_665 (i : ℕ) : lit0t0_665 i = tabF (128 * 665 + i % 128) := leafA (fun k => tabF (128 * 665 + k)) (by decide +kernel) (i % 128) (Nat.mod_lt _ (by decide))
/-- Part 666 of the matrix. -/
theorem l0_666 (i : ℕ) : lit0t0_666 i = tabF (128 * 666 + i % 128) := leafA (fun k => tabF (128 * 666 + k)) (by decide +kernel) (i % 128) (Nat.mod_lt _ (by decide))
/-- Part 667 of the matrix. -/
theorem l0_667 (i : ℕ) : lit0t0_667 i = tabF (128 * 667 + i % 128) := leafA (fun k => tabF (128 * 667 + k)) (by decide +kernel) (i % 128) (Nat.mod_lt _ (by decide))
/-- Part 668 of the matrix. -/
theorem l0_668 (i : ℕ) : lit0t0_668 i = tabF (128 * 668 + i % 128) := leafA (fun k => tabF (128 * 668 + k)) (by decide +kernel) (i % 128) (Nat.mod_lt _ (by decide))
/-- Part 669 of the matrix. -/
theorem l0_669 (i : ℕ) : lit0t0_669 i = tabF (128 * 669 + i % 128) := leafA (fun k => tabF (128 * 669 + k)) (by decide +kernel) (i % 128) (Nat.mod_lt _ (by decide))
/-- Part 670 of the matrix. -/
theorem l0_670 (i : ℕ) : lit0t0_670 i = tabF (128 * 670 + i % 128) := leafA (fun k => tabF (128 * 670 + k)) (by decide +kernel) (i % 128) (Nat.mod_lt _ (by decide))
/-- Part 671 of the matrix. -/
theorem l0_671 (i : ℕ) : lit0t0_671 i = tabF (128 * 671 + i % 128) := leafA (fun k => tabF (128 * 671 + k)) (by decide +kernel) (i % 128) (Nat.mod_lt _ (by decide))
/-- Part 672 of the matrix. -/
theorem l0_672 (i : ℕ) : lit0t0_672 i = tabF (128 * 672 + i % 128) := leafA (fun k => tabF (128 * 672 + k)) (by decide +kernel) (i % 128) (Nat.mod_lt _ (by decide))
/-- Part 673 of the matrix. -/
theorem l0_673 (i : ℕ) : lit0t0_673 i = tabF (128 * 673 + i % 128) := leafA (fun k => tabF (128 * 673 + k)) (by decide +kernel) (i % 128) (Nat.mod_lt _ (by decide))
/-- Part 674 of the matrix. -/
theorem l0_674 (i : ℕ) : lit0t0_674 i = tabF (128 * 674 + i % 128) := leafA (fun k => tabF (128 * 674 + k)) (by decide +kernel) (i % 128) (Nat.mod_lt _ (by decide))
/-- Part 675 of the matrix. -/
theorem l0_675 (i : ℕ) : lit0t0_675 i = tabF (128 * 675 + i % 128) := leafA (fun k => tabF (128 * 675 + k)) (by decide +kernel) (i % 128) (Nat.mod_lt _ (by decide))
/-- Part 676 of the matrix. -/
theorem l0_676 (i : ℕ) : lit0t0_676 i = tabF (128 * 676 + i % 128) := leafA (fun k => tabF (128 * 676 + k)) (by decide +kernel) (i % 128) (Nat.mod_lt _ (by decide))
/-- Part 677 of the matrix. -/
theorem l0_677 (i : ℕ) : lit0t0_677 i = tabF (128 * 677 + i % 128) := leafA (fun k => tabF (128 * 677 + k)) (by decide +kernel) (i % 128) (Nat.mod_lt _ (by decide))
/-- Part 678 of the matrix. -/
theorem l0_678 (i : ℕ) : lit0t0_678 i = tabF (128 * 678 + i % 128) := leafA (fun k => tabF (128 * 678 + k)) (by decide +kernel) (i % 128) (Nat.mod_lt _ (by decide))
/-- Part 679 of the matrix. -/
theorem l0_679 (i : ℕ) : lit0t0_679 i = tabF (128 * 679 + i % 128) := leafA (fun k => tabF (128 * 679 + k)) (by decide +kernel) (i % 128) (Nat.mod_lt _ (by decide))
/-- Part 680 of the matrix. -/
theorem l0_680 (i : ℕ) : lit0t0_680 i = tabF (128 * 680 + i % 128) := leafA (fun k => tabF (128 * 680 + k)) (by decide +kernel) (i % 128) (Nat.mod_lt _ (by decide))
/-- Part 681 of the matrix. -/
theorem l0_681 (i : ℕ) : lit0t0_681 i = tabF (128 * 681 + i % 128) := leafA (fun k => tabF (128 * 681 + k)) (by decide +kernel) (i % 128) (Nat.mod_lt _ (by decide))
/-- Part 682 of the matrix. -/
theorem l0_682 (i : ℕ) : lit0t0_682 i = tabF (128 * 682 + i % 128) := leafA (fun k => tabF (128 * 682 + k)) (by decide +kernel) (i % 128) (Nat.mod_lt _ (by decide))
/-- Part 683 of the matrix. -/
theorem l0_683 (i : ℕ) : lit0t0_683 i = tabF (128 * 683 + i % 128) := leafA (fun k => tabF (128 * 683 + k)) (by decide +kernel) (i % 128) (Nat.mod_lt _ (by decide))
/-- Part 684 of the matrix. -/
theorem l0_684 (i : ℕ) : lit0t0_684 i = tabF (128 * 684 + i % 128) := leafA (fun k => tabF (128 * 684 + k)) (by decide +kernel) (i % 128) (Nat.mod_lt _ (by decide))
/-- Part 685 of the matrix. -/
theorem l0_685 (i : ℕ) : lit0t0_685 i = tabF (128 * 685 + i % 128) := leafA (fun k => tabF (128 * 685 + k)) (by decide +kernel) (i % 128) (Nat.mod_lt _ (by decide))
/-- Part 686 of the matrix. -/
theorem l0_686 (i : ℕ) : lit0t0_686 i = tabF (128 * 686 + i % 128) := leafA (fun k => tabF (128 * 686 + k)) (by decide +kernel) (i % 128) (Nat.mod_lt _ (by decide))
/-- Part 687 of the matrix. -/
theorem l0_687 (i : ℕ) : lit0t0_687 i = tabF (128 * 687 + i % 128) := leafA (fun k => tabF (128 * 687 + k)) (by decide +kernel) (i % 128) (Nat.mod_lt _ (by decide))
/-- Part 688 of the matrix. -/
theorem l0_688 (i : ℕ) : lit0t0_688 i = tabF (128 * 688 + i % 128) := leafA (fun k => tabF (128 * 688 + k)) (by decide +kernel) (i % 128) (Nat.mod_lt _ (by decide))
/-- Part 689 of the matrix. -/
theorem l0_689 (i : ℕ) : lit0t0_689 i = tabF (128 * 689 + i % 128) := leafA (fun k => tabF (128 * 689 + k)) (by decide +kernel) (i % 128) (Nat.mod_lt _ (by decide))
/-- Part 690 of the matrix. -/
theorem l0_690 (i : ℕ) : lit0t0_690 i = tabF (128 * 690 + i % 128) := leafA (fun k => tabF (128 * 690 + k)) (by decide +kernel) (i % 128) (Nat.mod_lt _ (by decide))
/-- Part 691 of the matrix. -/
theorem l0_691 (i : ℕ) : lit0t0_691 i = tabF (128 * 691 + i % 128) := leafA (fun k => tabF (128 * 691 + k)) (by decide +kernel) (i % 128) (Nat.mod_lt _ (by decide))
/-- Part 692 of the matrix. -/
theorem l0_692 (i : ℕ) : lit0t0_692 i = tabF (128 * 692 + i % 128) := leafA (fun k => tabF (128 * 692 + k)) (by decide +kernel) (i % 128) (Nat.mod_lt _ (by decide))
/-- Part 693 of the matrix. -/
theorem l0_693 (i : ℕ) : lit0t0_693 i = tabF (128 * 693 + i % 128) := leafA (fun k => tabF (128 * 693 + k)) (by decide +kernel) (i % 128) (Nat.mod_lt _ (by decide))
/-- Part 694 of the matrix. -/
theorem l0_694 (i : ℕ) : lit0t0_694 i = tabF (128 * 694 + i % 128) := leafA (fun k => tabF (128 * 694 + k)) (by decide +kernel) (i % 128) (Nat.mod_lt _ (by decide))
/-- Part 695 of the matrix. -/
theorem l0_695 (i : ℕ) : lit0t0_695 i = tabF (128 * 695 + i % 128) := leafA (fun k => tabF (128 * 695 + k)) (by decide +kernel) (i % 128) (Nat.mod_lt _ (by decide))
/-- Part 696 of the matrix. -/
theorem l0_696 (i : ℕ) : lit0t0_696 i = tabF (128 * 696 + i % 128) := leafA (fun k => tabF (128 * 696 + k)) (by decide +kernel) (i % 128) (Nat.mod_lt _ (by decide))
/-- Part 697 of the matrix. -/
theorem l0_697 (i : ℕ) : lit0t0_697 i = tabF (128 * 697 + i % 128) := leafA (fun k => tabF (128 * 697 + k)) (by decide +kernel) (i % 128) (Nat.mod_lt _ (by decide))
/-- Part 698 of the matrix. -/
theorem l0_698 (i : ℕ) : lit0t0_698 i = tabF (128 * 698 + i % 128) := leafA (fun k => tabF (128 * 698 + k)) (by decide +kernel) (i % 128) (Nat.mod_lt _ (by decide))
/-- Part 699 of the matrix. -/
theorem l0_699 (i : ℕ) : lit0t0_699 i = tabF (128 * 699 + i % 128) := leafA (fun k => tabF (128 * 699 + k)) (by decide +kernel) (i % 128) (Nat.mod_lt _ (by decide))
/-- Part 700 of the matrix. -/
theorem l0_700 (i : ℕ) : lit0t0_700 i = tabF (128 * 700 + i % 128) := leafA (fun k => tabF (128 * 700 + k)) (by decide +kernel) (i % 128) (Nat.mod_lt _ (by decide))
/-- Part 701 of the matrix. -/
theorem l0_701 (i : ℕ) : lit0t0_701 i = tabF (128 * 701 + i % 128) := leafA (fun k => tabF (128 * 701 + k)) (by decide +kernel) (i % 128) (Nat.mod_lt _ (by decide))
/-- Part 702 of the matrix. -/
theorem l0_702 (i : ℕ) : lit0t0_702 i = tabF (128 * 702 + i % 128) := leafA (fun k => tabF (128 * 702 + k)) (by decide +kernel) (i % 128) (Nat.mod_lt _ (by decide))
/-- Part 703 of the matrix. -/
theorem l0_703 (i : ℕ) : lit0t0_703 i = tabF (128 * 703 + i % 128) := leafA (fun k => tabF (128 * 703 + k)) (by decide +kernel) (i % 128) (Nat.mod_lt _ (by decide))
/-- Part 704 of the matrix. -/
theorem l0_704 (i : ℕ) : lit0t0_704 i = tabF (128 * 704 + i % 128) := leafA (fun k => tabF (128 * 704 + k)) (by decide +kernel) (i % 128) (Nat.mod_lt _ (by decide))
/-- Part 705 of the matrix. -/
theorem l0_705 (i : ℕ) : lit0t0_705 i = tabF (128 * 705 + i % 128) := leafA (fun k => tabF (128 * 705 + k)) (by decide +kernel) (i % 128) (Nat.mod_lt _ (by decide))
/-- Part 706 of the matrix. -/
theorem l0_706 (i : ℕ) : lit0t0_706 i = tabF (128 * 706 + i % 128) := leafA (fun k => tabF (128 * 706 + k)) (by decide +kernel) (i % 128) (Nat.mod_lt _ (by decide))
/-- Part 707 of the matrix. -/
theorem l0_707 (i : ℕ) : lit0t0_707 i = tabF (128 * 707 + i % 128) := leafA (fun k => tabF (128 * 707 + k)) (by decide +kernel) (i % 128) (Nat.mod_lt _ (by decide))
/-- Part 708 of the matrix. -/
theorem l0_708 (i : ℕ) : lit0t0_708 i = tabF (128 * 708 + i % 128) := leafA (fun k => tabF (128 * 708 + k)) (by decide +kernel) (i % 128) (Nat.mod_lt _ (by decide))
/-- Part 709 of the matrix. -/
theorem l0_709 (i : ℕ) : lit0t0_709 i = tabF (128 * 709 + i % 128) := leafA (fun k => tabF (128 * 709 + k)) (by decide +kernel) (i % 128) (Nat.mod_lt _ (by decide))
/-- Part 710 of the matrix. -/
theorem l0_710 (i : ℕ) : lit0t0_710 i = tabF (128 * 710 + i % 128) := leafA (fun k => tabF (128 * 710 + k)) (by decide +kernel) (i % 128) (Nat.mod_lt _ (by decide))
/-- Part 711 of the matrix. -/
theorem l0_711 (i : ℕ) : lit0t0_711 i = tabF (128 * 711 + i % 128) := leafA (fun k => tabF (128 * 711 + k)) (by decide +kernel) (i % 128) (Nat.mod_lt _ (by decide))
/-- Part 712 of the matrix. -/
theorem l0_712 (i : ℕ) : lit0t0_712 i = tabF (128 * 712 + i % 128) := leafA (fun k => tabF (128 * 712 + k)) (by decide +kernel) (i % 128) (Nat.mod_lt _ (by decide))
/-- Part 713 of the matrix. -/
theorem l0_713 (i : ℕ) : lit0t0_713 i = tabF (128 * 713 + i % 128) := leafA (fun k => tabF (128 * 713 + k)) (by decide +kernel) (i % 128) (Nat.mod_lt _ (by decide))
/-- Part 714 of the matrix. -/
theorem l0_714 (i : ℕ) : lit0t0_714 i = tabF (128 * 714 + i % 128) := leafA (fun k => tabF (128 * 714 + k)) (by decide +kernel) (i % 128) (Nat.mod_lt _ (by decide))
/-- Part 715 of the matrix. -/
theorem l0_715 (i : ℕ) : lit0t0_715 i = tabF (128 * 715 + i % 128) := leafA (fun k => tabF (128 * 715 + k)) (by decide +kernel) (i % 128) (Nat.mod_lt _ (by decide))
/-- Part 716 of the matrix. -/
theorem l0_716 (i : ℕ) : lit0t0_716 i = tabF (128 * 716 + i % 128) := leafA (fun k => tabF (128 * 716 + k)) (by decide +kernel) (i % 128) (Nat.mod_lt _ (by decide))
/-- Part 717 of the matrix. -/
theorem l0_717 (i : ℕ) : lit0t0_717 i = tabF (128 * 717 + i % 128) := leafA (fun k => tabF (128 * 717 + k)) (by decide +kernel) (i % 128) (Nat.mod_lt _ (by decide))
/-- Part 718 of the matrix. -/
theorem l0_718 (i : ℕ) : lit0t0_718 i = tabF (128 * 718 + i % 128) := leafA (fun k => tabF (128 * 718 + k)) (by decide +kernel) (i % 128) (Nat.mod_lt _ (by decide))
/-- Part 719 of the matrix. -/
theorem l0_719 (i : ℕ) : lit0t0_719 i = tabF (128 * 719 + i % 128) := leafA (fun k => tabF (128 * 719 + k)) (by decide +kernel) (i % 128) (Nat.mod_lt _ (by decide))
/-- Part 720 of the matrix. -/
theorem l0_720 (i : ℕ) : lit0t0_720 i = tabF (128 * 720 + i % 128) := leafA (fun k => tabF (128 * 720 + k)) (by decide +kernel) (i % 128) (Nat.mod_lt _ (by decide))
/-- Part 721 of the matrix. -/
theorem l0_721 (i : ℕ) : lit0t0_721 i = tabF (128 * 721 + i % 128) := leafA (fun k => tabF (128 * 721 + k)) (by decide +kernel) (i % 128) (Nat.mod_lt _ (by decide))
/-- Part 722 of the matrix. -/
theorem l0_722 (i : ℕ) : lit0t0_722 i = tabF (128 * 722 + i % 128) := leafA (fun k => tabF (128 * 722 + k)) (by decide +kernel) (i % 128) (Nat.mod_lt _ (by decide))
/-- Part 723 of the matrix. -/
theorem l0_723 (i : ℕ) : lit0t0_723 i = tabF (128 * 723 + i % 128) := leafA (fun k => tabF (128 * 723 + k)) (by decide +kernel) (i % 128) (Nat.mod_lt _ (by decide))
/-- Part 724 of the matrix. -/
theorem l0_724 (i : ℕ) : lit0t0_724 i = tabF (128 * 724 + i % 128) := leafA (fun k => tabF (128 * 724 + k)) (by decide +kernel) (i % 128) (Nat.mod_lt _ (by decide))
/-- Part 725 of the matrix. -/
theorem l0_725 (i : ℕ) : lit0t0_725 i = tabF (128 * 725 + i % 128) := leafA (fun k => tabF (128 * 725 + k)) (by decide +kernel) (i % 128) (Nat.mod_lt _ (by decide))
/-- Part 726 of the matrix. -/
theorem l0_726 (i : ℕ) : lit0t0_726 i = tabF (128 * 726 + i % 128) := leafA (fun k => tabF (128 * 726 + k)) (by decide +kernel) (i % 128) (Nat.mod_lt _ (by decide))
/-- Part 727 of the matrix. -/
theorem l0_727 (i : ℕ) : lit0t0_727 i = tabF (128 * 727 + i % 128) := leafA (fun k => tabF (128 * 727 + k)) (by decide +kernel) (i % 128) (Nat.mod_lt _ (by decide))
/-- Part 728 of the matrix. -/
theorem l0_728 (i : ℕ) : lit0t0_728 i = tabF (128 * 728 + i % 128) := leafA (fun k => tabF (128 * 728 + k)) (by decide +kernel) (i % 128) (Nat.mod_lt _ (by decide))
/-- Part 729 of the matrix. -/
theorem l0_729 (i : ℕ) : lit0t0_729 i = tabF (128 * 729 + i % 128) := leafA (fun k => tabF (128 * 729 + k)) (by decide +kernel) (i % 128) (Nat.mod_lt _ (by decide))
/-- Part 730 of the matrix. -/
theorem l0_730 (i : ℕ) : lit0t0_730 i = tabF (128 * 730 + i % 128) := leafA (fun k => tabF (128 * 730 + k)) (by decide +kernel) (i % 128) (Nat.mod_lt _ (by decide))
/-- Part 731 of the matrix. -/
theorem l0_731 (i : ℕ) : lit0t0_731 i = tabF (128 * 731 + i % 128) := leafA (fun k => tabF (128 * 731 + k)) (by decide +kernel) (i % 128) (Nat.mod_lt _ (by decide))
/-- Part 732 of the matrix. -/
theorem l0_732 (i : ℕ) : lit0t0_732 i = tabF (128 * 732 + i % 128) := leafA (fun k => tabF (128 * 732 + k)) (by decide +kernel) (i % 128) (Nat.mod_lt _ (by decide))
/-- Part 733 of the matrix. -/
theorem l0_733 (i : ℕ) : lit0t0_733 i = tabF (128 * 733 + i % 128) := leafA (fun k => tabF (128 * 733 + k)) (by decide +kernel) (i % 128) (Nat.mod_lt _ (by decide))
/-- Part 734 of the matrix. -/
theorem l0_734 (i : ℕ) : lit0t0_734 i = tabF (128 * 734 + i % 128) := leafA (fun k => tabF (128 * 734 + k)) (by decide +kernel) (i % 128) (Nat.mod_lt _ (by decide))
/-- Part 735 of the matrix. -/
theorem l0_735 (i : ℕ) : lit0t0_735 i = tabF (128 * 735 + i % 128) := leafA (fun k => tabF (128 * 735 + k)) (by decide +kernel) (i % 128) (Nat.mod_lt _ (by decide))
/-- Part 736 of the matrix. -/
theorem l0_736 (i : ℕ) : lit0t0_736 i = tabF (128 * 736 + i % 128) := leafA (fun k => tabF (128 * 736 + k)) (by decide +kernel) (i % 128) (Nat.mod_lt _ (by decide))
/-- Part 737 of the matrix. -/
theorem l0_737 (i : ℕ) : lit0t0_737 i = tabF (128 * 737 + i % 128) := leafA (fun k => tabF (128 * 737 + k)) (by decide +kernel) (i % 128) (Nat.mod_lt _ (by decide))
/-- Part 738 of the matrix. -/
theorem l0_738 (i : ℕ) : lit0t0_738 i = tabF (128 * 738 + i % 128) := leafA (fun k => tabF (128 * 738 + k)) (by decide +kernel) (i % 128) (Nat.mod_lt _ (by decide))
/-- Part 739 of the matrix. -/
theorem l0_739 (i : ℕ) : lit0t0_739 i = tabF (128 * 739 + i % 128) := leafA (fun k => tabF (128 * 739 + k)) (by decide +kernel) (i % 128) (Nat.mod_lt _ (by decide))
/-- Part 740 of the matrix. -/
theorem l0_740 (i : ℕ) : lit0t0_740 i = tabF (128 * 740 + i % 128) := leafA (fun k => tabF (128 * 740 + k)) (by decide +kernel) (i % 128) (Nat.mod_lt _ (by decide))
/-- Part 741 of the matrix. -/
theorem l0_741 (i : ℕ) : lit0t0_741 i = tabF (128 * 741 + i % 128) := leafA (fun k => tabF (128 * 741 + k)) (by decide +kernel) (i % 128) (Nat.mod_lt _ (by decide))
/-- Part 742 of the matrix. -/
theorem l0_742 (i : ℕ) : lit0t0_742 i = tabF (128 * 742 + i % 128) := leafB (fun k => tabF (128 * 742 + k)) (by decide +kernel) (i % 128) (Nat.mod_lt _ (by decide))
/-- Part 743 of the matrix. -/
theorem l0_743 (i : ℕ) : lit0t0_743 i = tabF (128 * 743 + i % 128) := leafB (fun k => tabF (128 * 743 + k)) (by decide +kernel) (i % 128) (Nat.mod_lt _ (by decide))
/-- Part 744 of the matrix. -/
theorem l0_744 (i : ℕ) : lit0t0_744 i = tabF (128 * 744 + i % 128) := leafB (fun k => tabF (128 * 744 + k)) (by decide +kernel) (i % 128) (Nat.mod_lt _ (by decide))
/-- Part 745 of the matrix. -/
theorem l0_745 (i : ℕ) : lit0t0_745 i = tabF (128 * 745 + i % 128) := leafB (fun k => tabF (128 * 745 + k)) (by decide +kernel) (i % 128) (Nat.mod_lt _ (by decide))
/-- Part 746 of the matrix. -/
theorem l0_746 (i : ℕ) : lit0t0_746 i = tabF (128 * 746 + i % 128) := leafB (fun k => tabF (128 * 746 + k)) (by decide +kernel) (i % 128) (Nat.mod_lt _ (by decide))
/-- Part 747 of the matrix. -/
theorem l0_747 (i : ℕ) : lit0t0_747 i = tabF (128 * 747 + i % 128) := leafB (fun k => tabF (128 * 747 + k)) (by decide +kernel) (i % 128) (Nat.mod_lt _ (by decide))
/-- Part 748 of the matrix. -/
theorem l0_748 (i : ℕ) : lit0t0_748 i = tabF (128 * 748 + i % 128) := leafB (fun k => tabF (128 * 748 + k)) (by decide +kernel) (i % 128) (Nat.mod_lt _ (by decide))
/-- Part 749 of the matrix. -/
theorem l0_749 (i : ℕ) : lit0t0_749 i = tabF (128 * 749 + i % 128) := leafB (fun k => tabF (128 * 749 + k)) (by decide +kernel) (i % 128) (Nat.mod_lt _ (by decide))
/-- Part 750 of the matrix. -/
theorem l0_750 (i : ℕ) : lit0t0_750 i = tabF (128 * 750 + i % 128) := leafB (fun k => tabF (128 * 750 + k)) (by decide +kernel) (i % 128) (Nat.mod_lt _ (by decide))
/-- Part 751 of the matrix. -/
theorem l0_751 (i : ℕ) : lit0t0_751 i = tabF (128 * 751 + i % 128) := leafB (fun k => tabF (128 * 751 + k)) (by decide +kernel) (i % 128) (Nat.mod_lt _ (by decide))
/-- Part 752 of the matrix. -/
theorem l0_752 (i : ℕ) : lit0t0_752 i = tabF (128 * 752 + i % 128) := leafB (fun k => tabF (128 * 752 + k)) (by decide +kernel) (i % 128) (Nat.mod_lt _ (by decide))
/-- Part 753 of the matrix. -/
theorem l0_753 (i : ℕ) : lit0t0_753 i = tabF (128 * 753 + i % 128) := leafB (fun k => tabF (128 * 753 + k)) (by decide +kernel) (i % 128) (Nat.mod_lt _ (by decide))
/-- Part 754 of the matrix. -/
theorem l0_754 (i : ℕ) : lit0t0_754 i = tabF (128 * 754 + i % 128) := leafB (fun k => tabF (128 * 754 + k)) (by decide +kernel) (i % 128) (Nat.mod_lt _ (by decide))
/-- Part 755 of the matrix. -/
theorem l0_755 (i : ℕ) : lit0t0_755 i = tabF (128 * 755 + i % 128) := leafB (fun k => tabF (128 * 755 + k)) (by decide +kernel) (i % 128) (Nat.mod_lt _ (by decide))
/-- Part 756 of the matrix. -/
theorem l0_756 (i : ℕ) : lit0t0_756 i = tabF (128 * 756 + i % 128) := leafB (fun k => tabF (128 * 756 + k)) (by decide +kernel) (i % 128) (Nat.mod_lt _ (by decide))
/-- Part 757 of the matrix. -/
theorem l0_757 (i : ℕ) : lit0t0_757 i = tabF (128 * 757 + i % 128) := leafB (fun k => tabF (128 * 757 + k)) (by decide +kernel) (i % 128) (Nat.mod_lt _ (by decide))
/-- Part 758 of the matrix. -/
theorem l0_758 (i : ℕ) : lit0t0_758 i = tabF (128 * 758 + i % 128) := leafB (fun k => tabF (128 * 758 + k)) (by decide +kernel) (i % 128) (Nat.mod_lt _ (by decide))
/-- Part 759 of the matrix. -/
theorem l0_759 (i : ℕ) : lit0t0_759 i = tabF (128 * 759 + i % 128) := leafB (fun k => tabF (128 * 759 + k)) (by decide +kernel) (i % 128) (Nat.mod_lt _ (by decide))
/-- Part 760 of the matrix. -/
theorem l0_760 (i : ℕ) : lit0t0_760 i = tabF (128 * 760 + i % 128) := leafB (fun k => tabF (128 * 760 + k)) (by decide +kernel) (i % 128) (Nat.mod_lt _ (by decide))
/-- Part 761 of the matrix. -/
theorem l0_761 (i : ℕ) : lit0t0_761 i = tabF (128 * 761 + i % 128) := leafB (fun k => tabF (128 * 761 + k)) (by decide +kernel) (i % 128) (Nat.mod_lt _ (by decide))
/-- Part 762 of the matrix. -/
theorem l0_762 (i : ℕ) : lit0t0_762 i = tabF (128 * 762 + i % 128) := leafB (fun k => tabF (128 * 762 + k)) (by decide +kernel) (i % 128) (Nat.mod_lt _ (by decide))
/-- Part 763 of the matrix. -/
theorem l0_763 (i : ℕ) : lit0t0_763 i = tabF (128 * 763 + i % 128) := leafB (fun k => tabF (128 * 763 + k)) (by decide +kernel) (i % 128) (Nat.mod_lt _ (by decide))
/-- Part 764 of the matrix. -/
theorem l0_764 (i : ℕ) : lit0t0_764 i = tabF (128 * 764 + i % 128) := leafB (fun k => tabF (128 * 764 + k)) (by decide +kernel) (i % 128) (Nat.mod_lt _ (by decide))
/-- Part 765 of the matrix. -/
theorem l0_765 (i : ℕ) : lit0t0_765 i = tabF (128 * 765 + i % 128) := leafB (fun k => tabF (128 * 765 + k)) (by decide +kernel) (i % 128) (Nat.mod_lt _ (by decide))
/-- Part 766 of the matrix. -/
theorem l0_766 (i : ℕ) : lit0t0_766 i = tabF (128 * 766 + i % 128) := leafB (fun k => tabF (128 * 766 + k)) (by decide +kernel) (i % 128) (Nat.mod_lt _ (by decide))
/-- Part 767 of the matrix. -/
theorem l0_767 (i : ℕ) : lit0t0_767 i = tabF (128 * 767 + i % 128) := leafB (fun k => tabF (128 * 767 + k)) (by decide +kernel) (i % 128) (Nat.mod_lt _ (by decide))
/-- A node's entries. -/
theorem n0_3 (i : ℕ) : lit0t1_3 i = tabF (128 * (128 * 3 + i / 128 % 128) + i % 128) :=
  nodeB (fun j => tabF (128 * (128 * 3 + j) + i % 128)) ⟨l0_384 i, l0_385 i, l0_386 i, l0_387 i, l0_388 i, l0_389 i, l0_390 i, l0_391 i, l0_392 i, l0_393 i, l0_394 i, l0_395 i, l0_396 i, l0_397 i, l0_398 i, l0_399 i, l0_400 i, l0_401 i, l0_402 i, l0_403 i, l0_404 i, l0_405 i, l0_406 i, l0_407 i, l0_408 i, l0_409 i, l0_410 i, l0_411 i, l0_412 i, l0_413 i, l0_414 i, l0_415 i, l0_416 i, l0_417 i, l0_418 i, l0_419 i, l0_420 i, l0_421 i, l0_422 i, l0_423 i, l0_424 i, l0_425 i, l0_426 i, l0_427 i, l0_428 i, l0_429 i, l0_430 i, l0_431 i, l0_432 i, l0_433 i, l0_434 i, l0_435 i, l0_436 i, l0_437 i, l0_438 i, l0_439 i, l0_440 i, l0_441 i, l0_442 i, l0_443 i, l0_444 i, l0_445 i, l0_446 i, l0_447 i, l0_448 i, l0_449 i, l0_450 i, l0_451 i, l0_452 i, l0_453 i, l0_454 i, l0_455 i, l0_456 i, l0_457 i, l0_458 i, l0_459 i, l0_460 i, l0_461 i, l0_462 i, l0_463 i, l0_464 i, l0_465 i, l0_466 i, l0_467 i, l0_468 i, l0_469 i, l0_470 i, l0_471 i, l0_472 i, l0_473 i, l0_474 i, l0_475 i, l0_476 i, l0_477 i, l0_478 i, l0_479 i, l0_480 i, l0_481 i, l0_482 i, l0_483 i, l0_484 i, l0_485 i, l0_486 i, l0_487 i, l0_488 i, l0_489 i, l0_490 i, l0_491 i, l0_492 i, l0_493 i, l0_494 i, l0_495 i, l0_496 i, l0_497 i, l0_498 i, l0_499 i, l0_500 i, l0_501 i, l0_502 i, l0_503 i, l0_504 i, l0_505 i, l0_506 i, l0_507 i, l0_508 i, l0_509 i, l0_510 i, l0_511 i⟩ (i / 128 % 128) (Nat.mod_lt _ (by decide))
/-- A node's entries. -/
theorem n0_4 (i : ℕ) : lit0t1_4 i = tabF (128 * (128 * 4 + i / 128 % 128) + i % 128) :=
  nodeB (fun j => tabF (128 * (128 * 4 + j) + i % 128)) ⟨l0_512 i, l0_513 i, l0_514 i, l0_515 i, l0_516 i, l0_517 i, l0_518 i, l0_519 i, l0_520 i, l0_521 i, l0_522 i, l0_523 i, l0_524 i, l0_525 i, l0_526 i, l0_527 i, l0_528 i, l0_529 i, l0_530 i, l0_531 i, l0_532 i, l0_533 i, l0_534 i, l0_535 i, l0_536 i, l0_537 i, l0_538 i, l0_539 i, l0_540 i, l0_541 i, l0_542 i, l0_543 i, l0_544 i, l0_545 i, l0_546 i, l0_547 i, l0_548 i, l0_549 i, l0_550 i, l0_551 i, l0_552 i, l0_553 i, l0_554 i, l0_555 i, l0_556 i, l0_557 i, l0_558 i, l0_559 i, l0_560 i, l0_561 i, l0_562 i, l0_563 i, l0_564 i, l0_565 i, l0_566 i, l0_567 i, l0_568 i, l0_569 i, l0_570 i, l0_571 i, l0_572 i, l0_573 i, l0_574 i, l0_575 i, l0_576 i, l0_577 i, l0_578 i, l0_579 i, l0_580 i, l0_581 i, l0_582 i, l0_583 i, l0_584 i, l0_585 i, l0_586 i, l0_587 i, l0_588 i, l0_589 i, l0_590 i, l0_591 i, l0_592 i, l0_593 i, l0_594 i, l0_595 i, l0_596 i, l0_597 i, l0_598 i, l0_599 i, l0_600 i, l0_601 i, l0_602 i, l0_603 i, l0_604 i, l0_605 i, l0_606 i, l0_607 i, l0_608 i, l0_609 i, l0_610 i, l0_611 i, l0_612 i, l0_613 i, l0_614 i, l0_615 i, l0_616 i, l0_617 i, l0_618 i, l0_619 i, l0_620 i, l0_621 i, l0_622 i, l0_623 i, l0_624 i, l0_625 i, l0_626 i, l0_627 i, l0_628 i, l0_629 i, l0_630 i, l0_631 i, l0_632 i, l0_633 i, l0_634 i, l0_635 i, l0_636 i, l0_637 i, l0_638 i, l0_639 i⟩ (i / 128 % 128) (Nat.mod_lt _ (by decide))
/-- A node's entries. -/
theorem n0_5 (i : ℕ) : lit0t1_5 i = tabF (128 * (128 * 5 + i / 128 % 128) + i % 128) :=
  nodeB (fun j => tabF (128 * (128 * 5 + j) + i % 128)) ⟨l0_640 i, l0_641 i, l0_642 i, l0_643 i, l0_644 i, l0_645 i, l0_646 i, l0_647 i, l0_648 i, l0_649 i, l0_650 i, l0_651 i, l0_652 i, l0_653 i, l0_654 i, l0_655 i, l0_656 i, l0_657 i, l0_658 i, l0_659 i, l0_660 i, l0_661 i, l0_662 i, l0_663 i, l0_664 i, l0_665 i, l0_666 i, l0_667 i, l0_668 i, l0_669 i, l0_670 i, l0_671 i, l0_672 i, l0_673 i, l0_674 i, l0_675 i, l0_676 i, l0_677 i, l0_678 i, l0_679 i, l0_680 i, l0_681 i, l0_682 i, l0_683 i, l0_684 i, l0_685 i, l0_686 i, l0_687 i, l0_688 i, l0_689 i, l0_690 i, l0_691 i, l0_692 i, l0_693 i, l0_694 i, l0_695 i, l0_696 i, l0_697 i, l0_698 i, l0_699 i, l0_700 i, l0_701 i, l0_702 i, l0_703 i, l0_704 i, l0_705 i, l0_706 i, l0_707 i, l0_708 i, l0_709 i, l0_710 i, l0_711 i, l0_712 i, l0_713 i, l0_714 i, l0_715 i, l0_716 i, l0_717 i, l0_718 i, l0_719 i, l0_720 i, l0_721 i, l0_722 i, l0_723 i, l0_724 i, l0_725 i, l0_726 i, l0_727 i, l0_728 i, l0_729 i, l0_730 i, l0_731 i, l0_732 i, l0_733 i, l0_734 i, l0_735 i, l0_736 i, l0_737 i, l0_738 i, l0_739 i, l0_740 i, l0_741 i, l0_742 i, l0_743 i, l0_744 i, l0_745 i, l0_746 i, l0_747 i, l0_748 i, l0_749 i, l0_750 i, l0_751 i, l0_752 i, l0_753 i, l0_754 i, l0_755 i, l0_756 i, l0_757 i, l0_758 i, l0_759 i, l0_760 i, l0_761 i, l0_762 i, l0_763 i, l0_764 i, l0_765 i, l0_766 i, l0_767 i⟩ (i / 128 % 128) (Nat.mod_lt _ (by decide))

end Cert.KernelIdeal.Val

end
-- ==== Proof.Tables.lean ====
/- The kernel's two constant tables. -/
module

public import proofs.«01_k».proof.Proof.TabA
public import proofs.«01_k».proof.Proof.TabB

@[expose] public section

set_option maxRecDepth 16384

namespace Cert.KernelIdeal.Val

open Idealize.ShloMosaic Cert.KernelIdeal

/-- Part 0 of the level map. -/
theorem l1_0 (i : ℕ) : lit1t0_0 i = lvlN (128 * 0 + i % 128) := leafB (fun k => lvlN (128 * 0 + k)) (by decide +kernel) (i % 128) (Nat.mod_lt _ (by decide))
/-- Part 1 of the level map. -/
theorem l1_1 (i : ℕ) : lit1t0_1 i = lvlN (128 * 1 + i % 128) := leafB (fun k => lvlN (128 * 1 + k)) (by decide +kernel) (i % 128) (Nat.mod_lt _ (by decide))
/-- Part 2 of the level map. -/
theorem l1_2 (i : ℕ) : lit1t0_2 i = lvlN (128 * 2 + i % 128) := leafB (fun k => lvlN (128 * 2 + k)) (by decide +kernel) (i % 128) (Nat.mod_lt _ (by decide))
/-- Part 3 of the level map. -/
theorem l1_3 (i : ℕ) : lit1t0_3 i = lvlN (128 * 3 + i % 128) := leafB (fun k => lvlN (128 * 3 + k)) (by decide +kernel) (i % 128) (Nat.mod_lt _ (by decide))
/-- Part 4 of the level map. -/
theorem l1_4 (i : ℕ) : lit1t0_4 i = lvlN (128 * 4 + i % 128) := leafB (fun k => lvlN (128 * 4 + k)) (by decide +kernel) (i % 128) (Nat.mod_lt _ (by decide))
/-- Part 5 of the level map. -/
theorem l1_5 (i : ℕ) : lit1t0_5 i = lvlN (128 * 5 + i % 128) := leafB (fun k => lvlN (128 * 5 + k)) (by decide +kernel) (i % 128) (Nat.mod_lt _ (by decide))
/-- Part 6 of the level map. -/
theorem l1_6 (i : ℕ) : lit1t0_6 i = lvlN (128 * 6 + i % 128) := leafB (fun k => lvlN (128 * 6 + k)) (by decide +kernel) (i % 128) (Nat.mod_lt _ (by decide))
/-- Part 7 of the level map. -/
theorem l1_7 (i : ℕ) : lit1t0_7 i = lvlN (128 * 7 + i % 128) := leafB (fun k => lvlN (128 * 7 + k)) (by decide +kernel) (i % 128) (Nat.mod_lt _ (by decide))
/-- Part 8 of the level map. -/
theorem l1_8 (i : ℕ) : lit1t0_8 i = lvlN (128 * 8 + i % 128) := leafB (fun k => lvlN (128 * 8 + k)) (by decide +kernel) (i % 128) (Nat.mod_lt _ (by decide))
/-- Part 9 of the level map. -/
theorem l1_9 (i : ℕ) : lit1t0_9 i = lvlN (128 * 9 + i % 128) := leafB (fun k => lvlN (128 * 9 + k)) (by decide +kernel) (i % 128) (Nat.mod_lt _ (by decide))
/-- Part 10 of the level map. -/
theorem l1_10 (i : ℕ) : lit1t0_10 i = lvlN (128 * 10 + i % 128) := leafB (fun k => lvlN (128 * 10 + k)) (by decide +kernel) (i % 128) (Nat.mod_lt _ (by decide))
/-- Part 11 of the level map. -/
theorem l1_11 (i : ℕ) : lit1t0_11 i = lvlN (128 * 11 + i % 128) := leafB (fun k => lvlN (128 * 11 + k)) (by decide +kernel) (i % 128) (Nat.mod_lt _ (by decide))
/-- Part 12 of the level map. -/
theorem l1_12 (i : ℕ) : lit1t0_12 i = lvlN (128 * 12 + i % 128) := leafB (fun k => lvlN (128 * 12 + k)) (by decide +kernel) (i % 128) (Nat.mod_lt _ (by decide))
/-- Part 13 of the level map. -/
theorem l1_13 (i : ℕ) : lit1t0_13 i = lvlN (128 * 13 + i % 128) := leafB (fun k => lvlN (128 * 13 + k)) (by decide +kernel) (i % 128) (Nat.mod_lt _ (by decide))
/-- Part 14 of the level map. -/
theorem l1_14 (i : ℕ) : lit1t0_14 i = lvlN (128 * 14 + i % 128) := leafB (fun k => lvlN (128 * 14 + k)) (by decide +kernel) (i % 128) (Nat.mod_lt _ (by decide))
/-- Part 15 of the level map. -/
theorem l1_15 (i : ℕ) : lit1t0_15 i = lvlN (128 * 15 + i % 128) := leafB (fun k => lvlN (128 * 15 + k)) (by decide +kernel) (i % 128) (Nat.mod_lt _ (by decide))
/-- Part 16 of the level map. -/
theorem l1_16 (i : ℕ) : lit1t0_16 i = lvlN (128 * 16 + i % 128) := leafB (fun k => lvlN (128 * 16 + k)) (by decide +kernel) (i % 128) (Nat.mod_lt _ (by decide))
/-- Part 17 of the level map. -/
theorem l1_17 (i : ℕ) : lit1t0_17 i = lvlN (128 * 17 + i % 128) := leafB (fun k => lvlN (128 * 17 + k)) (by decide +kernel) (i % 128) (Nat.mod_lt _ (by decide))
/-- Part 18 of the level map. -/
theorem l1_18 (i : ℕ) : lit1t0_18 i = lvlN (128 * 18 + i % 128) := leafB (fun k => lvlN (128 * 18 + k)) (by decide +kernel) (i % 128) (Nat.mod_lt _ (by decide))
/-- Part 19 of the level map. -/
theorem l1_19 (i : ℕ) : lit1t0_19 i = lvlN (128 * 19 + i % 128) := leafB (fun k => lvlN (128 * 19 + k)) (by decide +kernel) (i % 128) (Nat.mod_lt _ (by decide))
/-- Part 20 of the level map. -/
theorem l1_20 (i : ℕ) : lit1t0_20 i = lvlN (128 * 20 + i % 128) := leafB (fun k => lvlN (128 * 20 + k)) (by decide +kernel) (i % 128) (Nat.mod_lt _ (by decide))
/-- Part 21 of the level map. -/
theorem l1_21 (i : ℕ) : lit1t0_21 i = lvlN (128 * 21 + i % 128) := leafB (fun k => lvlN (128 * 21 + k)) (by decide +kernel) (i % 128) (Nat.mod_lt _ (by decide))
/-- Part 22 of the level map. -/
theorem l1_22 (i : ℕ) : lit1t0_22 i = lvlN (128 * 22 + i % 128) := leafB (fun k => lvlN (128 * 22 + k)) (by decide +kernel) (i % 128) (Nat.mod_lt _ (by decide))
/-- Part 23 of the level map. -/
theorem l1_23 (i : ℕ) : lit1t0_23 i = lvlN (128 * 23 + i % 128) := leafB (fun k => lvlN (128 * 23 + k)) (by decide +kernel) (i % 128) (Nat.mod_lt _ (by decide))
/-- Part 24 of the level map. -/
theorem l1_24 (i : ℕ) : lit1t0_24 i = lvlN (128 * 24 + i % 128) := leafB (fun k => lvlN (128 * 24 + k)) (by decide +kernel) (i % 128) (Nat.mod_lt _ (by decide))
/-- Part 25 of the level map. -/
theorem l1_25 (i : ℕ) : lit1t0_25 i = lvlN (128 * 25 + i % 128) := leafB (fun k => lvlN (128 * 25 + k)) (by decide +kernel) (i % 128) (Nat.mod_lt _ (by decide))
/-- Part 26 of the level map. -/
theorem l1_26 (i : ℕ) : lit1t0_26 i = lvlN (128 * 26 + i % 128) := leafB (fun k => lvlN (128 * 26 + k)) (by decide +kernel) (i % 128) (Nat.mod_lt _ (by decide))
/-- Part 27 of the level map. -/
theorem l1_27 (i : ℕ) : lit1t0_27 i = lvlN (128 * 27 + i % 128) := leafB (fun k => lvlN (128 * 27 + k)) (by decide +kernel) (i % 128) (Nat.mod_lt _ (by decide))
/-- Part 28 of the level map. -/
theorem l1_28 (i : ℕ) : lit1t0_28 i = lvlN (128 * 28 + i % 128) := leafB (fun k => lvlN (128 * 28 + k)) (by decide +kernel) (i % 128) (Nat.mod_lt _ (by decide))
/-- Part 29 of the level map. -/
theorem l1_29 (i : ℕ) : lit1t0_29 i = lvlN (128 * 29 + i % 128) := leafB (fun k => lvlN (128 * 29 + k)) (by decide +kernel) (i % 128) (Nat.mod_lt _ (by decide))
/-- Part 30 of the level map. -/
theorem l1_30 (i : ℕ) : lit1t0_30 i = lvlN (128 * 30 + i % 128) := leafB (fun k => lvlN (128 * 30 + k)) (by decide +kernel) (i % 128) (Nat.mod_lt _ (by decide))
/-- Part 31 of the level map. -/
theorem l1_31 (i : ℕ) : lit1t0_31 i = lvlN (128 * 31 + i % 128) := leafB (fun k => lvlN (128 * 31 + k)) (by decide +kernel) (i % 128) (Nat.mod_lt _ (by decide))

/-- The level table's entries. -/
theorem lvl_at (i : ℕ) (hi : i < 4096) : lit1t i = lvlN i := by
  have e : ∀ j, i / 128 = j → 128 * j + i % 128 = i := fun j h => by omega
  unfold lit1t
  generalize hq : i / 128 = q
  have : q < 32 := by omega
  interval_cases q
  exacts [(l1_0 i).trans (congrArg lvlN (e 0 hq)), (l1_1 i).trans (congrArg lvlN (e 1 hq)), (l1_2 i).trans (congrArg lvlN (e 2 hq)), (l1_3 i).trans (congrArg lvlN (e 3 hq)), (l1_4 i).trans (congrArg lvlN (e 4 hq)), (l1_5 i).trans (congrArg lvlN (e 5 hq)), (l1_6 i).trans (congrArg lvlN (e 6 hq)), (l1_7 i).trans (congrArg lvlN (e 7 hq)), (l1_8 i).trans (congrArg lvlN (e 8 hq)), (l1_9 i).trans (congrArg lvlN (e 9 hq)), (l1_10 i).trans (congrArg lvlN (e 10 hq)), (l1_11 i).trans (congrArg lvlN (e 11 hq)), (l1_12 i).trans (congrArg lvlN (e 12 hq)), (l1_13 i).trans (congrArg lvlN (e 13 hq)), (l1_14 i).trans (congrArg lvlN (e 14 hq)), (l1_15 i).trans (congrArg lvlN (e 15 hq)), (l1_16 i).trans (congrArg lvlN (e 16 hq)), (l1_17 i).trans (congrArg lvlN (e 17 hq)), (l1_18 i).trans (congrArg lvlN (e 18 hq)), (l1_19 i).trans (congrArg lvlN (e 19 hq)), (l1_20 i).trans (congrArg lvlN (e 20 hq)), (l1_21 i).trans (congrArg lvlN (e 21 hq)), (l1_22 i).trans (congrArg lvlN (e 22 hq)), (l1_23 i).trans (congrArg lvlN (e 23 hq)), (l1_24 i).trans (congrArg lvlN (e 24 hq)), (l1_25 i).trans (congrArg lvlN (e 25 hq)), (l1_26 i).trans (congrArg lvlN (e 26 hq)), (l1_27 i).trans (congrArg lvlN (e 27 hq)), (l1_28 i).trans (congrArg lvlN (e 28 hq)), (l1_29 i).trans (congrArg lvlN (e 29 hq)), (l1_30 i).trans (congrArg lvlN (e 30 hq)), (l1_31 i).trans (congrArg lvlN (e 31 hq))]
/-- The exponent table's entries. -/
theorem tab_at (i : ℕ) (hi : i < 98304) : lit0t i = tabF i := by
  have e : ∀ j, i / 16384 = j → 128 * (128 * j + i / 128 % 128) + i % 128 = i := fun j h => by omega
  unfold lit0t
  generalize hq : i / 16384 = q
  have : q < 6 := by omega
  interval_cases q
  exacts [(n0_0 i).trans (congrArg tabF (e 0 hq)), (n0_1 i).trans (congrArg tabF (e 1 hq)), (n0_2 i).trans (congrArg tabF (e 2 hq)), (n0_3 i).trans (congrArg tabF (e 3 hq)), (n0_4 i).trans (congrArg tabF (e 4 hq)), (n0_5 i).trans (congrArg tabF (e 5 hq))]

/-- The exponent table's entries: ones on the rows each row sums, zeros elsewhere. -/
theorem tab_lit (q : Fin 8) (t : Fin 64) (x : Fin 192) : lit0t (192 * (64 * q.val + t.val) + x.val) = if wlo q.val t.val ≤ x.val % 64 ∧ x.val % 64 < whi q.val t.val then 0x3F80#16 else 0#16 := by
  refine (tab_at _ (by omega)).trans ?_
  unfold tabF
  rw [show (192 * (64 * q.val + t.val) + x.val) / 192 / 64 = q.val by omega, show (192 * (64 * q.val + t.val) + x.val) / 192 % 64 = t.val by omega,
    show (192 * (64 * q.val + t.val) + x.val) % 192 = x.val by omega]
/-- The level table's entries. -/
theorem lvl_lit (r j : Fin 64) : lit1t (64 * r.val + j.val) = lvlF r.val j.val := by
  refine (lvl_at _ (by omega)).trans ?_
  unfold lvlN
  rw [show (64 * r.val + j.val) / 64 = r.val by omega, show (64 * r.val + j.val) % 64 = j.val by omega]

end Cert.KernelIdeal.Val

end
-- ==== Proof.WinRead.lean ====
/- The blocks that the windows hold at a grid point, read off the launch's arguments. -/
module

public import proofs.«01_k».proof.Proof.Value
public import proofs.«01_k».proof.Proof.RefRead
public import proofs.«01_k».proof.Proof.Tables

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen Cert.KernelIdeal.Hand

variable (m : (ℓ : Loc nD τ sig) → Buf (Elt Ideal) ℓ) (ρ : Dev nD → PrngReg)

/-- The launch's arguments. -/
def argsK (c : Dev nD) : Layer.Args := Layer.argsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The grid's points in row-major order: a batch's blocks are consecutive. -/
theorem coords_val : ∀ t : Fin cfg0.N, (grid0.coords t 0).val = t.val / 8 ∧ (grid0.coords t 1).val = t.val % 8 := (by decide +kernel : ∀ t : Fin grid0.N, _)
/-- The body starts a sequence at its first block. -/
theorem start_iff : ∀ t : Fin cfg0.N, atStart (grid0.coords t) ↔ t.val % 8 = 0 := (by decide +kernel : ∀ t : Fin grid0.N, _)
/-- The block of each window at a point of the grid. -/
theorem idx : ∀ t : Fin cfg0.N, win0_0.index t = ![(grid0.coords t 0).val, (grid0.coords t 1).val, 0] ∧ win0_1.index t = ![(grid0.coords t 0).val, 0, 0]
    ∧ win0_2.index t = ![0, 0] ∧ win0_3.index t = ![0, 0] ∧ win0_4.index t = ![0, 0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![(grid0.coords t 0).val, (grid0.coords t 1).val, 0] :=
  (by decide +kernel : ∀ t : Fin grid0.N, _)

section
variable (c : Dev nD) (t : Fin cfg0.N)

/-- The input's block. -/
theorem w0 (ρ k) : (iblk m c 0 t : Vec Ideal S1x256x1024 .f32) (ix3 0 ρ k) = (argsK m c).x (bI (grid0.coords t)) (prow (sI (grid0.coords t)) ρ) k := by
  have e : (win0_0.blk t).view.emb (ix3 0 ρ k) = ix3 (bI (grid0.coords t)) (prow (sI (grid0.coords t)) ρ) k := by
    blk_ext [idx t, prow]
    · rfl
    · exact congrArg (· + ρ.val) (Nat.mul_comm _ _)
  show V m c main_arg0 ((win0_0.blk t).view.emb (ix3 0 ρ k)) = _
  rw [e]; rfl
/-- The modulation's block. -/
theorem w1 (k) : (iblk m c 1 t : Vec Ideal S1x1x3072 .f32) (ix3 0 0 k) = (argsK m c).md (bI (grid0.coords t)) k := by
  have e : (win0_1.blk t).view.emb (ix3 0 0 k) = ix3 (bI (grid0.coords t)) 0 k := by blk_ext [idx t]; rfl
  show V m c main_v0 ((win0_1.blk t).view.emb (ix3 0 0 k)) = _
  rw [e]; generalize bI (grid0.coords t) = b
  unfold argsK Layer.argsOf; dsimp only
  entry_read; pointwise []; try rfl
/-- The first scale. -/
theorem w2 (k) : (iblk m c 2 t : Vec Ideal S1x1024 .f32) (ix2 0 k) = (argsK m c).np k := by
  have e : (win0_2.blk t).view.emb (ix2 0 k) = ix2 0 k := by blk_ext [idx t]
  show V m c main_v1 ((win0_2.blk t).view.emb (ix2 0 k)) = _
  rw [e]
  unfold argsK Layer.argsOf; dsimp only
  entry_read; pointwise []; try rfl
/-- The pool's scale. -/
theorem w5 (k) : (iblk m c 5 t : Vec Ideal S1x1024 .f32) (ix2 0 k) = (argsK m c).ps k := by
  have e : (win0_5.blk t).view.emb (ix2 0 k) = ix2 0 k := by blk_ext [idx t]
  show V m c main_v4 ((win0_5.blk t).view.emb (ix2 0 k)) = _
  rw [e]
  unfold argsK Layer.argsOf; dsimp only
  entry_read; pointwise []; try rfl
/-- The lower bound. -/
theorem w6 (k) : (iblk m c 6 t : Vec Ideal S1x1024 .f32) (ix2 0 k) = (argsK m c).lo k := by
  have e : (win0_6.blk t).view.emb (ix2 0 k) = ix2 0 k := by blk_ext [idx t]
  show V m c main_v5 ((win0_6.blk t).view.emb (ix2 0 k)) = _
  rw [e]
  unfold argsK Layer.argsOf; dsimp only
  entry_read; pointwise []; try rfl
/-- The heads' scale. -/
theorem w7 (k) : (iblk m c 7 t : Vec Ideal S1x128 .f32) (ix2 0 k) = (argsK m c).hn k := by
  have e : (win0_7.blk t).view.emb (ix2 0 k) = ix2 0 k := by blk_ext [idx t]
  show V m c main_v6 ((win0_7.blk t).view.emb (ix2 0 k)) = _
  rw [e]
  unfold argsK Layer.argsOf; dsimp only
  entry_read; pointwise []; try rfl
/-- The last scale. -/
theorem w9 (k) : (iblk m c 9 t : Vec Ideal S1x1024 .f32) (ix2 0 k) = (argsK m c).nq k := by
  have e : (win0_9.blk t).view.emb (ix2 0 k) = ix2 0 k := by blk_ext [idx t]
  show V m c main_v8 ((win0_9.blk t).view.emb (ix2 0 k)) = _
  rw [e]
  unfold argsK Layer.argsOf; dsimp only
  entry_read; pointwise []; try rfl
/-- The projection's weights. -/
theorem w3 (r k) : (iblk m c 3 t : Vec Ideal S1024x6144 .bf16) (ix2 r k) = (argsK m c).wi r k := by
  have e : (win0_3.blk t).view.emb (ix2 r k) = ix2 r k := by blk_ext [idx t]
  show V m c main_v2 ((win0_3.blk t).view.emb (ix2 r k)) = _
  rw [e]
  unfold argsK Layer.argsOf; dsimp only
  entry_read; pointwise []; try rfl
/-- The pool's weights. -/
theorem w4 (q x z) : (iblk m c 4 t : Vec Ideal S4x256x256 .bf16) (ix3 q x z) = (argsK m c).pw q x z := by
  have e : (win0_4.blk t).view.emb (ix3 q x z) = ix3 q x z := by blk_ext [idx t]
  show V m c main_v3 ((win0_4.blk t).view.emb (ix3 q x z)) = _
  rw [e]
  unfold argsK Layer.argsOf; dsimp only
  entry_read; pointwise []; try rfl
/-- The output's weights. -/
theorem w8 (r k) : (iblk m c 8 t : Vec Ideal S2048x1024 .bf16) (ix2 r k) = (argsK m c).wo r k := by
  have e : (win0_8.blk t).view.emb (ix2 r k) = ix2 r k := by blk_ext [idx t]
  show V m c main_v7 ((win0_8.blk t).view.emb (ix2 r k)) = _
  rw [e]
  unfold argsK Layer.argsOf; dsimp only
  entry_read; pointwise []; try rfl
/-- One, as the kernel's table writes it. -/
theorem half_one : Ideal.ofBits .bf16 0x3F80#16 = 1 := by
  simp [Ideal.ofBits, Ideal.ieee, BitVec.toNat]
  rw [← EReal.coe_mul, ← EReal.coe_one]; congr 1; norm_num
/-- Zero, as the kernel's table writes it. -/
theorem half_zero : Ideal.ofBits .bf16 0#16 = 0 := by
  simp [Ideal.ofBits, Ideal.ieee, BitVec.toNat]
/-- The exponents' table. -/
theorem w10 (q : Fin 8) (u : Fin 64) (x : Fin 192) : (iblk m c 10 t : Vec Ideal S512x192 .bf16) (ix2 (es q u) x) = if wlo q.val u.val ≤ x.val % 64 ∧ x.val % 64 < whi q.val u.val then (1 : EReal) else 0 := by
  have e : (win0_10.blk t).view.emb (ix2 (es q u) x) = ix2 (es q u) x := by blk_ext [idx t]
  show V m c main_cst ((win0_10.blk t).view.emb (ix2 (es q u) x)) = _
  rw [e]
  entry_read
  have h : lit0 (S512x192.rowMajor (ix2 (es q u) x)) = lit0t (192 * (64 * q.val + u.val) + x.val) :=
    congrArg lit0t (show (S512x192.rowMajor (ix2 (es q u) x)).val = _ from (Shape.rowMajor_val_two _).trans (congrArg (· + x.val) (Nat.mul_comm _ _)))
  rw [h, tab_lit]
  split
  · exact half_one
  · exact half_zero
/-- The levels' table. -/
theorem w11 (r j : Fin 64) : (iblk m c 11 t : Vec Ideal S64x64 .i32) (ix2 r j) = lvlF r.val j.val := by
  have e : (win0_11.blk t).view.emb (ix2 r j) = ix2 r j := by blk_ext [idx t]
  show V m c main_c ((win0_11.blk t).view.emb (ix2 r j)) = _
  rw [e]
  entry_read
  exact (congrArg lit1t (show (S64x64.rowMajor (ix2 r j)).val = _ from (Shape.rowMajor_val_two _).trans (congrArg (· + j.val) (Nat.mul_comm _ _)))).trans (lvl_lit r j)
/-- The windows hold the model's arguments. -/
theorem inOf : In (argsK m c) (bI (grid0.coords t)) (sI (grid0.coords t)) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) :=
  ⟨w0 m c t, w1 m c t, w2 m c t, w3 m c t, w4 m c t, w5 m c t, w6 m c t, w7 m c t, w8 m c t, w9 m c t, w10 m c t, w11 m c t⟩
end
end Cert.KernelIdeal.Val
end
-- ==== Proof.ValueRun.lean ====
/- The launch of the layer kernel with the values it leaves: between two blocks of a sequence the scratch holds the model's state and
   last pool rows, and the result array ends at the model's output. -/
module

public import proofs.«01_k».proof.Proof.WinRead

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen Cert.KernelIdeal.Hand

variable (m : (ℓ : Loc nD τ sig) → Buf (Elt Ideal) ℓ) (ρ : Dev nD → PrngReg)

/-- The batch and block of the grid's point number `n`. -/
def bN (n : ℕ) : Fin 16 := ⟨n / 8 % 16, Nat.mod_lt _ (by decide)⟩

/-- What the scratch buffers hold before the grid's point number `n`: anything at a sequence's first block, else the model's state and
    last pool rows. -/
def Phi (c : Dev nD) (n : ℕ) : sProp (MT nD τ sig Unit (Elt Ideal) ℕ (UR sig nD τ) ℕ) :=
  if n % 8 = 0 then Pipeline.ΦA spec0 c
  else iprop(iprop(owns (c : Thread nD τ) (Memref.whole cc0_scratch0 : Memref sig .tc .vmem S8x128x128 .f32) fullShare (stV (argsK m c) (bN n) (4 * (n % 8))) ∗ owns (c : Thread nD τ) (Memref.whole cc0_scratch1 : Memref sig .tc .vmem S16x1024 .f32) fullShare (tlV (argsK m c) (bN n) (n % 8)) ∗ (∃ d, owns (c : Thread nD τ) (Memref.whole cc0_scratch2 : Memref sig .tc .vmem S272x1024 .f32) fullShare d) ∗ (∃ d, owns (c : Thread nD τ) (Memref.whole cc0_scratch3 : Memref sig .tc .vmem S256x1024 .f32) fullShare d) ∗ (∃ d, owns (c : Thread nD τ) (Memref.whole cc0_scratch4 : Memref sig .tc .vmem S256x1024 .f32) fullShare d) ∗ (∃ d, owns (c : Thread nD τ) (Memref.whole cc0_scratch5 : Memref sig .tc .vmem S256x1024 .f32) fullShare d) ∗ (∃ d, owns (c : Thread nD τ) (Memref.whole cc0_scratch6 : Memref sig .tc .vmem S256x1024 .f32) fullShare d) ∗ (∃ d, owns (c : Thread nD τ) (Memref.whole cc0_scratch7 : Memref sig .tc .vmem S256x1024 .f32) fullShare d) ∗ (∃ d, owns (c : Thread nD τ) (Memref.whole cc0_scratch8 : Memref sig .tc .vmem S256x2048 .bf16) fullShare d)) ∗ (∃ r, prngReg c r))

/-- The proof data: arrays as the region finds them, each input's block left in place, the model's block in the output, the scratch
    buffers at the model's state. -/
def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outV (argsK m c) (bI (grid0.coords t)) (sI (grid0.coords t))
  Φ t := Phi m c t.val
  q _ := fullShare
  owed _ := 0

/-- The arrays a launch starts from. -/
theorem A_eqV (c : Dev nD) (w : Fin cfg0.W) : (datsV m 0 c).A w = V m c (Pipeline.arrRef spec0 w) := by
  dsimp only [datsV]

/-- What window 0 holds behind a point: its block. -/
theorem afterV_0 (c : Dev nD) (t : Fin cfg0.N) : (datsV m 0 c).after 0 t = iblk m c 0 t := by dsimp only [datsV]
/-- What window 0 holds before a point: its block. -/
theorem beforeV_0 (c : Dev nD) (t : Fin cfg0.N) (d) : (datsV m 0 c).before 0 t d = iblk m c 0 t :=
  before0_0_of m (datsV m 0 c) (A_eqV m c 0) (afterV_0 m c) t d
/-- What window 1 holds behind a point: its block. -/
theorem afterV_1 (c : Dev nD) (t : Fin cfg0.N) : (datsV m 0 c).after 1 t = iblk m c 1 t := by dsimp only [datsV]
/-- What window 1 holds before a point: its block. -/
theorem beforeV_1 (c : Dev nD) (t : Fin cfg0.N) (d) : (datsV m 0 c).before 1 t d = iblk m c 1 t :=
  before0_1_of m (datsV m 0 c) (A_eqV m c 1) (afterV_1 m c) t d
/-- What window 2 holds behind a point: its block. -/
theorem afterV_2 (c : Dev nD) (t : Fin cfg0.N) : (datsV m 0 c).after 2 t = iblk m c 2 t := by dsimp only [datsV]
/-- What window 2 holds before a point: its block. -/
theorem beforeV_2 (c : Dev nD) (t : Fin cfg0.N) (d) : (datsV m 0 c).before 2 t d = iblk m c 2 t :=
  before0_2_of m (datsV m 0 c) (A_eqV m c 2) (afterV_2 m c) t d
/-- What window 3 holds behind a point: its block. -/
theorem afterV_3 (c : Dev nD) (t : Fin cfg0.N) : (datsV m 0 c).after 3 t = iblk m c 3 t := by dsimp only [datsV]
/-- What window 3 holds before a point: its block. -/
theorem beforeV_3 (c : Dev nD) (t : Fin cfg0.N) (d) : (datsV m 0 c).before 3 t d = iblk m c 3 t :=
  before0_3_of m (datsV m 0 c) (A_eqV m c 3) (afterV_3 m c) t d
/-- What window 4 holds behind a point: its block. -/
theorem afterV_4 (c : Dev nD) (t : Fin cfg0.N) : (datsV m 0 c).after 4 t = iblk m c 4 t := by dsimp only [datsV]
/-- What window 4 holds before a point: its block. -/
theorem beforeV_4 (c : Dev nD) (t : Fin cfg0.N) (d) : (datsV m 0 c).before 4 t d = iblk m c 4 t :=
  before0_4_of m (datsV m 0 c) (A_eqV m c 4) (afterV_4 m c) t d
/-- What window 5 holds behind a point: its block. -/
theorem afterV_5 (c : Dev nD) (t : Fin cfg0.N) : (datsV m 0 c).after 5 t = iblk m c 5 t := by dsimp only [datsV]
/-- What window 5 holds before a point: its block. -/
theorem beforeV_5 (c : Dev nD) (t : Fin cfg0.N) (d) : (datsV m 0 c).before 5 t d = iblk m c 5 t :=
  before0_5_of m (datsV m 0 c) (A_eqV m c 5) (afterV_5 m c) t d
/-- What window 6 holds behind a point: its block. -/
theorem afterV_6 (c : Dev nD) (t : Fin cfg0.N) : (datsV m 0 c).after 6 t = iblk m c 6 t := by dsimp only [datsV]
/-- What window 6 holds before a point: its block. -/
theorem beforeV_6 (c : Dev nD) (t : Fin cfg0.N) (d) : (datsV m 0 c).before 6 t d = iblk m c 6 t :=
  before0_6_of m (datsV m 0 c) (A_eqV m c 6) (afterV_6 m c) t d
/-- What window 7 holds behind a point: its block. -/
theorem afterV_7 (c : Dev nD) (t : Fin cfg0.N) : (datsV m 0 c).after 7 t = iblk m c 7 t := by dsimp only [datsV]
/-- What window 7 holds before a point: its block. -/
theorem beforeV_7 (c : Dev nD) (t : Fin cfg0.N) (d) : (datsV m 0 c).before 7 t d = iblk m c 7 t :=
  before0_7_of m (datsV m 0 c) (A_eqV m c 7) (afterV_7 m c) t d
/-- What window 8 holds behind a point: its block. -/
theorem afterV_8 (c : Dev nD) (t : Fin cfg0.N) : (datsV m 0 c).after 8 t = iblk m c 8 t := by dsimp only [datsV]
/-- What window 8 holds before a point: its block. -/
theorem beforeV_8 (c : Dev nD) (t : Fin cfg0.N) (d) : (datsV m 0 c).before 8 t d = iblk m c 8 t :=
  before0_8_of m (datsV m 0 c) (A_eqV m c 8) (afterV_8 m c) t d
/-- What window 9 holds behind a point: its block. -/
theorem afterV_9 (c : Dev nD) (t : Fin cfg0.N) : (datsV m 0 c).after 9 t = iblk m c 9 t := by dsimp only [datsV]
/-- What window 9 holds before a point: its block. -/
theorem beforeV_9 (c : Dev nD) (t : Fin cfg0.N) (d) : (datsV m 0 c).before 9 t d = iblk m c 9 t :=
  before0_9_of m (datsV m 0 c) (A_eqV m c 9) (afterV_9 m c) t d
/-- What window 10 holds behind a point: its block. -/
theorem afterV_10 (c : Dev nD) (t : Fin cfg0.N) : (datsV m 0 c).after 10 t = iblk m c 10 t := by dsimp only [datsV]
/-- What window 10 holds before a point: its block. -/
theorem beforeV_10 (c : Dev nD) (t : Fin cfg0.N) (d) : (datsV m 0 c).before 10 t d = iblk m c 10 t :=
  before0_10_of m (datsV m 0 c) (A_eqV m c 10) (afterV_10 m c) t d
/-- What window 11 holds behind a point: its block. -/
theorem afterV_11 (c : Dev nD) (t : Fin cfg0.N) : (datsV m 0 c).after 11 t = iblk m c 11 t := by dsimp only [datsV]
/-- What window 11 holds before a point: its block. -/
theorem beforeV_11 (c : Dev nD) (t : Fin cfg0.N) (d) : (datsV m 0 c).before 11 t d = iblk m c 11 t :=
  before0_11_of m (datsV m 0 c) (A_eqV m c 11) (afterV_11 m c) t d
/-- What the result's window holds behind a point: the model's output. -/
theorem afterV_12 (c : Dev nD) (t : Fin cfg0.N) : (datsV m 0 c).after 12 t = outV (argsK m c) (bI (grid0.coords t)) (sI (grid0.coords t)) := by dsimp only [datsV]

/-- What a block leaves in the scratch is what the next one wants. -/
theorem phi_fold (c : Dev nD) (t : Fin cfg0.N) :
    iprop(owns (c : Thread nD τ) (Memref.whole cc0_scratch0 : Memref sig .tc .vmem S8x128x128 .f32) fullShare (stV (argsK m c) (bI (grid0.coords t)) (4 * ((sI (grid0.coords t)).val + 1))) ∗ owns (c : Thread nD τ) (Memref.whole cc0_scratch1 : Memref sig .tc .vmem S16x1024 .f32) fullShare (tlV (argsK m c) (bI (grid0.coords t)) ((sI (grid0.coords t)).val + 1)) ∗ (∃ d, owns (c : Thread nD τ) (Memref.whole cc0_scratch2 : Memref sig .tc .vmem S272x1024 .f32) fullShare d) ∗ (∃ d, owns (c : Thread nD τ) (Memref.whole cc0_scratch3 : Memref sig .tc .vmem S256x1024 .f32) fullShare d) ∗ (∃ d, owns (c : Thread nD τ) (Memref.whole cc0_scratch4 : Memref sig .tc .vmem S256x1024 .f32) fullShare d) ∗ (∃ d, owns (c : Thread nD τ) (Memref.whole cc0_scratch5 : Memref sig .tc .vmem S256x1024 .f32) fullShare d) ∗ (∃ d, owns (c : Thread nD τ) (Memref.whole cc0_scratch6 : Memref sig .tc .vmem S256x1024 .f32) fullShare d) ∗ (∃ d, owns (c : Thread nD τ) (Memref.whole cc0_scratch7 : Memref sig .tc .vmem S256x1024 .f32) fullShare d) ∗ (∃ d, owns (c : Thread nD τ) (Memref.whole cc0_scratch8 : Memref sig .tc .vmem S256x2048 .bf16) fullShare d) ∗ (∃ r, prngReg c r))
      ⊢ Phi m c (t.val + 1) := by
  have hc := coords_val t
  have ht : t.val < 128 := t.isLt
  unfold Phi
  by_cases h : (t.val + 1) % 8 = 0
  · rw [if_pos h, scratch_eq]
    iintro ⟨H0, H1, H2, H3, H4, H5, H6, H7, H8, Hg⟩
    isplitl [H0 H1 H2 H3 H4 H5 H6 H7 H8]
    · isplitl [H0]; · iexists _; iexact H0
      isplitl [H1]; · iexists _; iexact H1
      isplitl [H2]; · iexact H2
      isplitl [H3]; · iexact H3
      isplitl [H4]; · iexact H4
      isplitl [H5]; · iexact H5
      isplitl [H6]; · iexact H6
      isplitl [H7]; · iexact H7
      iexact H8
    iexact Hg
  · have eb : bN (t.val + 1) = bI (grid0.coords t) := Fin.ext (show (t.val + 1) / 8 % 16 = (grid0.coords t 0).val by omega)
    have es : (t.val + 1) % 8 = (sI (grid0.coords t)).val + 1 := show _ = (grid0.coords t 1).val + 1 by omega
    rw [if_neg h, eb, es]
    iintro ⟨H0, H1, H2, H3, H4, H5, H6, H7, H8, Hg⟩
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexact Hg

/-- At a later block the scratch holds the model's state. -/
theorem phi_rest (c : Dev nD) (t : Fin cfg0.N) (h : ¬ t.val % 8 = 0) :
    Phi m c t.val = iprop(iprop(owns (c : Thread nD τ) (Memref.whole cc0_scratch0 : Memref sig .tc .vmem S8x128x128 .f32) fullShare (stV (argsK m c) (bI (grid0.coords t)) (4 * (sI (grid0.coords t)).val)) ∗ owns (c : Thread nD τ) (Memref.whole cc0_scratch1 : Memref sig .tc .vmem S16x1024 .f32) fullShare (tlV (argsK m c) (bI (grid0.coords t)) (sI (grid0.coords t)).val) ∗ (∃ d, owns (c : Thread nD τ) (Memref.whole cc0_scratch2 : Memref sig .tc .vmem S272x1024 .f32) fullShare d) ∗ (∃ d, owns (c : Thread nD τ) (Memref.whole cc0_scratch3 : Memref sig .tc .vmem S256x1024 .f32) fullShare d) ∗ (∃ d, owns (c : Thread nD τ) (Memref.whole cc0_scratch4 : Memref sig .tc .vmem S256x1024 .f32) fullShare d) ∗ (∃ d, owns (c : Thread nD τ) (Memref.whole cc0_scratch5 : Memref sig .tc .vmem S256x1024 .f32) fullShare d) ∗ (∃ d, owns (c : Thread nD τ) (Memref.whole cc0_scratch6 : Memref sig .tc .vmem S256x1024 .f32) fullShare d) ∗ (∃ d, owns (c : Thread nD τ) (Memref.whole cc0_scratch7 : Memref sig .tc .vmem S256x1024 .f32) fullShare d) ∗ (∃ d, owns (c : Thread nD τ) (Memref.whole cc0_scratch8 : Memref sig .tc .vmem S256x2048 .bf16) fullShare d)) ∗ (∃ r, prngReg c r)) := by
  have hc := coords_val t
  have ht : t.val < 128 := t.isLt
  have eb : bN t.val = bI (grid0.coords t) := Fin.ext (show t.val / 8 % 16 = (grid0.coords t 0).val by omega)
  have es : t.val % 8 = (sI (grid0.coords t)).val := show _ = (grid0.coords t 1).val by omega
  unfold Phi
  rw [if_neg h, eb, es]

variable (hlf : ∀ c b t k, ∃ r : ℝ, Layer.lfM (argsK m c) b t k = r)
include hlf

set_option maxHeartbeats 16000000 in
/-- The body at any grid point, from the windows and the scratch buffers back to them, with the model's values. -/
theorem sound_bodyV (c : Dev nD) (t : Fin cfg0.N) :
    iprop((datsV m 0 c).Φ t.castSucc ∗ (datsV m 0 c).owesAt () t.castSucc ∗ (∃ d, owns (c : Thread nD τ) ((win0_0.stage (cfg0.slots t 0)) : Memref sig .tc .vmem S1x256x1024 .f32) fullShare ((datsV m 0 c).before 0 t d)) ∗ (∃ d, owns (c : Thread nD τ) ((win0_1.stage (cfg0.slots t 1)) : Memref sig .tc .vmem S1x1x3072 .f32) fullShare ((datsV m 0 c).before 1 t d)) ∗ (∃ d, owns (c : Thread nD τ) ((win0_2.stage (cfg0.slots t 2)) : Memref sig .tc .vmem S1x1024 .f32) fullShare ((datsV m 0 c).before 2 t d)) ∗ (∃ d, owns (c : Thread nD τ) ((win0_3.stage (cfg0.slots t 3)) : Memref sig .tc .vmem S1024x6144 .bf16) fullShare ((datsV m 0 c).before 3 t d)) ∗ (∃ d, owns (c : Thread nD τ) ((win0_4.stage (cfg0.slots t 4)) : Memref sig .tc .vmem S4x256x256 .bf16) fullShare ((datsV m 0 c).before 4 t d)) ∗ (∃ d, owns (c : Thread nD τ) ((win0_5.stage (cfg0.slots t 5)) : Memref sig .tc .vmem S1x1024 .f32) fullShare ((datsV m 0 c).before 5 t d)) ∗ (∃ d, owns (c : Thread nD τ) ((win0_6.stage (cfg0.slots t 6)) : Memref sig .tc .vmem S1x1024 .f32) fullShare ((datsV m 0 c).before 6 t d)) ∗ (∃ d, owns (c : Thread nD τ) ((win0_7.stage (cfg0.slots t 7)) : Memref sig .tc .vmem S1x128 .f32) fullShare ((datsV m 0 c).before 7 t d)) ∗ (∃ d, owns (c : Thread nD τ) ((win0_8.stage (cfg0.slots t 8)) : Memref sig .tc .vmem S2048x1024 .bf16) fullShare ((datsV m 0 c).before 8 t d)) ∗ (∃ d, owns (c : Thread nD τ) ((win0_9.stage (cfg0.slots t 9)) : Memref sig .tc .vmem S1x1024 .f32) fullShare ((datsV m 0 c).before 9 t d)) ∗ (∃ d, owns (c : Thread nD τ) ((win0_10.stage (cfg0.slots t 10)) : Memref sig .tc .vmem S512x192 .bf16) fullShare ((datsV m 0 c).before 10 t d)) ∗ (∃ d, owns (c : Thread nD τ) ((win0_11.stage (cfg0.slots t 11)) : Memref sig .tc .vmem S64x64 .i32) fullShare ((datsV m 0 c).before 11 t d)) ∗ (∃ d, owns (c : Thread nD τ) ((win0_12.stage (cfg0.slots t 12)) : Memref sig .tc .vmem S1x256x1024 .f32) fullShare ((datsV m 0 c).before 12 t d)))
      ⊢ wp frame (wpE (defs₀ (F := Ideal)) Variants.none c none) Set.univ (bodyAt0 t)
        (fun _ => iprop((datsV m 0 c).Φ t.succ ∗ (datsV m 0 c).owesAt () t.succ ∗ owns (c : Thread nD τ) ((win0_0.stage (cfg0.slots t 0)) : Memref sig .tc .vmem S1x256x1024 .f32) fullShare ((datsV m 0 c).after 0 t) ∗ owns (c : Thread nD τ) ((win0_1.stage (cfg0.slots t 1)) : Memref sig .tc .vmem S1x1x3072 .f32) fullShare ((datsV m 0 c).after 1 t) ∗ owns (c : Thread nD τ) ((win0_2.stage (cfg0.slots t 2)) : Memref sig .tc .vmem S1x1024 .f32) fullShare ((datsV m 0 c).after 2 t) ∗ owns (c : Thread nD τ) ((win0_3.stage (cfg0.slots t 3)) : Memref sig .tc .vmem S1024x6144 .bf16) fullShare ((datsV m 0 c).after 3 t) ∗ owns (c : Thread nD τ) ((win0_4.stage (cfg0.slots t 4)) : Memref sig .tc .vmem S4x256x256 .bf16) fullShare ((datsV m 0 c).after 4 t) ∗ owns (c : Thread nD τ) ((win0_5.stage (cfg0.slots t 5)) : Memref sig .tc .vmem S1x1024 .f32) fullShare ((datsV m 0 c).after 5 t) ∗ owns (c : Thread nD τ) ((win0_6.stage (cfg0.slots t 6)) : Memref sig .tc .vmem S1x1024 .f32) fullShare ((datsV m 0 c).after 6 t) ∗ owns (c : Thread nD τ) ((win0_7.stage (cfg0.slots t 7)) : Memref sig .tc .vmem S1x128 .f32) fullShare ((datsV m 0 c).after 7 t) ∗ owns (c : Thread nD τ) ((win0_8.stage (cfg0.slots t 8)) : Memref sig .tc .vmem S2048x1024 .bf16) fullShare ((datsV m 0 c).after 8 t) ∗ owns (c : Thread nD τ) ((win0_9.stage (cfg0.slots t 9)) : Memref sig .tc .vmem S1x1024 .f32) fullShare ((datsV m 0 c).after 9 t) ∗ owns (c : Thread nD τ) ((win0_10.stage (cfg0.slots t 10)) : Memref sig .tc .vmem S512x192 .bf16) fullShare ((datsV m 0 c).after 10 t) ∗ owns (c : Thread nD τ) ((win0_11.stage (cfg0.slots t 11)) : Memref sig .tc .vmem S64x64 .i32) fullShare ((datsV m 0 c).after 11 t) ∗ owns (c : Thread nD τ) ((win0_12.stage (cfg0.slots t 12)) : Memref sig .tc .vmem S1x256x1024 .f32) fullShare ((datsV m 0 c).after 12 t))) := by
  unfold bodyAt0
  simp only [beforeV_0, beforeV_1, beforeV_2, beforeV_3, beforeV_4, beforeV_5, beforeV_6, beforeV_7, beforeV_8, beforeV_9, beforeV_10, beforeV_11]
  rw [show (datsV m 0 c).owesAt () t.succ = (datsV m 0 c).owesAt () t.castSucc from rfl,
    afterV_0, afterV_1, afterV_2, afterV_3, afterV_4, afterV_5, afterV_6, afterV_7, afterV_8, afterV_9, afterV_10, afterV_11, afterV_12]
  rw [show (datsV m 0 c).Φ t.succ = Phi m c (t.val + 1) from rfl, show (datsV m 0 c).Φ t.castSucc = Phi m c t.val from rfl]
  by_cases h0 : atStart (grid0.coords t)
  · have h8 := (start_iff t).1 h0
    have hi : (sI (grid0.coords t)).val = 0 := (coords_val t).2.trans h8
    rw [show Phi m c t.val = Pipeline.ΦA spec0 c from if_pos h8, scratch_eq]
    iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (val_start (argsK m c) (hlf c) c (grid0.coords t) _ _ _ _ _ _ _ _ _ _ _ _ _ _ _ _ _ _ _ _ _ _ _ _ _ _ _ _ _ _ _ _ _ _ _ _ _ _ _ _ _ _ _ _ h0 hi (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (inOf m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, H4, H5, H6, H7, H8, H9, H10, H11, H12, HS0, HS1, HS2, HS3, HS4, HS5, HS6, HS7, HS8⟩
    isplitl [HS0 HS1 HS2 HS3 HS4 HS5 HS6 HS7 HS8 Hg]
    · iapply (phi_fold m c t)
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [phi_rest m c t (fun h => h0 ((start_iff t).2 h))]
    iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (val_rest (argsK m c) (hlf c) c (grid0.coords t) _ _ _ _ _ _ _ _ _ _ _ _ _ _ _ _ _ _ _ _ _ _ _ _ _ _ _ _ _ _ _ _ _ _ _ _ _ _ _ _ _ _ _ _ h0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (inOf m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iintro ⟨H0, H1, H2, H3, H4, H5, H6, H7, H8, H9, H10, H11, H12, HS0, HS1, HS2, HS3, HS4, HS5, HS6, HS7, HS8⟩
    isplitl [HS0 HS1 HS2 HS3 HS4 HS5 HS6 HS7 HS8 Hg]
    · iapply (phi_fold m c t)
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The library's body obligation at every grid point. -/
theorem obligationV (c : Dev nD) : BodyObligation (datsV m 0 c) (defs₀ (F := Ideal)) Variants.none () Set.univ := fun t => by
  rw [bigSep_W0, bigSep_W0, show defs₀ (F := Ideal) .tc cfg0.body (cfg0.bodyArgs t (cfg0.slots t)) = bodyAt0 t from by
    unfold defs₀; rw [Defs.onTc_tc]]
  exact triple_restated (sound_bodyV m hlf c t) rfl .rfl fun _ => .rfl

set_option backward.isDefEq.respectTransparency.types false in
/-- The launch: the program ends with every array as the proof data say. -/
theorem run_mainV : θ_run defs (onTc (τ := τ) (main (F := Ideal))) (s₀ m ρ) (fun r => Pipeline.FramePost cfgs (datsV m) (0 : Fin 1) (V m) r) :=
  Pipeline.θ_run_frame_track cfgs (datsV m) (0 : Fin 1) launch0 defs₀ Variants.none m ρ main
    (hbody := fun c => (obligationV m hlf c).loose) (hshare := fun c => (datsV m 0 c).share_full fun _ => rfl)
    (howed := fun _ _ => rfl) (V := V m) (hmain := hmain m Variants.none) (hA := A_eqV m)
    (hin := fun _ => Idealize.SL.BI.Entails.refl _) (hout := fun _ => Idealize.SL.BI.Entails.refl _)

omit hlf in
/-- The result array ends at the model's output. -/
theorem finalV (c : Dev nD) : (datsV m 0 c).arrAt 12 (cfgs 0).N = fun y : S16x2048x1024.Idx =>
    Layer.outM (argsK m c) (show Fin 16 from y 0) (show Fin 2048 from y 1) (show Fin 1024 from y 2) := by
  refine (datsV m 0 c).arrAt_eq_of_covers 12 _ (by decide +kernel) fun t _ y => ?_
  blk_simp
  rw [afterV_12]
  have e : (win0_12.blk t).view.emb y = ix3 (bI (grid0.coords t)) (prow (sI (grid0.coords t)) (y 1)) (y 2) := by
    blk_ext [idx t, prow]
    all_goals exact congrArg (· + _) (Nat.mul_comm _ _)
  rw [e]; rfl

end Cert.KernelIdeal.Val

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.StepRun
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Pre_finite
public import proofs.«01_k».proof.Proof.KernelFrame
public import proofs.«01_k».proof.Proof.KernelIdealFrame
public import proofs.«01_k».proof.Proof.AdalnValue
public import proofs.«01_k».proof.Proof.Tame
public import proofs.«01_k».proof.Proof.RefLoop
public import proofs.«01_k».proof.Proof.ValueRun
public import Idealize.ShloMosaic.Lib.Pipeline.ValueKit
public import Idealize.ShloMosaic.Adequacy
public import Idealize.ShloMosaic.Init

@[expose] public section

noncomputable section

namespace Cert.Proof

open Idealize.ShloMosaic Idealize.SL.Sem Cert.Kernel

/-- The modulation call and its reference compute the same array over the extended reals, where the condition vectors and the
    weights are real numbers. -/
theorem adaln_algebraic : Cert.algebraic_Kernel2Ideal_Reference2Ideal_pre_finite := by
  pair_intro
  · run_from Cert.Kernel2Ideal.Gen.run_main m g
  · refine (θ_run Cert.Reference2Ideal.defs _ _).mono (fun r h c => ⟨(h c).1.trans ?_, (h c).2⟩) (Cert.Reference2Ideal.Value.run m' g')
    rw [(hagree c).1, (hagree c).2.1, (hagree c).2.2]
    exact (Cert.Kernel2Ideal.Value.final m c (hpre c)).symm

/-- The layer's kernel and its reference compute the same array over the extended reals, where the modulation's
    shift and scale, the norm's weight, the input projection's pool and forget columns and the lower bound are real numbers and the
    lower bound is not negative. -/
theorem layer_algebraic : Cert.algebraic_KernelIdeal_ReferenceIdeal_pre_tame := by
  intro m g m' g' hpre hagree
  have hlf : ∀ c b t k, ∃ r : ℝ, Cert.Layer.lfM (Cert.KernelIdeal.Val.argsK m c) b t k = r := by
    intro c
    obtain ⟨p1, p2, p3, p4, p6, p7⟩ := Cert.Pre_tame.Hand.read _ _ _ _ _ _ _ _ _ _ (hpre c)
    exact fun b t k => Cert.Layer.lfM_real _ p1 (fun _ => p2 _) (fun _ => p6 _) (fun _ => p7 _) b t k fun x => p4 x k
  have hz : ∀ c b s k, ∃ r : ℝ, Cert.Layer.zM (Cert.KernelIdeal.Val.argsK m c) b s (Cert.Layer.part 0 k) = r := by
    intro c b s k
    obtain ⟨p1, p2, p3, p4, p6, p7⟩ := Cert.Pre_tame.Hand.read _ _ _ _ _ _ _ _ _ _ (hpre c)
    refine Cert.Layer.zM_real _ p1 (fun _ => p2 _) b s _ fun x => ?_
    obtain ⟨r, hr⟩ := p3 x k
    exact ⟨r, Eq.trans (congrArg (fun n => m ((c.tc : Thread Cert.KernelIdeal.nD Cert.KernelIdeal.τ).loc Cert.KernelIdeal.main_arg3) (ix2 x n))
      (Fin.ext (by show 1024 * 0 + k.val = k.val; omega))) hr⟩
  refine ⟨fun c => fun y : Cert.KernelIdeal.S16x2048x1024.Idx => Cert.Layer.outM (Cert.KernelIdeal.Val.argsK m c) (show Fin 16 from y 0) (show Fin 2048 from y 1) (show Fin 1024 from y 2), ?_, ?_⟩
  · exact (θ_run Cert.KernelIdeal.defs _ _).mono (fun r h c => ⟨((h c).1 12).trans (Cert.KernelIdeal.Val.finalV m c),
      ((h c).1 0).trans (((Cert.KernelIdeal.Val.datsV m 0 c).arrAt_in 0 rfl _).trans ((Cert.KernelIdeal.Val.A_eqV m c 0).trans (Cert.KernelIdeal.Gen.V_main_arg0 m c))),
      ((h c).2 Cert.KernelIdeal.main_arg1 (Pipeline.mem_restRefs_of Cert.KernelIdeal.main_arg1 (by decide) (by decide))).trans (Cert.KernelIdeal.Gen.V_main_arg1 m c),
      ((h c).2 Cert.KernelIdeal.main_arg2 (Pipeline.mem_restRefs_of Cert.KernelIdeal.main_arg2 (by decide) (by decide))).trans (Cert.KernelIdeal.Gen.V_main_arg2 m c),
      ((h c).2 Cert.KernelIdeal.main_arg3 (Pipeline.mem_restRefs_of Cert.KernelIdeal.main_arg3 (by decide) (by decide))).trans (Cert.KernelIdeal.Gen.V_main_arg3 m c),
      ((h c).2 Cert.KernelIdeal.main_arg4 (Pipeline.mem_restRefs_of Cert.KernelIdeal.main_arg4 (by decide) (by decide))).trans (Cert.KernelIdeal.Gen.V_main_arg4 m c),
      ((h c).2 Cert.KernelIdeal.main_arg5 (Pipeline.mem_restRefs_of Cert.KernelIdeal.main_arg5 (by decide) (by decide))).trans (Cert.KernelIdeal.Gen.V_main_arg5 m c),
      ((h c).2 Cert.KernelIdeal.main_arg6 (Pipeline.mem_restRefs_of Cert.KernelIdeal.main_arg6 (by decide) (by decide))).trans (Cert.KernelIdeal.Gen.V_main_arg6 m c),
      ((h c).2 Cert.KernelIdeal.main_arg7 (Pipeline.mem_restRefs_of Cert.KernelIdeal.main_arg7 (by decide) (by decide))).trans (Cert.KernelIdeal.Gen.V_main_arg7 m c),
      ((h c).2 Cert.KernelIdeal.main_arg8 (Pipeline.mem_restRefs_of Cert.KernelIdeal.main_arg8 (by decide) (by decide))).trans (Cert.KernelIdeal.Gen.V_main_arg8 m c),
      ((h c).2 Cert.KernelIdeal.main_arg9 (Pipeline.mem_restRefs_of Cert.KernelIdeal.main_arg9 (by decide) (by decide))).trans (Cert.KernelIdeal.Gen.V_main_arg9 m c)⟩)
      (Cert.KernelIdeal.Val.run_mainV m g hlf)
  · refine (θ_run Cert.ReferenceIdeal.defs _ _).mono (fun r h c => ⟨(h c).1.trans ?_, (h c).2⟩)
      (Cert.ReferenceIdeal.StepRun.run_iter m' g' (fun c n => Nat.rec (Cert.ReferenceIdeal.StepRun.initState m' c) (fun k S => Cert.ReferenceIdeal.Step.step k S) n) (fun _ => rfl) (fun _ _ => rfl))
    obtain ⟨h0, h1, h2, h3, h4, h5, h6, h7, h8, h9⟩ := hagree c
    have hi := Cert.Layer.inv_iter (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (hz c)
      (fun n => Nat.rec (Cert.ReferenceIdeal.StepRun.initState m' c) (fun k S => Cert.ReferenceIdeal.Step.step k S) n)
      (by show Cert.ReferenceIdeal.StepRun.initState m' c = _; unfold Cert.ReferenceIdeal.StepRun.initState; rw [h0, h1, h2, h3, h4, h5, h6, h7]) (fun _ => rfl) 32 (le_refl 32)
    rw [h0, h1, h8, h9]
    funext y
    exact (congrArg _ (eq_ix3 y)).trans (Cert.Layer.ref_read _ _ _ _ _ _ _ _ _ _ (hz c) hi (y 0) (y 1) (y 2))

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_tame.Hand.facts, Cert.Pre_finite.Gen.facts,
  fun m ρ _ => Cert.Kernel.Hand.frame m ρ, fun m ρ _ => Cert.KernelIdeal.Hand.frame m ρ,
  fun m ρ _ => Cert.KernelIdeal.Hand.frame m ρ,
  fun m ρ _ => (θ_run Cert.ReferenceIdeal.defs _ _).mono
    (fun r h => ⟨fun c => (h c).2, Idealize.ShloMosaic.sem_eq_zero_of_no_sems (by decide) r.2⟩) (Cert.ReferenceIdeal.Value.run m ρ),
  fun m ρ _ => (θ_run Cert.ReferenceIdeal.defs _ _).mono
    (fun r h => ⟨fun c => (h c).2, Idealize.ShloMosaic.sem_eq_zero_of_no_sems (by decide) r.2⟩) (Cert.ReferenceIdeal.Value.run m ρ),
  fun m ρ _ => Cert.Kernel2.Gen.frame m ρ, fun m ρ _ => Cert.Kernel2Ideal.Gen.frame m ρ, fun m ρ _ => Cert.Kernel2Ideal.Gen.frame m ρ,
  fun m ρ _ => (θ_run Cert.Reference2Ideal.defs _ _).mono
    (fun r h => ⟨fun c => (h c).2, Idealize.ShloMosaic.sem_eq_zero_of_no_sems (by decide) r.2⟩) (Cert.Reference2Ideal.Value.run m ρ),
  fun m ρ _ => (θ_run Cert.Reference2Ideal.defs _ _).mono
    (fun r h => ⟨fun c => (h c).2, Idealize.ShloMosaic.sem_eq_zero_of_no_sems (by decide) r.2⟩) (Cert.Reference2Ideal.Value.run m ρ),
  trivial, layer_algebraic, trivial, adaln_algebraic⟩

end Cert.Proof

end
